-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_below [hPre_below : Cert.Pre_below.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_below.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_below [hPre_below : Cert.Pre_below.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_below.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Kernel14Ideal_pre_below [hKernel14Ideal : Cert.Kernel14Ideal.Facts] [hPre_below : Cert.Pre_below.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_below m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Reference14Ideal_pre_below [hReference14Ideal : Cert.Reference14Ideal.Facts] [hPre_below : Cert.Pre_below.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_below m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal_pre_below [hKernel14Ideal : Cert.Kernel14Ideal.Facts] [hReference14Ideal : Cert.Reference14Ideal.Facts] [hPre_below : Cert.Pre_below.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_below m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v4_0)) (v1 : (c : Dev Cert.Kernel14Ideal.nD) → Buf (Elt Ideal) ((c.tc : Thread Cert.Kernel14Ideal.nD Cert.Kernel14Ideal.τ).loc Cert.Kernel14Ideal.main_v4_1)) (v2 : (c : Dev Cert.Kernel14Ideal.nD) → Buf (Elt Ideal) ((c.tc : Thread Cert.Kernel14Ideal.nD Cert.Kernel14Ideal.τ).loc Cert.Kernel14Ideal.main_v4_2)) (v3 : (c : Dev Cert.Kernel14Ideal.nD) → Buf (Elt Ideal) ((c.tc : Thread Cert.Kernel14Ideal.nD Cert.Kernel14Ideal.τ).loc Cert.Kernel14Ideal.main_v4_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4_0) = v0 c
          ∧ r.2.mem ((c.tc : Thread Cert.Kernel14Ideal.nD Cert.Kernel14Ideal.τ).loc Cert.Kernel14Ideal.main_v4_1) = v1 c
          ∧ r.2.mem ((c.tc : Thread Cert.Kernel14Ideal.nD Cert.Kernel14Ideal.τ).loc Cert.Kernel14Ideal.main_v4_2) = v2 c
          ∧ r.2.mem ((c.tc : Thread Cert.Kernel14Ideal.nD Cert.Kernel14Ideal.τ).loc Cert.Kernel14Ideal.main_v4_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v110) = v0 c
          ∧ r.2.mem ((c.tc : Thread Cert.Reference14Ideal.nD Cert.Reference14Ideal.τ).loc Cert.Reference14Ideal.main_v83) = v1 c
          ∧ r.2.mem ((c.tc : Thread Cert.Reference14Ideal.nD Cert.Reference14Ideal.τ).loc Cert.Reference14Ideal.main_v111) = v2 c
          ∧ r.2.mem ((c.tc : Thread Cert.Reference14Ideal.nD Cert.Reference14Ideal.τ).loc Cert.Reference14Ideal.main_v113) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_below : Cert.Pre_below.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_below (hKernel14Ideal := hKernel14Ideal) (hPre_below := hPre_below)
    ∧ quiescent_Reference14Ideal (hReference14Ideal := hReference14Ideal)
    ∧ quiescent_Reference14Ideal_pre_below (hReference14Ideal := hReference14Ideal) (hPre_below := hPre_below)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_below (hKernel14Ideal := hKernel14Ideal) (hReference14Ideal := hReference14Ideal) (hPre_below := hPre_below)
-- ==== Pre_below.lean ====
abbrev S8256x3072 : Shape := ⟨2, ![8256, 3072]⟩
abbrev S64x128 : Shape := ⟨2, ![64, 128]⟩
abbrev S256 : Shape := ⟨1, ![256]⟩
abbrev S8x4x128x256 : Shape := ⟨4, ![8, 4, 128, 256]⟩
abbrev S8x4x128 : Shape := ⟨3, ![8, 4, 128]⟩
abbrev S8x4 : Shape := ⟨2, ![8, 4]⟩
abbrev S64x4 : Shape := ⟨2, ![64, 4]⟩
abbrev S_ : Shape := ⟨0, ![]⟩

class Facts : Prop where
  slices_S64x128_S64x4_0_20 : S64x128.Slices ![0, 20] S64x4
  bcast_S_S64x4 : S_.BroadcastsInDim S64x4 (![] : Fin 0 → Fin S64x4.rank)
  reducesTo_S64x4_S_d0_1 : S64x4.ReducesTo [0, 1] S_
  h_S_ : 0 < S_.numel

variable [Facts]

def fn {F : FTy → Type} [FloatOps F] (main_arg0 : FVec F S8256x3072 .f32) (main_arg1 : FVec F S64x128 .f32) (main_arg2 : FVec F S256 .f32) (main_arg3 : FVec F S8x4x128x256 .f32) (main_arg4 : FVec F S8x4x128 .f32) (main_arg5 : FVec F S8x4 .f32) : IVec S_ 1 :=
  let main_v0 : FVec F S64x4 .f32 := (extractStridedSlice S64x4 ![0, 20] · slices_S64x128_S64x4_0_20) main_arg1
  let main_cst : FVec F S_ .f32 := constant S_ .f32 0x7F800000#32
  let main_v1 : FVec F S64x4 .f32 := broadcastInDim S64x4 ![] bcast_S_S64x4 main_cst
  let main_v2 : IVec S64x4 1 := cmpf .olt main_v0 main_v1
  let main_c : IVec S_ 1 := constantI S_ 1 1#1
  let main_v3 : IVec S_ 1 := (fun x v => Host.reduce IntOp.andi x v reducesTo_S64x4_S_d0_1 h_S_) main_v2 main_c
  main_v3
-- ==== Pre_finite.lean ====
abbrev S8256x2048 : Shape := ⟨2, ![8256, 2048]⟩
abbrev S4x128x2048 : Shape := ⟨3, ![4, 128, 2048]⟩
abbrev S8192x128 : Shape := ⟨2, ![8192, 128]⟩
abbrev S_ : Shape := ⟨0, ![]⟩

class Facts : Prop where
  bitsLt_bf16_f32 : FTy.bits .bf16 < FTy.bits .f32
  bcast_S_S8256x2048 : S_.BroadcastsInDim S8256x2048 (![] : Fin 0 → Fin S8256x2048.rank)
  reducesTo_S8256x2048_S_d0_1 : S8256x2048.ReducesTo [0, 1] S_
  h_S_ : 0 < S_.numel
  bcast_S_S4x128x2048 : S_.BroadcastsInDim S4x128x2048 (![] : Fin 0 → Fin S4x128x2048.rank)
  reducesTo_S4x128x2048_S_d0_1_2 : S4x128x2048.ReducesTo [0, 1, 2] S_
  bcast_S_S8192x128 : S_.BroadcastsInDim S8192x128 (![] : Fin 0 → Fin S8192x128.rank)
  reducesTo_S8192x128_S_d0_1 : S8192x128.ReducesTo [0, 1] S_

variable [Facts]

def fn_part1 {F : FTy → Type} [FloatOps F] (main_v15 : IVec S_ 1) (main_v16 : FVec F S8192x128 .f32) (main_cst_4 : FVec F S_ .f32) : IVec S_ 1 :=
  let main_v17 : FVec F S8192x128 .f32 := broadcastInDim S8192x128 ![] bcast_S_S8192x128 main_cst_4
  let main_v18 : IVec S8192x128 1 := cmpf .olt main_v16 main_v17
  let main_c_5 : IVec S_ 1 := constantI S_ 1 1#1
  let main_v19 : IVec S_ 1 := (fun x v => Host.reduce IntOp.andi x v reducesTo_S8192x128_S_d0_1 h_S_) main_v18 main_c_5
  let main_v20 : IVec S_ 1 := andi main_v15 main_v19
  main_v20

def fn {F : FTy → Type} [FloatOps F] (main_arg0 : FVec F S8256x2048 .bf16) (main_arg1 : FVec F S8256x2048 .bf16) (main_arg2 : FVec F S8256x2048 .bf16) (main_arg3 : FVec F S4x128x2048 .f32) (main_arg4 : FVec F S8192x128 .f32) : IVec S_ 1 :=
  let main_v0 : FVec F S8256x2048 .f32 := (extf .f32 · bitsLt_bf16_f32) main_arg0
  let main_v1 : FVec F S8256x2048 .f32 := Host.absf main_v0
  let main_cst : FVec F S_ .f32 := constant S_ .f32 0x7F800000#32
  let main_v2 : FVec F S8256x2048 .f32 := broadcastInDim S8256x2048 ![] bcast_S_S8256x2048 main_cst
  let main_v3 : IVec S8256x2048 1 := cmpf .olt main_v1 main_v2
  let main_c : IVec S_ 1 := constantI S_ 1 1#1
  let main_v4 : IVec S_ 1 := (fun x v => Host.reduce IntOp.andi x v reducesTo_S8256x2048_S_d0_1 h_S_) main_v3 main_c
  let main_v5 : FVec F S8256x2048 .f32 := (extf .f32 · bitsLt_bf16_f32) main_arg1
  let main_v6 : FVec F S8256x2048 .f32 := Host.absf main_v5
  let main_cst_0 : FVec F S_ .f32 := constant S_ .f32 0x7F800000#32
  let main_v7 : FVec F S8256x2048 .f32 := broadcastInDim S8256x2048 ![] bcast_S_S8256x2048 main_cst_0
  let main_v8 : IVec S8256x2048 1 := cmpf .olt main_v6 main_v7
  let main_c_1 : IVec S_ 1 := constantI S_ 1 1#1
  let main_v9 : IVec S_ 1 := (fun x v => Host.reduce IntOp.andi x v reducesTo_S8256x2048_S_d0_1 h_S_) main_v8 main_c_1
  let main_v10 : IVec S_ 1 := andi main_v4 main_v9
  let main_v11 : FVec F S4x128x2048 .f32 := Host.absf main_arg3
  let main_cst_2 : FVec F S_ .f32 := constant S_ .f32 0x7F800000#32
  let main_v12 : FVec F S4x128x2048 .f32 := broadcastInDim S4x128x2048 ![] bcast_S_S4x128x2048 main_cst_2
  let main_v13 : IVec S4x128x2048 1 := cmpf .olt main_v11 main_v12
  let main_c_3 : IVec S_ 1 := constantI S_ 1 1#1
  let main_v14 : IVec S_ 1 := (fun x v => Host.reduce IntOp.andi x v reducesTo_S4x128x2048_S_d0_1_2 h_S_) main_v13 main_c_3
  let main_v15 : IVec S_ 1 := andi main_v10 main_v14
  let main_v16 : FVec F S8192x128 .f32 := Host.absf main_arg4
  let main_cst_4 : FVec F S_ .f32 := constant S_ .f32 0x7F800000#32
  fn_part1 (F := F) main_v15 main_v16 main_cst_4
-- ==== Kernel.lean ====
abbrev S8256x2048 : Shape := ⟨2, ![8256, 2048]⟩
abbrev S4x128x2048 : Shape := ⟨3, ![4, 128, 2048]⟩
abbrev S8192x128 : Shape := ⟨2, ![8192, 128]⟩
abbrev S8192x2048 : Shape := ⟨2, ![8192, 2048]⟩
abbrev S512x256 : Shape := ⟨2, ![512, 256]⟩
abbrev S2048x256 : Shape := ⟨2, ![2048, 256]⟩
abbrev S1x16x2048 : Shape := ⟨3, ![1, 16, 2048]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S1x1x256 : Shape := ⟨3, ![1, 1, 256]⟩
abbrev S1x256 : Shape := ⟨2, ![1, 256]⟩

abbrev nBuf : Space → Nat
  | .hbm => 6
  | .vmem => 12
  | .smem => 0
  | _ => 0

abbrev bufTy : (tb : Table) → Fin (tcTables nBuf tb) → BufTy
  | .hbm, ⟨0, _⟩ => ⟨S8256x2048, .bf16⟩
  | .hbm, ⟨1, _⟩ => ⟨S8256x2048, .bf16⟩
  | .hbm, ⟨2, _⟩ => ⟨S8256x2048, .bf16⟩
  | .hbm, ⟨3, _⟩ => ⟨S4x128x2048, .f32⟩
  | .hbm, ⟨4, _⟩ => ⟨S8192x128, .f32⟩
  | .hbm, ⟨5, _⟩ => ⟨S8192x2048, .bf16⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x16x2048, .f32⟩
  | .local _ .vmem, ⟨7, _⟩ => ⟨S1x16x2048, .f32⟩
  | .local _ .vmem, ⟨8, _⟩ => ⟨S512x128, .f32⟩
  | .local _ .vmem, ⟨9, _⟩ => ⟨S512x128, .f32⟩
  | .local _ .vmem, ⟨10, _⟩ => ⟨S512x256, .bf16⟩
  | .local _ .vmem, ⟨11, _⟩ => ⟨S512x256, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32_12 : BitVec 32 := 0#32
  let arg2 : BitVec 32 := BitVec.ofNat 32 (i 2).val
  let c2_i32_11 : BitVec 32 := 2#32
  let v29 : BitVec 32 := Scalar.muli arg2 c2_i32_11
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_14 : BitVec 32 := 1#32
  ⟨c0_i32_12, v34, c1_i32_14⟩
def k0_mult1 (i : grid0.Coords) (k0_t1 : Fin (k0_t1_loop i).trips) : BitVec 32 :=
  let c0_i32_12 : BitVec 32 := 0#32
  let c1_i32_14 : BitVec 32 := 1#32
  let arg9 : BitVec 32 := Scf.iv c0_i32_12 c1_i32_14 k0_t1
  let c256_i32_59 : BitVec 32 := 256#32
  let v199 : BitVec 32 := Scalar.muli arg9 c256_i32_59
  v199
def k0_off1 (i : grid0.Coords) (k0_t1 : Fin (k0_t1_loop i).trips) : Fin 2 → Nat :=
  let c0_i32_12 : BitVec 32 := 0#32
  let c1_i32_14 : BitVec 32 := 1#32
  let arg9 : BitVec 32 := Scf.iv c0_i32_12 c1_i32_14 k0_t1
  let c256_i32_59 : BitVec 32 := 256#32
  let v199 : BitVec 32 := Scalar.muli arg9 c256_i32_59
  let v200 : BitVec 32 := v199
  let v201 : Index := Scalar.indexCast v200
  let c0_60 : Index := 0#32
  ![v201.toNat, 0]
def k0_off2 (i : grid0.Coords) (k0_t1 : Fin (k0_t1_loop i).trips) (c0_i32 : BitVec 32) : Fin 3 → Nat :=
  let c0_62 : Index := 0#32
  let arg1 : BitVec 32 := BitVec.ofNat 32 (i 1).val
  let c2_i32 : BitVec 32 := 2#32
  let v1 : BitVec 32 := Scalar.muli arg1 c2_i32
  let v2 : BitVec 32 := Scalar.addi v1 c0_i32
  let v205 : Index := Scalar.indexCast v2
  let c0_i32_12 : BitVec 32 := 0#32
  let c1_i32_14 : BitVec 32 := 1#32
  let arg9 : BitVec 32 := Scf.iv c0_i32_12 c1_i32_14 k0_t1
  let c256_i32_59 : BitVec 32 := 256#32
  let v199 : BitVec 32 := Scalar.muli arg9 c256_i32_59
  let v200 : BitVec 32 := v199
  let v206 : Index := Scalar.indexCast v200
  ![0, v205.toNat, v206.toNat]
def k0_off3 (i : grid0.Coords) (k0_t1 : Fin (k0_t1_loop i).trips) : Fin 2 → Nat :=
  let c0_i32_12 : BitVec 32 := 0#32
  let c1_i32_14 : BitVec 32 := 1#32
  let arg9 : BitVec 32 := Scf.iv c0_i32_12 c1_i32_14 k0_t1
  let c256_i32_59 : BitVec 32 := 256#32
  let v199 : BitVec 32 := Scalar.muli arg9 c256_i32_59
  let v200 : BitVec 32 := v199
  let v233 : Index := Scalar.indexCast v200
  let c128_68 : Index := 128#32
  ![v233.toNat, 128]
@[reducible] def k0_t2_loop (i : grid0.Coords) : Scf.Loop 32 :=
  let c0_i32_12 : BitVec 32 := 0#32
  let arg2 : BitVec 32 := BitVec.ofNat 32 (i 2).val
  let c2_i32_11 : BitVec 32 := 2#32
  let v29 : BitVec 32 := Scalar.muli arg2 c2_i32_11
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let v31 : BitVec 32 := Scalar.addi c0_i32_12 v30
  let c1_i32_15 : BitVec 32 := 1#32
  ⟨v34, v31, c1_i32_15⟩
def k0_mult2 (i : grid0.Coords) (k0_t2 : Fin (k0_t2_loop i).trips) : BitVec 32 :=
  let c0_i32_12 : BitVec 32 := 0#32
  let arg2 : BitVec 32 := BitVec.ofNat 32 (i 2).val
  let c2_i32_11 : BitVec 32 := 2#32
  let v29 : BitVec 32 := Scalar.muli arg2 c2_i32_11
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg9 : BitVec 32 := Scf.iv v34 c1_i32_15 k0_t2
  let c256_i32_59 : BitVec 32 := 256#32
  let v199 : BitVec 32 := Scalar.muli arg9 c256_i32_59
  v199
def k0_off4 (i : grid0.Coords) (k0_t2 : Fin (k0_t2_loop i).trips) : Fin 2 → Nat :=
  let c0_i32_12 : BitVec 32 := 0#32
  let arg2 : BitVec 32 := BitVec.ofNat 32 (i 2).val
  let c2_i32_11 : BitVec 32 := 2#32
  let v29 : BitVec 32 := Scalar.muli arg2 c2_i32_11
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg9 : BitVec 32 := Scf.iv v34 c1_i32_15 k0_t2
  let c256_i32_59 : BitVec 32 := 256#32
  let v199 : BitVec 32 := Scalar.muli arg9 c256_i32_59
  let v200 : BitVec 32 := v199
  let v201 : Index := Scalar.indexCast v200
  let c0_60 : Index := 0#32
  ![v201.toNat, 0]
def k0_off5 (i : grid0.Coords) (k0_t2 : Fin (k0_t2_loop i).trips) (c0_i32 : BitVec 32) : Fin 3 → Nat :=
  let c0_62 : Index := 0#32
  let arg1 : BitVec 32 := BitVec.ofNat 32 (i 1).val
  let c2_i32 : BitVec 32 := 2#32
  let v1 : BitVec 32 := Scalar.muli arg1 c2_i32
  let v2 : BitVec 32 := Scalar.addi v1 c0_i32
  let v205 : Index := Scalar.indexCast v2
  let c0_i32_12 : BitVec 32 := 0#32
  let arg2 : BitVec 32 := BitVec.ofNat 32 (i 2).val
  let c2_i32_11 : BitVec 32 := 2#32
  let v29 : BitVec 32 := Scalar.muli arg2 c2_i32_11
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg9 : BitVec 32 := Scf.iv v34 c1_i32_15 k0_t2
  let c256_i32_59 : BitVec 32 := 256#32
  let v199 : BitVec 32 := Scalar.muli arg9 c256_i32_59
  let v200 : BitVec 32 := v199
  let v206 : Index := Scalar.indexCast v200
  ![0, v205.toNat, v206.toNat]
def k0_off6 (i : grid0.Coords) (k0_t2 : Fin (k0_t2_loop i).trips) : Fin 2 → Nat :=
  let c0_i32_12 : BitVec 32 := 0#32
  let arg2 : BitVec 32 := BitVec.ofNat 32 (i 2).val
  let c2_i32_11 : BitVec 32 := 2#32
  let v29 : BitVec 32 := Scalar.muli arg2 c2_i32_11
  let v30 : BitVec 32 := Scalar.subi v29 c0_i32_12
  let c1_i32_13 : BitVec 32 := 1#32
  let v32 : BitVec 32 := Scalar.divsi v30 c1_i32_13
  let v33 : BitVec 32 := Scalar.muli v32 c1_i32_13
  let v34 : BitVec 32 := Scalar.addi c0_i32_12 v33
  let c1_i32_15 : BitVec 32 := 1#32
  let arg9 : BitVec 32 := Scf.iv v34 c1_i32_15 k0_t2
  let c256_i32_59 : BitVec 32 := 256#32
  let v199 : BitVec 32 := Scalar.muli arg9 c256_i32_59
  let v200 : BitVec 32 := v199
  let v233 : Index := Scalar.indexCast v200
  let c128_68 : Index := 128#32
  ![v233.toNat, 128]
def k0_mult3 (i : grid0.Coords) : BitVec 32 :=
  let arg2 : BitVec 32 := BitVec.ofNat 32 (i 2).val
  let c2_i32_11 : BitVec 32 := 2#32
  let v29 : BitVec 32 := Scalar.muli arg2 c2_i32_11
  let c0_i32_16 : BitVec 32 := 0#32
  let v37 : BitVec 32 := Scalar.addi v29 c0_i32_16
  let c256_i32 : BitVec 32 := 256#32
  let v38 : BitVec 32 := Scalar.muli v37 c256_i32
  v38
def k0_off7 (i : grid0.Coords) (c0_i32_16 : BitVec 32) : Fin 2 → Nat :=
  let arg2 : BitVec 32 := BitVec.ofNat 32 (i 2).val
  let c2_i32_11 : BitVec 32 := 2#32
  let v29 : BitVec 32 := Scalar.muli arg2 c2_i32_11
  let v37 : BitVec 32 := Scalar.addi v29 c0_i32_16
  let c256_i32 : BitVec 32 := 256#32
  let v38 : BitVec 32 := Scalar.muli v37 c256_i32
  let v39 : BitVec 32 := v38
  let v40 : Index := Scalar.indexCast v39
  let c0_17 : Index := 0#32
  ![v40.toNat, 0]
def k0_off8 (i : grid0.Coords) (c0_i32 : BitVec 32) (c0_i32_16 : BitVec 32) : Fin 3 → Nat :=
  let c0_19 : Index := 0#32
  let arg1 : BitVec 32 := BitVec.ofNat 32 (i 1).val
  let c2_i32 : BitVec 32 := 2#32
  let v1 : BitVec 32 := Scalar.muli arg1 c2_i32
  let v2 : BitVec 32 := Scalar.addi v1 c0_i32
  let v44 : Index := Scalar.indexCast v2
  let arg2 : BitVec 32 := BitVec.ofNat 32 (i 2).val
  let c2_i32_11 : BitVec 32 := 2#32
  let v29 : BitVec 32 := Scalar.muli arg2 c2_i32_11
  let v37 : BitVec 32 := Scalar.addi v29 c0_i32_16
  let c256_i32 : BitVec 32 := 256#32
  let v38 : BitVec 32 := Scalar.muli v37 c256_i32
  let v39 : BitVec 32 := v38
  let v45 : Index := Scalar.indexCast v39
  ![0, v44.toNat, v45.toNat]
def k0_off9 (i : grid0.Coords) (c0_i32_16 : BitVec 32) : Fin 2 → Nat :=
  let arg2 : BitVec 32 := BitVec.ofNat 32 (i 2).val
  let c2_i32_11 : BitVec 32 := 2#32
  let v29 : BitVec 32 := Scalar.muli arg2 c2_i32_11
  let v37 : BitVec 32 := Scalar.addi v29 c0_i32_16
  let c256_i32 : BitVec 32 := 256#32
  let v38 : BitVec 32 := Scalar.muli v37 c256_i32
  let v39 : BitVec 32 := v38
  let v77 : Index := Scalar.indexCast v39
  let c128_26 : Index := 128#32
  ![v77.toNat, 128]
def k0_mult4 (i : grid0.Coords) : BitVec 32 :=
  let arg2 : BitVec 32 := BitVec.ofNat 32 (i 2).val
  let c2_i32_11 : BitVec 32 := 2#32
  let v29 : BitVec 32 := Scalar.muli arg2 c2_i32_11
  let c1_i32_35 : BitVec 32 := 1#32
  let v114 : BitVec 32 := Scalar.addi v29 c1_i32_35
  let c256_i32_36 : BitVec 32 := 256#32
  let v115 : BitVec 32 := Scalar.muli v114 c256_i32_36
  v115
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S8256x2048 : Shape := ⟨2, ![8256, 2048]⟩
abbrev S4x128x2048 : Shape := ⟨3, ![4, 128, 2048]⟩
abbrev S8192x128 : Shape := ⟨2, ![8192, 128]⟩
abbrev S8192x2048 : Shape := ⟨2, ![8192, 2048]⟩
abbrev S4x2048x16x128 : Shape := ⟨4, ![4, 2048, 16, 128]⟩
abbrev S8192x16 : Shape := ⟨2, ![8192, 16]⟩
abbrev S4x2048x16 : Shape := ⟨3, ![4, 2048, 16]⟩
abbrev S4x16x2048 : Shape := ⟨3, ![4, 16, 2048]⟩
abbrev S4x16x2048x2048 : Shape := ⟨4, ![4, 16, 2048, 2048]⟩
abbrev S_ : Shape := ⟨0, ![]⟩
abbrev S4x16x2048x1 : Shape := ⟨4, ![4, 16, 2048, 1]⟩
abbrev S4x16x1x2048 : Shape := ⟨4, ![4, 16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x128x2048 : Shape := ⟨4, ![4, 16, 128, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S8256x2048, .bf16⟩
  | .hbm, ⟨2, _⟩ => ⟨S8256x2048, .bf16⟩
  | .hbm, ⟨3, _⟩ => ⟨S4x128x2048, .f32⟩
  | .hbm, ⟨4, _⟩ => ⟨S8192x128, .f32⟩
  | .hbm, ⟨5, _⟩ => ⟨S8192x2048, .bf16⟩
  | .hbm, ⟨6, _⟩ => ⟨S8192x2048, .f32⟩
  | .hbm, ⟨7, _⟩ => ⟨S4x2048x16x128, .f32⟩
  | .hbm, ⟨8, _⟩ => ⟨S8192x2048, .bf16⟩
  | .hbm, ⟨9, _⟩ => ⟨S8192x2048, .f32⟩
  | .hbm, ⟨10, _⟩ => ⟨S4x2048x16x128, .f32⟩
  | .hbm, ⟨11, _⟩ => ⟨S8192x2048, .bf16⟩
  | .hbm, ⟨12, _⟩ => ⟨S8192x2048, .f32⟩
  | .hbm, ⟨13, _⟩ => ⟨S4x2048x16x128, .f32⟩
  | .hbm, ⟨14, _⟩ => ⟨S8192x16, .f32⟩
  | .hbm, ⟨15, _⟩ => ⟨S4x2048x16, .f32⟩
  | .hbm, ⟨16, _⟩ => ⟨S4x16x2048, .f32⟩
  | .hbm, ⟨17, _⟩ => ⟨S4x16x2048, .f32⟩
  | .hbm, ⟨18, _⟩ => ⟨S4x16x2048x2048, .f32⟩
  | .hbm, ⟨19, _⟩ => ⟨S_, .f32⟩
  | .hbm, ⟨20, _⟩ => ⟨S_, .f32⟩
  | .hbm, ⟨21, _⟩ => ⟨S4x16x2048x2048, .f32⟩
  | .hbm, ⟨22, _⟩ => ⟨S4x16x2048x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x1x2048, .f32⟩
  | .hbm, ⟨27, _⟩ => ⟨S4x16x2048x2048, .f32⟩
  | .hbm, ⟨28, _⟩ => ⟨S4x16x2048x2048, .f32⟩
  | .hbm, ⟨29, _⟩ => ⟨S2048, .i32⟩
  | .hbm, ⟨30, _⟩ => ⟨S1x2048, .i32⟩
  | .hbm, ⟨31, _⟩ => ⟨S2048x1, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S4x16x2048x2048, .i1⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S_, .f32⟩
  | .hbm, ⟨43, _⟩ => ⟨S4x16x2048, .f32⟩
  | .hbm, ⟨44, _⟩ => ⟨S4x16x2048, .f32⟩
  | .hbm, ⟨45, _⟩ => ⟨S4x16x2048x1, .f32⟩
  | .hbm, ⟨46, _⟩ => ⟨S4x16x2048x2048, .f32⟩
  | .hbm, ⟨47, _⟩ => ⟨S4x16x2048x2048, .f32⟩
  | .hbm, ⟨48, _⟩ => ⟨S4x16x2048x2048, .f32⟩
  | .hbm, ⟨49, _⟩ => ⟨S_, .f32⟩
  | .hbm, ⟨50, _⟩ => ⟨S4x16x2048, .f32⟩
  | .hbm, ⟨51, _⟩ => ⟨S4x16x2048x1, .f32⟩
  | .hbm, ⟨52, _⟩ => ⟨S4x16x2048x2048, .f32⟩
  | .hbm, ⟨53, _⟩ => ⟨S4x16x2048x2048, .f32⟩
  | .hbm, ⟨54, _⟩ => ⟨S4x16x128x2048, .f32⟩
  | .hbm, ⟨55, _⟩ => ⟨S4x2048x16x128, .f32⟩
  | .hbm, ⟨56, _⟩ => ⟨S8192x2048, .f32⟩
  | .hbm, ⟨57, _⟩ => ⟨S8192x2048, .bf16⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel2.lean ====
abbrev S8256x4096 : Shape := ⟨2, ![8256, 4096]⟩
abbrev S4x4096x11008 : Shape := ⟨3, ![4, 4096, 11008]⟩
abbrev S8256x11008 : Shape := ⟨2, ![8256, 11008]⟩
abbrev S1376x4096 : Shape := ⟨2, ![1376, 4096]⟩
abbrev S1x4096x256 : Shape := ⟨3, ![1, 4096, 256]⟩
abbrev S1376x256 : Shape := ⟨2, ![1376, 256]⟩
abbrev S4096x256 : Shape := ⟨2, ![4096, 256]⟩

abbrev nBuf : Space → Nat
  | .hbm => 4
  | .vmem => 10
  | .smem => 0
  | _ => 0

abbrev bufTy : (tb : Table) → Fin (tcTables nBuf tb) → BufTy
  | .hbm, ⟨0, _⟩ => ⟨S8256x4096, .bf16⟩
  | .hbm, ⟨1, _⟩ => ⟨S4x4096x11008, .f32⟩
  | .hbm, ⟨2, _⟩ => ⟨S4x4096x11008, .f32⟩
  | .hbm, ⟨3, _⟩ => ⟨S8256x11008, .bf16⟩
  | .local _ .vmem, ⟨0, _⟩ => ⟨S1376x4096, .bf16⟩
  | .local _ .vmem, ⟨1, _⟩ => ⟨S1376x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1376x256, .bf16⟩
  | .local _ .vmem, ⟨7, _⟩ => ⟨S1376x256, .bf16⟩
  | .local _ .vmem, ⟨8, _⟩ => ⟨S4096x256, .bf16⟩
  | .local _ .vmem, ⟨9, _⟩ => ⟨S4096x256, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![43, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1376x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8256x4096 : Shape := ⟨2, ![8256, 4096]⟩
abbrev S4x4096x11008 : Shape := ⟨3, ![4, 4096, 11008]⟩
abbrev S1x4096x11008 : Shape := ⟨3, ![1, 4096, 11008]⟩
abbrev S4096x11008 : Shape := ⟨2, ![4096, 11008]⟩
abbrev S8256x11008 : Shape := ⟨2, ![8256, 11008]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4x4096x11008, .f32⟩
  | .hbm, ⟨2, _⟩ => ⟨S4x4096x11008, .f32⟩
  | .hbm, ⟨3, _⟩ => ⟨S8256x4096, .f32⟩
  | .hbm, ⟨4, _⟩ => ⟨S1x4096x11008, .f32⟩
  | .hbm, ⟨5, _⟩ => ⟨S4096x11008, .f32⟩
  | .hbm, ⟨6, _⟩ => ⟨S8256x11008, .f32⟩
  | .hbm, ⟨7, _⟩ => ⟨S8256x11008, .f32⟩
  | .hbm, ⟨8, _⟩ => ⟨S8256x11008, .f32⟩
  | .hbm, ⟨9, _⟩ => ⟨S_, .f32⟩
  | .hbm, ⟨10, _⟩ => ⟨S8256x11008, .f32⟩
  | .hbm, ⟨11, _⟩ => ⟨S8256x11008, .f32⟩
  | .hbm, ⟨12, _⟩ => ⟨S_, .f32⟩
  | .hbm, ⟨13, _⟩ => ⟨S8256x11008, .f32⟩
  | .hbm, ⟨14, _⟩ => ⟨S8256x11008, .f32⟩
  | .hbm, ⟨15, _⟩ => ⟨S8256x11008, .f32⟩
  | .hbm, ⟨16, _⟩ => ⟨S1x4096x11008, .f32⟩
  | .hbm, ⟨17, _⟩ => ⟨S4096x11008, .f32⟩
  | .hbm, ⟨18, _⟩ => ⟨S8256x11008, .f32⟩
  | .hbm, ⟨19, _⟩ => ⟨S8256x11008, .f32⟩
  | .hbm, ⟨20, _⟩ => ⟨S8256x11008, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel3.lean ====
abbrev S8256x11008 : Shape := ⟨2, ![8256, 11008]⟩
abbrev S4x11008x4096 : Shape := ⟨3, ![4, 11008, 4096]⟩
abbrev S8256x4096 : Shape := ⟨2, ![8256, 4096]⟩
abbrev S688x5504 : Shape := ⟨2, ![688, 5504]⟩
abbrev S1x5504x256 : Shape := ⟨3, ![1, 5504, 256]⟩
abbrev S688x256 : Shape := ⟨2, ![688, 256]⟩
abbrev S16x688x256 : Shape := ⟨3, ![16, 688, 256]⟩
abbrev S5504x256 : Shape := ⟨2, ![5504, 256]⟩
abbrev S1x688x256 : Shape := ⟨3, ![1, 688, 256]⟩

abbrev nBuf : Space → Nat
  | .hbm => 5
  | .vmem => 9
  | .smem => 0
  | _ => 0

abbrev bufTy : (tb : Table) → Fin (tcTables nBuf tb) → BufTy
  | .hbm, ⟨0, _⟩ => ⟨S8256x11008, .bf16⟩
  | .hbm, ⟨1, _⟩ => ⟨S4x11008x4096, .f32⟩
  | .hbm, ⟨2, _⟩ => ⟨S8256x4096, .f32⟩
  | .hbm, ⟨3, _⟩ => ⟨S4x11008x4096, .bf16⟩
  | .hbm, ⟨4, _⟩ => ⟨S8256x4096, .f32⟩
  | .local _ .vmem, ⟨0, _⟩ => ⟨S688x5504, .bf16⟩
  | .local _ .vmem, ⟨1, _⟩ => ⟨S688x5504, .bf16⟩
  | .local _ .vmem, ⟨2, _⟩ => ⟨S1x5504x256, .bf16⟩
  | .local _ .vmem, ⟨3, _⟩ => ⟨S1x5504x256, .bf16⟩
  | .local _ .vmem, ⟨4, _⟩ => ⟨S688x256, .f32⟩
  | .local _ .vmem, ⟨5, _⟩ => ⟨S688x256, .f32⟩
  | .local _ .vmem, ⟨6, _⟩ => ⟨S688x256, .f32⟩
  | .local _ .vmem, ⟨7, _⟩ => ⟨S688x256, .f32⟩
  | .local _ .vmem, ⟨8, _⟩ => ⟨S16x688x256, .f32⟩
  | _, _ => ⟨S8256x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![12, 2, 16], ![false, false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_off1 (i : grid0.Coords) : Fin 3 → Nat :=
  let arg2 : BitVec 32 := BitVec.ofNat 32 (i 2).val
  let v15 : Index := Scalar.indexCast arg2
  let c0_9 : Index := 0#32
  let c0_10 : Index := 0#32
  ![v15.toNat, 0, 0]
def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let c1_i32 : BitVec 32 := 1#32
  let v8 : BitVec 1 := Scalar.cmpi .slt arg1 c1_i32
  let v9 : BitVec 1 := Scalar.andi v7 v8
  let v10 : BitVec 32 := Scalar.extui v9
  let c0_i32_6 : BitVec 32 := 0#32
  let v11 : BitVec 1 := Scalar.cmpi .ne v10 c0_i32_6
  v11

def k0_off2 (i : grid0.Coords) : Fin 3 → Nat :=
  let arg2 : BitVec 32 := BitVec.ofNat 32 (i 2).val
  let v15 : Index := Scalar.indexCast arg2
  let c0_9 : Index := 0#32
  let c0_10 : Index := 0#32
  ![v15.toNat, 0, 0]
def k0_cond3 (i : grid0.Coords) : BitVec 1 :=
  let arg1 : BitVec 32 := BitVec.ofNat 32 (i 1).val
  let c1_i32_7 : BitVec 32 := 1#32
  let v12 : BitVec 1 := Scalar.cmpi .eq arg1 c1_i32_7
  let v13 : BitVec 32 := Scalar.extui v12
  let c0_i32_8 : BitVec 32 := 0#32
  let v14 : BitVec 1 := Scalar.cmpi .ne v13 c0_i32_8
  v14

def k0_off3 (i : grid0.Coords) : Fin 3 → Nat :=
  let arg2 : BitVec 32 := BitVec.ofNat 32 (i 2).val
  let v16 : Index := Scalar.indexCast arg2
  let c0_11 : Index := 0#32
  let c0_12 : Index := 0#32
  ![v16.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  ![arg0.toNat, v1.toNat]

abbrev stage0_0 : Fin 2 → Memref sig .tc .vmem S688x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x5504x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S688x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S688x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference3Ideal.lean ====
abbrev S8256x11008 : Shape := ⟨2, ![8256, 11008]⟩
abbrev S4x11008x4096 : Shape := ⟨3, ![4, 11008, 4096]⟩
abbrev S8256x4096 : Shape := ⟨2, ![8256, 4096]⟩
abbrev S1x11008x4096 : Shape := ⟨3, ![1, 11008, 4096]⟩
abbrev S11008x4096 : Shape := ⟨2, ![11008, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8256x11008, .bf16⟩
  | .hbm, ⟨1, _⟩ => ⟨S4x11008x4096, .f32⟩
  | .hbm, ⟨2, _⟩ => ⟨S8256x4096, .f32⟩
  | .hbm, ⟨3, _⟩ => ⟨S8256x11008, .f32⟩
  | .hbm, ⟨4, _⟩ => ⟨S1x11008x4096, .f32⟩
  | .hbm, ⟨5, _⟩ => ⟨S11008x4096, .f32⟩
  | .hbm, ⟨6, _⟩ => ⟨S8256x4096, .f32⟩
  | .hbm, ⟨7, _⟩ => ⟨S_, .f32⟩
  | .hbm, ⟨8, _⟩ => ⟨S8256x4096, .f32⟩
  | .hbm, ⟨9, _⟩ => ⟨S8256x4096, .f32⟩
  | .hbm, ⟨10, _⟩ => ⟨S8256x4096, .f32⟩
  | _, _ => ⟨S8256x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S8256x4096 : Shape := ⟨2, ![8256, 4096]⟩
abbrev S8256x1024 : Shape := ⟨2, ![8256, 1024]⟩
abbrev S8256x2048 : Shape := ⟨2, ![8256, 2048]⟩
abbrev S4x4096x25624 : Shape := ⟨3, ![4, 4096, 25624]⟩
abbrev S4x1024x4096 : Shape := ⟨3, ![4, 1024, 4096]⟩
abbrev S4x2048x4096 : Shape := ⟨3, ![4, 2048, 4096]⟩
abbrev S4x25624x4096 : Shape := ⟨3, ![4, 25624, 4096]⟩
abbrev S4x12288x4096 : Shape := ⟨3, ![4, 12288, 4096]⟩
abbrev S688x4096 : Shape := ⟨2, ![688, 4096]⟩
abbrev S688x1024 : Shape := ⟨2, ![688, 1024]⟩
abbrev S688x2048 : Shape := ⟨2, ![688, 2048]⟩
abbrev S1x256x4096 : Shape := ⟨3, ![1, 256, 4096]⟩
abbrev S1x1024x256 : Shape := ⟨3, ![1, 1024, 256]⟩
abbrev S1x2048x256 : Shape := ⟨3, ![1, 2048, 256]⟩
abbrev S688x256 : Shape := ⟨2, ![688, 256]⟩
abbrev S1024x256 : Shape := ⟨2, ![1024, 256]⟩
abbrev S2048x256 : Shape := ⟨2, ![2048, 256]⟩
abbrev S256x4096 : Shape := ⟨2, ![256, 4096]⟩

abbrev nBuf : Space → Nat
  | .hbm => 12
  | .vmem => 25
  | .smem => 0
  | _ => 0

abbrev bufTy : (tb : Table) → Fin (tcTables nBuf tb) → BufTy
  | .hbm, ⟨0, _⟩ => ⟨S8256x4096, .bf16⟩
  | .hbm, ⟨1, _⟩ => ⟨S8256x1024, .bf16⟩
  | .hbm, ⟨2, _⟩ => ⟨S8256x1024, .bf16⟩
  | .hbm, ⟨3, _⟩ => ⟨S8256x2048, .bf16⟩
  | .hbm, ⟨4, _⟩ => ⟨S4x4096x25624, .f32⟩
  | .hbm, ⟨5, _⟩ => ⟨S4x1024x4096, .f32⟩
  | .hbm, ⟨6, _⟩ => ⟨S4x1024x4096, .f32⟩
  | .hbm, ⟨7, _⟩ => ⟨S4x2048x4096, .f32⟩
  | .hbm, ⟨8, _⟩ => ⟨S4x25624x4096, .f32⟩
  | .hbm, ⟨9, _⟩ => ⟨S4x12288x4096, .f32⟩
  | .hbm, ⟨10, _⟩ => ⟨S4x12288x4096, .bf16⟩
  | .hbm, ⟨11, _⟩ => ⟨S8256x4096, .bf16⟩
  | .local _ .vmem, ⟨0, _⟩ => ⟨S688x4096, .bf16⟩
  | .local _ .vmem, ⟨1, _⟩ => ⟨S688x4096, .bf16⟩
  | .local _ .vmem, ⟨2, _⟩ => ⟨S688x1024, .bf16⟩
  | .local _ .vmem, ⟨3, _⟩ => ⟨S688x1024, .bf16⟩
  | .local _ .vmem, ⟨4, _⟩ => ⟨S688x1024, .bf16⟩
  | .local _ .vmem, ⟨5, _⟩ => ⟨S688x1024, .bf16⟩
  | .local _ .vmem, ⟨6, _⟩ => ⟨S688x2048, .bf16⟩
  | .local _ .vmem, ⟨7, _⟩ => ⟨S688x2048, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x256x4096, .bf16⟩
  | .local _ .vmem, ⟨11, _⟩ => ⟨S1x256x4096, .bf16⟩
  | .local _ .vmem, ⟨12, _⟩ => ⟨S1x256x4096, .bf16⟩
  | .local _ .vmem, ⟨13, _⟩ => ⟨S1x256x4096, .bf16⟩
  | .local _ .vmem, ⟨14, _⟩ => ⟨S1x1024x256, .f32⟩
  | .local _ .vmem, ⟨15, _⟩ => ⟨S1x1024x256, .f32⟩
  | .local _ .vmem, ⟨16, _⟩ => ⟨S1x1024x256, .f32⟩
  | .local _ .vmem, ⟨17, _⟩ => ⟨S1x1024x256, .f32⟩
  | .local _ .vmem, ⟨18, _⟩ => ⟨S1x2048x256, .f32⟩
  | .local _ .vmem, ⟨19, _⟩ => ⟨S1x2048x256, .f32⟩
  | .local _ .vmem, ⟨20, _⟩ => ⟨S688x256, .bf16⟩
  | .local _ .vmem, ⟨21, _⟩ => ⟨S688x256, .bf16⟩
  | .local _ .vmem, ⟨22, _⟩ => ⟨S1024x256, .bf16⟩
  | .local _ .vmem, ⟨23, _⟩ => ⟨S1024x256, .bf16⟩
  | .local _ .vmem, ⟨24, _⟩ => ⟨S2048x256, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S688x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S688x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S688x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8256x4096 : Shape := ⟨2, ![8256, 4096]⟩
abbrev S8256x1024 : Shape := ⟨2, ![8256, 1024]⟩
abbrev S8256x2048 : Shape := ⟨2, ![8256, 2048]⟩
abbrev S4x4096x25624 : Shape := ⟨3, ![4, 4096, 25624]⟩
abbrev S4x1024x4096 : Shape := ⟨3, ![4, 1024, 4096]⟩
abbrev S4x2048x4096 : Shape := ⟨3, ![4, 2048, 4096]⟩
abbrev S1x4096x25624 : Shape := ⟨3, ![1, 4096, 25624]⟩
abbrev S4096x25624 : Shape := ⟨2, ![4096, 25624]⟩
abbrev S8256x25624 : Shape := ⟨2, ![8256, 25624]⟩
abbrev S8256x512 : Shape := ⟨2, ![8256, 512]⟩
abbrev S8256x4 : Shape := ⟨2, ![8256, 4]⟩
abbrev S8256x16 : Shape := ⟨2, ![8256, 16]⟩
abbrev S_ : Shape := ⟨0, ![]⟩
abbrev S1x1024x4096 : Shape := ⟨3, ![1, 1024, 4096]⟩
abbrev S1024x4096 : Shape := ⟨2, ![1024, 4096]⟩
abbrev S1x2048x4096 : Shape := ⟨3, ![1, 2048, 4096]⟩
abbrev S2048x4096 : Shape := ⟨2, ![2048, 4096]⟩

abbrev nBuf : Space → Nat
  | .hbm => 71
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S8256x1024, .bf16⟩
  | .hbm, ⟨2, _⟩ => ⟨S8256x1024, .bf16⟩
  | .hbm, ⟨3, _⟩ => ⟨S8256x2048, .bf16⟩
  | .hbm, ⟨4, _⟩ => ⟨S4x4096x25624, .f32⟩
  | .hbm, ⟨5, _⟩ => ⟨S4x1024x4096, .f32⟩
  | .hbm, ⟨6, _⟩ => ⟨S4x1024x4096, .f32⟩
  | .hbm, ⟨7, _⟩ => ⟨S4x2048x4096, .f32⟩
  | .hbm, ⟨8, _⟩ => ⟨S8256x1024, .f32⟩
  | .hbm, ⟨9, _⟩ => ⟨S8256x1024, .f32⟩
  | .hbm, ⟨10, _⟩ => ⟨S8256x2048, .f32⟩
  | .hbm, ⟨11, _⟩ => ⟨S8256x4096, .f32⟩
  | .hbm, ⟨12, _⟩ => ⟨S1x4096x25624, .f32⟩
  | .hbm, ⟨13, _⟩ => ⟨S4096x25624, .f32⟩
  | .hbm, ⟨14, _⟩ => ⟨S8256x25624, .f32⟩
  | .hbm, ⟨15, _⟩ => ⟨S8256x1024, .f32⟩
  | .hbm, ⟨16, _⟩ => ⟨S8256x1024, .f32⟩
  | .hbm, ⟨17, _⟩ => ⟨S8256x1024, .f32⟩
  | .hbm, ⟨18, _⟩ => ⟨S8256x1024, .f32⟩
  | .hbm, ⟨19, _⟩ => ⟨S8256x512, .f32⟩
  | .hbm, ⟨20, _⟩ => ⟨S8256x512, .f32⟩
  | .hbm, ⟨21, _⟩ => ⟨S8256x1024, .f32⟩
  | .hbm, ⟨22, _⟩ => ⟨S8256x1024, .f32⟩
  | .hbm, ⟨23, _⟩ => ⟨S8256x4, .f32⟩
  | .hbm, ⟨24, _⟩ => ⟨S8256x4, .f32⟩
  | .hbm, ⟨25, _⟩ => ⟨S8256x2048, .f32⟩
  | .hbm, ⟨26, _⟩ => ⟨S8256x2048, .f32⟩
  | .hbm, ⟨27, _⟩ => ⟨S8256x2048, .f32⟩
  | .hbm, ⟨28, _⟩ => ⟨S8256x16, .f32⟩
  | .hbm, ⟨29, _⟩ => ⟨S8256x4096, .f32⟩
  | .hbm, ⟨30, _⟩ => ⟨S8256x4096, .f32⟩
  | .hbm, ⟨31, _⟩ => ⟨S8256x4096, .f32⟩
  | .hbm, ⟨32, _⟩ => ⟨S8256x4096, .f32⟩
  | .hbm, ⟨33, _⟩ => ⟨S8256x4096, .f32⟩
  | .hbm, ⟨34, _⟩ => ⟨S_, .f32⟩
  | .hbm, ⟨35, _⟩ => ⟨S8256x4096, .f32⟩
  | .hbm, ⟨36, _⟩ => ⟨S8256x4096, .f32⟩
  | .hbm, ⟨37, _⟩ => ⟨S_, .f32⟩
  | .hbm, ⟨38, _⟩ => ⟨S8256x4096, .f32⟩
  | .hbm, ⟨39, _⟩ => ⟨S8256x4096, .f32⟩
  | .hbm, ⟨40, _⟩ => ⟨S1x1024x4096, .f32⟩
  | .hbm, ⟨41, _⟩ => ⟨S1024x4096, .f32⟩
  | .hbm, ⟨42, _⟩ => ⟨S8256x4096, .f32⟩
  | .hbm, ⟨43, _⟩ => ⟨S8256x4096, .f32⟩
  | .hbm, ⟨44, _⟩ => ⟨S8256x4096, .f32⟩
  | .hbm, ⟨45, _⟩ => ⟨S8256x4096, .f32⟩
  | .hbm, ⟨46, _⟩ => ⟨S_, .f32⟩
  | .hbm, ⟨47, _⟩ => ⟨S8256x4096, .f32⟩
  | .hbm, ⟨48, _⟩ => ⟨S8256x4096, .f32⟩
  | .hbm, ⟨49, _⟩ => ⟨S_, .f32⟩
  | .hbm, ⟨50, _⟩ => ⟨S8256x4096, .f32⟩
  | .hbm, ⟨51, _⟩ => ⟨S8256x4096, .f32⟩
  | .hbm, ⟨52, _⟩ => ⟨S1x1024x4096, .f32⟩
  | .hbm, ⟨53, _⟩ => ⟨S1024x4096, .f32⟩
  | .hbm, ⟨54, _⟩ => ⟨S8256x4096, .f32⟩
  | .hbm, ⟨55, _⟩ => ⟨S8256x4096, .f32⟩
  | .hbm, ⟨56, _⟩ => ⟨S8256x4096, .f32⟩
  | .hbm, ⟨57, _⟩ => ⟨S8256x4096, .f32⟩
  | .hbm, ⟨58, _⟩ => ⟨S8256x4096, .f32⟩
  | .hbm, ⟨59, _⟩ => ⟨S_, .f32⟩
  | .hbm, ⟨60, _⟩ => ⟨S8256x4096, .f32⟩
  | .hbm, ⟨61, _⟩ => ⟨S8256x4096, .f32⟩
  | .hbm, ⟨62, _⟩ => ⟨S_, .f32⟩
  | .hbm, ⟨63, _⟩ => ⟨S8256x4096, .f32⟩
  | .hbm, ⟨64, _⟩ => ⟨S8256x4096, .f32⟩
  | .hbm, ⟨65, _⟩ => ⟨S1x2048x4096, .f32⟩
  | .hbm, ⟨66, _⟩ => ⟨S2048x4096, .f32⟩
  | .hbm, ⟨67, _⟩ => ⟨S8256x4096, .f32⟩
  | .hbm, ⟨68, _⟩ => ⟨S8256x4096, .f32⟩
  | .hbm, ⟨69, _⟩ => ⟨S8256x4096, .f32⟩
  | .hbm, ⟨70, _⟩ => ⟨S8256x4096, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== Kernel5.lean ====
abbrev S8256x4096 : Shape := ⟨2, ![8256, 4096]⟩
abbrev S4x4096x4096 : Shape := ⟨3, ![4, 4096, 4096]⟩
abbrev S1376x4096 : Shape := ⟨2, ![1376, 4096]⟩
abbrev S1x4096x256 : Shape := ⟨3, ![1, 4096, 256]⟩
abbrev S1376x256 : Shape := ⟨2, ![1376, 256]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S8256x4096, .bf16⟩
  | .hbm, ⟨1, _⟩ => ⟨S4x4096x4096, .f32⟩
  | .hbm, ⟨2, _⟩ => ⟨S8256x4096, .f32⟩
  | .hbm, ⟨3, _⟩ => ⟨S8256x4096, .f32⟩
  | .local _ .vmem, ⟨0, _⟩ => ⟨S1376x4096, .bf16⟩
  | .local _ .vmem, ⟨1, _⟩ => ⟨S1376x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1376x256, .f32⟩
  | .local _ .vmem, ⟨5, _⟩ => ⟨S1376x256, .f32⟩
  | .local _ .vmem, ⟨6, _⟩ => ⟨S1376x256, .f32⟩
  | .local _ .vmem, ⟨7, _⟩ => ⟨S1376x256, .f32⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  ![arg0.toNat, v1.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1376x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1376x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S8256x4096 : Shape := ⟨2, ![8256, 4096]⟩
abbrev S4x4096x4096 : Shape := ⟨3, ![4, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4x4096x4096, .f32⟩
  | .hbm, ⟨2, _⟩ => ⟨S8256x4096, .f32⟩
  | .hbm, ⟨3, _⟩ => ⟨S8256x4096, .f32⟩
  | .hbm, ⟨4, _⟩ => ⟨S1x4096x4096, .f32⟩
  | .hbm, ⟨5, _⟩ => ⟨S4096x4096, .f32⟩
  | .hbm, ⟨6, _⟩ => ⟨S8256x4096, .f32⟩
  | .hbm, ⟨7, _⟩ => ⟨S8256x4096, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8256x4096 : Shape := ⟨2, ![8256, 4096]⟩
abbrev S4x4096x25624 : Shape := ⟨3, ![4, 4096, 25624]⟩
abbrev S4x25624x4096 : Shape := ⟨3, ![4, 25624, 4096]⟩
abbrev S1376x4096 : Shape := ⟨2, ![1376, 4096]⟩
abbrev S1x512x4096 : Shape := ⟨3, ![1, 512, 4096]⟩
abbrev S1376x512 : Shape := ⟨2, ![1376, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8256x4096, .bf16⟩
  | .hbm, ⟨1, _⟩ => ⟨S4x4096x25624, .f32⟩
  | .hbm, ⟨2, _⟩ => ⟨S4x25624x4096, .f32⟩
  | .hbm, ⟨3, _⟩ => ⟨S8256x4096, .f32⟩
  | .local _ .vmem, ⟨0, _⟩ => ⟨S1376x4096, .bf16⟩
  | .local _ .vmem, ⟨1, _⟩ => ⟨S1376x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1376x512, .f32⟩
  | .local _ .vmem, ⟨5, _⟩ => ⟨S1376x512, .f32⟩
  | .local _ .vmem, ⟨6, _⟩ => ⟨S512x4096, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8256x4096 : Shape := ⟨2, ![8256, 4096]⟩
abbrev S4x4096x25624 : Shape := ⟨3, ![4, 4096, 25624]⟩
abbrev S1x4096x25624 : Shape := ⟨3, ![1, 4096, 25624]⟩
abbrev S4096x25624 : Shape := ⟨2, ![4096, 25624]⟩
abbrev S8256x25624 : Shape := ⟨2, ![8256, 25624]⟩

abbrev nBuf : Space → Nat
  | .hbm => 7
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4x4096x25624, .f32⟩
  | .hbm, ⟨2, _⟩ => ⟨S8256x4096, .f32⟩
  | .hbm, ⟨3, _⟩ => ⟨S1x4096x25624, .f32⟩
  | .hbm, ⟨4, _⟩ => ⟨S4096x25624, .f32⟩
  | .hbm, ⟨5, _⟩ => ⟨S8256x25624, .f32⟩
  | .hbm, ⟨6, _⟩ => ⟨S8256x4096, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S8256x4096 : Shape := ⟨2, ![8256, 4096]⟩
abbrev S4x4096x25624 : Shape := ⟨3, ![4, 4096, 25624]⟩
abbrev S4x25624x4096 : Shape := ⟨3, ![4, 25624, 4096]⟩
abbrev S8256x3072 : Shape := ⟨2, ![8256, 3072]⟩
abbrev S1376x4096 : Shape := ⟨2, ![1376, 4096]⟩
abbrev S1x512x4096 : Shape := ⟨3, ![1, 512, 4096]⟩
abbrev S1376x512 : Shape := ⟨2, ![1376, 512]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8256x4096, .bf16⟩
  | .hbm, ⟨1, _⟩ => ⟨S4x4096x25624, .f32⟩
  | .hbm, ⟨2, _⟩ => ⟨S4x25624x4096, .f32⟩
  | .hbm, ⟨3, _⟩ => ⟨S8256x3072, .f32⟩
  | .local _ .vmem, ⟨0, _⟩ => ⟨S1376x4096, .bf16⟩
  | .local _ .vmem, ⟨1, _⟩ => ⟨S1376x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1376x512, .f32⟩
  | .local _ .vmem, ⟨5, _⟩ => ⟨S1376x512, .f32⟩
  | .local _ .vmem, ⟨6, _⟩ => ⟨S512x4096, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8256x4096 : Shape := ⟨2, ![8256, 4096]⟩
abbrev S4x4096x25624 : Shape := ⟨3, ![4, 4096, 25624]⟩
abbrev S1x4096x25624 : Shape := ⟨3, ![1, 4096, 25624]⟩
abbrev S4096x25624 : Shape := ⟨2, ![4096, 25624]⟩
abbrev S8256x25624 : Shape := ⟨2, ![8256, 25624]⟩
abbrev S8256x3072 : Shape := ⟨2, ![8256, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4x4096x25624, .f32⟩
  | .hbm, ⟨2, _⟩ => ⟨S8256x4096, .f32⟩
  | .hbm, ⟨3, _⟩ => ⟨S1x4096x25624, .f32⟩
  | .hbm, ⟨4, _⟩ => ⟨S4096x25624, .f32⟩
  | .hbm, ⟨5, _⟩ => ⟨S8256x25624, .f32⟩
  | .hbm, ⟨6, _⟩ => ⟨S8256x3072, .f32⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S8256x4096 : Shape := ⟨2, ![8256, 4096]⟩
abbrev S4x8256x2048 : Shape := ⟨3, ![4, 8256, 2048]⟩
abbrev S4x4096x25624 : Shape := ⟨3, ![4, 4096, 25624]⟩
abbrev S4x25624x4096 : Shape := ⟨3, ![4, 25624, 4096]⟩
abbrev S4x6144x4096 : Shape := ⟨3, ![4, 6144, 4096]⟩
abbrev S8256x2048 : Shape := ⟨2, ![8256, 2048]⟩
abbrev S1376x4096 : Shape := ⟨2, ![1376, 4096]⟩
abbrev S1x512x4096 : Shape := ⟨3, ![1, 512, 4096]⟩
abbrev S1x1376x512 : Shape := ⟨3, ![1, 1376, 512]⟩
abbrev S1376x512 : Shape := ⟨2, ![1376, 512]⟩
abbrev S512x4096 : Shape := ⟨2, ![512, 4096]⟩

abbrev nBuf : Space → Nat
  | .hbm => 8
  | .vmem => 8
  | .smem => 0
  | _ => 0

abbrev bufTy : (tb : Table) → Fin (tcTables nBuf tb) → BufTy
  | .hbm, ⟨0, _⟩ => ⟨S8256x4096, .bf16⟩
  | .hbm, ⟨1, _⟩ => ⟨S4x8256x2048, .f32⟩
  | .hbm, ⟨2, _⟩ => ⟨S4x4096x25624, .f32⟩
  | .hbm, ⟨3, _⟩ => ⟨S4x25624x4096, .f32⟩
  | .hbm, ⟨4, _⟩ => ⟨S4x6144x4096, .f32⟩
  | .hbm, ⟨5, _⟩ => ⟨S4x6144x4096, .bf16⟩
  | .hbm, ⟨6, _⟩ => ⟨S4x8256x2048, .f32⟩
  | .hbm, ⟨7, _⟩ => ⟨S8256x2048, .bf16⟩
  | .local _ .vmem, ⟨0, _⟩ => ⟨S1376x4096, .bf16⟩
  | .local _ .vmem, ⟨1, _⟩ => ⟨S1376x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1x1376x512, .f32⟩
  | .local _ .vmem, ⟨5, _⟩ => ⟨S1x1376x512, .f32⟩
  | .local _ .vmem, ⟨6, _⟩ => ⟨S1376x512, .bf16⟩
  | .local _ .vmem, ⟨7, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c3_i32 : BitVec 32 := 3#32
  let c0_i32 : BitVec 32 := 0#32
  let c0_i32_0 : BitVec 32 := 0#32
  ![c3_i32.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1376x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8256x4096 : Shape := ⟨2, ![8256, 4096]⟩
abbrev S4x8256x2048 : Shape := ⟨3, ![4, 8256, 2048]⟩
abbrev S4x4096x25624 : Shape := ⟨3, ![4, 4096, 25624]⟩
abbrev S1x4096x25624 : Shape := ⟨3, ![1, 4096, 25624]⟩
abbrev S4096x25624 : Shape := ⟨2, ![4096, 25624]⟩
abbrev S8256x25624 : Shape := ⟨2, ![8256, 25624]⟩
abbrev S8256x1024 : Shape := ⟨2, ![8256, 1024]⟩
abbrev S8256x512 : Shape := ⟨2, ![8256, 512]⟩
abbrev S8256x4 : Shape := ⟨2, ![8256, 4]⟩
abbrev S8256x2048 : Shape := ⟨2, ![8256, 2048]⟩
abbrev S8256x16 : Shape := ⟨2, ![8256, 16]⟩
abbrev S3x8256x2048 : Shape := ⟨3, ![3, 8256, 2048]⟩
abbrev S1x8256x2048 : Shape := ⟨3, ![1, 8256, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4x8256x2048, .f32⟩
  | .hbm, ⟨2, _⟩ => ⟨S4x4096x25624, .f32⟩
  | .hbm, ⟨3, _⟩ => ⟨S8256x4096, .f32⟩
  | .hbm, ⟨4, _⟩ => ⟨S1x4096x25624, .f32⟩
  | .hbm, ⟨5, _⟩ => ⟨S4096x25624, .f32⟩
  | .hbm, ⟨6, _⟩ => ⟨S8256x25624, .f32⟩
  | .hbm, ⟨7, _⟩ => ⟨S8256x1024, .f32⟩
  | .hbm, ⟨8, _⟩ => ⟨S8256x1024, .f32⟩
  | .hbm, ⟨9, _⟩ => ⟨S8256x1024, .f32⟩
  | .hbm, ⟨10, _⟩ => ⟨S8256x1024, .f32⟩
  | .hbm, ⟨11, _⟩ => ⟨S8256x512, .f32⟩
  | .hbm, ⟨12, _⟩ => ⟨S8256x512, .f32⟩
  | .hbm, ⟨13, _⟩ => ⟨S8256x1024, .f32⟩
  | .hbm, ⟨14, _⟩ => ⟨S8256x1024, .f32⟩
  | .hbm, ⟨15, _⟩ => ⟨S8256x4, .f32⟩
  | .hbm, ⟨16, _⟩ => ⟨S8256x4, .f32⟩
  | .hbm, ⟨17, _⟩ => ⟨S8256x2048, .f32⟩
  | .hbm, ⟨18, _⟩ => ⟨S8256x2048, .f32⟩
  | .hbm, ⟨19, _⟩ => ⟨S8256x2048, .f32⟩
  | .hbm, ⟨20, _⟩ => ⟨S8256x16, .f32⟩
  | .hbm, ⟨21, _⟩ => ⟨S8256x4096, .f32⟩
  | .hbm, ⟨22, _⟩ => ⟨S8256x4096, .f32⟩
  | .hbm, ⟨23, _⟩ => ⟨S8256x4096, .f32⟩
  | .hbm, ⟨24, _⟩ => ⟨S3x8256x2048, .f32⟩
  | .hbm, ⟨25, _⟩ => ⟨S1x8256x2048, .f32⟩
  | .hbm, ⟨26, _⟩ => ⟨S4x8256x2048, .f32⟩
  | .hbm, ⟨27, _⟩ => ⟨S8256x2048, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩

abbrev nD : Nat := 1
abbrev τ : Topo := Topo.v7x

variable {F : FTy → Type} [FloatOps F]
-- ==== Kernel9.lean ====
abbrev S8256x4096 : Shape := ⟨2, ![8256, 4096]⟩
abbrev S4096 : Shape := ⟨1, ![4096]⟩
abbrev S1x4096 : Shape := ⟨2, ![1, 4096]⟩
abbrev S192x4096 : Shape := ⟨2, ![192, 4096]⟩
abbrev S192 : Shape := ⟨1, ![192]⟩
abbrev S192x1 : Shape := ⟨2, ![192, 1]⟩

abbrev nBuf : Space → Nat
  | .hbm => 4
  | .vmem => 5
  | .smem => 0
  | _ => 0

abbrev bufTy : (tb : Table) → Fin (tcTables nBuf tb) → BufTy
  | .hbm, ⟨0, _⟩ => ⟨S8256x4096, .f32⟩
  | .hbm, ⟨1, _⟩ => ⟨S4096, .f32⟩
  | .hbm, ⟨2, _⟩ => ⟨S1x4096, .f32⟩
  | .hbm, ⟨3, _⟩ => ⟨S8256x4096, .f32⟩
  | .local _ .vmem, ⟨0, _⟩ => ⟨S192x4096, .f32⟩
  | .local _ .vmem, ⟨1, _⟩ => ⟨S192x4096, .f32⟩
  | .local _ .vmem, ⟨2, _⟩ => ⟨S1x4096, .f32⟩
  | .local _ .vmem, ⟨3, _⟩ => ⟨S192x4096, .f32⟩
  | .local _ .vmem, ⟨4, _⟩ => ⟨S192x4096, .f32⟩
  | _, _ => ⟨S8256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S192x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8256x4096 : Shape := ⟨2, ![8256, 4096]⟩
abbrev S4096 : Shape := ⟨1, ![4096]⟩
abbrev S_ : Shape := ⟨0, ![]⟩
abbrev S8256 : Shape := ⟨1, ![8256]⟩
abbrev S8256x1 : Shape := ⟨2, ![8256, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8256x4096, .f32⟩
  | .hbm, ⟨1, _⟩ => ⟨S4096, .f32⟩
  | .hbm, ⟨2, _⟩ => ⟨S8256x4096, .f32⟩
  | .hbm, ⟨3, _⟩ => ⟨S_, .f32⟩
  | .hbm, ⟨4, _⟩ => ⟨S8256, .f32⟩
  | .hbm, ⟨5, _⟩ => ⟨S8256x1, .f32⟩
  | .hbm, ⟨6, _⟩ => ⟨S_, .f32⟩
  | .hbm, ⟨7, _⟩ => ⟨S8256x1, .f32⟩
  | .hbm, ⟨8, _⟩ => ⟨S8256x1, .f32⟩
  | .hbm, ⟨9, _⟩ => ⟨S_, .f32⟩
  | .hbm, ⟨10, _⟩ => ⟨S8256x1, .f32⟩
  | .hbm, ⟨11, _⟩ => ⟨S8256x1, .f32⟩
  | .hbm, ⟨12, _⟩ => ⟨S8256x1, .f32⟩
  | .hbm, ⟨13, _⟩ => ⟨S8256x4096, .f32⟩
  | .hbm, ⟨14, _⟩ => ⟨S8256x4096, .f32⟩
  | .hbm, ⟨15, _⟩ => ⟨S1x4096, .f32⟩
  | .hbm, ⟨16, _⟩ => ⟨S8256x4096, .f32⟩
  | .hbm, ⟨17, _⟩ => ⟨S8256x4096, .f32⟩
  | _, _ => ⟨S8256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel10.lean ====
abbrev S8256x4096 : Shape := ⟨2, ![8256, 4096]⟩
abbrev S4x4096x25624 : Shape := ⟨3, ![4, 4096, 25624]⟩
abbrev S4x25624x4096 : Shape := ⟨3, ![4, 25624, 4096]⟩
abbrev S4x6144x4096 : Shape := ⟨3, ![4, 6144, 4096]⟩
abbrev S8256x2048 : Shape := ⟨2, ![8256, 2048]⟩
abbrev S1376x4096 : Shape := ⟨2, ![1376, 4096]⟩
abbrev S1x512x4096 : Shape := ⟨3, ![1, 512, 4096]⟩
abbrev S1376x512 : Shape := ⟨2, ![1376, 512]⟩
abbrev S512x4096 : Shape := ⟨2, ![512, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8256x4096, .bf16⟩
  | .hbm, ⟨1, _⟩ => ⟨S4x4096x25624, .f32⟩
  | .hbm, ⟨2, _⟩ => ⟨S4x25624x4096, .f32⟩
  | .hbm, ⟨3, _⟩ => ⟨S4x6144x4096, .f32⟩
  | .hbm, ⟨4, _⟩ => ⟨S4x6144x4096, .bf16⟩
  | .hbm, ⟨5, _⟩ => ⟨S8256x2048, .bf16⟩
  | .local _ .vmem, ⟨0, _⟩ => ⟨S1376x4096, .bf16⟩
  | .local _ .vmem, ⟨1, _⟩ => ⟨S1376x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1376x512, .bf16⟩
  | .local _ .vmem, ⟨5, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8256x4096 : Shape := ⟨2, ![8256, 4096]⟩
abbrev S4x4096x25624 : Shape := ⟨3, ![4, 4096, 25624]⟩
abbrev S1x4096x25624 : Shape := ⟨3, ![1, 4096, 25624]⟩
abbrev S4096x25624 : Shape := ⟨2, ![4096, 25624]⟩
abbrev S8256x25624 : Shape := ⟨2, ![8256, 25624]⟩
abbrev S8256x1024 : Shape := ⟨2, ![8256, 1024]⟩
abbrev S8256x512 : Shape := ⟨2, ![8256, 512]⟩
abbrev S8256x4 : Shape := ⟨2, ![8256, 4]⟩
abbrev S8256x2048 : Shape := ⟨2, ![8256, 2048]⟩
abbrev S8256x16 : Shape := ⟨2, ![8256, 16]⟩

abbrev nBuf : Space → Nat
  | .hbm => 24
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4x4096x25624, .f32⟩
  | .hbm, ⟨2, _⟩ => ⟨S8256x4096, .f32⟩
  | .hbm, ⟨3, _⟩ => ⟨S1x4096x25624, .f32⟩
  | .hbm, ⟨4, _⟩ => ⟨S4096x25624, .f32⟩
  | .hbm, ⟨5, _⟩ => ⟨S8256x25624, .f32⟩
  | .hbm, ⟨6, _⟩ => ⟨S8256x1024, .f32⟩
  | .hbm, ⟨7, _⟩ => ⟨S8256x1024, .f32⟩
  | .hbm, ⟨8, _⟩ => ⟨S8256x1024, .f32⟩
  | .hbm, ⟨9, _⟩ => ⟨S8256x1024, .f32⟩
  | .hbm, ⟨10, _⟩ => ⟨S8256x512, .f32⟩
  | .hbm, ⟨11, _⟩ => ⟨S8256x512, .f32⟩
  | .hbm, ⟨12, _⟩ => ⟨S8256x1024, .f32⟩
  | .hbm, ⟨13, _⟩ => ⟨S8256x1024, .f32⟩
  | .hbm, ⟨14, _⟩ => ⟨S8256x4, .f32⟩
  | .hbm, ⟨15, _⟩ => ⟨S8256x4, .f32⟩
  | .hbm, ⟨16, _⟩ => ⟨S8256x2048, .f32⟩
  | .hbm, ⟨17, _⟩ => ⟨S8256x2048, .f32⟩
  | .hbm, ⟨18, _⟩ => ⟨S8256x2048, .f32⟩
  | .hbm, ⟨19, _⟩ => ⟨S8256x16, .f32⟩
  | .hbm, ⟨20, _⟩ => ⟨S8256x4096, .f32⟩
  | .hbm, ⟨21, _⟩ => ⟨S8256x4096, .f32⟩
  | .hbm, ⟨22, _⟩ => ⟨S8256x4096, .f32⟩
  | .hbm, ⟨23, _⟩ => ⟨S8256x2048, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩

abbrev nD : Nat := 1
abbrev τ : Topo := Topo.v7x

variable {F : FTy → Type} [FloatOps F]
-- ==== Kernel11.lean ====
abbrev S8256x4096 : Shape := ⟨2, ![8256, 4096]⟩
abbrev S4x8256x2048 : Shape := ⟨3, ![4, 8256, 2048]⟩
abbrev S4x4096x25624 : Shape := ⟨3, ![4, 4096, 25624]⟩
abbrev S4x25624x4096 : Shape := ⟨3, ![4, 25624, 4096]⟩
abbrev S4x6144x4096 : Shape := ⟨3, ![4, 6144, 4096]⟩
abbrev S8256x2048 : Shape := ⟨2, ![8256, 2048]⟩
abbrev S1376x4096 : Shape := ⟨2, ![1376, 4096]⟩
abbrev S1x512x4096 : Shape := ⟨3, ![1, 512, 4096]⟩
abbrev S1x1376x512 : Shape := ⟨3, ![1, 1376, 512]⟩
abbrev S1376x512 : Shape := ⟨2, ![1376, 512]⟩
abbrev S512x4096 : Shape := ⟨2, ![512, 4096]⟩

abbrev nBuf : Space → Nat
  | .hbm => 8
  | .vmem => 8
  | .smem => 0
  | _ => 0

abbrev bufTy : (tb : Table) → Fin (tcTables nBuf tb) → BufTy
  | .hbm, ⟨0, _⟩ => ⟨S8256x4096, .bf16⟩
  | .hbm, ⟨1, _⟩ => ⟨S4x8256x2048, .f32⟩
  | .hbm, ⟨2, _⟩ => ⟨S4x4096x25624, .f32⟩
  | .hbm, ⟨3, _⟩ => ⟨S4x25624x4096, .f32⟩
  | .hbm, ⟨4, _⟩ => ⟨S4x6144x4096, .f32⟩
  | .hbm, ⟨5, _⟩ => ⟨S4x6144x4096, .bf16⟩
  | .hbm, ⟨6, _⟩ => ⟨S4x8256x2048, .f32⟩
  | .hbm, ⟨7, _⟩ => ⟨S8256x2048, .bf16⟩
  | .local _ .vmem, ⟨0, _⟩ => ⟨S1376x4096, .bf16⟩
  | .local _ .vmem, ⟨1, _⟩ => ⟨S1376x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1x1376x512, .f32⟩
  | .local _ .vmem, ⟨5, _⟩ => ⟨S1x1376x512, .f32⟩
  | .local _ .vmem, ⟨6, _⟩ => ⟨S1376x512, .bf16⟩
  | .local _ .vmem, ⟨7, _⟩ => ⟨S1376x512, .bf16⟩
  | _, _ => ⟨S8256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c3_i32 : BitVec 32 := 3#32
  let c0_i32 : BitVec 32 := 0#32
  let c0_i32_0 : BitVec 32 := 0#32
  ![c3_i32.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1376x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1376x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1376x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8256x4096 : Shape := ⟨2, ![8256, 4096]⟩
abbrev S4x8256x2048 : Shape := ⟨3, ![4, 8256, 2048]⟩
abbrev S4x4096x25624 : Shape := ⟨3, ![4, 4096, 25624]⟩
abbrev S1x4096x25624 : Shape := ⟨3, ![1, 4096, 25624]⟩
abbrev S4096x25624 : Shape := ⟨2, ![4096, 25624]⟩
abbrev S8256x25624 : Shape := ⟨2, ![8256, 25624]⟩
abbrev S8256x1024 : Shape := ⟨2, ![8256, 1024]⟩
abbrev S8256x512 : Shape := ⟨2, ![8256, 512]⟩
abbrev S8256x4 : Shape := ⟨2, ![8256, 4]⟩
abbrev S8256x2048 : Shape := ⟨2, ![8256, 2048]⟩
abbrev S8256x16 : Shape := ⟨2, ![8256, 16]⟩
abbrev S3x8256x2048 : Shape := ⟨3, ![3, 8256, 2048]⟩
abbrev S1x8256x2048 : Shape := ⟨3, ![1, 8256, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8256x4096, .bf16⟩
  | .hbm, ⟨1, _⟩ => ⟨S4x8256x2048, .f32⟩
  | .hbm, ⟨2, _⟩ => ⟨S4x4096x25624, .f32⟩
  | .hbm, ⟨3, _⟩ => ⟨S8256x4096, .f32⟩
  | .hbm, ⟨4, _⟩ => ⟨S1x4096x25624, .f32⟩
  | .hbm, ⟨5, _⟩ => ⟨S4096x25624, .f32⟩
  | .hbm, ⟨6, _⟩ => ⟨S8256x25624, .f32⟩
  | .hbm, ⟨7, _⟩ => ⟨S8256x1024, .f32⟩
  | .hbm, ⟨8, _⟩ => ⟨S8256x1024, .f32⟩
  | .hbm, ⟨9, _⟩ => ⟨S8256x1024, .f32⟩
  | .hbm, ⟨10, _⟩ => ⟨S8256x1024, .f32⟩
  | .hbm, ⟨11, _⟩ => ⟨S8256x512, .f32⟩
  | .hbm, ⟨12, _⟩ => ⟨S8256x512, .f32⟩
  | .hbm, ⟨13, _⟩ => ⟨S8256x1024, .f32⟩
  | .hbm, ⟨14, _⟩ => ⟨S8256x1024, .f32⟩
  | .hbm, ⟨15, _⟩ => ⟨S8256x4, .f32⟩
  | .hbm, ⟨16, _⟩ => ⟨S8256x4, .f32⟩
  | .hbm, ⟨17, _⟩ => ⟨S8256x2048, .f32⟩
  | .hbm, ⟨18, _⟩ => ⟨S8256x2048, .f32⟩
  | .hbm, ⟨19, _⟩ => ⟨S8256x2048, .f32⟩
  | .hbm, ⟨20, _⟩ => ⟨S8256x16, .f32⟩
  | .hbm, ⟨21, _⟩ => ⟨S8256x4096, .f32⟩
  | .hbm, ⟨22, _⟩ => ⟨S8256x4096, .f32⟩
  | .hbm, ⟨23, _⟩ => ⟨S8256x4096, .f32⟩
  | .hbm, ⟨24, _⟩ => ⟨S3x8256x2048, .f32⟩
  | .hbm, ⟨25, _⟩ => ⟨S1x8256x2048, .f32⟩
  | .hbm, ⟨26, _⟩ => ⟨S4x8256x2048, .f32⟩
  | .hbm, ⟨27, _⟩ => ⟨S8256x2048, .bf16⟩
  | _, _ => ⟨S8256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩

abbrev nD : Nat := 1
abbrev τ : Topo := Topo.v7x

variable {F : FTy → Type} [FloatOps F]
-- ==== Kernel12.lean ====
abbrev S8256x128 : Shape := ⟨2, ![8256, 128]⟩
abbrev S1x128 : Shape := ⟨2, ![1, 128]⟩
abbrev S8192x128 : Shape := ⟨2, ![8192, 128]⟩
abbrev S4x128x2048 : Shape := ⟨3, ![4, 128, 2048]⟩
abbrev S128x128 : Shape := ⟨2, ![128, 128]⟩
abbrev S1x128x128 : Shape := ⟨3, ![1, 128, 128]⟩

abbrev nBuf : Space → Nat
  | .hbm => 5
  | .vmem => 10
  | .smem => 0
  | _ => 0

abbrev bufTy : (tb : Table) → Fin (tcTables nBuf tb) → BufTy
  | .hbm, ⟨0, _⟩ => ⟨S8256x128, .f32⟩
  | .hbm, ⟨1, _⟩ => ⟨S1x128, .f32⟩
  | .hbm, ⟨2, _⟩ => ⟨S8192x128, .f32⟩
  | .hbm, ⟨3, _⟩ => ⟨S8192x128, .f32⟩
  | .hbm, ⟨4, _⟩ => ⟨S4x128x2048, .f32⟩
  | .local _ .vmem, ⟨0, _⟩ => ⟨S128x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1x128x128, .f32⟩
  | .local _ .vmem, ⟨8, _⟩ => ⟨S1x128x128, .f32⟩
  | .local _ .vmem, ⟨9, _⟩ => ⟨S1x128, .f32⟩
  | _, _ => ⟨S8256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S8256x128 : Shape := ⟨2, ![8256, 128]⟩
abbrev S1x128 : Shape := ⟨2, ![1, 128]⟩
abbrev S8192x128 : Shape := ⟨2, ![8192, 128]⟩
abbrev S4x2048x128 : Shape := ⟨3, ![4, 2048, 128]⟩
abbrev S1x1x128 : Shape := ⟨3, ![1, 1, 128]⟩
abbrev S4x2048x16 : Shape := ⟨3, ![4, 2048, 16]⟩
abbrev S_ : Shape := ⟨0, ![]⟩
abbrev S4x2048x4 : Shape := ⟨3, ![4, 2048, 4]⟩
abbrev S4x2048x104 : Shape := ⟨3, ![4, 2048, 104]⟩
abbrev S4x128x2048 : Shape := ⟨3, ![4, 128, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8256x128, .f32⟩
  | .hbm, ⟨1, _⟩ => ⟨S1x128, .f32⟩
  | .hbm, ⟨2, _⟩ => ⟨S8192x128, .f32⟩
  | .hbm, ⟨3, _⟩ => ⟨S4x2048x128, .f32⟩
  | .hbm, ⟨4, _⟩ => ⟨S1x1x128, .f32⟩
  | .hbm, ⟨5, _⟩ => ⟨S4x2048x128, .f32⟩
  | .hbm, ⟨6, _⟩ => ⟨S4x2048x128, .f32⟩
  | .hbm, ⟨7, _⟩ => ⟨S4x2048x16, .f32⟩
  | .hbm, ⟨8, _⟩ => ⟨S4x2048x16, .f32⟩
  | .hbm, ⟨9, _⟩ => ⟨S_, .f32⟩
  | .hbm, ⟨10, _⟩ => ⟨S4x2048x16, .f32⟩
  | .hbm, ⟨11, _⟩ => ⟨S4x2048x16, .f32⟩
  | .hbm, ⟨12, _⟩ => ⟨S4x2048x16, .f32⟩
  | .hbm, ⟨13, _⟩ => ⟨S4x2048x16, .f32⟩
  | .hbm, ⟨14, _⟩ => ⟨S4x2048x16, .i1⟩
  | .hbm, ⟨15, _⟩ => ⟨S4x2048x16, .f32⟩
  | .hbm, ⟨16, _⟩ => ⟨S4x2048x16, .f32⟩
  | .hbm, ⟨17, _⟩ => ⟨S4x2048x16, .f32⟩
  | .hbm, ⟨18, _⟩ => ⟨S4x2048x16, .f32⟩
  | .hbm, ⟨19, _⟩ => ⟨S4x2048x16, .f32⟩
  | .hbm, ⟨20, _⟩ => ⟨S4x2048x16, .f32⟩
  | .hbm, ⟨21, _⟩ => ⟨S4x2048x16, .f32⟩
  | .hbm, ⟨22, _⟩ => ⟨S4x2048x16, .f32⟩
  | .hbm, ⟨23, _⟩ => ⟨S4x2048x16, .f32⟩
  | .hbm, ⟨24, _⟩ => ⟨S4x2048x4, .f32⟩
  | .hbm, ⟨25, _⟩ => ⟨S_, .f32⟩
  | .hbm, ⟨26, _⟩ => ⟨S4x2048x4, .f32⟩
  | .hbm, ⟨27, _⟩ => ⟨S4x2048x4, .f32⟩
  | .hbm, ⟨28, _⟩ => ⟨S4x2048x4, .f32⟩
  | .hbm, ⟨29, _⟩ => ⟨S_, .f32⟩
  | .hbm, ⟨30, _⟩ => ⟨S4x2048x4, .f32⟩
  | .hbm, ⟨31, _⟩ => ⟨S4x2048x4, .f32⟩
  | .hbm, ⟨32, _⟩ => ⟨S4x2048x4, .f32⟩
  | .hbm, ⟨33, _⟩ => ⟨S_, .f32⟩
  | .hbm, ⟨34, _⟩ => ⟨S4x2048x4, .f32⟩
  | .hbm, ⟨35, _⟩ => ⟨S4x2048x4, .f32⟩
  | .hbm, ⟨36, _⟩ => ⟨S4x2048x4, .f32⟩
  | .hbm, ⟨37, _⟩ => ⟨S_, .f32⟩
  | .hbm, ⟨38, _⟩ => ⟨S4x2048x4, .f32⟩
  | .hbm, ⟨39, _⟩ => ⟨S4x2048x4, .f32⟩
  | .hbm, ⟨40, _⟩ => ⟨S4x2048x4, .f32⟩
  | .hbm, ⟨41, _⟩ => ⟨S_, .f32⟩
  | .hbm, ⟨42, _⟩ => ⟨S4x2048x4, .f32⟩
  | .hbm, ⟨43, _⟩ => ⟨S4x2048x4, .f32⟩
  | .hbm, ⟨44, _⟩ => ⟨S4x2048x4, .f32⟩
  | .hbm, ⟨45, _⟩ => ⟨S4x2048x4, .f32⟩
  | .hbm, ⟨46, _⟩ => ⟨S4x2048x4, .i1⟩
  | .hbm, ⟨47, _⟩ => ⟨S4x2048x4, .f32⟩
  | .hbm, ⟨48, _⟩ => ⟨S4x2048x4, .f32⟩
  | .hbm, ⟨49, _⟩ => ⟨S4x2048x4, .f32⟩
  | .hbm, ⟨50, _⟩ => ⟨S4x2048x4, .f32⟩
  | .hbm, ⟨51, _⟩ => ⟨S4x2048x4, .f32⟩
  | .hbm, ⟨52, _⟩ => ⟨S4x2048x4, .f32⟩
  | .hbm, ⟨53, _⟩ => ⟨S4x2048x4, .f32⟩
  | .hbm, ⟨54, _⟩ => ⟨S4x2048x4, .f32⟩
  | .hbm, ⟨55, _⟩ => ⟨S4x2048x4, .f32⟩
  | .hbm, ⟨56, _⟩ => ⟨S4x2048x104, .f32⟩
  | .hbm, ⟨57, _⟩ => ⟨S_, .f32⟩
  | .hbm, ⟨58, _⟩ => ⟨S4x2048x104, .f32⟩
  | .hbm, ⟨59, _⟩ => ⟨S4x2048x128, .f32⟩
  | .hbm, ⟨60, _⟩ => ⟨S_, .f32⟩
  | .hbm, ⟨61, _⟩ => ⟨S_, .f32⟩
  | .hbm, ⟨62, _⟩ => ⟨S4x2048x128, .f32⟩
  | .hbm, ⟨63, _⟩ => ⟨S8192x128, .f32⟩
  | .hbm, ⟨64, _⟩ => ⟨S8192x128, .f32⟩
  | .hbm, ⟨65, _⟩ => ⟨S4x128x2048, .f32⟩
  | _, _ => ⟨S8256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_call1_v0 : Ref sig .tc := ⟨.hbm, 40, rfl⟩
abbrev main_call1_call0_cst : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_v11 : Ref sig .tc := ⟨.hbm, 53, rfl⟩
abbrev main_call1_v1 : Ref sig .tc := ⟨.hbm, 54, rfl⟩
abbrev main_v19 : Ref sig .tc := ⟨.hbm, 55, rfl⟩
abbrev main_v20 : Ref sig .tc := ⟨.hbm, 56, rfl⟩
abbrev main_cst_3 : Ref sig .tc := ⟨.hbm, 57, rfl⟩
abbrev main_v21 : Ref sig .tc := ⟨.hbm, 58, rfl⟩
abbrev main_v22 : Ref sig .tc := ⟨.hbm, 59, rfl⟩
abbrev main_call2_call0_cst : Ref sig .tc := ⟨.hbm, 60, rfl⟩
abbrev main_call2_call0_v0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩

abbrev nD : Nat := 1
abbrev τ : Topo := Topo.v7x

variable {F : FTy → Type} [FloatOps F]
-- ==== Kernel13.lean ====
abbrev S8256x128 : Shape := ⟨2, ![8256, 128]⟩
abbrev S1x128 : Shape := ⟨2, ![1, 128]⟩
abbrev S64x128 : Shape := ⟨2, ![64, 128]⟩
abbrev S8x128 : Shape := ⟨2, ![8, 128]⟩
abbrev S8x8 : Shape := ⟨2, ![8, 8]⟩

abbrev nBuf : Space → Nat
  | .hbm => 4
  | .vmem => 8
  | .smem => 0
  | _ => 0

abbrev bufTy : (tb : Table) → Fin (tcTables nBuf tb) → BufTy
  | .hbm, ⟨0, _⟩ => ⟨S8256x128, .f32⟩
  | .hbm, ⟨1, _⟩ => ⟨S1x128, .f32⟩
  | .hbm, ⟨2, _⟩ => ⟨S64x128, .f32⟩
  | .hbm, ⟨3, _⟩ => ⟨S64x128, .f32⟩
  | .local _ .vmem, ⟨0, _⟩ => ⟨S8x128, .f32⟩
  | .local _ .vmem, ⟨1, _⟩ => ⟨S8x128, .f32⟩
  | .local _ .vmem, ⟨2, _⟩ => ⟨S1x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S1x128, .f32⟩
  | _, _ => ⟨S8256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1024_i32 : BitVec 32 := 1024#32
  let v1 : BitVec 32 := Scalar.addi c1024_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S8256x128 : Shape := ⟨2, ![8256, 128]⟩
abbrev S1x128 : Shape := ⟨2, ![1, 128]⟩
abbrev S64x128 : Shape := ⟨2, ![64, 128]⟩
abbrev S8x8x128 : Shape := ⟨3, ![8, 8, 128]⟩
abbrev S1x1x128 : Shape := ⟨3, ![1, 1, 128]⟩
abbrev S8x8x16 : Shape := ⟨3, ![8, 8, 16]⟩
abbrev S_ : Shape := ⟨0, ![]⟩
abbrev S8x8x4 : Shape := ⟨3, ![8, 8, 4]⟩
abbrev S8x8x104 : Shape := ⟨3, ![8, 8, 104]⟩

abbrev nBuf : Space → Nat
  | .hbm => 65
  | .vmem => 0
  | .smem => 0
  | _ => 0

abbrev bufTy : (tb : Table) → Fin (tcTables nBuf tb) → BufTy
  | .hbm, ⟨0, _⟩ => ⟨S8256x128, .f32⟩
  | .hbm, ⟨1, _⟩ => ⟨S1x128, .f32⟩
  | .hbm, ⟨2, _⟩ => ⟨S64x128, .f32⟩
  | .hbm, ⟨3, _⟩ => ⟨S8x8x128, .f32⟩
  | .hbm, ⟨4, _⟩ => ⟨S1x1x128, .f32⟩
  | .hbm, ⟨5, _⟩ => ⟨S8x8x128, .f32⟩
  | .hbm, ⟨6, _⟩ => ⟨S8x8x128, .f32⟩
  | .hbm, ⟨7, _⟩ => ⟨S8x8x16, .f32⟩
  | .hbm, ⟨8, _⟩ => ⟨S8x8x16, .f32⟩
  | .hbm, ⟨9, _⟩ => ⟨S_, .f32⟩
  | .hbm, ⟨10, _⟩ => ⟨S8x8x16, .f32⟩
  | .hbm, ⟨11, _⟩ => ⟨S8x8x16, .f32⟩
  | .hbm, ⟨12, _⟩ => ⟨S8x8x16, .f32⟩
  | .hbm, ⟨13, _⟩ => ⟨S8x8x16, .f32⟩
  | .hbm, ⟨14, _⟩ => ⟨S8x8x16, .i1⟩
  | .hbm, ⟨15, _⟩ => ⟨S8x8x16, .f32⟩
  | .hbm, ⟨16, _⟩ => ⟨S8x8x16, .f32⟩
  | .hbm, ⟨17, _⟩ => ⟨S8x8x16, .f32⟩
  | .hbm, ⟨18, _⟩ => ⟨S8x8x16, .f32⟩
  | .hbm, ⟨19, _⟩ => ⟨S8x8x16, .f32⟩
  | .hbm, ⟨20, _⟩ => ⟨S8x8x16, .f32⟩
  | .hbm, ⟨21, _⟩ => ⟨S8x8x16, .f32⟩
  | .hbm, ⟨22, _⟩ => ⟨S8x8x16, .f32⟩
  | .hbm, ⟨23, _⟩ => ⟨S8x8x16, .f32⟩
  | .hbm, ⟨24, _⟩ => ⟨S8x8x4, .f32⟩
  | .hbm, ⟨25, _⟩ => ⟨S_, .f32⟩
  | .hbm, ⟨26, _⟩ => ⟨S8x8x4, .f32⟩
  | .hbm, ⟨27, _⟩ => ⟨S8x8x4, .f32⟩
  | .hbm, ⟨28, _⟩ => ⟨S8x8x4, .f32⟩
  | .hbm, ⟨29, _⟩ => ⟨S_, .f32⟩
  | .hbm, ⟨30, _⟩ => ⟨S8x8x4, .f32⟩
  | .hbm, ⟨31, _⟩ => ⟨S8x8x4, .f32⟩
  | .hbm, ⟨32, _⟩ => ⟨S8x8x4, .f32⟩
  | .hbm, ⟨33, _⟩ => ⟨S_, .f32⟩
  | .hbm, ⟨34, _⟩ => ⟨S8x8x4, .f32⟩
  | .hbm, ⟨35, _⟩ => ⟨S8x8x4, .f32⟩
  | .hbm, ⟨36, _⟩ => ⟨S8x8x4, .f32⟩
  | .hbm, ⟨37, _⟩ => ⟨S_, .f32⟩
  | .hbm, ⟨38, _⟩ => ⟨S8x8x4, .f32⟩
  | .hbm, ⟨39, _⟩ => ⟨S8x8x4, .f32⟩
  | .hbm, ⟨40, _⟩ => ⟨S8x8x4, .f32⟩
  | .hbm, ⟨41, _⟩ => ⟨S_, .f32⟩
  | .hbm, ⟨42, _⟩ => ⟨S8x8x4, .f32⟩
  | .hbm, ⟨43, _⟩ => ⟨S8x8x4, .f32⟩
  | .hbm, ⟨44, _⟩ => ⟨S8x8x4, .f32⟩
  | .hbm, ⟨45, _⟩ => ⟨S8x8x4, .f32⟩
  | .hbm, ⟨46, _⟩ => ⟨S8x8x4, .i1⟩
  | .hbm, ⟨47, _⟩ => ⟨S8x8x4, .f32⟩
  | .hbm, ⟨48, _⟩ => ⟨S8x8x4, .f32⟩
  | .hbm, ⟨49, _⟩ => ⟨S8x8x4, .f32⟩
  | .hbm, ⟨50, _⟩ => ⟨S8x8x4, .f32⟩
  | .hbm, ⟨51, _⟩ => ⟨S8x8x4, .f32⟩
  | .hbm, ⟨52, _⟩ => ⟨S8x8x4, .f32⟩
  | .hbm, ⟨53, _⟩ => ⟨S8x8x4, .f32⟩
  | .hbm, ⟨54, _⟩ => ⟨S8x8x4, .f32⟩
  | .hbm, ⟨55, _⟩ => ⟨S8x8x4, .f32⟩
  | .hbm, ⟨56, _⟩ => ⟨S8x8x104, .f32⟩
  | .hbm, ⟨57, _⟩ => ⟨S_, .f32⟩
  | .hbm, ⟨58, _⟩ => ⟨S8x8x104, .f32⟩
  | .hbm, ⟨59, _⟩ => ⟨S8x8x128, .f32⟩
  | .hbm, ⟨60, _⟩ => ⟨S64x128, .f32⟩
  | .hbm, ⟨61, _⟩ => ⟨S_, .f32⟩
  | .hbm, ⟨62, _⟩ => ⟨S_, .f32⟩
  | .hbm, ⟨63, _⟩ => ⟨S8x8x128, .f32⟩
  | .hbm, ⟨64, _⟩ => ⟨S64x128, .f32⟩
  | _, _ => ⟨S8256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_call1_v0 : Ref sig .tc := ⟨.hbm, 40, rfl⟩
abbrev main_call1_call0_cst : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_v11 : Ref sig .tc := ⟨.hbm, 53, rfl⟩
abbrev main_call1_v1 : Ref sig .tc := ⟨.hbm, 54, rfl⟩
abbrev main_v19 : Ref sig .tc := ⟨.hbm, 55, rfl⟩
abbrev main_v20 : Ref sig .tc := ⟨.hbm, 56, rfl⟩
abbrev main_cst_3 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_call2_call0_cst : Ref sig .tc := ⟨.hbm, 61, rfl⟩
abbrev main_call2_call0_v0 : Ref sig .tc := ⟨.hbm, 62, rfl⟩
abbrev main_v24 : Ref sig .tc := ⟨.hbm, 63, rfl⟩
abbrev main_v25 : Ref sig .tc := ⟨.hbm, 64, rfl⟩

abbrev nD : Nat := 1
abbrev τ : Topo := Topo.v7x

variable {F : FTy → Type} [FloatOps F]
-- ==== Kernel14.lean ====
abbrev S8256x3072 : Shape := ⟨2, ![8256, 3072]⟩
abbrev S64x128 : Shape := ⟨2, ![64, 128]⟩
abbrev S256 : Shape := ⟨1, ![256]⟩
abbrev S8x4x128x256 : Shape := ⟨4, ![8, 4, 128, 256]⟩
abbrev S8x4x128 : Shape := ⟨3, ![8, 4, 128]⟩
abbrev S8x4 : Shape := ⟨2, ![8, 4]⟩
abbrev S1x256 : Shape := ⟨2, ![1, 256]⟩
abbrev S8x4x1x128 : Shape := ⟨4, ![8, 4, 1, 128]⟩
abbrev S8x4x1x1 : Shape := ⟨4, ![8, 4, 1, 1]⟩
abbrev S64x1024 : Shape := ⟨2, ![64, 1024]⟩
abbrev S8x512 : Shape := ⟨2, ![8, 512]⟩
abbrev S8x1024 : Shape := ⟨2, ![8, 1024]⟩
abbrev S8x128 : Shape := ⟨2, ![8, 128]⟩
abbrev S1x4x128x256 : Shape := ⟨4, ![1, 4, 128, 256]⟩
abbrev S1x4x1x128 : Shape := ⟨4, ![1, 4, 1, 128]⟩
abbrev S4x128x256 : Shape := ⟨3, ![4, 128, 256]⟩
abbrev S4x1x128 : Shape := ⟨3, ![4, 1, 128]⟩
abbrev S8x256 : Shape := ⟨2, ![8, 256]⟩
abbrev S1x128x256 : Shape := ⟨3, ![1, 128, 256]⟩
abbrev S128x256 : Shape := ⟨2, ![128, 256]⟩
abbrev S1x1x128 : Shape := ⟨3, ![1, 1, 128]⟩
abbrev S1x128 : Shape := ⟨2, ![1, 128]⟩
abbrev S8 : Shape := ⟨1, ![8]⟩
abbrev S8x1 : Shape := ⟨2, ![8, 1]⟩
abbrev S8x8 : Shape := ⟨2, ![8, 8]⟩
abbrev S1x1 : Shape := ⟨2, ![1, 1]⟩
abbrev S1x8 : Shape := ⟨2, ![1, 8]⟩
abbrev S128 : Shape := ⟨1, ![128]⟩

abbrev nBuf : Space → Nat
  | .hbm => 14
  | .vmem => 28
  | .smem => 0
  | _ => 0

abbrev bufTy : (tb : Table) → Fin (tcTables nBuf tb) → BufTy
  | .hbm, ⟨0, _⟩ => ⟨S8256x3072, .f32⟩
  | .hbm, ⟨1, _⟩ => ⟨S64x128, .f32⟩
  | .hbm, ⟨2, _⟩ => ⟨S256, .f32⟩
  | .hbm, ⟨3, _⟩ => ⟨S8x4x128x256, .f32⟩
  | .hbm, ⟨4, _⟩ => ⟨S8x4x128, .f32⟩
  | .hbm, ⟨5, _⟩ => ⟨S8x4, .f32⟩
  | .hbm, ⟨6, _⟩ => ⟨S1x256, .f32⟩
  | .hbm, ⟨7, _⟩ => ⟨S8x4x1x128, .f32⟩
  | .hbm, ⟨8, _⟩ => ⟨S8x4x1x1, .f32⟩
  | .hbm, ⟨9, _⟩ => ⟨S8x4x1x128, .f32⟩
  | .hbm, ⟨10, _⟩ => ⟨S64x1024, .f32⟩
  | .hbm, ⟨11, _⟩ => ⟨S8x4x128x256, .f32⟩
  | .hbm, ⟨12, _⟩ => ⟨S8x4x1x128, .f32⟩
  | .hbm, ⟨13, _⟩ => ⟨S8x4x1x128, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x128, .f32⟩
  | .local _ .vmem, ⟨9, _⟩ => ⟨S8x128, .f32⟩
  | .local _ .vmem, ⟨10, _⟩ => ⟨S1x256, .f32⟩
  | .local _ .vmem, ⟨11, _⟩ => ⟨S1x4x128x256, .f32⟩
  | .local _ .vmem, ⟨12, _⟩ => ⟨S1x4x128x256, .f32⟩
  | .local _ .vmem, ⟨13, _⟩ => ⟨S1x4x1x128, .f32⟩
  | .local _ .vmem, ⟨14, _⟩ => ⟨S1x4x1x128, .f32⟩
  | .local _ .vmem, ⟨15, _⟩ => ⟨S1x4x1x128, .f32⟩
  | .local _ .vmem, ⟨16, _⟩ => ⟨S1x4x1x128, .f32⟩
  | .local _ .vmem, ⟨17, _⟩ => ⟨S8x1024, .f32⟩
  | .local _ .vmem, ⟨18, _⟩ => ⟨S8x1024, .f32⟩
  | .local _ .vmem, ⟨19, _⟩ => ⟨S1x4x128x256, .f32⟩
  | .local _ .vmem, ⟨20, _⟩ => ⟨S1x4x128x256, .f32⟩
  | .local _ .vmem, ⟨21, _⟩ => ⟨S1x4x1x128, .f32⟩
  | .local _ .vmem, ⟨22, _⟩ => ⟨S1x4x1x128, .f32⟩
  | .local _ .vmem, ⟨23, _⟩ => ⟨S1x4x1x128, .f32⟩
  | .local _ .vmem, ⟨24, _⟩ => ⟨S1x4x1x128, .f32⟩
  | .local _ .vmem, ⟨25, _⟩ => ⟨S4x128x256, .f32⟩
  | .local _ .vmem, ⟨26, _⟩ => ⟨S4x1x128, .f32⟩
  | .local _ .vmem, ⟨27, _⟩ => ⟨S4x1x128, .f32⟩
  | _, _ => ⟨S8256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨3, ![8, 1, 1], ![false, false, false]⟩

def k0_mult1 : BitVec 32 :=
  let c0_i32_2 : BitVec 32 := 0#32
  let c8_i32 : BitVec 32 := 8#32
  let v5 : BitVec 32 := Scalar.muli c0_i32_2 c8_i32
  v5
def k0_off1 : Fin 2 → Nat :=
  let c0_i32_2 : BitVec 32 := 0#32
  let c8_i32 : BitVec 32 := 8#32
  let v5 : BitVec 32 := Scalar.muli c0_i32_2 c8_i32
  let v6 : BitVec 32 := v5
  let v7 : Index := Scalar.indexCast v6
  let c0_3 : Index := 0#32
  ![v7.toNat, 0]
def k0_off2 : Fin 2 → Nat :=
  let c0_i32_2 : BitVec 32 := 0#32
  let c8_i32 : BitVec 32 := 8#32
  let v5 : BitVec 32 := Scalar.muli c0_i32_2 c8_i32
  let v6 : BitVec 32 := v5
  let v9 : Index := Scalar.indexCast v6
  let c0_4 : Index := 0#32
  ![v9.toNat, 0]
def k0_off3 : Fin 2 → Nat :=
  let c0_i32_2 : BitVec 32 := 0#32
  let c8_i32 : BitVec 32 := 8#32
  let v5 : BitVec 32 := Scalar.muli c0_i32_2 c8_i32
  let v6 : BitVec 32 := v5
  let v13 : Index := Scalar.indexCast v6
  let c0_6 : Index := 0#32
  ![v13.toNat, 0]
def k0_off4 : Fin 2 → Nat :=
  let c0_i32_2 : BitVec 32 := 0#32
  let c8_i32 : BitVec 32 := 8#32
  let v5 : BitVec 32 := Scalar.muli c0_i32_2 c8_i32
  let v6 : BitVec 32 := v5
  let v178 : Index := Scalar.indexCast v6
  let c128 : Index := 128#32
  ![v178.toNat, 128]
def k0_off5 : Fin 2 → Nat :=
  let c0_i32_2 : BitVec 32 := 0#32
  let c8_i32 : BitVec 32 := 8#32
  let v5 : BitVec 32 := Scalar.muli c0_i32_2 c8_i32
  let v6 : BitVec 32 := v5
  let v182 : Index := Scalar.indexCast v6
  let c256 : Index := 256#32
  ![v182.toNat, 256]
def k0_off6 : Fin 2 → Nat :=
  let c0_i32_2 : BitVec 32 := 0#32
  let c8_i32 : BitVec 32 := 8#32
  let v5 : BitVec 32 := Scalar.muli c0_i32_2 c8_i32
  let v6 : BitVec 32 := v5
  let v347 : Index := Scalar.indexCast v6
  let c256_100 : Index := 256#32
  ![v347.toNat, 256]
def k0_off7 : Fin 2 → Nat :=
  let c0_i32_2 : BitVec 32 := 0#32
  let c8_i32 : BitVec 32 := 8#32
  let v5 : BitVec 32 := Scalar.muli c0_i32_2 c8_i32
  let v6 : BitVec 32 := v5
  let v351 : Index := Scalar.indexCast v6
  let c512 : Index := 512#32
  ![v351.toNat, 512]
def k0_off8 : Fin 2 → Nat :=
  let c0_i32_2 : BitVec 32 := 0#32
  let c8_i32 : BitVec 32 := 8#32
  let v5 : BitVec 32 := Scalar.muli c0_i32_2 c8_i32
  let v6 : BitVec 32 := v5
  let v516 : Index := Scalar.indexCast v6
  let c384 : Index := 384#32
  ![v516.toNat, 384]
def k0_off9 : Fin 2 → Nat :=
  let c0_i32_2 : BitVec 32 := 0#32
  let c8_i32 : BitVec 32 := 8#32
  let v5 : BitVec 32 := Scalar.muli c0_i32_2 c8_i32
  let v6 : BitVec 32 := v5
  let v520 : Index := Scalar.indexCast v6
  let c768 : Index := 768#32
  ![v520.toNat, 768]
def k0_cond2 (i : grid0.Coords) : BitVec 1 :=
  let arg2 : BitVec 32 := BitVec.ofNat 32 (i 2).val
  let c0_i32_198 : BitVec 32 := 0#32
  let v685 : BitVec 1 := Scalar.cmpi .eq arg2 c0_i32_198
  let v686 : BitVec 32 := Scalar.extui v685
  let c0_i32_199 : BitVec 32 := 0#32
  let v687 : BitVec 1 := Scalar.cmpi .ne v686 c0_i32_199
  v687

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c1024_i32 : BitVec 32 := 1024#32
  let v2 : BitVec 32 := Scalar.addi c1024_i32 v1
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c1024_i32 : BitVec 32 := 1024#32
  let v2 : BitVec 32 := Scalar.addi c1024_i32 v1
  let c1_i32_0 : BitVec 32 := 1#32
  let v3 : BitVec 32 := Scalar.addi c1_i32_0 arg1
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c1024_i32 : BitVec 32 := 1024#32
  let v2 : BitVec 32 := Scalar.addi c1024_i32 v1
  let c1_i32_0 : BitVec 32 := 1#32
  let v3 : BitVec 32 := Scalar.addi c1_i32_0 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c1024_i32 : BitVec 32 := 1024#32
  let v2 : BitVec 32 := Scalar.addi c1024_i32 v1
  let c2_i32 : BitVec 32 := 2#32
  let v3 : BitVec 32 := Scalar.addi c2_i32 arg1
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x4x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x4x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x4x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x4x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== Reference14Ideal.lean ====
abbrev S8256x3072 : Shape := ⟨2, ![8256, 3072]⟩
abbrev S64x128 : Shape := ⟨2, ![64, 128]⟩
abbrev S256 : Shape := ⟨1, ![256]⟩
abbrev S8x4x128x256 : Shape := ⟨4, ![8, 4, 128, 256]⟩
abbrev S8x4x128 : Shape := ⟨3, ![8, 4, 128]⟩
abbrev S8x4 : Shape := ⟨2, ![8, 4]⟩
abbrev S64x3072 : Shape := ⟨2, ![64, 3072]⟩
abbrev S8x8x3072 : Shape := ⟨3, ![8, 8, 3072]⟩
abbrev S8x8x128 : Shape := ⟨3, ![8, 8, 128]⟩
abbrev S8x8x512 : Shape := ⟨3, ![8, 8, 512]⟩
abbrev S8x8x4x128 : Shape := ⟨4, ![8, 8, 4, 128]⟩
abbrev S_ : Shape := ⟨0, ![]⟩
abbrev S8x8x1024 : Shape := ⟨3, ![8, 8, 1024]⟩
abbrev S8x8x4x256 : Shape := ⟨4, ![8, 8, 4, 256]⟩
abbrev S8x8x4 : Shape := ⟨3, ![8, 8, 4]⟩
abbrev S8x8 : Shape := ⟨2, ![8, 8]⟩
abbrev S1x8x8x1 : Shape := ⟨4, ![1, 8, 8, 1]⟩
abbrev S8x8x1x4 : Shape := ⟨4, ![8, 8, 1, 4]⟩
abbrev S8x1x8x4 : Shape := ⟨4, ![8, 1, 8, 4]⟩
abbrev S8x8x8x4 : Shape := ⟨4, ![8, 8, 8, 4]⟩
abbrev S8x1x4 : Shape := ⟨3, ![8, 1, 4]⟩
abbrev S8x4x8x8 : Shape := ⟨4, ![8, 4, 8, 8]⟩
abbrev S8x8x4x1 : Shape := ⟨4, ![8, 8, 4, 1]⟩
abbrev S8x4x256x8 : Shape := ⟨4, ![8, 4, 256, 8]⟩
abbrev S8x4x8 : Shape := ⟨3, ![8, 4, 8]⟩
abbrev S8x4x1x1 : Shape := ⟨4, ![8, 4, 1, 1]⟩
abbrev S8x4x1 : Shape := ⟨3, ![8, 4, 1]⟩
abbrev S1x1x1x256 : Shape := ⟨4, ![1, 1, 1, 256]⟩
abbrev S64x1024 : Shape := ⟨2, ![64, 1024]⟩
abbrev S8x4x1x128 : Shape := ⟨4, ![8, 4, 1, 128]⟩

abbrev nBuf : Space → Nat
  | .hbm => 144
  | .vmem => 0
  | .smem => 0
  | _ => 0

abbrev hbmTy0_0 (i : Nat) : BufTy := match i % 128 with
  | 0 => ⟨S8256x3072, .f32⟩
  | 1 => ⟨S64x128, .f32⟩
  | 2 => ⟨S256, .f32⟩
  | 3 => ⟨S8x4x128x256, .f32⟩
  | 4 => ⟨S8x4x128, .f32⟩
  | 5 => ⟨S8x4, .f32⟩
  | 6 => ⟨S64x3072, .f32⟩
  | 7 => ⟨S8x8x3072, .f32⟩
  | 8 => ⟨S8x8x128, .f32⟩
  | 9 => ⟨S8x8x512, .f32⟩
  | 10 => ⟨S8x8x4x128, .f32⟩
  | 11 => ⟨S8x8x512, .f32⟩
  | 12 => ⟨S8x8x4x128, .f32⟩
  | 13 => ⟨S_, .f32⟩
  | 14 => ⟨S8x8x4x128, .f32⟩
  | 15 => ⟨S8x8x4x128, .f32⟩
  | 16 => ⟨S8x8x1024, .f32⟩
  | 17 => ⟨S8x8x4x256, .f32⟩
  | 18 => ⟨S8x8x1024, .f32⟩
  | 19 => ⟨S8x8x4, .f32⟩
  | 20 => ⟨S8x8x4, .f32⟩
  | 21 => ⟨S_, .i1⟩
  | 22 => ⟨S8x8, .i1⟩
  | 23 => ⟨S8x8, .i32⟩
  | 24 => ⟨S_, .i32⟩
  | 25 => ⟨S8x8, .i32⟩
  | 26 => ⟨S8x8, .i32⟩
  | 27 => ⟨S8x8, .i32⟩
  | 28 => ⟨S8x8, .i1⟩
  | 29 => ⟨S_, .i1⟩
  | 30 => ⟨S8x8, .i1⟩
  | 31 => ⟨S8x8, .i1⟩
  | 32 => ⟨S1x8x8x1, .i1⟩
  | 33 => ⟨S_, .f32⟩
  | 34 => ⟨S_, .f32⟩
  | 35 => ⟨S8x8x4, .f32⟩
  | 36 => ⟨S8x8x1x4, .f32⟩
  | 37 => ⟨S8x1x8x4, .f32⟩
  | 38 => ⟨S8x8x8x4, .f32⟩
  | 39 => ⟨S8x8x8x4, .f32⟩
  | 40 => ⟨S8x8x8x4, .f32⟩
  | 41 => ⟨S8x1x8x4, .f32⟩
  | 42 => ⟨S8x8x8x4, .f32⟩
  | 43 => ⟨S8x8x8x4, .f32⟩
  | 44 => ⟨S_, .f32⟩
  | 45 => ⟨S_, .f32⟩
  | 46 => ⟨S8x8x8x4, .i1⟩
  | 47 => ⟨S8x8x8x4, .f32⟩
  | 48 => ⟨S8x8x8x4, .f32⟩
  | 49 => ⟨S8x1x4, .f32⟩
  | 50 => ⟨S8x8x4, .f32⟩
  | 51 => ⟨S8x8x4, .f32⟩
  | 52 => ⟨S_, .f32⟩
  | 53 => ⟨S8x8x4, .f32⟩
  | 54 => ⟨S8x8x4, .f32⟩
  | 55 => ⟨S8x8x4, .f32⟩
  | 56 => ⟨S8x8x4, .f32⟩
  | 57 => ⟨S8x4x8x8, .f32⟩
  | 58 => ⟨S8x8x8x4, .f32⟩
  | 59 => ⟨S8x8x1x4, .f32⟩
  | 60 => ⟨S8x8x8x4, .f32⟩
  | 61 => ⟨S8x8x8x4, .f32⟩
  | 62 => ⟨S8x8x8x4, .f32⟩
  | 63 => ⟨S8x8x8x4, .f32⟩
  | 64 => ⟨S8x8x4x1, .f32⟩
  | 65 => ⟨S8x4x256x8, .f32⟩
  | 66 => ⟨S8x8x4x256, .f32⟩
  | 67 => ⟨S8x8x4x256, .f32⟩
  | 68 => ⟨S8x8x4x256, .f32⟩
  | 69 => ⟨S8x4x256x8, .f32⟩
  | 70 => ⟨S8x8x4x256, .f32⟩
  | 71 => ⟨S8x8x4x256, .f32⟩
  | 72 => ⟨S8x4x8, .f32⟩
  | 73 => ⟨S8x8x4, .f32⟩
  | 74 => ⟨S8x8x4, .f32⟩
  | 75 => ⟨S_, .f32⟩
  | 76 => ⟨S8x8x4, .f32⟩
  | 77 => ⟨S8x8x4, .f32⟩
  | 78 => ⟨S8x8x4, .f32⟩
  | 79 => ⟨S8x8x4, .f32⟩
  | 80 => ⟨S8x8x4, .f32⟩
  | 81 => ⟨S8x8x4, .f32⟩
  | 82 => ⟨S8x8x4x1, .f32⟩
  | 83 => ⟨S8x8x4x256, .f32⟩
  | 84 => ⟨S8x8x4x256, .f32⟩
  | 85 => ⟨S8x1x4, .f32⟩
  | 86 => ⟨S8x4, .f32⟩
  | 87 => ⟨S8x1x4, .f32⟩
  | 88 => ⟨S8x4, .f32⟩
  | 89 => ⟨S8x4, .f32⟩
  | 90 => ⟨S8x4, .f32⟩
  | 91 => ⟨S8x4, .f32⟩
  | 92 => ⟨S8x1x4, .f32⟩
  | 93 => ⟨S8x8x4, .f32⟩
  | 94 => ⟨S8x8x4, .f32⟩
  | 95 => ⟨S8x8x4, .f32⟩
  | 96 => ⟨S8x1x4, .f32⟩
  | 97 => ⟨S8x8x4, .f32⟩
  | 98 => ⟨S8x8x4, .f32⟩
  | 99 => ⟨S8x8x4, .f32⟩
  | 100 => ⟨S8x8x4x1, .f32⟩
  | 101 => ⟨S8x8x4x128, .f32⟩
  | 102 => ⟨S8x8x4x128, .f32⟩
  | 103 => ⟨S8x4x1x1, .f32⟩
  | 104 => ⟨S8x4x128x256, .f32⟩
  | 105 => ⟨S8x4x128x256, .f32⟩
  | 106 => ⟨S8x4x128x256, .f32⟩
  | 107 => ⟨S8x4x128x256, .f32⟩
  | 108 => ⟨S8x4x1, .f32⟩
  | 109 => ⟨S8x4x128, .f32⟩
  | 110 => ⟨S8x4x128, .f32⟩
  | 111 => ⟨S_, .f32⟩
  | 112 => ⟨S8x4x128, .f32⟩
  | 113 => ⟨S8x4x128, .f32⟩
  | 114 => ⟨S8x8x4x256, .f32⟩
  | 115 => ⟨S_, .f32⟩
  | 116 => ⟨S8x8x4, .f32⟩
  | 117 => ⟨S8x8x4x1, .f32⟩
  | 118 => ⟨S_, .f32⟩
  | 119 => ⟨S8x8x4x1, .f32⟩
  | 120 => ⟨S8x8x4x1, .f32⟩
  | 121 => ⟨S_, .f32⟩
  | 122 => ⟨S8x8x4x1, .f32⟩
  | 123 => ⟨S8x8x4x1, .f32⟩
  | 124 => ⟨S8x8x4x1, .f32⟩
  | 125 => ⟨S8x8x4x256, .f32⟩
  | 126 => ⟨S8x8x4x256, .f32⟩
  | 127 => ⟨S1x1x1x256, .f32⟩
  | _ => ⟨S8256x3072, .f32⟩

abbrev hbmTy0_1 (i : Nat) : BufTy := match i % 128 with
  | 0 => ⟨S8x8x4x256, .f32⟩
  | 1 => ⟨S8x8x4x256, .f32⟩
  | 2 => ⟨S8x8x1024, .f32⟩
  | 3 => ⟨S8x8x1024, .f32⟩
  | 4 => ⟨S8x8x1024, .f32⟩
  | 5 => ⟨S_, .f32⟩
  | 6 => ⟨S8x8x1024, .f32⟩
  | 7 => ⟨S8x8x1024, .f32⟩
  | 8 => ⟨S_, .f32⟩
  | 9 => ⟨S8x8x1024, .f32⟩
  | 10 => ⟨S8x8x1024, .f32⟩
  | 11 => ⟨S8x8x1024, .f32⟩
  | 12 => ⟨S64x1024, .f32⟩
  | 13 => ⟨S8x4x1x128, .f32⟩
  | 14 => ⟨S8x4x1x1, .f32⟩
  | 15 => ⟨S8x4x1x128, .f32⟩
  | _ => ⟨S8256x3072, .f32⟩

abbrev hbmTy (i : Nat) : BufTy := match i / 128 with
  | 0 => hbmTy0_0 i
  | 1 => hbmTy0_1 i
  | _ => ⟨S8256x3072, .f32⟩

abbrev bufTy : (tb : Table) → Fin (tcTables nBuf tb) → BufTy
  | .hbm, ⟨i, _⟩ => hbmTy i
  | _, _ => ⟨S8256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_0 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_call1_call0_cst : Ref sig .tc := ⟨.hbm, 33, rfl⟩
abbrev main_call1_call0_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_0 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_1 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_2 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_3 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_4 : Ref sig .tc := ⟨.hbm, 115, rfl⟩
abbrev main_v90 : Ref sig .tc := ⟨.hbm, 116, rfl⟩
abbrev main_v91 : Ref sig .tc := ⟨.hbm, 117, rfl⟩
abbrev main_cst_5 : Ref sig .tc := ⟨.hbm, 118, rfl⟩
abbrev main_v92 : Ref sig .tc := ⟨.hbm, 119, rfl⟩
abbrev main_v93 : Ref sig .tc := ⟨.hbm, 120, rfl⟩
abbrev main_cst_6 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_7 : Ref sig .tc := ⟨.hbm, 133, rfl⟩
abbrev main_v105 : Ref sig .tc := ⟨.hbm, 134, rfl⟩
abbrev main_v106 : Ref sig .tc := ⟨.hbm, 135, rfl⟩
abbrev main_cst_8 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩

abbrev nD : Nat := 1
abbrev τ : Topo := Topo.v7x

variable {F : FTy → Type} [FloatOps F]
-- ==== Proof.Online.lean ====
/- The mathematics of a softmax taken over blocks of keys, on the extended reals and with no program in it.
   `sc n` is the score of key `n` for one query, `vl n` the entry of value row `n` in one column. After the keys below `K`
   the running maximum is `runMax sc K`, the running sum of exponentials `runSum sc K`, and the running weighted sum of the
   values `runAcc sc vl K`. `runMax_add`, `runSum_add`, `runAcc_add` take these three over the next `B` keys, as the kernel
   does: the old sum is scaled by the exponential of (old maximum − new maximum). `runMax_tail`, `runSum_tail` and
   `runAcc_tail` say that keys whose score is −∞ change nothing, and `quotient_eq` that dividing at the end is dividing every
   weight. -/
module

public import Idealize.ShloMosaic.PureOps.Ideal.Laws

@[expose] public section

noncomputable section

namespace Cert.Online

open Idealize.ShloMosaic

/-! ## The exponential -/

theorem exp_nonneg (x : EReal) : 0 ≤ Ideal.exp x := by
  induction x with
  | bot => simp [Ideal.exp_bot, Ideal.exp_top]
  | top => simp [Ideal.exp_bot, Ideal.exp_top]
  | coe x => exact EReal.coe_nonneg.mpr (Real.exp_pos x).le

theorem exp_bot : Ideal.exp ⊥ = 0 := by simp [Ideal.exp_bot, Ideal.exp_top]

/-- The exponential of a number that is not `⊤` is not `⊤`. -/
theorem exp_ne_top {x : EReal} (h : x ≠ ⊤) : Ideal.exp x ≠ ⊤ := by
  induction x with
  | bot => simp [Ideal.exp_bot, Ideal.exp_top]
  | top => exact absurd rfl h
  | coe x => exact EReal.coe_ne_top _

/-- The difference of two numbers in order is never `⊤`: `⊤ − ⊤` and `⊥ − ⊥` are `⊥`. -/
theorem sub_ne_top {x y : EReal} (h : x ≤ y) : x - y ≠ ⊤ := by
  induction x with
  | bot => simp
  | top => rw [top_le_iff.mp h]; simp
  | coe x =>
    induction y with
    | bot => exact absurd h (by simp)
    | top => simp
    | coe y => rw [← EReal.coe_sub]; exact EReal.coe_ne_top _

/-- Going from the reference point `y` to a later one `z`: `exp (y − z) · exp (x − y) = exp (x − z)` for `x ≤ y ≤ z`, at the
    infinities too. -/
theorem exp_rescale {x y z : EReal} (hxy : x ≤ y) (hyz : y ≤ z) :
    Ideal.exp (y - z) * Ideal.exp (x - y) = Ideal.exp (x - z) := by
  induction x with
  | bot => simp [exp_bot]
  | top =>
    obtain rfl := top_le_iff.mp hxy
    obtain rfl := top_le_iff.mp hyz
    simp [exp_bot]
  | coe x =>
    induction y with
    | bot => exact absurd hxy (by simp)
    | top =>
      obtain rfl := top_le_iff.mp hyz
      simp [exp_bot]
    | coe y =>
      induction z with
      | bot => exact absurd hyz (by simp)
      | top => simp [exp_bot]
      | coe z =>
        simp only [← EReal.coe_sub]
        show ((Real.exp (y - z) : ℝ) : EReal) * ((Real.exp (x - y) : ℝ) : EReal) = ((Real.exp (x - z) : ℝ) : EReal)
        rw [← EReal.coe_mul, ← Real.exp_add]
        congr 2
        ring

/-- A factor in `[0, ⊤)` goes into a sum. -/
theorem mul_sum {ι : Type*} (s : Finset ι) (a : EReal) (h0 : 0 ≤ a) (ht : a ≠ ⊤) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 ht, ih]

/-! ## The running values -/

variable (sc vl : ℕ → EReal)

/-- The greatest score of the keys below `K`; `⊥` where there is none. -/
def runMax (K : ℕ) : EReal := (Finset.range K).sup sc

/-- The sum over the keys below `K` of the exponential of the score relative to the greatest. -/
def runSum (K : ℕ) : EReal := ∑ n ∈ Finset.range K, Ideal.exp (sc n - runMax sc K)

/-- The same sum with each key weighing its value. -/
def runAcc (K : ℕ) : EReal := ∑ n ∈ Finset.range K, Ideal.exp (sc n - runMax sc K) * vl n

theorem runMax_zero : runMax sc 0 = ⊥ := rfl
theorem runSum_zero : runSum sc 0 = 0 := rfl
theorem runAcc_zero : runAcc sc vl 0 = 0 := rfl

theorem le_runMax {n K : ℕ} (h : n < K) : sc n ≤ runMax sc K := Finset.le_sup (Finset.mem_range.mpr h)

theorem runMax_mono {K K' : ℕ} (h : K ≤ K') : runMax sc K ≤ runMax sc K' :=
  Finset.sup_mono (Finset.range_subset_range.mpr h)

/-- A maximum over a finite range started at `⊥` is the supremum. -/
theorem fold_max_eq {B : ℕ} (f : Fin B → EReal) : Finset.univ.fold max ⊥ f = Finset.univ.sup f := rfl

/-- The maximum over the next `B` keys. -/
theorem runMax_add (K B : ℕ) :
    max (runMax sc K) (Finset.univ.fold max ⊥ fun k : Fin B => sc (K + k.val)) = runMax sc (K + B) := by
  rw [fold_max_eq]
  apply le_antisymm
  · refine max_le (runMax_mono sc (Nat.le_add_right K B)) (Finset.sup_le fun k _ => le_runMax sc (by omega))
  · refine Finset.sup_le fun n hn => ?_
    have hn' : n < K + B := Finset.mem_range.mp hn
    by_cases h : n < K
    · exact le_max_of_le_left (le_runMax sc h)
    · refine le_max_of_le_right ?_
      have hk : n - K < B := by omega
      have := Finset.le_sup (f := fun k : Fin B => sc (K + k.val)) (Finset.mem_univ (⟨n - K, hk⟩ : Fin B))
      simpa [show K + (n - K) = n by omega] using this

/-- The rescaled sum over the keys below `K`, relative to a later maximum. -/
theorem rescale_sum (g : ℕ → EReal) (K : ℕ) {M : EReal} (h : runMax sc K ≤ M) :
    Ideal.exp (runMax sc K - M) * ∑ n ∈ Finset.range K, Ideal.exp (sc n - runMax sc K) * g n
      = ∑ n ∈ Finset.range K, Ideal.exp (sc n - M) * g n := by
  rw [mul_sum _ _ (exp_nonneg _) (exp_ne_top (sub_ne_top h))]
  refine Finset.sum_congr rfl fun n hn => ?_
  rw [← mul_assoc, exp_rescale (le_runMax sc (Finset.mem_range.mp hn)) h]

/-- The weighted sum over the next `B` keys. -/
theorem runAcc_add (K B : ℕ) :
    Ideal.exp (runMax sc K - runMax sc (K + B)) * runAcc sc vl K
        + ∑ k : Fin B, Ideal.exp (sc (K + k.val) - runMax sc (K + B)) * vl (K + k.val)
      = runAcc sc vl (K + B) := by
  unfold runAcc
  rw [rescale_sum sc vl K (runMax_mono sc (Nat.le_add_right K B)), Finset.sum_range_add,
    Finset.sum_range (fun x => Ideal.exp (sc (K + x) - runMax sc (K + B)) * vl (K + x))]

theorem runSum_eq (K : ℕ) : runSum sc K = runAcc sc (fun _ => 1) K := by
  unfold runSum runAcc; simp only [mul_one]

/-- The sum over the next `B` keys. -/
theorem runSum_add (K B : ℕ) :
    Ideal.exp (runMax sc K - runMax sc (K + B)) * runSum sc K
        + ∑ k : Fin B, Ideal.exp (sc (K + k.val) - runMax sc (K + B))
      = runSum sc (K + B) := by
  rw [runSum_eq, runSum_eq, ← runAcc_add sc (fun _ => 1) K B]
  simp only [mul_one]

/-! ## Keys that are masked out, and the division at the end -/

theorem runMax_tail {K K' : ℕ} (h : K ≤ K') (hb : ∀ n, K ≤ n → n < K' → sc n = ⊥) : runMax sc K' = runMax sc K := by
  refine le_antisymm (Finset.sup_le fun n hn => ?_) (runMax_mono sc h)
  by_cases hk : n < K
  · exact le_runMax sc hk
  · rw [hb n (by omega) (Finset.mem_range.mp hn)]; exact bot_le

theorem runAcc_tail {K K' : ℕ} (h : K ≤ K') (hb : ∀ n, K ≤ n → n < K' → sc n = ⊥) : runAcc sc vl K' = runAcc sc vl K := by
  unfold runAcc
  rw [runMax_tail sc h hb]
  obtain ⟨B, rfl⟩ := Nat.exists_eq_add_of_le h
  rw [Finset.sum_range_add]
  rw [Finset.sum_eq_zero (s := Finset.range B) fun x hx => ?_, add_zero]
  rw [hb (K + x) (by omega) (by have := Finset.mem_range.mp hx; omega)]
  simp [exp_bot]

theorem runSum_tail {K K' : ℕ} (h : K ≤ K') (hb : ∀ n, K ≤ n → n < K' → sc n = ⊥) : runSum sc K' = runSum sc K := by
  rw [runSum_eq, runSum_eq, runAcc_tail sc _ h hb]

/-- Where one key has a real score and none has `⊤`, the sum of exponentials is not zero. -/
theorem runSum_ne_zero {K n₀ : ℕ} (h₀ : n₀ < K) (hr : sc n₀ ≠ ⊥) (ht : ∀ n < K, sc n ≠ ⊤) : runSum sc K ≠ 0 := by
  have hM : runMax sc K ≠ ⊤ := by
    unfold runMax
    refine ne_of_lt ((Finset.sup_lt_iff (by exact bot_lt_top)).mpr fun n hn => lt_top_iff_ne_top.mpr (ht n (Finset.mem_range.mp hn)))
  have hM' : runMax sc K ≠ ⊥ := fun e => hr (le_bot_iff.mp (e ▸ le_runMax sc h₀))
  have hle : Ideal.exp (sc n₀ - runMax sc K) ≤ runSum sc K :=
    Finset.single_le_sum (f := fun n => Ideal.exp (sc n - runMax sc K)) (fun n _ => exp_nonneg _) (Finset.mem_range.mpr h₀)
  refine ne_of_gt (lt_of_lt_of_le ?_ hle)
  have hs := ht n₀ h₀
  lift sc n₀ to ℝ using ⟨hs, hr⟩ with s
  lift runMax sc K to ℝ using ⟨hM, hM'⟩ with M
  rw [← EReal.coe_sub]
  exact EReal.coe_pos.mpr (Real.exp_pos _)

/-- Dividing the weighted sum is dividing each weight, for a divisor that is not zero. -/
theorem quotient_eq {ι : Type*} (s : Finset ι) (p v : ι → EReal) (l : EReal) (h0 : 0 ≤ l) (hl : l ≠ 0) :
    Ideal.div (∑ i ∈ s, p i * v i) l = ∑ i ∈ s, v i * Ideal.div (p i) l := by
  have hi : 0 ≤ l⁻¹ := EReal.inv_nonneg_of_nonneg h0
  have ht : l⁻¹ ≠ ⊤ := by
    induction l with
    | bot => simp
    | top => simp
    | coe l => rw [← EReal.coe_inv]; exact EReal.coe_ne_top _
  unfold Ideal.div
  simp only [hl, ↓reduceIte]
  rw [mul_comm, mul_sum _ _ hi ht]
  refine Finset.sum_congr rfl fun i _ => ?_
  ac_rfl

end Cert.Online

end
-- ==== Proof.Attention.lean ====
/- Causal attention with a forget gate over whole arrays, as one function of the arrays: `pairScore` is the score of a query against
   a key (the scaled product of their rows plus the difference of their accumulated log gates), `scoreRow` a query's scores on all
   numbers with the keys after the query at −∞, `valueCol` a column of the values, and `attended` the weighted mean of the values
   with the exponentials of the scores as weights: the weighted sum over the sum of the weights. -/
module

public import proofs.«01_k».proof.Proof.Gen.KernelIdeal.Value
public import proofs.«01_k».proof.Proof.Online
public import Idealize.ShloMosaic.Lib.Pipeline.ValueKit

@[expose] public section

set_option maxRecDepth 16384

noncomputable section

namespace Cert.Fox

open Idealize.ShloMosaic Cert.KernelIdeal Cert.Online

/-- The row of position `s` of batch entry `b`, in the arrays of 8256 and of 8192 rows. -/
def tokenRow (b : Fin 4) (s : Fin 2048) : Fin 8256 := ⟨2048 * b.val + s.val, by omega⟩
def promptRow (b : Fin 4) (s : Fin 2048) : Fin 8192 := ⟨2048 * b.val + s.val, by omega⟩

/-- Column `d` of head `n`. -/
def headCol (n : Fin 16) (d : Fin 128) : Fin 2048 := ⟨128 * n.val + d.val, by omega⟩

/-- Head `n` among the 128 lanes of the arrays of log gates. -/
def headLane (n : Fin 16) : Fin 128 := ⟨n.val, by omega⟩

section
variable (q k v : FVec Ideal S8256x2048 .bf16) (frow : FVec Ideal S4x128x2048 .f32) (fcum : FVec Ideal S8192x128 .f32)

/-- The score of query `s` against key `j`, in head `n` of batch entry `b`. -/
def pairScore (b : Fin 4) (n : Fin 16) (s j : Fin 2048) : EReal :=
  (∑ d : Fin 128, q (ix2 (tokenRow b s) (headCol n d)) * k (ix2 (tokenRow b j) (headCol n d))) * (((Real.sqrt 128)⁻¹ : ℝ) : EReal)
    + (fcum (ix2 (promptRow b s) (headLane n)) - frow (ix3 b (headLane n) j))

/-- The scores of query `s` by key: a key after the query is at −∞. -/
def scoreRow (b : Fin 4) (n : Fin 16) (s : Fin 2048) (j : ℕ) : EReal :=
  if hj : j < 2048 then (if j ≤ s.val then pairScore q k frow fcum b n s ⟨j, hj⟩ else ⊥) else ⊥

/-- Column `d` of the values of head `n`, by key. -/
def valueCol (b : Fin 4) (n : Fin 16) (d : Fin 128) (j : ℕ) : EReal :=
  if hj : j < 2048 then v (ix2 (tokenRow b ⟨j, hj⟩) (headCol n d)) else 0

/-- The attention's result for query `s`, head `n`, column `d`. -/
def attendedAt (b : Fin 4) (n : Fin 16) (s : Fin 2048) (d : Fin 128) : EReal :=
  Ideal.div (runAcc (scoreRow q k frow fcum b n s) (valueCol v b n d) 2048) (runSum (scoreRow q k frow fcum b n s) 2048)

/-- The whole result: row `2048 b + s`, column `128 n + d`. -/
def attended : FVec Ideal S8192x2048 .bf16 := fun y =>
  attendedAt q k v frow fcum ⟨(y 0).val / 2048, by have : (y 0).val < 8192 := (y 0).isLt; omega⟩
    ⟨(y 1).val / 128, by have : (y 1).val < 2048 := (y 1).isLt; omega⟩ ⟨(y 0).val % 2048, Nat.mod_lt _ (by decide)⟩
    ⟨(y 1).val % 128, Nat.mod_lt _ (by decide)⟩

theorem attended_apply {y : S8192x2048.Idx} {b : Fin 4} {n : Fin 16} {s : Fin 2048} {d : Fin 128}
    (h0 : (y 0).val = 2048 * b.val + s.val) (h1 : (y 1).val = 128 * n.val + d.val) :
    attended q k v frow fcum y = attendedAt q k v frow fcum b n s d := by
  unfold attended
  congr 1 <;> exact Fin.ext (by dsimp only; omega)

end

end Cert.Fox

end
-- ==== Proof.Consts.lean ====
/- The float constants the programs spell, as the extended reals they denote. -/
module

public import Idealize.ShloMosaic.PureOps.Ideal

@[expose] public section

noncomputable section

namespace Cert.Consts

open Idealize.ShloMosaic

/-- The pattern of −∞. -/
theorem ofBits_neg_inf : Ideal.ofBits .f32 0xFF800000#32 = ⊥ := by
  simp [Ideal.ofBits, Ideal.ieee]

/-- The pattern of ∞. -/
theorem ofBits_inf : Ideal.ofBits .f32 0x7F800000#32 = ⊤ := by
  simp [Ideal.ofBits, Ideal.ieee]

/-- The pattern of 128. -/
theorem ofBits_128 : Ideal.ofBits .f32 0x43000000#32 = ((128 : ℝ) : EReal) := by
  simp [Ideal.ofBits, Ideal.ieee, -EReal.coe_mul]; norm_num

end Cert.Consts

end
-- ==== Proof.Step.lean ====
/- One block of 256 keys, for one of the two heads of a step, as the kernel computes it from the running maximum `m`, the
   running sum `l` and the running weighted sum `a`: the scores (`scores`, `masked`), then `blockM`, `blockL`, `blockA`.
   Every block of the kernel, in its loop and on the diagonal, is an instance. `Holds K m l a` says that the three hold what
   Proof/Online.lean defines for the keys below `K`; `Holds.step` takes it over one block. -/
module

public import proofs.«01_k».proof.Proof.Gen.KernelIdeal.Skeleton
public import proofs.«01_k».proof.Proof.Online
public import proofs.«01_k».proof.Proof.Consts
public import Idealize.ShloMosaic.Lib.Pointwise
public import Idealize.ShloMosaic.Lib.WordCmp

@[expose] public section

set_option maxRecDepth 16384

noncomputable section

namespace Cert.Fox

open Idealize.ShloMosaic Cert.KernelIdeal Cert.KernelIdeal.Gen Cert.Online

section Generic
variable {F : FTy → Type} [FloatOps F] [Named F]

/-- The scores of 512 queries against 256 keys: the scaled products plus the difference of the accumulated log gates. -/
def scores (q : FVec F S512x128 .bf16) (fi : FVec F S512x1 .f32) (k : FVec F S256x128 .bf16) (fk : FVec F S1x1x256 .f32) :
    FVec F S512x256 .f32 :=
  addf (mulf (matmul dot_S512x128_S256x128_S512x256_1_1_0_0_n_n none q k (constant S512x256 .f32 0x00000000#32))
      (broadcast S512x256 (Named.named κ "scale" 0x3DB504F3#32 : F .f32)))
    (subf (broadcastTo S512x256 fi broadcasts_S512x1_S512x256)
      (broadcastTo S512x256 (shapeCast S1x256 fk shapeCasts_S1x1x256_S1x256) broadcasts_S1x256_S512x256))

/-- The same with the keys after the query masked out; the block's first key is at `base`, `rows` holds each query's place. -/
def masked (rows cols : IVec S512x256 32) (base : BitVec 32) (s : FVec F S512x256 .f32) : FVec F S512x256 .f32 :=
  select (cmpi .sle (addi (broadcast S512x256 base) cols) rows) s
    (broadcast S512x256 (Named.named κ "mask" 0xF149F2CA#32 : F .f32))

/-- The maximum after the block. -/
def blockM (s : FVec F S512x256 .f32) (m : FVec F S512x1 .f32) : FVec F S512x1 .f32 :=
  maximumf m (shapeCast S512x1
    (multiReduction .maximumf [1] S512 s 0xFF800000#32 reduces_S512x256_S512 (.inl rfl) rfl) shapeCasts_S512_S512x1)

/-- The exponentials of the block's scores relative to the maximum after it. -/
def blockP (s : FVec F S512x256 .f32) (m : FVec F S512x1 .f32) : FVec F S512x256 .f32 :=
  exp (subf s (broadcastTo S512x256 (blockM s m) broadcasts_S512x1_S512x256))

/-- The factor that takes the old sums to the new maximum. -/
def blockAlpha (s : FVec F S512x256 .f32) (m : FVec F S512x1 .f32) : FVec F S512x1 .f32 := exp (subf m (blockM s m))

/-- The sum of exponentials after the block. -/
def blockL (s : FVec F S512x256 .f32) (m l : FVec F S512x1 .f32) : FVec F S512x1 .f32 :=
  addf (mulf (blockAlpha s m) l) (shapeCast S512x1
    (multiReduction .add [1] S512 (blockP s m) 0x00000000#32 reduces_S512x256_S512 (.inl rfl) rfl) shapeCasts_S512_S512x1)

/-- The weighted sum of the values after the block. -/
def blockA (s : FVec F S512x256 .f32) (v : FVec F S256x128 .bf16) (m : FVec F S512x1 .f32) (a : FVec F S512x128 .f32) :
    FVec F S512x128 .f32 :=
  addf (mulf (broadcastTo S512x128 (blockAlpha s m) broadcasts_S512x1_S512x128) a)
    (matmul dot_S512x256_S256x128_S512x128_1_0_0_1_n_n none (truncf .bf16 (blockP s m) bitsLt_bf16_f32) v
      (constant S512x128 .f32 0x00000000#32))

/-- The quotient that is stored. -/
def quot (l : FVec F S512x1 .f32) (a : FVec F S512x128 .f32) : FVec F S512x128 .bf16 :=
  truncf .bf16 (divf a (broadcastTo S512x128 l broadcasts_S512x1_S512x128)) bitsLt_bf16_f32

end Generic

/-! ## The payloads are instances -/

section Payloads
variable {F : FTy → Type} [FloatOps F] [Named F]
variable (q : FVec F S512x128 .bf16) (fi m l : FVec F S512x1 .f32) (a : FVec F S512x128 .f32)
  (k v : FVec F S256x128 .bf16) (fk : FVec F S1x1x256 .f32) (rows cols : IVec S512x256 32)

theorem pay4_eq : k0_pay4 q fi m k fk = blockM (scores q fi k fk) m := rfl
theorem pay7_eq : k0_pay7 q fi m l k fk = blockL (scores q fi k fk) m l := rfl
theorem pay8_eq : k0_pay8 q fi m a k v fk = blockA (scores q fi k fk) v m a := rfl
theorem pay26_eq : k0_pay26 fi m (k0_pay9 fk) (k0_pay10 q k) = blockM (scores q fi k fk) m := rfl
theorem pay29_eq : k0_pay29 fi m l (k0_pay9 fk) (k0_pay10 q k) = blockL (scores q fi k fk) m l := rfl
theorem pay30_eq : k0_pay30 fi m a v (k0_pay9 fk) (k0_pay10 q k) = blockA (scores q fi k fk) v m a := rfl

variable (b : BitVec 32)

theorem pay38_eq : k0_pay38 q fi rows cols b m k fk
    = blockM (masked rows cols (Scalar.muli (Scalar.addi b 0#32) 256#32) (scores q fi k fk)) m := rfl
theorem pay41_eq : k0_pay41 q fi rows cols b m l k fk
    = blockL (masked rows cols (Scalar.muli (Scalar.addi b 0#32) 256#32) (scores q fi k fk)) m l := rfl
theorem pay42_eq : k0_pay42 q fi rows cols b m a k v fk
    = blockA (masked rows cols (Scalar.muli (Scalar.addi b 0#32) 256#32) (scores q fi k fk)) v m a := rfl
theorem pay44_eq : k0_pay44 q fi rows cols m b k fk = blockM (masked rows cols b (scores q fi k fk)) m := rfl
theorem pay47_eq : k0_pay47 q fi rows cols m l b k fk = blockL (masked rows cols b (scores q fi k fk)) m l := rfl
theorem pay48_eq : k0_pay48 q fi rows cols m a b k v fk = blockA (masked rows cols b (scores q fi k fk)) v m a := rfl
theorem pay53_eq : k0_pay53 fi rows cols m b (k0_pay49 fk) (k0_pay50 q k) k0_pay51
    = blockM (masked rows cols b (scores q fi k fk)) m := rfl
theorem pay56_eq : k0_pay56 fi rows cols m l b (k0_pay49 fk) (k0_pay50 q k) k0_pay51
    = blockL (masked rows cols b (scores q fi k fk)) m l := rfl
theorem pay57_eq : k0_pay57 fi rows cols m a b v (k0_pay49 fk) (k0_pay50 q k) k0_pay51
    = blockA (masked rows cols b (scores q fi k fk)) v m a := rfl
theorem pay1_eq : k0_pay1 l a = quot l a := rfl
theorem pay2_eq : k0_pay2 m l a v (k0_pay58 q fi rows cols b k fk) (k0_pay59 q fi rows cols b k fk)
    = quot (blockL (masked rows cols b (scores q fi k fk)) m l) (blockA (masked rows cols b (scores q fi k fk)) v m a) := rfl

end Payloads

/-! ## At an index, on the extended reals -/

theorem named_scale : Named.named (F := Ideal) κ "scale" (φ := .f32) 0x3DB504F3#32 = (((Real.sqrt 128)⁻¹ : ℝ) : EReal) :=
  IdealRules.named_const.ideal_named_scalar _ _ _ _ rfl

theorem named_mask : Named.named (F := Ideal) κ "mask" (φ := .f32) 0xF149F2CA#32 = (⊥ : EReal) :=
  IdealRules.named_const.ideal_named_scalar _ _ _ _ rfl

theorem scores_apply (q : FVec Ideal S512x128 .bf16) (fi : FVec Ideal S512x1 .f32) (k : FVec Ideal S256x128 .bf16)
    (fk : FVec Ideal S1x1x256 .f32) (r : Fin 512) (n : Fin 256) :
    scores q fi k fk (ix2 r n)
      = (∑ d : Fin 128, q (ix2 r d) * k (ix2 n d)) * (((Real.sqrt 128)⁻¹ : ℝ) : EReal)
        + (fi (ix2 r 0) - fk (ix3 0 0 n)) := by
  unfold scores
  simp only [named_scale]
  pointwise []

theorem select_sle {α : Type} (x y : BitVec 32) (a b : α) :
    Scalar.select (IntOp.cmpi .sle x y) a b = if x.toInt ≤ y.toInt then a else b := by
  rw [WordCmp.cmpi_sle_eq]
  unfold Scalar.select
  by_cases h : x.toInt ≤ y.toInt
  · rw [if_pos h, decide_eq_true h]; rfl
  · rw [if_neg h, decide_eq_false h]; rfl

theorem masked_apply (rows cols : IVec S512x256 32) (b : BitVec 32) (s : FVec Ideal S512x256 .f32) (j : S512x256.Idx) :
    masked rows cols b s j = if (b + cols j).toInt ≤ (rows j).toInt then s j else ⊥ := by
  unfold masked
  simp only [named_mask]
  pointwise []
  exact select_sle _ _ _ _

theorem blockM_apply (s : FVec Ideal S512x256 .f32) (m : FVec Ideal S512x1 .f32) (r : Fin 512) :
    blockM s m (ix2 r 0) = max (m (ix2 r 0)) (Finset.univ.fold max ⊥ fun n : Fin 256 => s (ix2 r n)) := by
  unfold blockM
  pointwise []
  rw [Cert.Consts.ofBits_neg_inf]

theorem blockL_apply (s : FVec Ideal S512x256 .f32) (m l : FVec Ideal S512x1 .f32) (r : Fin 512) :
    blockL s m l (ix2 r 0) = Ideal.exp (m (ix2 r 0) - blockM s m (ix2 r 0)) * l (ix2 r 0)
      + ∑ n : Fin 256, Ideal.exp (s (ix2 r n) - blockM s m (ix2 r 0)) := by
  unfold blockL blockAlpha blockP
  generalize blockM s m = M
  pointwise []

theorem blockA_apply (s : FVec Ideal S512x256 .f32) (v : FVec Ideal S256x128 .bf16) (m : FVec Ideal S512x1 .f32)
    (a : FVec Ideal S512x128 .f32) (r : Fin 512) (c : Fin 128) :
    blockA s v m a (ix2 r c) = Ideal.exp (m (ix2 r 0) - blockM s m (ix2 r 0)) * a (ix2 r c)
      + ∑ n : Fin 256, Ideal.exp (s (ix2 r n) - blockM s m (ix2 r 0)) * v (ix2 n c) := by
  unfold blockA blockAlpha blockP
  generalize blockM s m = M
  pointwise []

theorem quot_apply (l : FVec Ideal S512x1 .f32) (a : FVec Ideal S512x128 .f32) (r : Fin 512) (c : Fin 128) :
    quot l a (ix2 r c) = Ideal.div (a (ix2 r c)) (l (ix2 r 0)) := by
  unfold quot
  pointwise []

/-! ## What the three arrays hold -/

/-- The running maximum, sum and weighted sum hold their values over the keys below `K`, for the scores `sc r n` of query
    row `r` and the values `vl n c`. -/
structure Holds (sc : Fin 512 → ℕ → EReal) (vl : ℕ → Fin 128 → EReal) (K : ℕ) (m l : FVec Ideal S512x1 .f32)
    (a : FVec Ideal S512x128 .f32) : Prop where
  max : ∀ r, m (ix2 r 0) = runMax (sc r) K
  sum : ∀ r, l (ix2 r 0) = runSum (sc r) K
  acc : ∀ r c, a (ix2 r c) = runAcc (sc r) (fun n => vl n c) K

/-- Before any key: −∞, zero and zero. -/
theorem Holds.init (sc : Fin 512 → ℕ → EReal) (vl : ℕ → Fin 128 → EReal) :
    Holds sc vl 0 (k0_pay22 (F := Ideal)) (k0_pay23 (F := Ideal)) (k0_pay24 (F := Ideal)) where
  max r := by
    rw [runMax_zero]; exact named_mask
  sum r := by
    rw [runSum_zero]; exact Ideal.ofBits_zero_f32
  acc r c := by
    rw [runAcc_zero]; exact Ideal.ofBits_zero_f32

/-- One block on. -/
theorem Holds.step {sc : Fin 512 → ℕ → EReal} {vl : ℕ → Fin 128 → EReal} {K : ℕ} {m l : FVec Ideal S512x1 .f32}
    {a : FVec Ideal S512x128 .f32} (h : Holds sc vl K m l a) {s : FVec Ideal S512x256 .f32} {v : FVec Ideal S256x128 .bf16}
    (hs : ∀ r (n : Fin 256), s (ix2 r n) = sc r (K + n.val)) (hv : ∀ (n : Fin 256) c, v (ix2 n c) = vl (K + n.val) c) :
    Holds sc vl (K + 256) (blockM s m) (blockL s m l) (blockA s v m a) := by
  have hM : ∀ r, blockM s m (ix2 r 0) = runMax (sc r) (K + 256) := fun r => by
    rw [blockM_apply, h.max, ← runMax_add (sc r) K 256]; simp only [hs]
  refine ⟨hM, fun r => ?_, fun r c => ?_⟩
  · rw [blockL_apply, hM, h.max, h.sum, ← runSum_add (sc r) K 256]; simp only [hs]
  · rw [blockA_apply, hM, h.max, h.acc, ← runAcc_add (sc r) _ K 256]; simp only [hs, hv]

end Cert.Fox

end
-- ==== Proof.Trip.lean ====
/- The kernel's loop over the blocks of keys that lie wholly before its block of queries. For one grid point: `x0` is the block
   of 512 queries, `x1` and `x2` the keys and values of the batch entry, `x3` its accumulated log gates by head and key, `x4`
   the queries' accumulated log gates by query and head; each block is two heads wide. `score` is the score of a query against
   a key for head `e` of the two, `scoreAt` the same on all numbers with the keys after the query at −∞, `valueAt` the values.
   `loop_holds` says what the loop leaves: the running maximum, sum and weighted sum over the keys before the block, for both heads. -/
module

public import proofs.«01_k».proof.Proof.Gen.KernelIdeal.Value
public import proofs.«01_k».proof.Proof.Step
public import Idealize.ShloMosaic.Lib.WholeRead
public import Idealize.ShloMosaic.Lib.Pipeline.ValueKit

@[expose] public section

set_option maxRecDepth 16384

noncomputable section

namespace Cert.Fox

open Idealize.ShloMosaic Cert.KernelIdeal Cert.KernelIdeal.Gen Cert.Online

/-! ## Scores and values of a grid point -/

/-- Lane `d` of head `e` of the two heads of a block. -/
def lane (e : Fin 2) (d : Fin 128) : Fin 256 := ⟨128 * e.val + d.val, by omega⟩

/-- Head `e` of step `h`, among the 16, and as a lane of the array of the queries' log gates. -/
def head16 (h : Fin 8) (e : Fin 2) : Fin 16 := ⟨2 * h.val + e.val, by omega⟩
def head128 (h : Fin 8) (e : Fin 2) : Fin 128 := ⟨2 * h.val + e.val, by omega⟩

section Data
variable (x0 : FVec Ideal S512x256 .bf16) (x1 x2 : FVec Ideal S2048x256 .bf16) (x3 : FVec Ideal S1x16x2048 .f32)
  (x4 : FVec Ideal S512x128 .f32)

/-- The score of query `r` of the block against key `n`, for head `e` of step `h`. -/
def score (h : Fin 8) (e : Fin 2) (r : Fin 512) (n : Fin 2048) : EReal :=
  (∑ d : Fin 128, x0 (ix2 r (lane e d)) * x1 (ix2 n (lane e d))) * (((Real.sqrt 128)⁻¹ : ℝ) : EReal)
    + (x4 (ix2 r (head128 h e)) - x3 (ix3 0 (head16 h e) n))

/-- The same with a key after the query (query `r` of block `t` is at `512 t + r`) at −∞. -/
def scoreAt (h : Fin 8) (t : Fin 4) (e : Fin 2) (r : Fin 512) (n : ℕ) : EReal :=
  if hn : n < 2048 then (if n ≤ 512 * t.val + r.val then score x0 x1 x3 x4 h e r ⟨n, hn⟩ else ⊥) else ⊥

/-- The value row of key `n`, for head `e`. -/
def valueAt (e : Fin 2) (n : ℕ) (d : Fin 128) : EReal := if hn : n < 2048 then x2 (ix2 ⟨n, hn⟩ (lane e d)) else 0

theorem scoreAt_of_le {h : Fin 8} {t : Fin 4} {e : Fin 2} {r : Fin 512} {n : ℕ} (hn : n < 2048)
    (hle : n ≤ 512 * t.val + r.val) : scoreAt x0 x1 x3 x4 h t e r n = score x0 x1 x3 x4 h e r ⟨n, hn⟩ := by
  unfold scoreAt; rw [dif_pos hn, if_pos hle]

theorem scoreAt_of_lt {h : Fin 8} {t : Fin 4} {e : Fin 2} {r : Fin 512} {n : ℕ} (hlt : 512 * t.val + r.val < n) :
    scoreAt x0 x1 x3 x4 h t e r n = ⊥ := by
  unfold scoreAt
  split
  · rw [if_neg (by omega)]
  · rfl

theorem valueAt_of_lt {e : Fin 2} {n : ℕ} (hn : n < 2048) (d : Fin 128) : valueAt x2 e n d = x2 (ix2 ⟨n, hn⟩ (lane e d)) := by
  unfold valueAt; rw [dif_pos hn]

end Data

/-- A load of a rectangle of a whole array that holds `X` reads `X` at the offsets plus the index. -/
theorem load_apply {s : Shape} {e : EltTy} {m : Memref sig .tc .vmem s e} (h : m.IsWhole) (X : s.Idx → Elt Ideal e)
    (off size : Fin s.rank → ℕ) (inb : ∀ a, off a + size a ≤ s.size a) (x : (Rect.unit off size inb).shape.Idx) (y : s.Idx)
    (hy : ∀ a, (y a).val = off a + (x a).val) :
    View.readAt (Elt Ideal) m.view (Rect.unit off size inb).toLoadRect (h.unread X) x = X y := by
  rw [h.readAt_unread]
  exact congrArg X (funext fun a => Fin.ext ((Rect.idx_unit_val off size inb x a).trans (hy a).symm))

/-- The numbers of trips of the two loops: two blocks of keys to a block of queries, and none left over. -/
theorem trips1 (i : grid0.Coords) : (k0_t1_loop i).trips = 2 * (i 2).val := by
  have h : (i 2).val < 4 := (i 2).isLt
  show (k0_t1_loop i).trips = _
  unfold k0_t1_loop
  generalize (i 2).val = t at h
  interval_cases t <;> decide
theorem trips2 (i : grid0.Coords) : (k0_t2_loop i).trips = 0 := Nat.le_zero.mp (k0_t2_abs i).2.1

/-! ## One trip -/

section Block
variable {arg4 : Memref sig .tc .vmem S2048x256 .bf16} (harg4 : arg4.IsWhole) {arg5 : Memref sig .tc .vmem S2048x256 .bf16}
  (harg5 : arg5.IsWhole) {arg6 : Memref sig .tc .vmem S1x16x2048 .f32} (harg6 : arg6.IsWhole)
  (x0 : FVec Ideal S512x256 .bf16) (x1 x2 : FVec Ideal S2048x256 .bf16) (x3 : FVec Ideal S1x16x2048 .f32)
  (x4 : FVec Ideal S512x128 .f32)

/-- The keys (`m` the array of keys) or values that trip `k` reads, for the head whose lanes start where `off` says. -/
abbrev keysOf {m : Memref sig .tc .vmem S2048x256 .bf16} (hm : m.IsWhole) (X : FVec Ideal S2048x256 .bf16)
    (off : Fin 2 → ℕ) (inb : ∀ a, off a + S256x128.size a ≤ S2048x256.size a) : Vec Ideal S256x128 .bf16 :=
  View.readAt (Elt Ideal) m.view (Rect.unit (s := S2048x256) off S256x128.size inb).toLoadRect (hm.unread X)

/-- The keys' accumulated log gates that a block reads. -/
abbrev gatesOf {m : Memref sig .tc .vmem S1x16x2048 .f32} (hm : m.IsWhole) (X : FVec Ideal S1x16x2048 .f32)
    (off : Fin 3 → ℕ) (inb : ∀ a, off a + S1x1x256.size a ≤ S1x16x2048.size a) : Vec Ideal S1x1x256 .f32 :=
  View.readAt (Elt Ideal) m.view (Rect.unit (s := S1x16x2048) off S1x1x256.size inb).toLoadRect (hm.unread X)

theorem keysOf_apply {m : Memref sig .tc .vmem S2048x256 .bf16} (hm : m.IsWhole) (X : FVec Ideal S2048x256 .bf16)
    (off : Fin 2 → ℕ) (inb : ∀ a, off a + S256x128.size a ≤ S2048x256.size a) {K : ℕ} (hK : K + 256 ≤ 2048) (e : Fin 2)
    (ho : off = ![K, 128 * e.val]) (n : Fin 256) (d : Fin 128) :
    keysOf hm X off inb (ix2 n d) = X (ix2 ⟨K + n.val, by omega⟩ (lane e d)) := by
  subst ho
  refine load_apply hm X _ _ _ _ _ fun a => ?_
  match a with
  | 0 => rfl
  | 1 => rfl

theorem gatesOf_apply {m : Memref sig .tc .vmem S1x16x2048 .f32} (hm : m.IsWhole) (X : FVec Ideal S1x16x2048 .f32)
    (off : Fin 3 → ℕ) (inb : ∀ a, off a + S1x1x256.size a ≤ S1x16x2048.size a) {K : ℕ} (hK : K + 256 ≤ 2048) (h : Fin 8)
    (e : Fin 2) (ho : off = ![0, 2 * h.val + e.val, K]) (n : Fin 256) :
    gatesOf hm X off inb (ix3 0 0 n) = X (ix3 0 (head16 h e) ⟨K + n.val, by omega⟩) := by
  subst ho
  refine load_apply hm X _ _ _ _ _ fun a => ?_
  match a with
  | 0 => rfl
  | 1 => rfl
  | 2 => rfl

/-- The scores a block computes, from what it reads. -/
theorem scores_eq {q : FVec Ideal S512x128 .bf16} {fi : FVec Ideal S512x1 .f32} (h : Fin 8) (e : Fin 2)
    (hq : ∀ r d, q (ix2 r d) = x0 (ix2 r (lane e d))) (hfi : ∀ r, fi (ix2 r 0) = x4 (ix2 r (head128 h e))) {K : ℕ}
    (hK : K + 256 ≤ 2048) (off : Fin 2 → ℕ) (inb) (ho : off = ![K, 128 * e.val]) (off' : Fin 3 → ℕ) (inb')
    (ho' : off' = ![0, 2 * h.val + e.val, K]) (r : Fin 512) (n : Fin 256) :
    scores q fi (keysOf harg4 x1 off inb) (gatesOf harg6 x3 off' inb') (ix2 r n)
      = score x0 x1 x3 x4 h e r ⟨K + n.val, by omega⟩ := by
  rw [scores_apply, gatesOf_apply harg6 x3 off' inb' hK h e ho', hfi]
  simp only [keysOf_apply harg4 x1 off inb hK e ho, hq]
  rfl

/-- What the six carried arrays hold over the keys below `K`, for both heads. -/
def Holds2 (h : Fin 8) (t : Fin 4) (K : ℕ)
    (acc : FVec Ideal S512x1 .f32 × FVec Ideal S512x1 .f32 × FVec Ideal S512x128 .f32 × FVec Ideal S512x1 .f32
      × FVec Ideal S512x1 .f32 × FVec Ideal S512x128 .f32) : Prop :=
  Holds (scoreAt x0 x1 x3 x4 h t 0) (valueAt x2 0) K acc.1 acc.2.1 acc.2.2.1
    ∧ Holds (scoreAt x0 x1 x3 x4 h t 1) (valueAt x2 1) K acc.2.2.2.1 acc.2.2.2.2.1 acc.2.2.2.2.2

/-- One block on, for one head, from the arrays: the block starts at key `K` and each of its keys is masked (`s`) where it is
    after the query. -/
theorem Holds.block {h : Fin 8} {t : Fin 4} {e : Fin 2} {K : ℕ} {m l : FVec Ideal S512x1 .f32} {a : FVec Ideal S512x128 .f32}
    (H : Holds (scoreAt x0 x1 x3 x4 h t e) (valueAt x2 e) K m l a) (hK : K + 256 ≤ 2048) {s : FVec Ideal S512x256 .f32}
    (hs : ∀ r (n : Fin 256), s (ix2 r n)
      = if K + n.val ≤ 512 * t.val + r.val then score x0 x1 x3 x4 h e r ⟨K + n.val, by omega⟩ else ⊥)
    (off : Fin 2 → ℕ) (inb) (ho : off = ![K, 128 * e.val]) :
    Holds (scoreAt x0 x1 x3 x4 h t e) (valueAt x2 e) (K + 256) (blockM s m) (blockL s m l)
      (blockA s (keysOf harg5 x2 off inb) m a) := by
  refine H.step (fun r n => ?_) (fun n d => ?_)
  · rw [hs]
    unfold scoreAt
    rw [dif_pos (by omega)]
  · rw [keysOf_apply harg5 x2 off inb hK e ho, valueAt_of_lt]

end Block

/-! ## The loop -/

section Trip
variable (𝒱 : Variants) (c : Dev nD) (bd : Option 𝒱.V) (i : grid0.Coords)
  (arg3 : Memref sig .tc .vmem S512x256 .bf16) (harg3 : arg3.IsWhole) (arg4 : Memref sig .tc .vmem S2048x256 .bf16)
  (harg4 : arg4.IsWhole) (arg5 : Memref sig .tc .vmem S2048x256 .bf16) (harg5 : arg5.IsWhole)
  (arg6 : Memref sig .tc .vmem S1x16x2048 .f32) (harg6 : arg6.IsWhole) (arg7 : Memref sig .tc .vmem S512x128 .f32)
  (harg7 : arg7.IsWhole) (arg8 : Memref sig .tc .vmem S512x256 .bf16) (harg8 : arg8.IsWhole) (v2 : BitVec 32)
  (v3 : Vec Ideal S512x128 .bf16) (v10 : FVec Ideal S512x1 .f32) (v12 : BitVec 32) (v13 : Vec Ideal S512x128 .bf16)
  (v20 : FVec Ideal S512x1 .f32) (v24 : IVec S512x256 32) (v25 : IVec S512x256 32) (v26 : FVec Ideal S512x1 .f32)
  (v27 : FVec Ideal S512x1 .f32) (v28 : FVec Ideal S512x128 .f32) (v29 c0_i32_12 v34 c1_i32_14 : BitVec 32)
  (x0 : FVec Ideal S512x256 .bf16) (x1 x2 : FVec Ideal S2048x256 .bf16) (x3 : FVec Ideal S1x16x2048 .f32)
  (x4 : FVec Ideal S512x128 .f32)

set_option maxHeartbeats 1000000 in
/-- One trip, as the block steps of the two heads. -/
theorem trip_eq (k : Fin (k0_t1_loop i).trips)
    (acc : FVec Ideal S512x1 .f32 × FVec Ideal S512x1 .f32 × FVec Ideal S512x128 .f32 × FVec Ideal S512x1 .f32
      × FVec Ideal S512x1 .f32 × FVec Ideal S512x128 .f32) :
    tripR_k0_t1 (F := Ideal) 𝒱 c bd i arg3 harg3 arg4 harg4 arg5 harg5 arg6 harg6 arg7 harg7 arg8 harg8 v2 v3 v10 v12 v13 v20 v24 v25 v26 v27 v28 v29
      c0_i32_12 v34 c1_i32_14 (harg4.unread x1) (harg5.unread x2) (harg6.unread x3) k acc
      = (blockM (scores v3 v10 (keysOf harg4 x1 _ (k0_off1_inb i k)) (gatesOf harg6 x3 _ (k0_off2_inb i k 0))) acc.1,
         blockL (scores v3 v10 (keysOf harg4 x1 _ (k0_off1_inb i k)) (gatesOf harg6 x3 _ (k0_off2_inb i k 0))) acc.1 acc.2.1,
         blockA (scores v3 v10 (keysOf harg4 x1 _ (k0_off1_inb i k)) (gatesOf harg6 x3 _ (k0_off2_inb i k 0)))
           (keysOf harg5 x2 _ (k0_off1_inb i k)) acc.1 acc.2.2.1,
         blockM (scores v13 v20 (keysOf harg4 x1 _ (k0_off3_inb i k)) (gatesOf harg6 x3 _ (k0_off2_inb i k 1))) acc.2.2.2.1,
         blockL (scores v13 v20 (keysOf harg4 x1 _ (k0_off3_inb i k)) (gatesOf harg6 x3 _ (k0_off2_inb i k 1))) acc.2.2.2.1
           acc.2.2.2.2.1,
         blockA (scores v13 v20 (keysOf harg4 x1 _ (k0_off3_inb i k)) (gatesOf harg6 x3 _ (k0_off2_inb i k 1)))
           (keysOf harg5 x2 _ (k0_off3_inb i k)) acc.2.2.2.1 acc.2.2.2.2.2) := by
  unfold tripR_k0_t1 trip_k0_t1
  rfl

variable (hq0 : ∀ r d, v3 (ix2 r d) = x0 (ix2 r (lane 0 d))) (hq1 : ∀ r d, v13 (ix2 r d) = x0 (ix2 r (lane 1 d)))
  (hf0 : ∀ r, v10 (ix2 r 0) = x4 (ix2 r (head128 (i 1) 0))) (hf1 : ∀ r, v20 (ix2 r 0) = x4 (ix2 r (head128 (i 1) 1)))
include hq0 hq1 hf0 hf1

/-- One trip takes what the carried arrays hold over one block. -/
theorem trip_holds (k : Fin (k0_t1_loop i).trips) {acc} (H : Holds2 x0 x1 x2 x3 x4 (i 1) (i 2) (256 * k.val) acc) :
    Holds2 x0 x1 x2 x3 x4 (i 1) (i 2) (256 * (k.val + 1)) (tripR_k0_t1 (F := Ideal) 𝒱 c bd i arg3 harg3 arg4 harg4 arg5 harg5 arg6 harg6 arg7 harg7 arg8 harg8 v2 v3 v10 v12 v13 v20 v24 v25 v26 v27 v28 v29
      c0_i32_12 v34 c1_i32_14 (harg4.unread x1) (harg5.unread x2) (harg6.unread x3) k acc) := by
  have hk : k.val < 2 * (i 2).val := (trips1 i) ▸ k.isLt
  have ht : (i 2).val < 4 := (i 2).isLt
  have hK : 256 * k.val + 256 ≤ 2048 := by omega
  rw [trip_eq, show 256 * (k.val + 1) = 256 * k.val + 256 by ring]
  refine ⟨H.1.block harg5 _ _ _ _ _ hK (fun r n => ?_) _ _ (k0_off1_eq i k),
    H.2.block harg5 _ _ _ _ _ hK (fun r n => ?_) _ _ (k0_off3_eq i k)⟩
  · rw [if_pos (by omega)]
    exact scores_eq harg4 harg6 x0 x1 x3 x4 (i 1) 0 hq0 hf0 hK _ _ (k0_off1_eq i k) _ _
      (k0_off2_eq i k 0) r n
  · rw [if_pos (by omega)]
    exact scores_eq harg4 harg6 x0 x1 x3 x4 (i 1) 1 hq1 hf1 hK _ _ (k0_off3_eq i k) _ _
      (k0_off2_eq i k 1) r n

/-- After `k` trips from −∞, zero and zero the carried arrays hold their values over the keys below `256 k`. -/
theorem loop_holds (k : ℕ) (hk : k ≤ (k0_t1_loop i).trips) :
    Holds2 x0 x1 x2 x3 x4 (i 1) (i 2) (256 * k) (st_k0_t1 (F := Ideal) 𝒱 c bd i arg3 harg3 arg4 harg4 arg5 harg5 arg6 harg6 arg7 harg7 arg8 harg8 v2 v3 v10 v12 v13 v20 v24 v25 v26 v27 v28 v29
      c0_i32_12 v34 c1_i32_14 (harg4.unread x1) (harg5.unread x2) (harg6.unread x3)
      (k0_pay22, k0_pay23, k0_pay24, k0_pay22, k0_pay23, k0_pay24) k) := by
  induction k with
  | zero => exact ⟨Holds.init _ _, Holds.init _ _⟩
  | succ k ih =>
    rw [st_k0_t1_succ (k := ⟨k, hk⟩)]
    exact trip_holds 𝒱 c bd i arg3 harg3 arg4 harg4 arg5 harg5 arg6 harg6 arg7 harg7 arg8 harg8 v2 v3 v10 v12 v13 v20 v24 v25
      v26 v27 v28 v29 c0_i32_12 v34 c1_i32_14 x0 x1 x2 x3 x4 hq0 hq1 hf0 hf1 ⟨k, hk⟩ (ih (by omega))

end Trip

end Cert.Fox

end
-- ==== Proof.Diag.lean ====
/- What the kernel computes at a grid point besides the loop: the queries' accumulated log gates, picked from their lane
   (`gate0_apply`, `gate1_apply`), and the scores of a block of keys on the diagonal, where a key after the query is masked
   (`masked_scores`). -/
module

public import proofs.«01_k».proof.Proof.Trip

@[expose] public section

set_option maxRecDepth 16384

noncomputable section

namespace Cert.Fox

open Idealize.ShloMosaic Cert.KernelIdeal Cert.KernelIdeal.Gen Cert.Online

theorem select_eq {α : Type} (x y : BitVec 32) (a b : α) :
    Scalar.select (IntOp.cmpi .eq x y) a b = if x = y then a else b := by
  rw [WordCmp.cmpi_eq_eq]
  unfold Scalar.select
  by_cases h : x = y
  · rw [if_pos h, decide_eq_true h]; rfl
  · rw [if_neg h, decide_eq_false h]; rfl

/-- The lane sum of the array with every lane but one set to zero is that lane. -/
theorem lane_sum (f : Fin 128 → EReal) (w : BitVec 32) (l : Fin 128) (hw : w = BitVec.ofNat 32 l.val) :
    ∑ k : Fin 128, Scalar.select (IntOp.cmpi .eq (BitVec.ofNat 32 k.val) w) (f k) 0 = f l := by
  subst hw
  rw [Finset.sum_eq_single l (fun k _ hk => ?_) (fun h => absurd (Finset.mem_univ _) h)]
  · rw [select_eq, if_pos rfl]
  · rw [select_eq, if_neg fun e => hk (Fin.ext ?_)]
    have := congrArg BitVec.toNat e
    simp only [BitVec.toNat_ofNat] at this
    omega

theorem gate0_apply (i : grid0.Coords) (x4 : FVec Ideal S512x128 .f32) (r : Fin 512) :
    k0_pay19 i x4 (ix2 r 0) = x4 (ix2 r (head128 (i 1) 0)) := by
  unfold k0_pay19
  pointwise []
  rw [lane_sum (fun k => x4 (ix2 r k)) _ (head128 (i 1) 0) ?_]
  have h : (i 1).val < 8 := (i 1).isLt
  unfold head128
  dsimp only
  generalize (i 1).val = t at h
  interval_cases t <;> rfl

theorem gate1_apply (i : grid0.Coords) (x4 : FVec Ideal S512x128 .f32) (r : Fin 512) :
    k0_pay20 i x4 (ix2 r 0) = x4 (ix2 r (head128 (i 1) 1)) := by
  unfold k0_pay20
  pointwise []
  rw [lane_sum (fun k => x4 (ix2 r k)) _ (head128 (i 1) 1) ?_]
  have h : (i 1).val < 8 := (i 1).isLt
  unfold head128
  dsimp only
  generalize (i 1).val = t at h
  interval_cases t <;> rfl

/-- The place of query `r` of block `t`, as the kernel counts it. -/
theorem rows_toInt (i : grid0.Coords) (r : Fin 512) (n : Fin 256) :
    (k0_pay21 i (ix2 r n)).toInt = ((512 * (i 2).val + r.val : ℕ) : ℤ) := by
  have h : (i 2).val < 4 := (i 2).isLt
  have e : k0_pay21 i (ix2 r n) = BitVec.ofNat 32 (512 * (i 2).val + r.val) := by
    unfold k0_pay21
    pointwise []
    apply BitVec.eq_of_toNat_eq
    simp only [IntOp.addi, Scalar.muli, IntOp.muli, BitVec.toNat_add, BitVec.toNat_mul, BitVec.toNat_ofNat]
    omega
  rw [e, WordCmp.toInt_ofNat_of_lt (by omega)]

/-- The place of key `n` of the block that starts at `K`. -/
theorem cols_toInt (b : BitVec 32) (K : ℕ) (hb : b = BitVec.ofNat 32 K) (hK : K + 256 ≤ 2048) (r : Fin 512) (n : Fin 256) :
    (b + iota .tc S512x256 32 [1] iota_S512x256_d1_w32 (ix2 r n)).toInt = ((K + n.val : ℕ) : ℤ) := by
  subst hb
  have e : iota .tc S512x256 32 [1] iota_S512x256_d1_w32 (ix2 r n) = BitVec.ofNat 32 n.val := by pointwise []
  rw [e, ← BitVec.ofNat_add, WordCmp.toInt_ofNat_of_lt (by omega)]

/-- A masked score, of the block that starts at `K`. -/
theorem masked_scores (i : grid0.Coords) (b : BitVec 32) {K : ℕ} (hb : b = BitVec.ofNat 32 K) (hK : K + 256 ≤ 2048)
    (s : FVec Ideal S512x256 .f32) (r : Fin 512) (n : Fin 256) :
    masked (k0_pay21 i) (iota .tc S512x256 32 [1] iota_S512x256_d1_w32) b s (ix2 r n)
      = if K + n.val ≤ 512 * (i 2).val + r.val then s (ix2 r n) else ⊥ := by
  rw [masked_apply, cols_toInt b K hb hK, rows_toInt]
  simp only [Nat.cast_le]

/-- The first keys of the two blocks on the diagonal. -/
theorem base0 (i : grid0.Coords) : Scalar.muli (Scalar.addi (Scalar.muli (BitVec.ofNat 32 (i 2).val) 2#32) 0#32) 256#32
    = BitVec.ofNat 32 (512 * (i 2).val) := by
  have h : (i 2).val < 4 := (i 2).isLt
  generalize (i 2).val = t at h
  interval_cases t <;> rfl
theorem base1 (i : grid0.Coords) : Scalar.muli (Scalar.addi (Scalar.muli (BitVec.ofNat 32 (i 2).val) 2#32) 1#32) 256#32
    = BitVec.ofNat 32 (512 * (i 2).val + 256) := by
  have h : (i 2).val < 4 := (i 2).isLt
  generalize (i 2).val = t at h
  interval_cases t <;> rfl

end Cert.Fox

end
-- ==== Proof.Block.lean ====
/- What the kernel stores at a grid point, entry by entry: the softmax over all keys up to the query, as a quotient of the
   weighted sum of the values by the sum of the weights (`block_apply`). -/
module

public import proofs.«01_k».proof.Proof.Diag

@[expose] public section

set_option maxRecDepth 16384

noncomputable section

namespace Cert.Fox

open Idealize.ShloMosaic Idealize.ShloMosaic.TcCoe Cert.KernelIdeal Cert.KernelIdeal.Gen Cert.Online

section
variable (c : Dev nD) (i : grid0.Coords) (arg3 : Memref sig .tc .vmem S512x256 .bf16) (harg3 : arg3.IsWhole)
  (arg4 : Memref sig .tc .vmem S2048x256 .bf16) (harg4 : arg4.IsWhole) (arg5 : Memref sig .tc .vmem S2048x256 .bf16)
  (harg5 : arg5.IsWhole) (arg6 : Memref sig .tc .vmem S1x16x2048 .f32) (harg6 : arg6.IsWhole)
  (arg7 : Memref sig .tc .vmem S512x128 .f32) (harg7 : arg7.IsWhole) (arg8 : Memref sig .tc .vmem S512x256 .bf16)
  (harg8 : arg8.IsWhole) (x0 : FVec Ideal S512x256 .bf16) (x1 x2 : FVec Ideal S2048x256 .bf16)
  (x3 : FVec Ideal S1x16x2048 .f32) (x4 : FVec Ideal S512x128 .f32)

/-- The queries of the two heads. -/
abbrev queries0 : Vec Ideal S512x128 .bf16 := View.readAt (Elt Ideal) arg3.view
  (Rect.unit (s := S512x256) ![0, 0] S512x128.size inb_S512x256_S512x128_0_0).toLoadRect (harg3.unread x0)
abbrev queries1 : Vec Ideal S512x128 .bf16 := View.readAt (Elt Ideal) arg3.view
  (Rect.unit (s := S512x256) ![0, 128] S512x128.size inb_S512x256_S512x128_0_128).toLoadRect (harg3.unread x0)

/-- The queries' accumulated log gates, of the two heads. -/
abbrev gates0 : FVec Ideal S512x1 .f32 := k0_pay19 i (View.readAt (Elt Ideal) arg7.view
  (Rect.unit (s := S512x128) ![0, 0] S512x128.size inb_S512x128_S512x128_0_0).toLoadRect (harg7.unread x4))
abbrev gates1 : FVec Ideal S512x1 .f32 := k0_pay20 i (View.readAt (Elt Ideal) arg7.view
  (Rect.unit (s := S512x128) ![0, 0] S512x128.size inb_S512x128_S512x128_0_0).toLoadRect (harg7.unread x4))

theorem queries0_apply (r : Fin 512) (d : Fin 128) : queries0 arg3 harg3 x0 (ix2 r d) = x0 (ix2 r (lane 0 d)) := by
  refine load_apply harg3 x0 _ _ _ _ _ fun a => ?_
  match a with
  | 0 => exact (Nat.zero_add _).symm
  | 1 => rfl

theorem queries1_apply (r : Fin 512) (d : Fin 128) : queries1 arg3 harg3 x0 (ix2 r d) = x0 (ix2 r (lane 1 d)) := by
  refine load_apply harg3 x0 _ _ _ _ _ fun a => ?_
  match a with
  | 0 => exact (Nat.zero_add _).symm
  | 1 => rfl

theorem gates_load : View.readAt (Elt Ideal) arg7.view
    (Rect.unit (s := S512x128) ![0, 0] S512x128.size inb_S512x128_S512x128_0_0).toLoadRect (harg7.unread x4) = x4 := by
  funext j
  refine load_apply harg7 x4 _ _ _ _ _ fun a => ?_
  match a with
  | 0 => exact (Nat.zero_add _).symm
  | 1 => exact (Nat.zero_add _).symm

theorem gates0_eq (r : Fin 512) : gates0 i arg7 harg7 x4 (ix2 r 0) = x4 (ix2 r (head128 (i 1) 0)) := by
  unfold gates0; rw [gates_load, gate0_apply]
theorem gates1_eq (r : Fin 512) : gates1 i arg7 harg7 x4 (ix2 r 0) = x4 (ix2 r (head128 (i 1) 1)) := by
  unfold gates1; rw [gates_load, gate1_apply]

/-- The carried arrays after the loop over the blocks before the diagonal. -/
def afterLoop1 : FVec Ideal S512x1 .f32 × FVec Ideal S512x1 .f32 × FVec Ideal S512x128 .f32 × FVec Ideal S512x1 .f32
    × FVec Ideal S512x1 .f32 × FVec Ideal S512x128 .f32 :=
  st_k0_t1 (F := Ideal) Variants.none c none i arg3 harg3 arg4 harg4 arg5 harg5 arg6 harg6 arg7 harg7 arg8 harg8
    (Scalar.addi (Scalar.muli (BitVec.ofNat 32 (i 1).val) 2#32) 0#32) (queries0 arg3 harg3 x0) (gates0 i arg7 harg7 x4)
    (Scalar.addi (Scalar.muli (BitVec.ofNat 32 (i 1).val) 2#32) 1#32) (queries1 arg3 harg3 x0) (gates1 i arg7 harg7 x4)
    (k0_pay21 i) (iota Kind.tc S512x256 32 [1] iota_S512x256_d1_w32) k0_pay22 k0_pay23 k0_pay24
    (Scalar.muli (BitVec.ofNat 32 (i 2).val) 2#32) 0#32
    (Scalar.addi 0#32 (Scalar.muli (Scalar.divsi (Scalar.subi (Scalar.muli (BitVec.ofNat 32 (i 2).val) 2#32) 0#32) 1#32) 1#32))
    1#32 (harg4.unread x1) (harg5.unread x2) (harg6.unread x3)
    (k0_pay22, k0_pay23, k0_pay24, k0_pay22, k0_pay23, k0_pay24) (k0_t1_loop i).trips

/-- The carried arrays after the second loop, which makes no trip. -/
def afterLoop2 : FVec Ideal S512x1 .f32 × FVec Ideal S512x1 .f32 × FVec Ideal S512x128 .f32 × FVec Ideal S512x1 .f32
    × FVec Ideal S512x1 .f32 × FVec Ideal S512x128 .f32 :=
  st_k0_t2 (F := Ideal) Variants.none c none i arg3 harg3 arg4 harg4 arg5 harg5 arg6 harg6 arg7 harg7 arg8 harg8
    (Scalar.addi (Scalar.muli (BitVec.ofNat 32 (i 1).val) 2#32) 0#32) (queries0 arg3 harg3 x0) (gates0 i arg7 harg7 x4)
    (Scalar.addi (Scalar.muli (BitVec.ofNat 32 (i 1).val) 2#32) 1#32) (queries1 arg3 harg3 x0) (gates1 i arg7 harg7 x4)
    (k0_pay21 i) (iota Kind.tc S512x256 32 [1] iota_S512x256_d1_w32) k0_pay22 k0_pay23 k0_pay24
    (Scalar.muli (BitVec.ofNat 32 (i 2).val) 2#32) 0#32
    (Scalar.addi 0#32 (Scalar.muli (Scalar.divsi (Scalar.subi (Scalar.muli (BitVec.ofNat 32 (i 2).val) 2#32) 0#32) 1#32) 1#32))
    1#32 (harg4.unread x1) (harg5.unread x2) (harg6.unread x3)
    (afterLoop1 c i arg3 harg3 arg4 harg4 arg5 harg5 arg6 harg6 arg7 harg7 arg8 harg8 x0 x1 x2 x3 x4) (k0_t2_loop i).trips

theorem afterLoop2_holds : Holds2 x0 x1 x2 x3 x4 (i 1) (i 2) (512 * (i 2).val)
    (afterLoop2 c i arg3 harg3 arg4 harg4 arg5 harg5 arg6 harg6 arg7 harg7 arg8 harg8 x0 x1 x2 x3 x4) := by
  unfold afterLoop2
  rw [trips2, st_k0_t2_zero]
  have h := loop_holds Variants.none c none i arg3 harg3 arg4 harg4 arg5 harg5 arg6 harg6 arg7 harg7 arg8 harg8
    (Scalar.addi (Scalar.muli (BitVec.ofNat 32 (i 1).val) 2#32) 0#32) (queries0 arg3 harg3 x0) (gates0 i arg7 harg7 x4)
    (Scalar.addi (Scalar.muli (BitVec.ofNat 32 (i 1).val) 2#32) 1#32) (queries1 arg3 harg3 x0) (gates1 i arg7 harg7 x4)
    (k0_pay21 i) (iota Kind.tc S512x256 32 [1] iota_S512x256_d1_w32) k0_pay22 k0_pay23 k0_pay24
    (Scalar.muli (BitVec.ofNat 32 (i 2).val) 2#32) 0#32
    (Scalar.addi 0#32 (Scalar.muli (Scalar.divsi (Scalar.subi (Scalar.muli (BitVec.ofNat 32 (i 2).val) 2#32) 0#32) 1#32) 1#32))
    1#32 x0 x1 x2 x3 x4 (queries0_apply arg3 harg3 x0) (queries1_apply arg3 harg3 x0) (gates0_eq i arg7 harg7 x4)
    (gates1_eq i arg7 harg7 x4) (k0_t1_loop i).trips le_rfl
  have e : 512 * (i 2).val = 256 * (k0_t1_loop i).trips := by rw [trips1]; ring
  rw [e]
  exact h

/-- The scores of diagonal block `j` for each head, masked. -/
def diag0 (j : Fin 2) (b : BitVec 32) : FVec Ideal S512x256 .f32 :=
  masked (k0_pay21 i) (iota Kind.tc S512x256 32 [1] iota_S512x256_d1_w32) b
    (scores (queries0 arg3 harg3 x0) (gates0 i arg7 harg7 x4) (keysOf harg4 x1 _ (k0_off7_inb i j))
      (gatesOf harg6 x3 _ (k0_off8_inb i 0 j)))
def diag1 (j : Fin 2) (b : BitVec 32) : FVec Ideal S512x256 .f32 :=
  masked (k0_pay21 i) (iota Kind.tc S512x256 32 [1] iota_S512x256_d1_w32) b
    (scores (queries1 arg3 harg3 x0) (gates1 i arg7 harg7 x4) (keysOf harg4 x1 _ (k0_off9_inb i j))
      (gatesOf harg6 x3 _ (k0_off8_inb i 1 j)))

theorem diag0_apply (j : Fin 2) (b : BitVec 32) (hb : b = BitVec.ofNat 32 (512 * (i 2).val + 256 * j.val)) (r : Fin 512)
    (n : Fin 256) : diag0 i arg3 harg3 arg4 harg4 arg6 harg6 arg7 harg7 x0 x1 x3 x4 j b (ix2 r n)
      = if 512 * (i 2).val + 256 * j.val + n.val ≤ 512 * (i 2).val + r.val then
          score x0 x1 x3 x4 (i 1) 0 r ⟨512 * (i 2).val + 256 * j.val + n.val, by have : (i 2).val < 4 := (i 2).isLt; omega⟩
        else ⊥ := by
  have ht : (i 2).val < 4 := (i 2).isLt
  unfold diag0
  rw [masked_scores i b hb (by omega), scores_eq harg4 harg6 x0 x1 x3 x4 (i 1) 0 (queries0_apply arg3 harg3 x0)
    (gates0_eq i arg7 harg7 x4) (by omega) _ _ (k0_off7_eq i j) _ _ (k0_off8_eq i 0 j) r n]

theorem diag1_apply (j : Fin 2) (b : BitVec 32) (hb : b = BitVec.ofNat 32 (512 * (i 2).val + 256 * j.val)) (r : Fin 512)
    (n : Fin 256) : diag1 i arg3 harg3 arg4 harg4 arg6 harg6 arg7 harg7 x0 x1 x3 x4 j b (ix2 r n)
      = if 512 * (i 2).val + 256 * j.val + n.val ≤ 512 * (i 2).val + r.val then
          score x0 x1 x3 x4 (i 1) 1 r ⟨512 * (i 2).val + 256 * j.val + n.val, by have : (i 2).val < 4 := (i 2).isLt; omega⟩
        else ⊥ := by
  have ht : (i 2).val < 4 := (i 2).isLt
  unfold diag1
  rw [masked_scores i b hb (by omega), scores_eq harg4 harg6 x0 x1 x3 x4 (i 1) 1 (queries1_apply arg3 harg3 x0)
    (gates1_eq i arg7 harg7 x4) (by omega) _ _ (k0_off9_eq i j) _ _ (k0_off8_eq i 1 j) r n]

/-- The quotient that is stored for one head, from the carried arrays and the scores and values of the two blocks. -/
def stored (s s' : FVec Ideal S512x256 .f32) (v v' : Vec Ideal S256x128 .bf16) (m l : FVec Ideal S512x1 .f32)
    (a : FVec Ideal S512x128 .f32) : FVec Ideal S512x128 .bf16 :=
  quot (blockL s' (blockM s m) (blockL s m l)) (blockA s' v' (blockM s m) (blockA s v m a))

/-- A grid point's stored block, opened: the two heads' quotients side by side. -/
theorem out_eq : out0_A_5 (F := Ideal) c i arg3 harg3 arg4 harg4 arg5 harg5 arg6 harg6 arg7 harg7 arg8 harg8 x0 x1 x2 x3 x4
    = View.canon [
      ⟨Rect.unit (s := S512x256) ![0, 128] S512x128.size inb_S512x256_S512x128_0_128,
        stored (diag1 i arg3 harg3 arg4 harg4 arg6 harg6 arg7 harg7 x0 x1 x3 x4 0
            (Scalar.muli (Scalar.addi (Scalar.muli (BitVec.ofNat 32 (i 2).val) 2#32) 0#32) 256#32))
          (diag1 i arg3 harg3 arg4 harg4 arg6 harg6 arg7 harg7 x0 x1 x3 x4 1
            (Scalar.muli (Scalar.addi (Scalar.muli (BitVec.ofNat 32 (i 2).val) 2#32) 1#32) 256#32))
          (keysOf harg5 x2 _ (k0_off9_inb i 0)) (keysOf harg5 x2 _ (k0_off9_inb i 1))
          (afterLoop2 c i arg3 harg3 arg4 harg4 arg5 harg5 arg6 harg6 arg7 harg7 arg8 harg8 x0 x1 x2 x3 x4).2.2.2.1
          (afterLoop2 c i arg3 harg3 arg4 harg4 arg5 harg5 arg6 harg6 arg7 harg7 arg8 harg8 x0 x1 x2 x3 x4).2.2.2.2.1
          (afterLoop2 c i arg3 harg3 arg4 harg4 arg5 harg5 arg6 harg6 arg7 harg7 arg8 harg8 x0 x1 x2 x3 x4).2.2.2.2.2⟩,
      ⟨Rect.unit (s := S512x256) ![0, 0] S512x128.size inb_S512x256_S512x128_0_0,
        stored (diag0 i arg3 harg3 arg4 harg4 arg6 harg6 arg7 harg7 x0 x1 x3 x4 0
            (Scalar.muli (Scalar.addi (Scalar.muli (BitVec.ofNat 32 (i 2).val) 2#32) 0#32) 256#32))
          (diag0 i arg3 harg3 arg4 harg4 arg6 harg6 arg7 harg7 x0 x1 x3 x4 1
            (Scalar.muli (Scalar.addi (Scalar.muli (BitVec.ofNat 32 (i 2).val) 2#32) 1#32) 256#32))
          (keysOf harg5 x2 _ (k0_off7_inb i 0)) (keysOf harg5 x2 _ (k0_off7_inb i 1))
          (afterLoop2 c i arg3 harg3 arg4 harg4 arg5 harg5 arg6 harg6 arg7 harg7 arg8 harg8 x0 x1 x2 x3 x4).1
          (afterLoop2 c i arg3 harg3 arg4 harg4 arg5 harg5 arg6 harg6 arg7 harg7 arg8 harg8 x0 x1 x2 x3 x4).2.1
          (afterLoop2 c i arg3 harg3 arg4 harg4 arg5 harg5 arg6 harg6 arg7 harg7 arg8 harg8 x0 x1 x2 x3 x4).2.2.1⟩] := by
  unfold out0_A_5
  rw [View.read_writes_eq_canon _ _ _ (cover0_A_5 (F := Ideal) c i arg3 harg3 arg4 harg4 arg5 harg5 arg6 harg6 arg7 harg7 arg8 harg8
    x0 x1 x2 x3 x4)]
  unfold kernelRun0_A
  rfl

/-- The two blocks on the diagonal take the carried arrays to all keys up to the last query of the block; the keys after that
    are masked for every query, so the stored quotient is that over all keys. -/
theorem stored_apply {e : Fin 2} {m l : FVec Ideal S512x1 .f32} {a : FVec Ideal S512x128 .f32}
    (H : Holds (scoreAt x0 x1 x3 x4 (i 1) (i 2) e) (valueAt x2 e) (512 * (i 2).val) m l a) {s s' : FVec Ideal S512x256 .f32}
    (hs : ∀ r (n : Fin 256), s (ix2 r n) = if 512 * (i 2).val + n.val ≤ 512 * (i 2).val + r.val then
      score x0 x1 x3 x4 (i 1) e r ⟨512 * (i 2).val + n.val, by have : (i 2).val < 4 := (i 2).isLt; omega⟩ else ⊥)
    (hs' : ∀ r (n : Fin 256), s' (ix2 r n) = if 512 * (i 2).val + 256 + n.val ≤ 512 * (i 2).val + r.val then
      score x0 x1 x3 x4 (i 1) e r ⟨512 * (i 2).val + 256 + n.val, by have : (i 2).val < 4 := (i 2).isLt; omega⟩ else ⊥)
    (off off' : Fin 2 → ℕ) (inb inb') (ho : off = ![512 * (i 2).val, 128 * e.val])
    (ho' : off' = ![512 * (i 2).val + 256, 128 * e.val]) (r : Fin 512) (d : Fin 128) :
    stored s s' (keysOf harg5 x2 off inb) (keysOf harg5 x2 off' inb') m l a (ix2 r d)
      = Ideal.div (runAcc (scoreAt x0 x1 x3 x4 (i 1) (i 2) e r) (fun n => valueAt x2 e n d) 2048)
          (runSum (scoreAt x0 x1 x3 x4 (i 1) (i 2) e r) 2048) := by
  have ht : (i 2).val < 4 := (i 2).isLt
  have H' := (H.block harg5 x0 x1 x2 x3 x4 (by omega) hs off inb ho).block harg5 x0 x1 x2 x3 x4 (by omega) hs' off' inb' ho'
  have hb : ∀ n, 512 * (i 2).val + 256 + 256 ≤ n → n < 2048 → scoreAt x0 x1 x3 x4 (i 1) (i 2) e r n = ⊥ :=
    fun n hn _ => scoreAt_of_lt x0 x1 x3 x4 (by omega)
  unfold stored
  rw [quot_apply, H'.acc, H'.sum, runAcc_tail _ _ (by omega) hb, runSum_tail _ (by omega) hb]

/-- A grid point's stored block at query `r`, head `e`, column `d`. -/
theorem block_apply (y : S512x256.Idx) (r : Fin 512) (e : Fin 2) (d : Fin 128) (hr : (y 0).val = r.val)
    (hd : (y 1).val = 128 * e.val + d.val) :
    out0_A_5 (F := Ideal) c i arg3 harg3 arg4 harg4 arg5 harg5 arg6 harg6 arg7 harg7 arg8 harg8 x0 x1 x2 x3 x4 y
      = Ideal.div (runAcc (scoreAt x0 x1 x3 x4 (i 1) (i 2) e r) (fun n => valueAt x2 e n d) 2048)
          (runSum (scoreAt x0 x1 x3 x4 (i 1) (i 2) e r) 2048) := by
  rw [out_eq]
  canon_tiles x h
  · obtain rfl : e = 1 := by omega
    obtain rfl : x = ix2 r d := by
      rw [eq_ix2 x]; congr 1 <;> exact Fin.ext (by omega)
    exact stored_apply i arg5 harg5 x0 x1 x2 x3 x4
      (afterLoop2_holds c i arg3 harg3 arg4 harg4 arg5 harg5 arg6 harg6 arg7 harg7 arg8 harg8 x0 x1 x2 x3 x4).2
      (diag1_apply i arg3 harg3 arg4 harg4 arg6 harg6 arg7 harg7 x0 x1 x3 x4 0 _ (base0 i))
      (diag1_apply i arg3 harg3 arg4 harg4 arg6 harg6 arg7 harg7 x0 x1 x3 x4 1 _ (base1 i)) _ _ _ _
      (k0_off9_eq i 0) (k0_off9_eq i 1) r d
  · obtain rfl : e = 0 := by omega
    obtain rfl : x = ix2 r d := by
      rw [eq_ix2 x]; congr 1 <;> exact Fin.ext (by omega)
    exact stored_apply i arg5 harg5 x0 x1 x2 x3 x4
      (afterLoop2_holds c i arg3 harg3 arg4 harg4 arg5 harg5 arg6 harg6 arg7 harg7 arg8 harg8 x0 x1 x2 x3 x4).1
      (diag0_apply i arg3 harg3 arg4 harg4 arg6 harg6 arg7 harg7 x0 x1 x3 x4 0 _ (base0 i))
      (diag0_apply i arg3 harg3 arg4 harg4 arg6 harg6 arg7 harg7 x0 x1 x3 x4 1 _ (base1 i)) _ _ _ _
      (k0_off7_eq i 0) (k0_off7_eq i 1) r d

end

end Cert.Fox

end
-- ==== Proof.Array.lean ====
/- What the kernel's result array holds after the run: each grid point writes one block, the blocks cover the array, and a
   block at an index is the whole-array function `attended` at the index's place in the array. -/
module

public import proofs.«01_k».proof.Proof.Attention
public import proofs.«01_k».proof.Proof.Block

@[expose] public section

set_option maxRecDepth 16384

noncomputable section

namespace Cert.Fox

open Idealize.ShloMosaic Idealize.ShloMosaic.TcCoe Cert.KernelIdeal Cert.KernelIdeal.Gen Cert.Online

/-- Where each window's block of grid point `t` stands, in blocks. -/
theorem index0 : ∀ t : Fin grid0.N, win0_0.index t = ![4 * (grid0.coords t 0).val + (grid0.coords t 2).val, (grid0.coords t 1).val] := by
  decide +kernel
theorem index1 : ∀ t : Fin grid0.N, win0_1.index t = ![(grid0.coords t 0).val, (grid0.coords t 1).val] := by decide +kernel
theorem index2 : ∀ t : Fin grid0.N, win0_2.index t = ![(grid0.coords t 0).val, (grid0.coords t 1).val] := by decide +kernel
theorem index3 : ∀ t : Fin grid0.N, win0_3.index t = ![(grid0.coords t 0).val, 0, 0] := by decide +kernel
theorem index4 : ∀ t : Fin grid0.N, win0_4.index t = ![4 * (grid0.coords t 0).val + (grid0.coords t 2).val, 0] := by decide +kernel
theorem index5 : ∀ t : Fin grid0.N, win0_5.index t = ![4 * (grid0.coords t 0).val + (grid0.coords t 2).val, (grid0.coords t 1).val] := by
  decide +kernel

section
variable (m : (ℓ : Loc nD τ sig) → Buf (Elt Ideal) ℓ) (c : Dev nD) (t : Fin grid0.N)

/-- The queries of a grid point, read off the array of queries. -/
theorem queries_read (r : Fin 512) (l : Fin 256) (a : Fin 8256) (b : Fin 2048)
    (ha : a.val = 512 * (4 * (grid0.coords t 0).val + (grid0.coords t 2).val) + r.val)
    (hb : b.val = 256 * (grid0.coords t 1).val + l.val) :
    X0_0 (F := Ideal) m c t (ix2 r l) = m ((c : Thread nD τ).loc main_arg0) (ix2 a b) := by
  unfold X0_0 Pipeline.Window.fill
  rw [dif_pos (moved0_0 t _)]
  blk_ext [iblk, V, index0 t]

/-- The keys of a grid point, read off the array of keys. -/
theorem keys_read (r : Fin 2048) (l : Fin 256) (a : Fin 8256) (b : Fin 2048)
    (ha : a.val = 2048 * (grid0.coords t 0).val + r.val) (hb : b.val = 256 * (grid0.coords t 1).val + l.val) :
    X0_1 (F := Ideal) m c t (ix2 r l) = m ((c : Thread nD τ).loc main_arg1) (ix2 a b) := by
  unfold X0_1 Pipeline.Window.fill
  rw [dif_pos (moved0_1 t _)]
  blk_ext [iblk, V, index1 t]

/-- The values of a grid point, read off the array of values. -/
theorem values_read (r : Fin 2048) (l : Fin 256) (a : Fin 8256) (b : Fin 2048)
    (ha : a.val = 2048 * (grid0.coords t 0).val + r.val) (hb : b.val = 256 * (grid0.coords t 1).val + l.val) :
    X0_2 (F := Ideal) m c t (ix2 r l) = m ((c : Thread nD τ).loc main_arg2) (ix2 a b) := by
  unfold X0_2 Pipeline.Window.fill
  rw [dif_pos (moved0_2 t _)]
  blk_ext [iblk, V, index2 t]

/-- The keys' accumulated log gates of a grid point, read off their array. -/
theorem rowGates_read (n : Fin 16) (j : Fin 2048) (b : Fin 4) (l : Fin 128) (hb : b.val = (grid0.coords t 0).val)
    (hl : l.val = n.val) :
    iblk (F := Ideal) m c 3 t (ix3 0 n j) = m ((c : Thread nD τ).loc main_arg3) (ix3 b l j) := by
  blk_ext [iblk, V, index3 t]

/-- The queries' accumulated log gates of a grid point, read off their array. -/
theorem colGates_read (r : Fin 512) (l : Fin 128) (a : Fin 8192)
    (ha : a.val = 512 * (4 * (grid0.coords t 0).val + (grid0.coords t 2).val) + r.val) :
    iblk (F := Ideal) m c 4 t (ix2 r l) = m ((c : Thread nD τ).loc main_arg4) (ix2 a l) := by
  blk_ext [iblk, V, index4 t]

/-- The grid point's batch entry and block of queries, and head `e` of its two. -/
abbrev batch (t : Fin grid0.N) : Fin 4 := grid0.coords t 0
abbrev query (t : Fin grid0.N) (r : Fin 512) : Fin 2048 :=
  ⟨512 * (grid0.coords t 2).val + r.val, by have : (grid0.coords t 2).val < 4 := (grid0.coords t 2).isLt; omega⟩

/-- A grid point's scores are the arrays' scores. -/
theorem score_read (e : Fin 2) (r : Fin 512) (j : ℕ) :
    scoreAt (X0_0 m c t) (X0_1 m c t) (iblk m c 3 t) (iblk m c 4 t) (grid0.coords t 1) (grid0.coords t 2) e r j
      = scoreRow (m ((c : Thread nD τ).loc main_arg0)) (m ((c : Thread nD τ).loc main_arg1)) (m ((c : Thread nD τ).loc main_arg3))
          (m ((c : Thread nD τ).loc main_arg4)) (batch t) (head16 (grid0.coords t 1) e) (query t r) j := by
  unfold scoreAt scoreRow
  refine dite_congr rfl (fun hj => ?_) (fun _ => rfl)
  refine ite_congr rfl (fun _ => ?_) (fun _ => rfl)
  unfold score pairScore
  congr 1
  · congr 1
    refine Finset.sum_congr rfl fun d _ => ?_
    exact congrArg₂ (· * ·)
      (queries_read m c t r (lane e d) (tokenRow (batch t) (query t r)) (headCol (head16 (grid0.coords t 1) e) d)
        (by simp only [tokenRow, batch]; omega) (by simp only [headCol, head16, lane]; omega))
      (keys_read m c t ⟨j, hj⟩ (lane e d) (tokenRow (batch t) ⟨j, hj⟩) (headCol (head16 (grid0.coords t 1) e) d)
        rfl (by simp only [headCol, head16, lane]; omega))
  · exact congrArg₂ (· - ·)
      (colGates_read m c t r (head128 (grid0.coords t 1) e) (promptRow (batch t) (query t r))
        (by simp only [promptRow, batch]; omega))
      (rowGates_read m c t (head16 (grid0.coords t 1) e) ⟨j, hj⟩ (batch t) (headLane (head16 (grid0.coords t 1) e)) rfl rfl)

/-- A grid point's values are the array's values. -/
theorem value_read (e : Fin 2) (d : Fin 128) (j : ℕ) :
    valueAt (X0_2 m c t) e j d
      = valueCol (m ((c : Thread nD τ).loc main_arg2)) (batch t) (head16 (grid0.coords t 1) e) d j := by
  unfold valueAt valueCol
  refine dite_congr rfl (fun hj => ?_) (fun _ => rfl)
  exact values_read m c t ⟨j, hj⟩ (lane e d) (tokenRow (batch t) ⟨j, hj⟩) (headCol (head16 (grid0.coords t 1) e) d) rfl
    (by simp only [headCol, head16, lane]; omega)

/-- The result array after the run. -/
theorem arr_eq : (dats (F := Ideal) m 0 c).arrAt 5 cfg0.N
    = attended (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have y0 : (y 0).val < 512 := (y 0).isLt
  have y1 : (y 1).val < 256 := (y 1).isLt
  have e0 : (((win0_5.blk t).view.emb y) 0).val = 512 * (4 * (grid0.coords t 0).val + (grid0.coords t 2).val) + (y 0).val := by
    blk_simp [index5 t]; omega
  have e1 : (((win0_5.blk t).view.emb y) 1).val = 256 * (grid0.coords t 1).val + (y 1).val := by
    blk_simp [index5 t]; omega
  blk_simp
  rw [after0_5]
  unfold outsAt0
  obtain ⟨e, he⟩ : ∃ e : Fin 2, e.val = (y 1).val / 128 := ⟨⟨(y 1).val / 128, by omega⟩, rfl⟩
  refine (block_apply c (grid0.coords t) _ _ _ _ _ _ _ _ _ _ _ _ (X0_0 m c t) (X0_1 m c t) (X0_2 m c t) (iblk m c 3 t)
    (iblk m c 4 t) y ⟨(y 0).val, y0⟩ e ⟨(y 1).val % 128, Nat.mod_lt _ (by decide)⟩ rfl (by dsimp only; omega)).trans ?_
  rw [attended_apply (b := batch t) (n := head16 (grid0.coords t 1) e) (s := query t ⟨(y 0).val, y0⟩)
    (d := ⟨(y 1).val % 128, Nat.mod_lt _ (by decide)⟩) _ _ _ _ _ (by rw [e0]; simp only [batch]; omega)
    (by rw [e1]; simp only [head16]; omega)]
  unfold attendedAt
  exact congrArg₂ Ideal.div
    (congrArg₂ (fun a b => runAcc a b 2048) (funext fun j => score_read m c t e _ j) (funext fun j => value_read m c t e _ j))
    (congrArg (fun a => runSum a 2048) (funext fun j => score_read m c t e _ j))

end

end Cert.Fox

end
-- ==== Proof.Up.lean ====
/- The up-projection of the gated feed-forward part: what one grid point stores, with the weights that the first point of its run
   cast and kept, and the whole array: `silu (h · w1) * (h · w3)`, entry by entry (`arr_eq`). -/
module

public import proofs.«01_k».proof.Proof.Gen.Kernel2Ideal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Up

open Idealize.ShloMosaic Idealize.ShloMosaic.TcCoe Cert.Kernel2Ideal Cert.Kernel2Ideal.Gen

/-- A token's hidden row against a column of the first layer's weight matrix. -/
def column (h : FVec Ideal S8256x4096 .bf16) (w : FVec Ideal S4x4096x11008 .f32) (r : Fin 8256) (n : Fin 11008) : EReal :=
  ∑ k : Fin 4096, h (ix2 r k) * w (ix3 0 k n)

/-- The gated hidden units of the feed-forward part. -/
def gated (h : FVec Ideal S8256x4096 .bf16) (w1 w3 : FVec Ideal S4x4096x11008 .f32) : FVec Ideal S8256x11008 .bf16 := fun y =>
  column h w1 (y 0) (y 1) * Ideal.logistic (column h w1 (y 0) (y 1)) * column h w3 (y 0) (y 1)

/-- Where each window's block of grid point `t` stands, in blocks. -/
theorem index0 : ∀ t : Fin grid0.N, win0_0.index t = ![t.val % 6, 0] := by decide +kernel
theorem index1 : ∀ t : Fin grid0.N, win0_1.index t = ![0, 0, t.val / 6] := by decide +kernel
theorem index2 : ∀ t : Fin grid0.N, win0_2.index t = ![0, 0, t.val / 6] := by decide +kernel
theorem index3 : ∀ t : Fin grid0.N, win0_3.index t = ![t.val % 6, t.val / 6] := by decide +kernel

/-- The casts of the two weight blocks are the identity. -/
theorem cast1_apply (x : Vec Ideal S1x4096x256 .f32) (k : Fin 4096) (j : Fin 256) : k0_pay1 x (ix2 k j) = x (ix3 0 k j) := by
  unfold k0_pay1
  pointwise []
theorem cast2_apply (x : Vec Ideal S1x4096x256 .f32) (k : Fin 4096) (j : Fin 256) : k0_pay2 x (ix2 k j) = x (ix3 0 k j) := by
  unfold k0_pay2
  pointwise []

/-- What is stored of a block of rows and two blocks of columns. -/
theorem stored_apply (x : Vec Ideal S1376x4096 .bf16) (u v : Vec Ideal S4096x256 .bf16) (r : Fin 1376) (j : Fin 256) :
    k0_pay3 x u v (ix2 r j)
      = (∑ k : Fin 4096, x (ix2 r k) * u (ix2 k j)) * Ideal.logistic (∑ k : Fin 4096, x (ix2 r k) * u (ix2 k j))
        * (∑ k : Fin 4096, x (ix2 r k) * v (ix2 k j)) := by
  unfold k0_pay3
  pointwise []

section
variable (m : (ℓ : Loc nD τ sig) → Buf (Elt Ideal) ℓ) (c : Dev nD)

theorem held1 (t : Fin cfg0.N) (i : S4096x256.Idx) :
    (outsAt0 (F := Ideal) m c t.val t.isLt).2.1 i
      = k0_pay1 (iblk m c 1 ⟨6 * (t.val / 6), Pipeline.run_start_lt t⟩) i :=
  Pipeline.eq_of_write_hold_apply (fun n h => (outsAt0 (F := Ideal) m c n h).2.1) 6 (fun t => k0_pay1 (iblk m c 1 t))
    (fun t h i => by rw [outsAt0_A m c t h]; frame_out)
    (fun t h i => by rw [outsAt0_B m c t h]; rfl) t i

theorem held2 (t : Fin cfg0.N) (i : S4096x256.Idx) :
    (outsAt0 (F := Ideal) m c t.val t.isLt).2.2 i
      = k0_pay2 (iblk m c 2 ⟨6 * (t.val / 6), Pipeline.run_start_lt t⟩) i :=
  Pipeline.eq_of_write_hold_apply (fun n h => (outsAt0 (F := Ideal) m c n h).2.2) 6 (fun t => k0_pay2 (iblk m c 2 t))
    (fun t h i => by rw [outsAt0_A m c t h]; frame_out)
    (fun t h i => by rw [outsAt0_B m c t h]; rfl) t i

/-- What a point stores: the rows of its own block against the weights held. -/
theorem out_eq (t : Fin cfg0.N) (y : S1376x256.Idx) :
    (outsAt0 (F := Ideal) m c t.val t.isLt).1 y
      = k0_pay3 (iblk m c 0 t) (k0_pay1 (iblk m c 1 ⟨6 * (t.val / 6), Pipeline.run_start_lt t⟩))
          (k0_pay2 (iblk m c 2 ⟨6 * (t.val / 6), Pipeline.run_start_lt t⟩)) y := by
  have e1 := funext (held1 m c t)
  have e2 := funext (held2 m c t)
  rw [← e1, ← e2]
  by_cases h : t.val % 6 = 0
  · rw [outsAt0_A m c t h]; frame_out
  · rw [outsAt0_B m c t h]; frame_out
    simp only [read_unread_whole]
    rfl

/-- The arguments' blocks, read off the arrays. -/
theorem rows_read (t : Fin cfg0.N) (r : Fin 1376) (k : Fin 4096) (a : Fin 8256) (ha : a.val = 1376 * (t.val % 6) + r.val) :
    iblk (F := Ideal) m c 0 t (ix2 r k) = m ((c : Thread nD τ).loc main_arg0) (ix2 a k) := by
  blk_ext [iblk, V, index0 t]
theorem weights1_read (t : Fin cfg0.N) (k : Fin 4096) (j : Fin 256) (b : Fin 11008) (hb : b.val = 256 * (t.val / 6) + j.val) :
    iblk (F := Ideal) m c 1 t (ix3 0 k j) = m ((c : Thread nD τ).loc main_arg1) (ix3 0 k b) := by
  blk_ext [iblk, V, index1 t]
theorem weights2_read (t : Fin cfg0.N) (k : Fin 4096) (j : Fin 256) (b : Fin 11008) (hb : b.val = 256 * (t.val / 6) + j.val) :
    iblk (F := Ideal) m c 2 t (ix3 0 k j) = m ((c : Thread nD τ).loc main_arg2) (ix3 0 k b) := by
  blk_ext [iblk, V, index2 t]

/-- What a point stores, entry by entry, from the arrays. -/
theorem block_apply (t : Fin cfg0.N) (r : Fin 1376) (j : Fin 256) (a : Fin 8256) (b : Fin 11008)
    (ha : a.val = 1376 * (t.val % 6) + r.val) (hb : b.val = 256 * (t.val / 6) + j.val) :
    (outsAt0 (F := Ideal) m c t.val t.isLt).1 (ix2 r j)
      = gated (m ((c : Thread nD τ).loc main_arg0)) (m ((c : Thread nD τ).loc main_arg1)) (m ((c : Thread nD τ).loc main_arg2)) (ix2 a b) := by
  have hb' : b.val = 256 * (6 * (t.val / 6) / 6) + j.val := by omega
  rw [out_eq, stored_apply]
  simp only [cast1_apply, cast2_apply, rows_read m c t r _ a ha, weights1_read m c ⟨6 * (t.val / 6), _⟩ _ j b hb',
    weights2_read m c ⟨6 * (t.val / 6), _⟩ _ j b hb']
  rfl

/-- The result array after the run. -/
theorem arr_eq : (dats (F := Ideal) m 0 c).arrAt 3 cfg0.N
    = gated (m ((c : Thread nD τ).loc main_arg0)) (m ((c : Thread nD τ).loc main_arg1)) (m ((c : Thread nD τ).loc main_arg2)) := by
  refine (dats m 0 c).arrAt_eq_of_covers 3 _ (by decide +kernel) fun t hf y => ?_
  have e0 : (((win0_3.blk t).view.emb y) 0).val = 1376 * (t.val % 6) + (y 0).val := by blk_simp [index3 t]; omega
  have e1 : (((win0_3.blk t).view.emb y) 1).val = 256 * (t.val / 6) + (y 1).val := by blk_simp [index3 t]; omega
  blk_simp
  rw [after0_3]
  exact (congrArg _ (eq_ix2 (n0 := 1376) (n1 := 256) y)).trans
    ((block_apply m c t (y 0) (y 1) ((win0_3.blk t).view.emb y 0) ((win0_3.blk t).view.emb y 1) e0 e1).trans
      (congrArg (gated _ _ _) (eq_ix2 ((win0_3.blk t).view.emb y)).symm))

end

end Cert.Up

end
-- ==== Proof.UpRef.lean ====
/- The reference of the up-projection, entry by entry: it is the same gated product of two columns. -/
module

public import proofs.«01_k».proof.Proof.Gen.Reference2Ideal.Run
public import proofs.«01_k».proof.Proof.Up

@[expose] public section

set_option maxRecDepth 16384

noncomputable section

namespace Cert.UpRef

open Idealize.ShloMosaic Idealize.ShloMosaic.TcCoe Cert.Reference2Ideal Cert.Reference2Ideal.Gen Cert.Reference2Ideal.Value Cert.Up

/-- The hidden rows against a weight matrix of the first layer. -/
def project (h : FVec Ideal S8256x4096 .bf16) (w : FVec Ideal S4x4096x11008 .f32) : FVec Ideal S8256x11008 .f32 :=
  Host.dotGeneral dot_S8256x4096_S4096x11008_S8256x11008_1_0_0_1_n_n none (extf .f32 h bitsLt_bf16_f32)
    (shapeCast _ (extractStridedSlice S1x4096x11008 ![0, 0, 0] w slices_S4x4096x11008_S1x4096x11008_0_0_0)
      shapeCasts_S1x4096x11008_S4096x11008)

theorem project_apply (h : FVec Ideal S8256x4096 .bf16) (w : FVec Ideal S4x4096x11008 .f32) (r : Fin 8256) (n : Fin 11008) :
    project h w (ix2 r n) = column h w r n := by
  unfold project column
  pointwise []

/-- The reference's result, from its two projections. -/
def silu (a b : FVec Ideal S8256x11008 .f32) : FVec Ideal S8256x11008 .bf16 :=
  truncf .bf16 (mulf (mulf a (Host.divf (broadcastInDim S8256x11008 ![] bcast_S_S8256x11008 (constant S_ .f32 0x3F800000#32))
    (addf (broadcastInDim S8256x11008 ![] bcast_S_S8256x11008 (constant S_ .f32 0x3F800000#32)) (Host.exp (Host.negf a))))) b)
    bitsLt_bf16_f32

theorem silu_apply (a b : FVec Ideal S8256x11008 .f32) (r : Fin 8256) (n : Fin 11008) :
    silu a b (ix2 r n) = a (ix2 r n) * Ideal.logistic (a (ix2 r n)) * b (ix2 r n) := by
  unfold silu Ideal.logistic
  pointwise []

theorem result_eq (h : FVec Ideal S8256x4096 .bf16) (w1 w3 : FVec Ideal S4x4096x11008 .f32) :
    silu (project h w1) (project h w3) = gated h w1 w3 := by
  funext y
  obtain ⟨r, n, rfl⟩ : ∃ r n, y = ix2 r n := ⟨y 0, y 1, eq_ix2 y⟩
  rw [silu_apply, project_apply, project_apply]
  rfl

end Cert.UpRef

end
-- ==== Proof.DownIdeal.lean ====
/-
  The feed-forward layer's second product over the launch with exact arithmetic: what its scratch holds, the two cases of the kernel's
  body, and the run of the launch.

  The grid is (row block, half of the contraction, column block). In the first half the body stores its partial product
  into the column block's slice of the scratch; in the second half it reads that slice back, adds its own partial product
  and stores the output. So a slice is stored sixteen points before it is read, and the output's block is left alone in the
  first half.
-/
module

public import proofs.«01_k».proof.Proof.Gen.Kernel3Ideal.Frame
public import proofs.«01_k».proof.Proof.Gen.Kernel3Ideal.Skeleton
public import Idealize.ShloMosaic.Lib.Pipeline.Value
public import Idealize.ShloMosaic.Lib.Pipeline.ValueKit

@[expose] public section

set_option maxRecDepth 16384

noncomputable section

namespace Cert.DownIdeal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which half of the contraction a point is in -/

theorem first_iff : ∀ t : Fin cfg0.N, k0_cond1 (grid0.coords t) = 1#1 ↔ t.val % 32 < 16 := by decide +kernel
theorem between : ∀ t : Fin cfg0.N, ¬ k0_cond2 (grid0.coords t) = 1#1 := by decide +kernel
theorem second_iff : ∀ t : Fin cfg0.N, k0_cond3 (grid0.coords t) = 1#1 ↔ ¬ t.val % 32 < 16 := by decide +kernel
/-- The slice a point stores is its column block's, -/
theorem stored_at : ∀ t : Fin cfg0.N, k0_off1 (grid0.coords t) = ![t.val % 16, 0, 0] := by decide +kernel
/-- and so is the slice it reads. -/
theorem read_at : ∀ t : Fin cfg0.N, k0_off3 (grid0.coords t) = ![t.val % 16, 0, 0] := by decide +kernel
/-- In the first half the output's block is not written back. -/
theorem kept : ∀ t : Fin cfg0.N, t.val % 32 < 16 → (cfg0.win 3).flush t = false := by decide +kernel

theorem zero2 : (![0, 0] : Fin 2 → ℕ) = fun _ => 0 := by decide
theorem zero3 : (![0, 0, 0] : Fin 3 → ℕ) = fun _ => 0 := by decide

/-! ## The body's two cases, on any whole buffers -/

set_option maxHeartbeats 1000000 in
/-- In the first half the body leaves the scratch as it was but for one slice, which holds the partial product. -/
theorem run_first (c : Dev nD) (i : grid0.Coords) (arg3 : Memref sig .tc .vmem S688x5504 .bf16) (harg3 : arg3.IsWhole)
    (arg4 : Memref sig .tc .vmem S1x5504x256 .bf16) (harg4 : arg4.IsWhole) (arg5 : Memref sig .tc .vmem S688x256 .f32)
    (harg5 : arg5.IsWhole) (arg6 : Memref sig .tc .vmem S688x256 .f32) (harg6 : arg6.IsWhole)
    (arg7 : Memref sig .tc .vmem S16x688x256 .f32) (harg7 : arg7.IsWhole)
    (h1 : k0_cond1 i = 1#1) (h2 : ¬ k0_cond2 i = 1#1) (h3 : ¬ k0_cond3 i = 1#1)
    (x0 : Vec F S688x5504 .bf16) (x1 : Vec F S1x5504x256 .bf16) (X : Vec F S16x688x256 .f32) (E : Set ℕ) (K : PUnit → sProp 𝕄) :
    iprop(owns (c : Thread nD τ) arg3 fullShare x0 ∗ owns (c : Thread nD τ) arg4 fullShare x1
        ∗ owns (c : Thread nD τ) arg7 fullShare X
        ∗ (iprop(owns (c : Thread nD τ) arg3 fullShare x0 ∗ owns (c : Thread nD τ) arg4 fullShare x1
            ∗ ∃ X' : Vec F S16x688x256 .f32, ⌜(∀ x, X' ((Rect.unit (s := S16x688x256) (k0_off1 i) S1x688x256.size (k0_off1_inb i h1)).emb x) = k0_pay2 x0 x1 x)
                ∧ ∀ y, y ∉ (Rect.unit (s := S16x688x256) (k0_off1 i) S1x688x256.size (k0_off1_inb i h1)).set → X' y = X y⌝
              ∗ owns (c : Thread nD τ) arg7 fullShare X') -∗ K ⟨⟩))
      ⊢ wp frame (wpE (defs₀ (F := F)) Variants.none c none) E
          (cc0_down_residual i arg3 harg3 arg4 harg4 arg5 harg5 arg6 harg6 arg7 harg7) K := by
  simp only [cc0_down_residual_eq_skeleton]; unfold cc0_down_residual_skel
  unfold owns
  iintro ⟨⟨%f0, %hf0, H0⟩, ⟨%f1, %hf1, H1⟩, ⟨%f7, %hf7, H7⟩, Hk⟩
  obtain rfl := harg3.eq_unread hf0; obtain rfl := harg4.eq_unread hf1
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  iexists _
  isplitr
  swap
  · iexists _; isplitr
    swap; · iexact H7
    ipureintro; rfl
  ipureintro
  rw [View.readAt_eq_ld, View.readAt_eq_ld, harg3.read_unread, harg4.read_unread,
    View.ld_unit_zero (S := S688x5504) zero2, View.ld_unit_zero (S := S1x5504x256) zero3]
  refine ⟨fun x => View.read_writes_cons_emb _ _ _ _ _ x, fun y hy => ?_⟩
  rw [View.read_writes_apply_of_forall_not_mem _ _ _ _ (fun p hp => by rw [List.mem_singleton.mp hp]; exact hy), hf7]

set_option maxHeartbeats 1000000 in
/-- In the second half the body leaves the scratch as it was and stores the output's block from the slice it reads. -/
theorem run_second (c : Dev nD) (i : grid0.Coords) (arg3 : Memref sig .tc .vmem S688x5504 .bf16) (harg3 : arg3.IsWhole)
    (arg4 : Memref sig .tc .vmem S1x5504x256 .bf16) (harg4 : arg4.IsWhole) (arg5 : Memref sig .tc .vmem S688x256 .f32)
    (harg5 : arg5.IsWhole) (arg6 : Memref sig .tc .vmem S688x256 .f32) (harg6 : arg6.IsWhole)
    (arg7 : Memref sig .tc .vmem S16x688x256 .f32) (harg7 : arg7.IsWhole)
    (h1 : ¬ k0_cond1 i = 1#1) (h2 : ¬ k0_cond2 i = 1#1) (h3 : k0_cond3 i = 1#1)
    (x0 : Vec F S688x5504 .bf16) (x1 : Vec F S1x5504x256 .bf16) (x2 : Vec F S688x256 .f32) (X : Vec F S16x688x256 .f32)
    (E : Set ℕ) (K : PUnit → sProp 𝕄) :
    iprop(owns (c : Thread nD τ) arg3 fullShare x0 ∗ owns (c : Thread nD τ) arg4 fullShare x1
        ∗ owns (c : Thread nD τ) arg5 fullShare x2 ∗ (∃ d, owns (c : Thread nD τ) arg6 fullShare d)
        ∗ owns (c : Thread nD τ) arg7 fullShare X
        ∗ (iprop(owns (c : Thread nD τ) arg3 fullShare x0 ∗ owns (c : Thread nD τ) arg4 fullShare x1
            ∗ owns (c : Thread nD τ) arg5 fullShare x2
            ∗ owns (c : Thread nD τ) arg6 fullShare (k0_pay4 x0 x1 x2 (fun x => X ((Rect.unit (s := S16x688x256) (k0_off3 i) S1x688x256.size (k0_off3_inb i h3)).emb x)))
            ∗ owns (c : Thread nD τ) arg7 fullShare X) -∗ K ⟨⟩))
      ⊢ wp frame (wpE (defs₀ (F := F)) Variants.none c none) E
          (cc0_down_residual i arg3 harg3 arg4 harg4 arg5 harg5 arg6 harg6 arg7 harg7) K := by
  simp only [cc0_down_residual_eq_skeleton]; unfold cc0_down_residual_skel
  unfold owns
  iintro ⟨⟨%f0, %hf0, H0⟩, ⟨%f1, %hf1, H1⟩, ⟨%f2, %hf2, H2⟩, ⟨%d3, %f3, -, H3⟩, ⟨%f7, %hf7, H7⟩, Hk⟩
  obtain rfl := harg3.eq_unread hf0; obtain rfl := harg4.eq_unread hf1; obtain rfl := harg5.eq_unread hf2
  obtain rfl := harg7.eq_unread hf7
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    refine (View.read_writes_eq_canon _ _ _ (fun y => ?_)).trans ?_
    · exact ⟨_, List.mem_singleton_self _, View.mem_set_unit_zero (S := S688x256) zero2 inb_S688x256_S688x256_0_0 y⟩
    rw [View.canon_unit_zero (S := S688x256) zero2, View.readAt_eq_ld, View.readAt_eq_ld, View.readAt_eq_ld, View.readAt_eq_ld,
      harg3.read_unread, harg4.read_unread, harg5.read_unread, harg7.read_unread,
      View.ld_unit_zero (S := S688x5504) zero2, View.ld_unit_zero (S := S1x5504x256) zero3, View.ld_unit_zero (S := S688x256) zero2]
    rfl
  iexists _; isplitr; · ipureintro; exact harg7.read_unread _
  iexact H7

/-! ## What the scratch holds -/

/-- Before position `n`: each column block's slice stored since the present row block began holds its partial product. -/
def Held (c : Dev nD) (n : ℕ) (X : Vec F S16x688x256 .f32) : Prop :=
  ∀ u : Fin cfg0.N, u.val < n → u.val / 32 = n / 32 → u.val % 32 < 16 → ∀ (s : Fin 16), s.val = u.val % 16 →
    ∀ (r : Fin 688) (q : Fin 256), X (ix3 s r q) = k0_pay2 (iblk m c 0 u) (iblk m c 1 u) (ix3 0 r q)

/-- At the start nothing has been stored. -/
theorem held_zero (c : Dev nD) (X : Vec F S16x688x256 .f32) : Held m c 0 X := fun u hu => absurd hu (Nat.not_lt_zero _)

/-- A point of the first half adds its slice. -/
theorem held_first (c : Dev nD) (t : Fin cfg0.N) (h : t.val % 32 < 16) (h1 : k0_cond1 (grid0.coords t) = 1#1)
    (X X' : Vec F S16x688x256 .f32) (hX : Held m c t.val X)
    (hin : ∀ x, X' ((Rect.unit (s := S16x688x256) (k0_off1 (grid0.coords t)) S1x688x256.size (k0_off1_inb _ h1)).emb x)
      = k0_pay2 (iblk m c 0 t) (iblk m c 1 t) x)
    (hout : ∀ y, y ∉ (Rect.unit (s := S16x688x256) (k0_off1 (grid0.coords t)) S1x688x256.size (k0_off1_inb _ h1)).set → X' y = X y) :
    Held m c (t.val + 1) X' := by
  intro u hu hd hm s hs r q
  have ho := stored_at t
  by_cases e : u = t
  · subst e
    have hi : (ix3 s r q : S16x688x256.Idx)
        = (Rect.unit (s := S16x688x256) (k0_off1 (grid0.coords u)) S1x688x256.size (k0_off1_inb _ h1)).emb (ix3 0 r q) := by
      funext a
      refine Fin.ext ?_
      rw [ValueKit.rect_emb_unit_val, congrFun ho a]
      match a with
      | ⟨0, _⟩ => show s.val = u.val % 16 + 0; omega
      | ⟨1, _⟩ => show r.val = 0 + r.val; omega
      | ⟨2, _⟩ => show q.val = 0 + q.val; omega
    rw [hi]
    exact hin _
  · have hne : u.val ≠ t.val := fun h => e (Fin.ext h)
    rw [hout _ (fun hmem => by
      have h0 := Rect.mem_set_unit.mp hmem 0
      rw [ho] at h0
      have h0' : t.val % 16 ≤ s.val ∧ s.val < t.val % 16 + 1 := h0
      omega)]
    exact hX u (by omega) (by omega) hm s hs r q

/-- A point of the second half changes nothing. -/
theorem held_second (c : Dev nD) (t : Fin cfg0.N) (h : ¬ t.val % 32 < 16) (X : Vec F S16x688x256 .f32) (hX : Held m c t.val X) :
    Held m c (t.val + 1) X := fun u hu hd hm s hs r q => hX u (by omega) (by omega) hm s hs r q

/-- The point sixteen before, which stored the slice a point of the second half reads. -/
def earlier (t : Fin cfg0.N) : Fin cfg0.N := ⟨t.val - 16, Nat.lt_of_le_of_lt (Nat.sub_le _ _) t.isLt⟩

/-- What a point of the second half reads of the scratch. -/
theorem read_second (c : Dev nD) (t : Fin cfg0.N) (h : ¬ t.val % 32 < 16) (h3 : k0_cond3 (grid0.coords t) = 1#1)
    (X : Vec F S16x688x256 .f32) (hX : Held m c t.val X) :
    (fun x => X ((Rect.unit (s := S16x688x256) (k0_off3 (grid0.coords t)) S1x688x256.size (k0_off3_inb _ h3)).emb x))
      = k0_pay2 (iblk m c 0 (earlier t)) (iblk m c 1 (earlier t)) := by
  have ho := read_at t
  have hN : t.val < 384 := lt_of_lt_of_eq t.isLt N_0
  have he : (earlier t).val = t.val - 16 := rfl
  funext x
  obtain ⟨z, r, q, rfl⟩ : ∃ (z : Fin 1) (r : Fin 688) (q : Fin 256), x = ix3 z r q := ⟨x 0, x 1, x 2, eq_ix3 x⟩
  obtain rfl : z = 0 := Subsingleton.elim _ _
  rw [← hX (earlier t) (by omega) (by omega) (by omega) ⟨t.val % 16, Nat.mod_lt _ (by decide)⟩ (by show t.val % 16 = _; omega) r q]
  refine congrArg X (funext fun a => Fin.ext ?_)
  rw [ValueKit.rect_emb_unit_val, congrFun ho a]
  match a with
  | ⟨0, _⟩ => show t.val % 16 + 0 = t.val % 16; omega
  | ⟨1, _⟩ => show 0 + r.val = r.val; omega
  | ⟨2, _⟩ => show 0 + q.val = q.val; omega

/-! ## The proof data -/

/-- The scratch. -/
abbrev scratch : Memref sig .tc .vmem S16x688x256 .f32 := Memref.whole cc0_scratch0

/-- What is known between points: the scratch's stored slices, and the generator register at some state. -/
def inv (c : Dev nD) (n : ℕ) : sProp 𝕄 :=
  iprop((∃ X : Vec F S16x688x256 .f32, ⌜Held m c n X⌝ ∗ owns (c : Thread nD τ) scratch fullShare X) ∗ (∃ r, prngReg c r))

/-- What the launch hands the grid: the scratch at anything, and the register. -/
theorem given_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- What a point leaves in the output's block (in the first half nothing: the block is left as found). -/
def stored (c : Dev nD) (t : Fin cfg0.N) : Vec F S688x256 .f32 :=
  k0_pay4 (iblk m c 0 t) (iblk m c 1 t) (iblk m c 2 t) (k0_pay2 (iblk m c 0 (earlier t)) (iblk m c 1 (earlier t)))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => stored m c t
  Φ t := inv m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = stored m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body at a point -/

/-- What a point starts from, -/
def start (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it ends with, the output's buffer being `R`. -/
def finish (c : Dev nD) (t : Fin cfg0.N) (R : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t) ∗ R)

set_option maxHeartbeats 1000000 in
/-- In the first half: the slice is stored, the output's buffer handed back as found. -/
theorem point_first (c : Dev nD) (t : Fin cfg0.N) (h : t.val % 32 < 16) :
    start m c t ⊢ wp frame (wpE (defs₀ (F := F)) Variants.none c none) Set.univ (bodyAt0 t)
      (fun _ => finish m c t iprop(∃ d, owns (c : Thread nD τ) (st0_3 t) fullShare ((dats m 0 c).before 3 t d))) := by
  have h1 : k0_cond1 (grid0.coords t) = 1#1 := (first_iff t).mpr h
  unfold start finish bodyAt0
  simp only [before_0, before_1, before_2]
  rw [show (dats m 0 c).owesAt () t.succ = (dats m 0 c).owesAt () t.castSucc from rfl, after_0, after_1, after_2,
    show (dats m 0 c).Φ t.succ = inv m c (t.val + 1) from rfl, show (dats m 0 c).Φ t.castSucc = inv m c t.val from rfl]
  unfold inv
  iintro ⟨⟨⟨%X, %hX, HS⟩, Hg⟩, Ho, ⟨%d0, H0⟩, ⟨%d1, H1⟩, ⟨%d2, H2⟩, H3⟩
  iapply (run_first c (grid0.coords t) _ _ _ _ _ (hstage0_2 ((cfg0.slots t 2).cast nbuf0_2)) _ (hstage0_3 ((cfg0.slots t 3).cast nbuf0_3)) _ _
    h1 (between t) (fun h3 => (second_iff t).mp h3 h) (iblk m c 0 t) (iblk m c 1 t) X Set.univ _)
  isplitl [H0]; · iexact H0
  isplitl [H1]; · iexact H1
  isplitl [HS]; · iexact HS
  iintro ⟨H0, H1, ⟨%X', %hX', HS⟩⟩
  isplitl [HS Hg]
  · isplitl [HS]
    · iexists X'
      isplitr
      · ipureintro; exact held_first m c t h h1 X X' hX hX'.1 hX'.2
      iexact HS
    iexact Hg
  isplitl [Ho]; · iexact Ho
  isplitl [H0]; · iexact H0
  isplitl [H1]; · iexact H1
  isplitl [H2]; · iexact H2
  iexact H3

set_option maxHeartbeats 1000000 in
/-- In the second half: the output's block is stored. -/
theorem point_second (c : Dev nD) (t : Fin cfg0.N) (h : ¬ t.val % 32 < 16) :
    start m c t ⊢ wp frame (wpE (defs₀ (F := F)) Variants.none c none) Set.univ (bodyAt0 t)
      (fun _ => finish m c t (owns (c : Thread nD τ) (st0_3 t) fullShare ((dats m 0 c).after 3 t))) := by
  have h3 : k0_cond3 (grid0.coords t) = 1#1 := (second_iff t).mpr h
  unfold start finish bodyAt0
  simp only [before_0, before_1, before_2]
  rw [show (dats m 0 c).owesAt () t.succ = (dats m 0 c).owesAt () t.castSucc from rfl, after_0, after_1, after_2, after_3,
    show (dats m 0 c).Φ t.succ = inv m c (t.val + 1) from rfl, show (dats m 0 c).Φ t.castSucc = inv m c t.val from rfl]
  unfold inv stored
  iintro ⟨⟨⟨%X, %hX, HS⟩, Hg⟩, Ho, ⟨%d0, H0⟩, ⟨%d1, H1⟩, ⟨%d2, H2⟩, ⟨%d3, H3⟩⟩
  rw [← read_second m c t h h3 X hX]
  iapply (run_second c (grid0.coords t) _ _ _ _ _ _ _ _ _ _
    (fun h1 => h ((first_iff t).mp h1)) (between t) h3 (iblk m c 0 t) (iblk m c 1 t) (iblk m c 2 t) X Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hg]
  · isplitl [HS]
    · iexists X
      isplitr
      · ipureintro; exact held_second m c t h X hX
      iexact HS
    iexact Hg
  isplitl [Ho]; · iexact Ho
  isplitl [H0]; · iexact H0
  isplitl [H1]; · iexact H1
  isplitl [H2]; · iexact H2
  iexact H3

/-- The body's row of the table at a point's slots. -/
theorem row (t : Fin cfg0.N) : defs₀ (F := F) .tc cfg0.body (cfg0.bodyArgs t (cfg0.slots t)) = bodyAt0 t := by
  unfold defs₀; rw [Defs.onTc_tc]

/-- The output is idle in the first half, and only there. -/
theorem idle_first (t : Fin cfg0.N) (h : t.val % 32 < 16) : cfg0.idle 3 (cfg0.grid.coords t) = true := by
  show (!(k0_cond3 (grid0.coords t) == 1#1)) = true
  rw [Bool.not_eq_true', beq_eq_false_iff_ne]
  exact fun h3 => (second_iff t).mp h3 h
theorem idle_second (t : Fin cfg0.N) (h : ¬ t.val % 32 < 16) : cfg0.idle 3 (cfg0.grid.coords t) = false := by
  show (!(k0_cond3 (grid0.coords t) == 1#1)) = false
  rw [Bool.not_eq_false', beq_iff_eq]
  exact (second_iff t).mpr h

/-- The body at every point. -/
theorem body (c : Dev nD) : BodyObligation (dats (F := F) m 0 c) (defs₀ (F := F)) Variants.none () Set.univ := fun t => by
  rw [bigSep_W0, bigSep_W0, row]
  by_cases h : t.val % 32 < 16
  · rw [idle_first t h, kept t h]
    exact triple_restated (point_first m c t h) rfl .rfl fun _ => .rfl
  · rw [idle_second t h]
    exact triple_restated (point_second m c t h) rfl .rfl fun _ => .rfl

/-! ## The run -/

theorem enter (c : Dev nD) : Pipeline.ΦA spec0 c ⊢ (dats m 0 c).Φ 0 := by
  rw [show (dats m 0 c).Φ 0 = inv m c 0 from rfl, given_eq]
  unfold inv
  iintro ⟨⟨%d, HS⟩, Hg⟩
  isplitl [HS]
  · iexists d
    isplitr
    · ipureintro; exact held_zero m c d
    iexact HS
  iexact Hg

theorem leave (c : Dev nD) : (dats m 0 c).Φ (Fin.last cfg0.N) ⊢ Pipeline.ΦA spec0 c := by
  rw [show (dats m 0 c).Φ (Fin.last cfg0.N) = inv m c (Fin.last cfg0.N).val from rfl, given_eq]
  unfold inv
  iintro ⟨⟨%X, -, HS⟩, Hg⟩
  isplitl [HS]
  · iexists X; iexact HS
  iexact Hg

set_option backward.isDefEq.respectTransparency.types false in
/-- The launch runs to its end, with every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

end Cert.DownIdeal

end
-- ==== Proof.Down.lean ====
/- The feed-forward layer's second product: what one grid point stores, and the whole array: each row of the stream plus half
   of the gated row against the weights (`arr_eq`). The contraction comes in two halves, from two points of the grid. -/
module

public import proofs.«01_k».proof.Proof.DownIdeal
public import Idealize.ShloMosaic.Lib.Pipeline.ValueKit
public import Idealize.ShloMosaic.Lib.Pointwise

@[expose] public section

set_option maxRecDepth 16384

noncomputable section

namespace Cert.Down

open Idealize.ShloMosaic Idealize.ShloMosaic.TcCoe Idealize.SL.Sem
open Cert.Kernel3Ideal Cert.Kernel3Ideal.Gen Cert.DownIdeal

/-- One half, as a 32-bit float's value. -/
def half : EReal := Scalar.ofBits (F := Ideal) .f32 0x3F000000#32

/-- The stream, and half of the gated rows against the first layer's output weights. -/
def projected (a : FVec Ideal S8256x11008 .bf16) (w : FVec Ideal S4x11008x4096 .f32) (x : FVec Ideal S8256x4096 .f32) :
    FVec Ideal S8256x4096 .f32 := fun y =>
  x (ix2 (y 0) (y 1)) + half * ∑ k : Fin 11008, a (ix2 (y 0) k) * w (ix3 0 k (y 1))

/-- Where each window's block of grid point `t` stands, in blocks; the residual's and the output's only in the second half. -/
theorem index0 : ∀ t : Fin grid0.N, win0_0.index t = ![t.val / 32, t.val / 16 % 2] := by decide +kernel
theorem index1 : ∀ t : Fin grid0.N, win0_1.index t = ![0, t.val / 16 % 2, t.val % 16] := by decide +kernel
theorem index2 : ∀ t : Fin grid0.N, ¬ t.val % 32 < 16 → win0_2.index t = ![t.val / 32, t.val % 16] := by decide +kernel
theorem index3 : ∀ t : Fin grid0.N, ¬ t.val % 32 < 16 → win0_3.index t = ![t.val / 32, t.val % 16] := by decide +kernel

/-- The partial product of a block of rows and a block of columns. -/
theorem part_apply (a : Vec Ideal S688x5504 .bf16) (w : Vec Ideal S1x5504x256 .bf16) (r : Fin 688) (j : Fin 256) :
    k0_pay2 a w (ix3 0 r j) = ∑ k : Fin 5504, a (ix2 r k) * w (ix3 0 k j) := by
  unfold k0_pay2 k0_pay1
  pointwise []

/-- What is stored of the blocks and an earlier partial product. -/
theorem stored_apply (a : Vec Ideal S688x5504 .bf16) (w : Vec Ideal S1x5504x256 .bf16) (x : Vec Ideal S688x256 .f32)
    (p : Vec Ideal S1x688x256 .f32) (r : Fin 688) (j : Fin 256) :
    k0_pay4 a w x p (ix2 r j) = x (ix2 r j) + half * (p (ix3 0 r j) + ∑ k : Fin 5504, a (ix2 r k) * w (ix3 0 k j)) := by
  unfold k0_pay4 k0_pay1 half
  pointwise []

/-- A sum over the contraction is the sum of its halves'. -/
theorem sum_halves (f : Fin 11008 → EReal) :
    ∑ k : Fin 11008, f k = ∑ k : Fin 5504, f ⟨k.val, by omega⟩ + ∑ k : Fin 5504, f ⟨5504 + k.val, by omega⟩ :=
  Fin.sum_univ_add (a := 5504) (b := 5504) f

section
variable (m : (ℓ : Loc nD τ sig) → Buf (Elt Ideal) ℓ) (c : Dev nD)

/-- The arguments' blocks, read off the arrays. -/
theorem rows_read (t : Fin cfg0.N) (r : Fin 688) (k : Fin 5504) (a : Fin 8256) (n : Fin 11008)
    (ha : a.val = 688 * (t.val / 32) + r.val) (hn : n.val = 5504 * (t.val / 16 % 2) + k.val) :
    iblk (F := Ideal) m c 0 t (ix2 r k) = m ((c : Thread nD τ).loc main_arg0) (ix2 a n) := by
  blk_ext [iblk, V, index0 t]
theorem weights_read (t : Fin cfg0.N) (k : Fin 5504) (j : Fin 256) (n : Fin 11008) (b : Fin 4096)
    (hn : n.val = 5504 * (t.val / 16 % 2) + k.val) (hb : b.val = 256 * (t.val % 16) + j.val) :
    iblk (F := Ideal) m c 1 t (ix3 0 k j) = m ((c : Thread nD τ).loc main_arg1) (ix3 0 n b) := by
  blk_simp [iblk, index1 t]
  entry_read
  pointwise
  blk_ext! [index1 t]
theorem stream_read (t : Fin cfg0.N) (h : ¬ t.val % 32 < 16) (r : Fin 688) (j : Fin 256) (a : Fin 8256) (b : Fin 4096)
    (ha : a.val = 688 * (t.val / 32) + r.val) (hb : b.val = 256 * (t.val % 16) + j.val) :
    iblk (F := Ideal) m c 2 t (ix2 r j) = m ((c : Thread nD τ).loc main_arg2) (ix2 a b) := by
  blk_ext [iblk, V, index2 t h]

/-- What a point of the second half stores, entry by entry, from the arrays. -/
theorem block_apply (t : Fin cfg0.N) (h : ¬ t.val % 32 < 16) (r : Fin 688) (j : Fin 256) (a : Fin 8256) (b : Fin 4096)
    (ha : a.val = 688 * (t.val / 32) + r.val) (hb : b.val = 256 * (t.val % 16) + j.val) :
    stored (F := Ideal) m c t (ix2 r j)
      = projected (m ((c : Thread nD τ).loc main_arg0)) (m ((c : Thread nD τ).loc main_arg1)) (m ((c : Thread nD τ).loc main_arg2))
          (ix2 a b) := by
  have he : (earlier t).val = t.val - 16 := rfl
  have r0 : ∀ k : Fin 5504, iblk (F := Ideal) m c 0 (earlier t) (ix2 r k)
      = m ((c : Thread nD τ).loc main_arg0) (ix2 a ⟨k.val, by omega⟩) := fun k =>
    rows_read m c (earlier t) r k a ⟨k.val, by omega⟩ (by omega) (by show k.val = _; omega)
  have r1 : ∀ k : Fin 5504, iblk (F := Ideal) m c 0 t (ix2 r k)
      = m ((c : Thread nD τ).loc main_arg0) (ix2 a ⟨5504 + k.val, by omega⟩) := fun k =>
    rows_read m c t r k a ⟨5504 + k.val, by omega⟩ (by omega) (by show 5504 + k.val = _; omega)
  have w0 : ∀ k : Fin 5504, iblk (F := Ideal) m c 1 (earlier t) (ix3 0 k j)
      = m ((c : Thread nD τ).loc main_arg1) (ix3 0 ⟨k.val, by omega⟩ b) := fun k =>
    weights_read m c (earlier t) k j ⟨k.val, by omega⟩ b (by show k.val = _; omega) (by omega)
  have w1 : ∀ k : Fin 5504, iblk (F := Ideal) m c 1 t (ix3 0 k j)
      = m ((c : Thread nD τ).loc main_arg1) (ix3 0 ⟨5504 + k.val, by omega⟩ b) := fun k =>
    weights_read m c t k j ⟨5504 + k.val, by omega⟩ b (by show 5504 + k.val = _; omega) (by omega)
  unfold stored
  rw [stored_apply, part_apply]
  simp only [r0, r1, w0, w1, stream_read m c t h r j a b ha hb]
  unfold projected
  rw [sum_halves]
  rfl

/-- The result array after the run. -/
theorem arr_eq : (dats (F := Ideal) m 0 c).arrAt 3 cfg0.N
    = projected (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : ¬ t.val % 32 < 16 := fun h => absurd ((kept t h).symm.trans hf) (by decide)
  have e0 : (((win0_3.blk t).view.emb y) 0).val = 688 * (t.val / 32) + (y 0).val := by blk_simp [index3 t h]; omega
  have e1 : (((win0_3.blk t).view.emb y) 1).val = 256 * (t.val % 16) + (y 1).val := by blk_simp [index3 t h]; omega
  blk_simp
  rw [after_3]
  exact (congrArg _ (eq_ix2 (n0 := 688) (n1 := 256) y)).trans
    ((block_apply m c t h (y 0) (y 1) ((win0_3.blk t).view.emb y 0) ((win0_3.blk t).view.emb y 1) e0 e1).trans
      (congrArg (projected _ _ _) (eq_ix2 ((win0_3.blk t).view.emb y)).symm))

end

/-- The run: the result is the final array, the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = (dats (F := Ideal) m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, h.2 c⟩) (θ_run_and (run_main m ρ) (unchanged m ρ))

end Cert.Down

end
-- ==== Proof.DownRef.lean ====
/- The reference of the feed-forward layer's second product, entry by entry. -/
module

public import proofs.«01_k».proof.Proof.Gen.Reference3Ideal.Run
public import proofs.«01_k».proof.Proof.Down

@[expose] public section

set_option maxRecDepth 16384

noncomputable section

namespace Cert.DownRef

open Idealize.ShloMosaic Idealize.ShloMosaic.TcCoe Cert.Reference3Ideal Cert.Reference3Ideal.Gen Cert.Reference3Ideal.Value Cert.Down

/-- The reference's result. -/
def result (a : FVec Ideal S8256x11008 .bf16) (w : FVec Ideal S4x11008x4096 .f32) (x : FVec Ideal S8256x4096 .f32) :
    FVec Ideal S8256x4096 .f32 :=
  addf x (mulf (broadcastInDim S8256x4096 ![] bcast_S_S8256x4096 (constant S_ .f32 0x3F000000#32))
    (Host.dotGeneral dot_S8256x11008_S11008x4096_S8256x4096_1_0_0_1_n_n none (extf .f32 a bitsLt_bf16_f32)
      (shapeCast _ (extractStridedSlice S1x11008x4096 ![0, 0, 0] w slices_S4x11008x4096_S1x11008x4096_0_0_0)
        shapeCasts_S1x11008x4096_S11008x4096)))

theorem result_apply (a : FVec Ideal S8256x11008 .bf16) (w : FVec Ideal S4x11008x4096 .f32) (x : FVec Ideal S8256x4096 .f32)
    (r : Fin 8256) (n : Fin 4096) :
    result a w x (ix2 r n) = x (ix2 r n) + half * ∑ k : Fin 11008, a (ix2 r k) * w (ix3 0 k n) := by
  unfold result half
  pointwise []

theorem result_eq (a : FVec Ideal S8256x11008 .bf16) (w : FVec Ideal S4x11008x4096 .f32) (x : FVec Ideal S8256x4096 .f32) :
    result a w x = projected a w x := by
  funext y
  obtain ⟨r, n, rfl⟩ : ∃ r n, y = ix2 r n := ⟨y 0, y 1, eq_ix2 y⟩
  rw [result_apply]
  rfl

end Cert.DownRef

end
-- ==== Proof.Merge.lean ====
/- The gated merge of the three mixers: what one grid point stores, with the projection weights that the first point of its run
   cast and kept, and the whole array: the three projected mixers, each times the logistic of its gate (`arr_eq`). -/
module

public import proofs.«01_k».proof.Proof.Gen.Kernel4Ideal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Merge

open Idealize.ShloMosaic Idealize.ShloMosaic.TcCoe Cert.Kernel4Ideal Cert.Kernel4Ideal.Gen

/-- The column of the first layer's input weights that holds column `n` of each gate. -/
def sourceA (n : Fin 4096) : Fin 25624 := ⟨13336 + n.val, by omega⟩
def sourceB (n : Fin 4096) : Fin 25624 := ⟨17432 + n.val, by omega⟩
def sourceC (n : Fin 4096) : Fin 25624 := ⟨21528 + n.val, by omega⟩

/-- The gate: the logistic of a token's hidden row against a column of the input weights. -/
def gate (h : FVec Ideal S8256x4096 .bf16) (w : FVec Ideal S4x4096x25624 .f32) (r : Fin 8256) (n : Fin 25624) : EReal :=
  Ideal.logistic (∑ k : Fin 4096, h (ix2 r k) * w (ix3 0 k n))

/-- The three mixers, projected, gated and added. -/
def merged (h : FVec Ideal S8256x4096 .bf16) (oa ob : FVec Ideal S8256x1024 .bf16) (oc : FVec Ideal S8256x2048 .bf16)
    (w : FVec Ideal S4x4096x25624 .f32) (wa wb : FVec Ideal S4x1024x4096 .f32) (wc : FVec Ideal S4x2048x4096 .f32) :
    FVec Ideal S8256x4096 .bf16 := fun y =>
  gate h w (y 0) (sourceA (y 1)) * (∑ k : Fin 1024, oa (ix2 (y 0) k) * wa (ix3 0 k (y 1)))
    + gate h w (y 0) (sourceB (y 1)) * (∑ k : Fin 1024, ob (ix2 (y 0) k) * wb (ix3 0 k (y 1)))
    + gate h w (y 0) (sourceC (y 1)) * (∑ k : Fin 2048, oc (ix2 (y 0) k) * wc (ix3 0 k (y 1)))

/-- Where each window's block of grid point `t` stands, in blocks. -/
theorem index0 : ∀ t : Fin grid0.N, win0_0.index t = ![t.val % 12, 0] := by decide +kernel
theorem index1 : ∀ t : Fin grid0.N, win0_1.index t = ![t.val % 12, 0] := by decide +kernel
theorem index2 : ∀ t : Fin grid0.N, win0_2.index t = ![t.val % 12, 0] := by decide +kernel
theorem index3 : ∀ t : Fin grid0.N, win0_3.index t = ![t.val % 12, 0] := by decide +kernel
theorem index4 : ∀ t : Fin grid0.N, win0_4.index t = ![0, t.val / 12, 0] := by decide +kernel
theorem index5 : ∀ t : Fin grid0.N, win0_5.index t = ![0, 16 + t.val / 12, 0] := by decide +kernel
theorem index6 : ∀ t : Fin grid0.N, win0_6.index t = ![0, 32 + t.val / 12, 0] := by decide +kernel
theorem index7 : ∀ t : Fin grid0.N, win0_7.index t = ![0, 0, t.val / 12] := by decide +kernel
theorem index8 : ∀ t : Fin grid0.N, win0_8.index t = ![0, 0, t.val / 12] := by decide +kernel
theorem index9 : ∀ t : Fin grid0.N, win0_9.index t = ![0, 0, t.val / 12] := by decide +kernel
theorem index10 : ∀ t : Fin grid0.N, win0_10.index t = ![t.val % 12, t.val / 12] := by decide +kernel

/-- The casts of the projection weights' blocks are the identity. -/
theorem castA_apply (x : Vec Ideal S1x1024x256 .f32) (k : Fin 1024) (j : Fin 256) : k0_pay2 x (ix2 k j) = x (ix3 0 k j) := by
  unfold k0_pay2
  pointwise []
theorem castB_apply (x : Vec Ideal S1x1024x256 .f32) (k : Fin 1024) (j : Fin 256) : k0_pay3 x (ix2 k j) = x (ix3 0 k j) := by
  unfold k0_pay3
  pointwise []
theorem castC_apply (x : Vec Ideal S1x2048x256 .f32) (k : Fin 2048) (j : Fin 256) : k0_pay4 x (ix2 k j) = x (ix3 0 k j) := by
  unfold k0_pay4
  pointwise []

/-- What is stored of the blocks: first two mixers, third gate, sum. -/
theorem two_apply (x : Vec Ideal S688x4096 .bf16) (ga gb : Vec Ideal S1x256x4096 .bf16) (oa ob : Vec Ideal S688x1024 .bf16)
    (wa wb : Vec Ideal S1024x256 .bf16) (r : Fin 688) (j : Fin 256) :
    k0_pay5 x ga oa wa gb ob wb (ix2 r j)
      = Ideal.logistic (∑ k : Fin 4096, x (ix2 r k) * ga (ix3 0 j k)) * (∑ k : Fin 1024, oa (ix2 r k) * wa (ix2 k j))
        + Ideal.logistic (∑ k : Fin 4096, x (ix2 r k) * gb (ix3 0 j k)) * (∑ k : Fin 1024, ob (ix2 r k) * wb (ix2 k j)) := by
  unfold k0_pay5
  pointwise []
theorem third_apply (x : Vec Ideal S688x4096 .bf16) (gc : Vec Ideal S1x256x4096 .bf16) (r : Fin 688) (j : Fin 256) :
    k0_pay6 x gc (ix2 r j) = Ideal.logistic (∑ k : Fin 4096, x (ix2 r k) * gc (ix3 0 j k)) := by
  unfold k0_pay6
  pointwise []
theorem stored_apply (s g : FVec Ideal S688x256 .f32) (oc : Vec Ideal S688x2048 .bf16) (wc : Vec Ideal S2048x256 .bf16)
    (r : Fin 688) (j : Fin 256) :
    k0_pay1 s g oc wc (ix2 r j) = s (ix2 r j) + g (ix2 r j) * (∑ k : Fin 2048, oc (ix2 r k) * wc (ix2 k j)) := by
  unfold k0_pay1
  pointwise []

/-- The first point of a point's run. -/
def first (t : Fin cfg0.N) : Fin cfg0.N := ⟨12 * (t.val / 12), Pipeline.run_start_lt t⟩

section
variable (m : (ℓ : Loc nD τ sig) → Buf (Elt Ideal) ℓ) (c : Dev nD)

/-- The projection weights in scratch are those of the run's first point. -/
theorem heldA (t : Fin cfg0.N) (i : S1024x256.Idx) :
    (outsAt0 (F := Ideal) m c t.val t.isLt).2.1 i = k0_pay2 (iblk m c 7 (first t)) i :=
  Pipeline.eq_of_write_hold_apply (fun n h => (outsAt0 (F := Ideal) m c n h).2.1) 12 (fun t => k0_pay2 (iblk m c 7 t))
    (fun t h i => by rw [outsAt0_A m c t h]; frame_out)
    (fun t h i => by rw [outsAt0_B m c t h]; rfl) t i
theorem heldB (t : Fin cfg0.N) (i : S1024x256.Idx) :
    (outsAt0 (F := Ideal) m c t.val t.isLt).2.2.1 i = k0_pay3 (iblk m c 8 (first t)) i :=
  Pipeline.eq_of_write_hold_apply (fun n h => (outsAt0 (F := Ideal) m c n h).2.2.1) 12 (fun t => k0_pay3 (iblk m c 8 t))
    (fun t h i => by rw [outsAt0_A m c t h]; frame_out)
    (fun t h i => by rw [outsAt0_B m c t h]; rfl) t i
theorem heldC (t : Fin cfg0.N) (i : S2048x256.Idx) :
    (outsAt0 (F := Ideal) m c t.val t.isLt).2.2.2 i = k0_pay4 (iblk m c 9 (first t)) i :=
  Pipeline.eq_of_write_hold_apply (fun n h => (outsAt0 (F := Ideal) m c n h).2.2.2) 12 (fun t => k0_pay4 (iblk m c 9 t))
    (fun t h i => by rw [outsAt0_A m c t h]; frame_out)
    (fun t h i => by rw [outsAt0_B m c t h]; rfl) t i

/-- What a point stores: the rows of its own blocks, its own gates, the projection weights held. -/
theorem out_eq (t : Fin cfg0.N) (y : S688x256.Idx) :
    (outsAt0 (F := Ideal) m c t.val t.isLt).1 y
      = k0_pay1 (k0_pay5 (iblk m c 0 t) (iblk m c 4 t) (iblk m c 1 t) (k0_pay2 (iblk m c 7 (first t)))
            (iblk m c 5 t) (iblk m c 2 t) (k0_pay3 (iblk m c 8 (first t))))
          (k0_pay6 (iblk m c 0 t) (iblk m c 6 t)) (iblk m c 3 t) (k0_pay4 (iblk m c 9 (first t))) y := by
  rw [← funext (heldA m c t), ← funext (heldB m c t), ← funext (heldC m c t)]
  by_cases h : t.val % 12 = 0
  · rw [outsAt0_A m c t h]; frame_out
  · rw [outsAt0_B m c t h]; frame_out
    simp only [read_unread_whole]
    rfl

/-- The arguments' blocks, read off the arrays; the gates' weights come transposed. -/
theorem rows_read (t : Fin cfg0.N) (r : Fin 688) (k : Fin 4096) (a : Fin 8256) (ha : a.val = 688 * (t.val % 12) + r.val) :
    iblk (F := Ideal) m c 0 t (ix2 r k) = m ((c : Thread nD τ).loc main_arg0) (ix2 a k) := by
  blk_ext [iblk, V, index0 t]
theorem mixerA_read (t : Fin cfg0.N) (r : Fin 688) (k : Fin 1024) (a : Fin 8256) (ha : a.val = 688 * (t.val % 12) + r.val) :
    iblk (F := Ideal) m c 1 t (ix2 r k) = m ((c : Thread nD τ).loc main_arg1) (ix2 a k) := by
  blk_ext [iblk, V, index1 t]
theorem gateA_read (t : Fin cfg0.N) (j : Fin 256) (k : Fin 4096) (b : Fin 4096) (hb : b.val = 256 * (t.val / 12) + j.val) :
    iblk (F := Ideal) m c 4 t (ix3 0 j k) = m ((c : Thread nD τ).loc main_arg4) (ix3 0 k (sourceA b)) := by
  have hs : (sourceA b).val = 13336 + (256 * (t.val / 12) + j.val) := by rw [← hb]; rfl
  blk_simp [iblk, index4 t]
  entry_read
  pointwise
  blk_ext! [index4 t]
theorem weightsA_read (t : Fin cfg0.N) (k : Fin 1024) (j : Fin 256) (b : Fin 4096) (hb : b.val = 256 * (t.val / 12) + j.val) :
    iblk (F := Ideal) m c 7 t (ix3 0 k j) = m ((c : Thread nD τ).loc main_arg5) (ix3 0 k b) := by
  blk_ext [iblk, V, index7 t]
theorem mixerB_read (t : Fin cfg0.N) (r : Fin 688) (k : Fin 1024) (a : Fin 8256) (ha : a.val = 688 * (t.val % 12) + r.val) :
    iblk (F := Ideal) m c 2 t (ix2 r k) = m ((c : Thread nD τ).loc main_arg2) (ix2 a k) := by
  blk_ext [iblk, V, index2 t]
theorem gateB_read (t : Fin cfg0.N) (j : Fin 256) (k : Fin 4096) (b : Fin 4096) (hb : b.val = 256 * (t.val / 12) + j.val) :
    iblk (F := Ideal) m c 5 t (ix3 0 j k) = m ((c : Thread nD τ).loc main_arg4) (ix3 0 k (sourceB b)) := by
  have hs : (sourceB b).val = 17432 + (256 * (t.val / 12) + j.val) := by rw [← hb]; rfl
  blk_simp [iblk, index5 t]
  entry_read
  pointwise
  blk_ext! [index5 t]
theorem weightsB_read (t : Fin cfg0.N) (k : Fin 1024) (j : Fin 256) (b : Fin 4096) (hb : b.val = 256 * (t.val / 12) + j.val) :
    iblk (F := Ideal) m c 8 t (ix3 0 k j) = m ((c : Thread nD τ).loc main_arg6) (ix3 0 k b) := by
  blk_ext [iblk, V, index8 t]
theorem mixerC_read (t : Fin cfg0.N) (r : Fin 688) (k : Fin 2048) (a : Fin 8256) (ha : a.val = 688 * (t.val % 12) + r.val) :
    iblk (F := Ideal) m c 3 t (ix2 r k) = m ((c : Thread nD τ).loc main_arg3) (ix2 a k) := by
  blk_ext [iblk, V, index3 t]
theorem gateC_read (t : Fin cfg0.N) (j : Fin 256) (k : Fin 4096) (b : Fin 4096) (hb : b.val = 256 * (t.val / 12) + j.val) :
    iblk (F := Ideal) m c 6 t (ix3 0 j k) = m ((c : Thread nD τ).loc main_arg4) (ix3 0 k (sourceC b)) := by
  have hs : (sourceC b).val = 21528 + (256 * (t.val / 12) + j.val) := by rw [← hb]; rfl
  blk_simp [iblk, index6 t]
  entry_read
  pointwise
  blk_ext! [index6 t]
theorem weightsC_read (t : Fin cfg0.N) (k : Fin 2048) (j : Fin 256) (b : Fin 4096) (hb : b.val = 256 * (t.val / 12) + j.val) :
    iblk (F := Ideal) m c 9 t (ix3 0 k j) = m ((c : Thread nD τ).loc main_arg7) (ix3 0 k b) := by
  blk_ext [iblk, V, index9 t]

/-- What a point stores, entry by entry, from the arrays. -/
theorem block_apply (t : Fin cfg0.N) (r : Fin 688) (j : Fin 256) (a : Fin 8256) (b : Fin 4096)
    (ha : a.val = 688 * (t.val % 12) + r.val) (hb : b.val = 256 * (t.val / 12) + j.val) :
    (outsAt0 (F := Ideal) m c t.val t.isLt).1 (ix2 r j)
      = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 a b) := by
  have hb' : b.val = 256 * ((first t).val / 12) + j.val := by
    show b.val = 256 * (12 * (t.val / 12) / 12) + j.val
    omega
  rw [out_eq, stored_apply, two_apply, third_apply]
  simp only [castA_apply, castB_apply, castC_apply, rows_read m c t r _ a ha, mixerA_read m c t r _ a ha, mixerB_read m c t r _ a ha,
    mixerC_read m c t r _ a ha, gateA_read m c t j _ b hb, gateB_read m c t j _ b hb, gateC_read m c t j _ b hb,
    weightsA_read m c (first t) _ j b hb', weightsB_read m c (first t) _ j b hb', weightsC_read m c (first t) _ j b hb']
  rfl

/-- The result array after the run. -/
theorem arr_eq : (dats (F := Ideal) m 0 c).arrAt 10 cfg0.N
    = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  have e0 : (((win0_10.blk t).view.emb y) 0).val = 688 * (t.val % 12) + (y 0).val := by blk_simp [index10 t]; omega
  have e1 : (((win0_10.blk t).view.emb y) 1).val = 256 * (t.val / 12) + (y 1).val := by blk_simp [index10 t]; omega
  blk_simp
  rw [after0_10]
  exact (congrArg _ (eq_ix2 (n0 := 688) (n1 := 256) y)).trans
    ((block_apply m c t (y 0) (y 1) ((win0_10.blk t).view.emb y 0) ((win0_10.blk t).view.emb y 1) e0 e1).trans
      (congrArg (merged _ _ _ _ _ _ _ _) (eq_ix2 ((win0_10.blk t).view.emb y)).symm))

end

end Cert.Merge

end
-- ==== Proof.MergeRef.lean ====
/- The reference of the gated merge, entry by entry: its gates, its three projections, and their gated sum. -/
module

public import proofs.«01_k».proof.Proof.Gen.Reference4Ideal.Run
public import proofs.«01_k».proof.Proof.Merge

@[expose] public section

set_option maxRecDepth 16384

noncomputable section

namespace Cert.MergeRef

open Idealize.ShloMosaic Idealize.ShloMosaic.TcCoe Cert.Reference4Ideal Cert.Reference4Ideal.Gen Cert.Reference4Ideal.Value Cert.Merge

/-- The logistic function as the reference spells it. -/
def squash (a : FVec Ideal S8256x4096 .f32) : FVec Ideal S8256x4096 .f32 :=
  Host.divf (broadcastInDim S8256x4096 ![] bcast_S_S8256x4096 (constant S_ .f32 0x3F800000#32))
    (addf (broadcastInDim S8256x4096 ![] bcast_S_S8256x4096 (constant S_ .f32 0x3F800000#32)) (Host.exp (Host.negf a)))
theorem squash_apply (a : FVec Ideal S8256x4096 .f32) (r : Fin 8256) (n : Fin 4096) :
    squash a (ix2 r n) = Ideal.logistic (a (ix2 r n)) := by
  unfold squash Ideal.logistic
  pointwise []

/-- The three gates: columns cut out of the hidden rows' whole product with the input weights. -/
def gateA (h : FVec Ideal S8256x4096 .bf16) (w : FVec Ideal S4x4096x25624 .f32) : FVec Ideal S8256x4096 .f32 :=
  squash (extractStridedSlice S8256x4096 ![0, 13336] (Host.dotGeneral dot_S8256x4096_S4096x25624_S8256x25624_1_0_0_1_n_n none
    (extf .f32 h bitsLt_bf16_f32) (shapeCast _ (extractStridedSlice S1x4096x25624 ![0, 0, 0] w slices_S4x4096x25624_S1x4096x25624_0_0_0)
      shapeCasts_S1x4096x25624_S4096x25624)) slices_S8256x25624_S8256x4096_0_13336)
theorem gateA_apply (h : FVec Ideal S8256x4096 .bf16) (w : FVec Ideal S4x4096x25624 .f32) (r : Fin 8256) (n : Fin 4096) :
    gateA h w (ix2 r n) = gate h w r (sourceA n) := by
  unfold gateA gate sourceA
  rw [squash_apply]
  congr 1
  pointwise []
def gateB (h : FVec Ideal S8256x4096 .bf16) (w : FVec Ideal S4x4096x25624 .f32) : FVec Ideal S8256x4096 .f32 :=
  squash (extractStridedSlice S8256x4096 ![0, 17432] (Host.dotGeneral dot_S8256x4096_S4096x25624_S8256x25624_1_0_0_1_n_n none
    (extf .f32 h bitsLt_bf16_f32) (shapeCast _ (extractStridedSlice S1x4096x25624 ![0, 0, 0] w slices_S4x4096x25624_S1x4096x25624_0_0_0)
      shapeCasts_S1x4096x25624_S4096x25624)) slices_S8256x25624_S8256x4096_0_17432)
theorem gateB_apply (h : FVec Ideal S8256x4096 .bf16) (w : FVec Ideal S4x4096x25624 .f32) (r : Fin 8256) (n : Fin 4096) :
    gateB h w (ix2 r n) = gate h w r (sourceB n) := by
  unfold gateB gate sourceB
  rw [squash_apply]
  congr 1
  pointwise []
def gateC (h : FVec Ideal S8256x4096 .bf16) (w : FVec Ideal S4x4096x25624 .f32) : FVec Ideal S8256x4096 .f32 :=
  squash (extractStridedSlice S8256x4096 ![0, 21528] (Host.dotGeneral dot_S8256x4096_S4096x25624_S8256x25624_1_0_0_1_n_n none
    (extf .f32 h bitsLt_bf16_f32) (shapeCast _ (extractStridedSlice S1x4096x25624 ![0, 0, 0] w slices_S4x4096x25624_S1x4096x25624_0_0_0)
      shapeCasts_S1x4096x25624_S4096x25624)) slices_S8256x25624_S8256x4096_0_21528)
theorem gateC_apply (h : FVec Ideal S8256x4096 .bf16) (w : FVec Ideal S4x4096x25624 .f32) (r : Fin 8256) (n : Fin 4096) :
    gateC h w (ix2 r n) = gate h w r (sourceC n) := by
  unfold gateC gate sourceC
  rw [squash_apply]
  congr 1
  pointwise []

/-- A mixer against its projection weights. -/
def narrow (o : FVec Ideal S8256x1024 .bf16) (w : FVec Ideal S4x1024x4096 .f32) : FVec Ideal S8256x4096 .f32 :=
  Host.dotGeneral dot_S8256x1024_S1024x4096_S8256x4096_1_0_0_1_n_n none (extf .f32 o bitsLt_bf16_f32)
    (shapeCast _ (extractStridedSlice S1x1024x4096 ![0, 0, 0] w slices_S4x1024x4096_S1x1024x4096_0_0_0) shapeCasts_S1x1024x4096_S1024x4096)
theorem narrow_apply (o : FVec Ideal S8256x1024 .bf16) (w : FVec Ideal S4x1024x4096 .f32) (r : Fin 8256) (n : Fin 4096) :
    narrow o w (ix2 r n) = ∑ k : Fin 1024, o (ix2 r k) * w (ix3 0 k n) := by
  unfold narrow
  pointwise []
def wide (o : FVec Ideal S8256x2048 .bf16) (w : FVec Ideal S4x2048x4096 .f32) : FVec Ideal S8256x4096 .f32 :=
  Host.dotGeneral dot_S8256x2048_S2048x4096_S8256x4096_1_0_0_1_n_n none (extf .f32 o bitsLt_bf16_f32)
    (shapeCast _ (extractStridedSlice S1x2048x4096 ![0, 0, 0] w slices_S4x2048x4096_S1x2048x4096_0_0_0) shapeCasts_S1x2048x4096_S2048x4096)
theorem wide_apply (o : FVec Ideal S8256x2048 .bf16) (w : FVec Ideal S4x2048x4096 .f32) (r : Fin 8256) (n : Fin 4096) :
    wide o w (ix2 r n) = ∑ k : Fin 2048, o (ix2 r k) * w (ix3 0 k n) := by
  unfold wide
  pointwise []

/-- The reference's result. -/
def result (h : FVec Ideal S8256x4096 .bf16) (oa ob : FVec Ideal S8256x1024 .bf16) (oc : FVec Ideal S8256x2048 .bf16)
    (w : FVec Ideal S4x4096x25624 .f32) (wa wb : FVec Ideal S4x1024x4096 .f32) (wc : FVec Ideal S4x2048x4096 .f32) :
    FVec Ideal S8256x4096 .bf16 :=
  truncf .bf16 (addf (addf (mulf (gateA h w) (narrow oa wa)) (mulf (gateB h w) (narrow ob wb))) (mulf (gateC h w) (wide oc wc)))
    bitsLt_bf16_f32

theorem result_apply (h : FVec Ideal S8256x4096 .bf16) (oa ob : FVec Ideal S8256x1024 .bf16) (oc : FVec Ideal S8256x2048 .bf16)
    (w : FVec Ideal S4x4096x25624 .f32) (wa wb : FVec Ideal S4x1024x4096 .f32) (wc : FVec Ideal S4x2048x4096 .f32) (r : Fin 8256) (n : Fin 4096) :
    result h oa ob oc w wa wb wc (ix2 r n)
      = gateA h w (ix2 r n) * narrow oa wa (ix2 r n) + gateB h w (ix2 r n) * narrow ob wb (ix2 r n)
        + gateC h w (ix2 r n) * wide oc wc (ix2 r n) := by
  unfold result
  pointwise []

theorem result_eq (h : FVec Ideal S8256x4096 .bf16) (oa ob : FVec Ideal S8256x1024 .bf16) (oc : FVec Ideal S8256x2048 .bf16)
    (w : FVec Ideal S4x4096x25624 .f32) (wa wb : FVec Ideal S4x1024x4096 .f32) (wc : FVec Ideal S4x2048x4096 .f32) :
    result h oa ob oc w wa wb wc = merged h oa ob oc w wa wb wc := by
  funext y
  obtain ⟨r, n, rfl⟩ : ∃ r n, y = ix2 r n := ⟨y 0, y 1, eq_ix2 y⟩
  rw [result_apply, gateA_apply, gateB_apply, gateC_apply, narrow_apply, narrow_apply, wide_apply]
  rfl

end Cert.MergeRef

end
-- ==== Proof.Out.lean ====
/- The output projection with its residual: what one grid point stores, and the whole array: each row of the stream plus the merged
   row against the weights (`arr_eq`). -/
module

public import proofs.«01_k».proof.Proof.Gen.Kernel5Ideal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Out

open Idealize.ShloMosaic Idealize.ShloMosaic.TcCoe Cert.Kernel5Ideal Cert.Kernel5Ideal.Gen

/-- The stream, and the merged rows against the first layer's output weights. -/
def projected (a : FVec Ideal S8256x4096 .bf16) (w : FVec Ideal S4x4096x4096 .f32) (x : FVec Ideal S8256x4096 .f32) :
    FVec Ideal S8256x4096 .f32 := fun y =>
  x (ix2 (y 0) (y 1)) + ∑ k : Fin 4096, a (ix2 (y 0) k) * w (ix3 0 k (y 1))

/-- Where each window's block of grid point `t` stands, in blocks. -/
theorem index0 : ∀ t : Fin grid0.N, win0_0.index t = ![t.val / 16, 0] := by decide +kernel
theorem index1 : ∀ t : Fin grid0.N, win0_1.index t = ![0, 0, t.val % 16] := by decide +kernel
theorem index2 : ∀ t : Fin grid0.N, win0_2.index t = ![t.val / 16, t.val % 16] := by decide +kernel
theorem index3 : ∀ t : Fin grid0.N, win0_3.index t = ![t.val / 16, t.val % 16] := by decide +kernel

/-- What is stored of a block of rows, a block of columns and the stream's block. -/
theorem stored_apply (a : Vec Ideal S1376x4096 .bf16) (w : Vec Ideal S1x4096x256 .f32) (x : Vec Ideal S1376x256 .f32)
    (r : Fin 1376) (j : Fin 256) :
    k0_pay1 a w x (ix2 r j) = x (ix2 r j) + ∑ k : Fin 4096, a (ix2 r k) * w (ix3 0 k j) := by
  unfold k0_pay1
  pointwise []

section
variable (m : (ℓ : Loc nD τ sig) → Buf (Elt Ideal) ℓ) (c : Dev nD)

/-- What a point stores. -/
theorem out_eq (t : Fin cfg0.N) (y : S1376x256.Idx) :
    (dats (F := Ideal) m 0 c).after 3 t y = k0_pay1 (iblk m c 0 t) (iblk m c 1 t) (iblk m c 2 t) y := by
  rw [after0_3]; frame_out

/-- The arguments' blocks, read off the arrays. -/
theorem rows_read (t : Fin cfg0.N) (r : Fin 1376) (k : Fin 4096) (a : Fin 8256) (ha : a.val = 1376 * (t.val / 16) + r.val) :
    iblk (F := Ideal) m c 0 t (ix2 r k) = m ((c : Thread nD τ).loc main_arg0) (ix2 a k) := by
  blk_ext [iblk, V, index0 t]
theorem weights_read (t : Fin cfg0.N) (k : Fin 4096) (j : Fin 256) (b : Fin 4096) (hb : b.val = 256 * (t.val % 16) + j.val) :
    iblk (F := Ideal) m c 1 t (ix3 0 k j) = m ((c : Thread nD τ).loc main_arg1) (ix3 0 k b) := by
  blk_ext [iblk, V, index1 t]
theorem stream_read (t : Fin cfg0.N) (r : Fin 1376) (j : Fin 256) (a : Fin 8256) (b : Fin 4096)
    (ha : a.val = 1376 * (t.val / 16) + r.val) (hb : b.val = 256 * (t.val % 16) + j.val) :
    iblk (F := Ideal) m c 2 t (ix2 r j) = m ((c : Thread nD τ).loc main_arg2) (ix2 a b) := by
  blk_ext [iblk, V, index2 t]

/-- What a point stores, entry by entry, from the arrays. -/
theorem block_apply (t : Fin cfg0.N) (r : Fin 1376) (j : Fin 256) (a : Fin 8256) (b : Fin 4096)
    (ha : a.val = 1376 * (t.val / 16) + r.val) (hb : b.val = 256 * (t.val % 16) + j.val) :
    (dats (F := Ideal) m 0 c).after 3 t (ix2 r j)
      = projected (m ((c : Thread nD τ).loc main_arg0)) (m ((c : Thread nD τ).loc main_arg1)) (m ((c : Thread nD τ).loc main_arg2))
          (ix2 a b) := by
  rw [out_eq, stored_apply]
  simp only [rows_read m c t r _ a ha, weights_read m c t _ j b hb, stream_read m c t r j a b ha hb]
  rfl

/-- The result array after the run. -/
theorem arr_eq : (dats (F := Ideal) m 0 c).arrAt 3 cfg0.N
    = projected (m ((c : Thread nD τ).loc main_arg0)) (m ((c : Thread nD τ).loc main_arg1)) (m ((c : Thread nD τ).loc main_arg2)) := by
  refine (dats m 0 c).arrAt_eq_of_covers 3 _ (by decide +kernel) fun t hf y => ?_
  have e0 : (((win0_3.blk t).view.emb y) 0).val = 1376 * (t.val / 16) + (y 0).val := by blk_simp [index3 t]; omega
  have e1 : (((win0_3.blk t).view.emb y) 1).val = 256 * (t.val % 16) + (y 1).val := by blk_simp [index3 t]; omega
  blk_simp
  exact (congrArg _ (eq_ix2 (n0 := 1376) (n1 := 256) y)).trans
    ((block_apply m c t (y 0) (y 1) ((win0_3.blk t).view.emb y 0) ((win0_3.blk t).view.emb y 1) e0 e1).trans
      (congrArg (projected _ _ _) (eq_ix2 ((win0_3.blk t).view.emb y)).symm))

end

end Cert.Out

end
-- ==== Proof.OutRef.lean ====
/- The reference of the output projection, entry by entry. -/
module

public import proofs.«01_k».proof.Proof.Gen.Reference5Ideal.Run
public import proofs.«01_k».proof.Proof.Out

@[expose] public section

set_option maxRecDepth 16384

noncomputable section

namespace Cert.OutRef

open Idealize.ShloMosaic Idealize.ShloMosaic.TcCoe Cert.Reference5Ideal Cert.Reference5Ideal.Gen Cert.Reference5Ideal.Value Cert.Out

/-- The reference's result. -/
def result (a : FVec Ideal S8256x4096 .bf16) (w : FVec Ideal S4x4096x4096 .f32) (x : FVec Ideal S8256x4096 .f32) :
    FVec Ideal S8256x4096 .f32 :=
  addf x (Host.dotGeneral dot_S8256x4096_S4096x4096_S8256x4096_1_0_0_1_n_n none (extf .f32 a bitsLt_bf16_f32)
    (shapeCast _ (extractStridedSlice S1x4096x4096 ![0, 0, 0] w slices_S4x4096x4096_S1x4096x4096_0_0_0)
      shapeCasts_S1x4096x4096_S4096x4096))

theorem result_apply (a : FVec Ideal S8256x4096 .bf16) (w : FVec Ideal S4x4096x4096 .f32) (x : FVec Ideal S8256x4096 .f32)
    (r : Fin 8256) (n : Fin 4096) :
    result a w x (ix2 r n) = x (ix2 r n) + ∑ k : Fin 4096, a (ix2 r k) * w (ix3 0 k n) := by
  unfold result
  pointwise []

theorem result_eq (a : FVec Ideal S8256x4096 .bf16) (w : FVec Ideal S4x4096x4096 .f32) (x : FVec Ideal S8256x4096 .f32) :
    result a w x = projected a w x := by
  funext y
  obtain ⟨r, n, rfl⟩ : ∃ r n, y = ix2 r n := ⟨y 0, y 1, eq_ix2 y⟩
  rw [result_apply]
  rfl

end Cert.OutRef

end
-- ==== Proof.ProjA.lean ====
/- The input projection of the first mixer: what one grid point stores, with the transposed weights that the first point of its run cast
   and kept, and the whole array (`arr_eq`). -/
module

public import proofs.«01_k».proof.Proof.Gen.Kernel6Ideal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.ProjA

open Idealize.ShloMosaic Idealize.ShloMosaic.TcCoe Cert.Kernel6Ideal Cert.Kernel6Ideal.Gen

/-- The column of the first layer's weights that result column `n` is taken from. -/
def source (n : Fin 4096) : Fin 25624 := ⟨n.val, by omega⟩

/-- The hidden rows against those columns. -/
def projected (h : FVec Ideal S8256x4096 .bf16) (w : FVec Ideal S4x4096x25624 .f32) : FVec Ideal S8256x4096 .f32 := fun y =>
  ∑ k : Fin 4096, h (ix2 (y 0) k) * w (ix3 0 k (source (y 1)))

/-- Where each window's block of grid point `t` stands, in blocks. -/
theorem index0 : ∀ t : Fin grid0.N, win0_0.index t = ![t.val % 6, 0] := by decide +kernel
theorem index1 : ∀ t : Fin grid0.N, win0_1.index t = ![0, t.val / 6, 0] := by decide +kernel
theorem index2 : ∀ t : Fin grid0.N, win0_2.index t = ![t.val % 6, t.val / 6] := by decide +kernel

/-- The cast of the weights' block is the identity. -/
theorem cast_apply (x : Vec Ideal S1x512x4096 .f32) (j : Fin 512) (k : Fin 4096) : k0_pay1 x (ix2 j k) = x (ix3 0 j k) := by
  unfold k0_pay1
  pointwise []

/-- What is stored of a block of rows and a block of transposed weights. -/
theorem stored_apply (w : Vec Ideal S512x4096 .bf16) (x : Vec Ideal S1376x4096 .bf16) (r : Fin 1376) (j : Fin 512) :
    k0_pay2 w x (ix2 r j) = ∑ k : Fin 4096, x (ix2 r k) * w (ix2 j k) := by
  unfold k0_pay2
  pointwise []

section
variable (m : (ℓ : Loc nD τ sig) → Buf (Elt Ideal) ℓ) (c : Dev nD)

/-- The weights in scratch are those of the run's first point. -/
theorem held (t : Fin cfg0.N) (i : S512x4096.Idx) :
    (outsAt0 (F := Ideal) m c t.val t.isLt).2 i = k0_pay1 (X0_1 m c ⟨6 * (t.val / 6), Pipeline.run_start_lt t⟩) i :=
  Pipeline.eq_of_write_hold_apply (fun n h => (outsAt0 (F := Ideal) m c n h).2) 6 (fun t => k0_pay1 (X0_1 m c t))
    (fun t h i => by rw [outsAt0_A m c t h]; frame_out)
    (fun t h i => by rw [outsAt0_B m c t h]; rfl) t i

/-- What a point stores: the rows of its own block against the weights held. -/
theorem out_eq (t : Fin cfg0.N) (y : S1376x512.Idx) :
    (outsAt0 (F := Ideal) m c t.val t.isLt).1 y
      = k0_pay2 (k0_pay1 (X0_1 m c ⟨6 * (t.val / 6), Pipeline.run_start_lt t⟩)) (iblk m c 0 t) y := by
  rw [← funext (held m c t)]
  by_cases h : t.val % 6 = 0
  · rw [outsAt0_A m c t h]; frame_out
  · rw [outsAt0_B m c t h]; frame_out
    simp only [read_unread_whole]
    rfl

/-- The arguments' blocks, read off the arrays; the weights come transposed. -/
theorem rows_read (t : Fin cfg0.N) (r : Fin 1376) (k : Fin 4096) (a : Fin 8256) (ha : a.val = 1376 * (t.val % 6) + r.val) :
    iblk (F := Ideal) m c 0 t (ix2 r k) = m ((c : Thread nD τ).loc main_arg0) (ix2 a k) := by
  blk_ext [iblk, V, index0 t]
theorem weights_read (t : Fin cfg0.N) (j : Fin 512) (k : Fin 4096) (b : Fin 4096) (hb : b.val = 512 * (t.val / 6) + j.val) :
    X0_1 (F := Ideal) m c t (ix3 0 j k) = m ((c : Thread nD τ).loc main_arg1) (ix3 0 k (source b)) := by
  have hs : (source b).val = (512 * (t.val / 6) + j.val) := by rw [← hb]; rfl
  unfold X0_1 Pipeline.Window.fill
  rw [dif_pos (moved0_1 t _)]
  blk_simp [iblk, index1 t]
  entry_read
  pointwise
  blk_ext! [index1 t]

/-- What a point stores, entry by entry, from the arrays. -/
theorem block_apply (t : Fin cfg0.N) (r : Fin 1376) (j : Fin 512) (a : Fin 8256) (b : Fin 4096)
    (ha : a.val = 1376 * (t.val % 6) + r.val) (hb : b.val = 512 * (t.val / 6) + j.val) :
    (outsAt0 (F := Ideal) m c t.val t.isLt).1 (ix2 r j)
      = projected (m ((c : Thread nD τ).loc main_arg0)) (m ((c : Thread nD τ).loc main_arg1)) (ix2 a b) := by
  have hb' : b.val = 512 * (6 * (t.val / 6) / 6) + j.val := by omega
  rw [out_eq, stored_apply]
  simp only [cast_apply, rows_read m c t r _ a ha, weights_read m c ⟨6 * (t.val / 6), _⟩ j _ b hb']
  rfl

/-- The result array after the run. -/
theorem arr_eq : (dats (F := Ideal) m 0 c).arrAt 2 cfg0.N
    = projected (m ((c : Thread nD τ).loc main_arg0)) (m ((c : Thread nD τ).loc main_arg1)) := by
  refine (dats m 0 c).arrAt_eq_of_covers 2 _ (by decide +kernel) fun t hf y => ?_
  have e0 : (((win0_2.blk t).view.emb y) 0).val = 1376 * (t.val % 6) + (y 0).val := by blk_simp [index2 t]; omega
  have e1 : (((win0_2.blk t).view.emb y) 1).val = 512 * (t.val / 6) + (y 1).val := by blk_simp [index2 t]; omega
  blk_simp
  rw [after0_2]
  exact (congrArg _ (eq_ix2 (n0 := 1376) (n1 := 512) y)).trans
    ((block_apply m c t (y 0) (y 1) ((win0_2.blk t).view.emb y 0) ((win0_2.blk t).view.emb y 1) e0 e1).trans
      (congrArg (projected _ _) (eq_ix2 ((win0_2.blk t).view.emb y)).symm))

end

end Cert.ProjA

end
-- ==== Proof.ProjARef.lean ====
/- The reference of the input projection of the first mixer, entry by entry. -/
module

public import proofs.«01_k».proof.Proof.Gen.Reference6Ideal.Run
public import proofs.«01_k».proof.Proof.ProjA

@[expose] public section

set_option maxRecDepth 16384

noncomputable section

namespace Cert.ProjARef

open Idealize.ShloMosaic Idealize.ShloMosaic.TcCoe Cert.Reference6Ideal Cert.Reference6Ideal.Gen Cert.Reference6Ideal.Value Cert.ProjA

/-- The reference's result: the columns cut out of the whole product. -/
def result (h : FVec Ideal S8256x4096 .bf16) (w : FVec Ideal S4x4096x25624 .f32) : FVec Ideal S8256x4096 .f32 :=
  extractStridedSlice S8256x4096 ![0, 0] (Host.dotGeneral dot_S8256x4096_S4096x25624_S8256x25624_1_0_0_1_n_n none
    (extf .f32 h bitsLt_bf16_f32) (shapeCast _ (extractStridedSlice S1x4096x25624 ![0, 0, 0] w slices_S4x4096x25624_S1x4096x25624_0_0_0)
      shapeCasts_S1x4096x25624_S4096x25624)) slices_S8256x25624_S8256x4096_0_0

theorem result_apply (h : FVec Ideal S8256x4096 .bf16) (w : FVec Ideal S4x4096x25624 .f32) (r : Fin 8256) (n : Fin 4096) :
    result h w (ix2 r n) = ∑ k : Fin 4096, h (ix2 r k) * w (ix3 0 k (source n)) := by
  unfold result source
  pointwise []

theorem result_eq (h : FVec Ideal S8256x4096 .bf16) (w : FVec Ideal S4x4096x25624 .f32) : result h w = projected h w := by
  funext y
  obtain ⟨r, n, rfl⟩ : ∃ r n, y = ix2 r n := ⟨y 0, y 1, eq_ix2 y⟩
  rw [result_apply]
  rfl

end Cert.ProjARef

end
-- ==== Proof.ProjB.lean ====
/- The input projection of the second mixer: what one grid point stores, with the transposed weights that the first point of its run cast
   and kept, and the whole array (`arr_eq`). -/
module

public import proofs.«01_k».proof.Proof.Gen.Kernel7Ideal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.ProjB

open Idealize.ShloMosaic Idealize.ShloMosaic.TcCoe Cert.Kernel7Ideal Cert.Kernel7Ideal.Gen

/-- The column of the first layer's weights that result column `n` is taken from. -/
def source (n : Fin 3072) : Fin 25624 := ⟨4096 + n.val, by omega⟩

/-- The hidden rows against those columns. -/
def projected (h : FVec Ideal S8256x4096 .bf16) (w : FVec Ideal S4x4096x25624 .f32) : FVec Ideal S8256x3072 .f32 := fun y =>
  ∑ k : Fin 4096, h (ix2 (y 0) k) * w (ix3 0 k (source (y 1)))

/-- Where each window's block of grid point `t` stands, in blocks. -/
theorem index0 : ∀ t : Fin grid0.N, win0_0.index t = ![t.val % 6, 0] := by decide +kernel
theorem index1 : ∀ t : Fin grid0.N, win0_1.index t = ![0, 8 + t.val / 6, 0] := by decide +kernel
theorem index2 : ∀ t : Fin grid0.N, win0_2.index t = ![t.val % 6, t.val / 6] := by decide +kernel

/-- The cast of the weights' block is the identity. -/
theorem cast_apply (x : Vec Ideal S1x512x4096 .f32) (j : Fin 512) (k : Fin 4096) : k0_pay1 x (ix2 j k) = x (ix3 0 j k) := by
  unfold k0_pay1
  pointwise []

/-- What is stored of a block of rows and a block of transposed weights. -/
theorem stored_apply (w : Vec Ideal S512x4096 .bf16) (x : Vec Ideal S1376x4096 .bf16) (r : Fin 1376) (j : Fin 512) :
    k0_pay2 w x (ix2 r j) = ∑ k : Fin 4096, x (ix2 r k) * w (ix2 j k) := by
  unfold k0_pay2
  pointwise []

section
variable (m : (ℓ : Loc nD τ sig) → Buf (Elt Ideal) ℓ) (c : Dev nD)

/-- The weights in scratch are those of the run's first point. -/
theorem held (t : Fin cfg0.N) (i : S512x4096.Idx) :
    (outsAt0 (F := Ideal) m c t.val t.isLt).2 i = k0_pay1 (X0_1 m c ⟨6 * (t.val / 6), Pipeline.run_start_lt t⟩) i :=
  Pipeline.eq_of_write_hold_apply (fun n h => (outsAt0 (F := Ideal) m c n h).2) 6 (fun t => k0_pay1 (X0_1 m c t))
    (fun t h i => by rw [outsAt0_A m c t h]; frame_out)
    (fun t h i => by rw [outsAt0_B m c t h]; rfl) t i

/-- What a point stores: the rows of its own block against the weights held. -/
theorem out_eq (t : Fin cfg0.N) (y : S1376x512.Idx) :
    (outsAt0 (F := Ideal) m c t.val t.isLt).1 y
      = k0_pay2 (k0_pay1 (X0_1 m c ⟨6 * (t.val / 6), Pipeline.run_start_lt t⟩)) (iblk m c 0 t) y := by
  rw [← funext (held m c t)]
  by_cases h : t.val % 6 = 0
  · rw [outsAt0_A m c t h]; frame_out
  · rw [outsAt0_B m c t h]; frame_out
    simp only [read_unread_whole]
    rfl

/-- The arguments' blocks, read off the arrays; the weights come transposed. -/
theorem rows_read (t : Fin cfg0.N) (r : Fin 1376) (k : Fin 4096) (a : Fin 8256) (ha : a.val = 1376 * (t.val % 6) + r.val) :
    iblk (F := Ideal) m c 0 t (ix2 r k) = m ((c : Thread nD τ).loc main_arg0) (ix2 a k) := by
  blk_ext [iblk, V, index0 t]
theorem weights_read (t : Fin cfg0.N) (j : Fin 512) (k : Fin 4096) (b : Fin 3072) (hb : b.val = 512 * (t.val / 6) + j.val) :
    X0_1 (F := Ideal) m c t (ix3 0 j k) = m ((c : Thread nD τ).loc main_arg1) (ix3 0 k (source b)) := by
  have hs : (source b).val = 4096 + (512 * (t.val / 6) + j.val) := by rw [← hb]; rfl
  unfold X0_1 Pipeline.Window.fill
  rw [dif_pos (moved0_1 t _)]
  blk_simp [iblk, index1 t]
  entry_read
  pointwise
  blk_ext! [index1 t]

/-- What a point stores, entry by entry, from the arrays. -/
theorem block_apply (t : Fin cfg0.N) (r : Fin 1376) (j : Fin 512) (a : Fin 8256) (b : Fin 3072)
    (ha : a.val = 1376 * (t.val % 6) + r.val) (hb : b.val = 512 * (t.val / 6) + j.val) :
    (outsAt0 (F := Ideal) m c t.val t.isLt).1 (ix2 r j)
      = projected (m ((c : Thread nD τ).loc main_arg0)) (m ((c : Thread nD τ).loc main_arg1)) (ix2 a b) := by
  have hb' : b.val = 512 * (6 * (t.val / 6) / 6) + j.val := by omega
  rw [out_eq, stored_apply]
  simp only [cast_apply, rows_read m c t r _ a ha, weights_read m c ⟨6 * (t.val / 6), _⟩ j _ b hb']
  rfl

/-- The result array after the run. -/
theorem arr_eq : (dats (F := Ideal) m 0 c).arrAt 2 cfg0.N
    = projected (m ((c : Thread nD τ).loc main_arg0)) (m ((c : Thread nD τ).loc main_arg1)) := by
  refine (dats m 0 c).arrAt_eq_of_covers 2 _ (by decide +kernel) fun t hf y => ?_
  have e0 : (((win0_2.blk t).view.emb y) 0).val = 1376 * (t.val % 6) + (y 0).val := by blk_simp [index2 t]; omega
  have e1 : (((win0_2.blk t).view.emb y) 1).val = 512 * (t.val / 6) + (y 1).val := by blk_simp [index2 t]; omega
  blk_simp
  rw [after0_2]
  exact (congrArg _ (eq_ix2 (n0 := 1376) (n1 := 512) y)).trans
    ((block_apply m c t (y 0) (y 1) ((win0_2.blk t).view.emb y 0) ((win0_2.blk t).view.emb y 1) e0 e1).trans
      (congrArg (projected _ _) (eq_ix2 ((win0_2.blk t).view.emb y)).symm))

end

end Cert.ProjB

end
-- ==== Proof.ProjBRef.lean ====
/- The reference of the input projection of the second mixer, entry by entry. -/
module

public import proofs.«01_k».proof.Proof.Gen.Reference7Ideal.Run
public import proofs.«01_k».proof.Proof.ProjB

@[expose] public section

set_option maxRecDepth 16384

noncomputable section

namespace Cert.ProjBRef

open Idealize.ShloMosaic Idealize.ShloMosaic.TcCoe Cert.Reference7Ideal Cert.Reference7Ideal.Gen Cert.Reference7Ideal.Value Cert.ProjB

/-- The reference's result: the columns cut out of the whole product. -/
def result (h : FVec Ideal S8256x4096 .bf16) (w : FVec Ideal S4x4096x25624 .f32) : FVec Ideal S8256x3072 .f32 :=
  extractStridedSlice S8256x3072 ![0, 4096] (Host.dotGeneral dot_S8256x4096_S4096x25624_S8256x25624_1_0_0_1_n_n none
    (extf .f32 h bitsLt_bf16_f32) (shapeCast _ (extractStridedSlice S1x4096x25624 ![0, 0, 0] w slices_S4x4096x25624_S1x4096x25624_0_0_0)
      shapeCasts_S1x4096x25624_S4096x25624)) slices_S8256x25624_S8256x3072_0_4096

theorem result_apply (h : FVec Ideal S8256x4096 .bf16) (w : FVec Ideal S4x4096x25624 .f32) (r : Fin 8256) (n : Fin 3072) :
    result h w (ix2 r n) = ∑ k : Fin 4096, h (ix2 r k) * w (ix3 0 k (source n)) := by
  unfold result source
  pointwise []

theorem result_eq (h : FVec Ideal S8256x4096 .bf16) (w : FVec Ideal S4x4096x25624 .f32) : result h w = projected h w := by
  funext y
  obtain ⟨r, n, rfl⟩ : ∃ r n, y = ix2 r n := ⟨y 0, y 1, eq_ix2 y⟩
  rw [result_apply]
  rfl

end Cert.ProjBRef

end
-- ==== Proof.ProjK.lean ====
/- The keys of the third mixer, last layer: one grid point stores its product twice, once into the last layer of the stack that the
   layers share and once by itself. The stack after the run (`stack_eq`) and the array by itself (`arr_eq`). -/
module

public import proofs.«01_k».proof.Proof.Gen.Kernel8Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjK

open Idealize.ShloMosaic Idealize.ShloMosaic.TcCoe Cert.Kernel8Ideal Cert.Kernel8Ideal.Gen

/-- The column of the last layer's weights that result column `n` is taken from. -/
def source (n : Fin 2048) : Fin 25624 := ⟨9224 + n.val, by omega⟩

/-- The hidden rows against those columns. -/
def projected (h : FVec Ideal S8256x4096 .bf16) (w : FVec Ideal S4x4096x25624 .f32) : FVec Ideal S8256x2048 .bf16 := fun y =>
  ∑ k : Fin 4096, h (ix2 (y 0) k) * w (ix3 3 k (source (y 1)))

/-- The stack with its last layer replaced by that product. -/
def stacked (h : FVec Ideal S8256x4096 .bf16) (s : FVec Ideal S4x8256x2048 .f32) (w : FVec Ideal S4x4096x25624 .f32) :
    FVec Ideal S4x8256x2048 .f32 := fun y =>
  if (y 0).val = 3 then ∑ k : Fin 4096, h (ix2 (y 1) k) * w (ix3 3 k (source (y 2))) else s y

/-- Where each window's block of grid point `t` stands, in blocks. -/
theorem index0 : ∀ t : Fin grid0.N, win0_0.index t = ![t.val % 6, 0] := by decide +kernel
theorem index1 : ∀ t : Fin grid0.N, win0_1.index t = ![3, 4 + t.val / 6, 0] := by decide +kernel
theorem index2 : ∀ t : Fin grid0.N, win0_2.index t = ![3, t.val % 6, t.val / 6] := by decide +kernel
theorem index3 : ∀ t : Fin grid0.N, win0_3.index t = ![t.val % 6, t.val / 6] := by decide +kernel

/-- What is stored of a block of rows and a block of weights. -/
theorem stored2_apply (x : Vec Ideal S1376x4096 .bf16) (w : Vec Ideal S1x512x4096 .bf16) (r : Fin 1376) (j : Fin 512) :
    k0_pay2 x w (ix3 0 r j) = ∑ k : Fin 4096, x (ix2 r k) * w (ix3 0 j k) := by
  unfold k0_pay2 k0_pay1
  pointwise []
theorem stored3_apply (x : Vec Ideal S1376x4096 .bf16) (w : Vec Ideal S1x512x4096 .bf16) (r : Fin 1376) (j : Fin 512) :
    k0_pay3 x w (ix2 r j) = ∑ k : Fin 4096, x (ix2 r k) * w (ix3 0 j k) := by
  unfold k0_pay3 k0_pay1
  pointwise []

section
variable (m : (ℓ : Loc nD τ sig) → Buf (Elt Ideal) ℓ) (c : Dev nD)

/-- What a point stores. -/
theorem out2_eq (t : Fin cfg0.N) (y : S1x1376x512.Idx) :
    (dats (F := Ideal) m 0 c).after 2 t y = k0_pay2 (iblk m c 0 t) (iblk m c 1 t) y := by
  rw [after0_2]; unfold outsAt0; frame_out
theorem out3_eq (t : Fin cfg0.N) (y : S1376x512.Idx) :
    (dats (F := Ideal) m 0 c).after 3 t y = k0_pay3 (iblk m c 0 t) (iblk m c 1 t) y := by
  rw [after0_3]; unfold outsAt0; frame_out

/-- The arguments' blocks, read off the arrays; the host transposes the weights and cuts the columns of the third mixer out. -/
theorem rows_read (t : Fin cfg0.N) (r : Fin 1376) (k : Fin 4096) (a : Fin 8256) (ha : a.val = 1376 * (t.val % 6) + r.val) :
    iblk (F := Ideal) m c 0 t (ix2 r k) = m ((c : Thread nD τ).loc main_arg0) (ix2 a k) := by
  blk_ext [iblk, V, index0 t]
theorem weights_read (t : Fin cfg0.N) (j : Fin 512) (k : Fin 4096) (b : Fin 2048) (hb : b.val = 512 * (t.val / 6) + j.val) :
    iblk (F := Ideal) m c 1 t (ix3 0 j k) = m ((c : Thread nD τ).loc main_arg2) (ix3 3 k (source b)) := by
  have hs : (source b).val = 9224 + (512 * (t.val / 6) + j.val) := by rw [← hb]; rfl
  blk_simp [iblk, index1 t]
  entry_read
  pointwise
  blk_ext! [index1 t]

/-- What a point stores, entry by entry, from the arrays. -/
theorem block2_apply (t : Fin cfg0.N) (r : Fin 1376) (j : Fin 512) (a : Fin 8256) (b : Fin 2048)
    (ha : a.val = 1376 * (t.val % 6) + r.val) (hb : b.val = 512 * (t.val / 6) + j.val) :
    (dats (F := Ideal) m 0 c).after 2 t (ix3 0 r j)
      = projected (m ((c : Thread nD τ).loc main_arg0)) (m ((c : Thread nD τ).loc main_arg2)) (ix2 a b) := by
  rw [out2_eq, stored2_apply]
  simp only [rows_read m c t r _ a ha, weights_read m c t j _ b hb]
  rfl
theorem block3_apply (t : Fin cfg0.N) (r : Fin 1376) (j : Fin 512) (a : Fin 8256) (b : Fin 2048)
    (ha : a.val = 1376 * (t.val % 6) + r.val) (hb : b.val = 512 * (t.val / 6) + j.val) :
    (dats (F := Ideal) m 0 c).after 3 t (ix2 r j)
      = projected (m ((c : Thread nD τ).loc main_arg0)) (m ((c : Thread nD τ).loc main_arg2)) (ix2 a b) := by
  rw [out3_eq, stored3_apply]
  simp only [rows_read m c t r _ a ha, weights_read m c t j _ b hb]
  rfl

/-- The array by itself after the run. -/
theorem arr_eq : (dats (F := Ideal) m 0 c).arrAt 3 cfg0.N
    = projected (m ((c : Thread nD τ).loc main_arg0)) (m ((c : Thread nD τ).loc main_arg2)) := by
  refine (dats m 0 c).arrAt_eq_of_covers 3 _ (by decide +kernel) fun t hf y => ?_
  have e0 : (((win0_3.blk t).view.emb y) 0).val = 1376 * (t.val % 6) + (y 0).val := by blk_simp [index3 t]; omega
  have e1 : (((win0_3.blk t).view.emb y) 1).val = 512 * (t.val / 6) + (y 1).val := by blk_simp [index3 t]; omega
  blk_simp
  exact (congrArg _ (eq_ix2 (n0 := 1376) (n1 := 512) y)).trans
    ((block3_apply m c t (y 0) (y 1) ((win0_3.blk t).view.emb y 0) ((win0_3.blk t).view.emb y 1) e0 e1).trans
      (congrArg (projected _ _) (eq_ix2 ((win0_3.blk t).view.emb y)).symm))

/-- Before the run the stack's buffer holds the stack given. -/
theorem entry_stack : (dats (F := Ideal) m 0 c).A 2 = m ((c : Thread nD τ).loc main_arg1) := by
  rw [A_eq]
  entry_read
  rfl

/-- The stack after the run: its last layer replaced, the others as given. -/
theorem stack_eq : (dats (F := Ideal) m 0 c).arrAt 2 cfg0.N
    = stacked (m ((c : Thread nD τ).loc main_arg0)) (m ((c : Thread nD τ).loc main_arg1)) (m ((c : Thread nD τ).loc main_arg2)) := by
  refine (dats m 0 c).arrAt_eq_of_coversWhere_of_agree 2 _ (fun β => β (0 : Fin 3) = 3) (by decide +kernel) (fun t hf y => ?_)
    (fun j hj => ?_)
  · have e : (((win0_2.blk t).view.emb y) 0).val = 3 := by
      blk_simp [index2 t]
    have e0 : (((win0_2.blk t).view.emb y) 1).val = 1376 * (t.val % 6) + (y 1).val := by blk_simp [index2 t]; omega
    have e1 : (((win0_2.blk t).view.emb y) 2).val = 512 * (t.val / 6) + (y 2).val := by blk_simp [index2 t]; omega
    have hy : y = ix3 0 (y 1) (y 2) := (eq_ix3 (n0 := 1) (n1 := 1376) (n2 := 512) y).trans
      (congrArg (fun u : Fin 1 => ix3 u (y 1) (y 2)) (Subsingleton.elim _ _))
    blk_simp
    refine (congrArg _ hy).trans
      ((block2_apply m c t (y 1) (y 2) ((win0_2.blk t).view.emb y 1) ((win0_2.blk t).view.emb y 2) e0 e1).trans ?_)
    unfold stacked
    rw [if_pos e]
    rfl
  · have hn : ¬ (j 0).val = 3 := fun h => hj (by blk_simp [Pipeline.Window.cell_apply]; omega)
    rw [entry_stack]
    unfold stacked
    exact (if_neg hn).symm

end

end Cert.ProjK

end
-- ==== Proof.ProjKRef.lean ====
/- The reference of the keys of the third mixer, last layer, entry by entry. -/
module

public import proofs.«01_k».proof.Proof.Gen.Reference8Ideal.Run
public import proofs.«01_k».proof.Proof.ProjK

@[expose] public section

set_option maxRecDepth 16384

noncomputable section

namespace Cert.ProjKRef

open Idealize.ShloMosaic Idealize.ShloMosaic.TcCoe Cert.Reference8Ideal Cert.Reference8Ideal.Gen Cert.Reference8Ideal.Value Cert.ProjK

/-- The columns cut out of the whole product. -/
def columns (h : FVec Ideal S8256x4096 .bf16) (w : FVec Ideal S4x4096x25624 .f32) : FVec Ideal S8256x2048 .f32 :=
  extractStridedSlice S8256x2048 ![0, 9224] (Host.dotGeneral dot_S8256x4096_S4096x25624_S8256x25624_1_0_0_1_n_n none
    (extf .f32 h bitsLt_bf16_f32) (shapeCast _ (extractStridedSlice S1x4096x25624 ![3, 0, 0] w
      slices_S4x4096x25624_S1x4096x25624_3_0_0) shapeCasts_S1x4096x25624_S4096x25624)) slices_S8256x25624_S8256x2048_0_9224

/-- The reference's results. -/
def result (h : FVec Ideal S8256x4096 .bf16) (w : FVec Ideal S4x4096x25624 .f32) : FVec Ideal S8256x2048 .bf16 :=
  truncf .bf16 (columns h w) bitsLt_bf16_f32
def stack (h : FVec Ideal S8256x4096 .bf16) (s : FVec Ideal S4x8256x2048 .f32) (w : FVec Ideal S4x4096x25624 .f32) :
    FVec Ideal S4x8256x2048 .f32 :=
  concatenate S4x8256x2048 0 [⟨S3x8256x2048, (extractStridedSlice S3x8256x2048 ![0, 0, 0] s slices_S4x8256x2048_S3x8256x2048_0_0_0)⟩,
    ⟨S1x8256x2048, (broadcastInDim S1x8256x2048 ![1, 2] bcast_S8256x2048_S1x8256x2048_1_2 (columns h w))⟩]
    concatenates_S3x8256x2048_S1x8256x2048_S4x8256x2048_d0

theorem columns_apply (h : FVec Ideal S8256x4096 .bf16) (w : FVec Ideal S4x4096x25624 .f32) (r : Fin 8256) (n : Fin 2048) :
    columns h w (ix2 r n) = ∑ k : Fin 4096, h (ix2 r k) * w (ix3 3 k (source n)) := by
  unfold columns source
  pointwise []

theorem result_eq (h : FVec Ideal S8256x4096 .bf16) (w : FVec Ideal S4x4096x25624 .f32) : result h w = projected h w := by
  funext y
  obtain ⟨r, n, rfl⟩ : ∃ r n, y = ix2 r n := ⟨y 0, y 1, eq_ix2 y⟩
  exact columns_apply h w r n

theorem stack_eq (h : FVec Ideal S8256x4096 .bf16) (s : FVec Ideal S4x8256x2048 .f32) (w : FVec Ideal S4x4096x25624 .f32) :
    stack h s w = stacked h s w := by
  funext y
  obtain ⟨l, r, n, rfl⟩ : ∃ l r n, y = ix3 l r n := ⟨y 0, y 1, y 2, eq_ix3 y⟩
  unfold stack stacked
  match l with
  | ⟨3, _⟩ =>
    refine Eq.trans ?_ (columns_apply h w r n)
    pointwise []
  | ⟨0, _⟩ => pointwise []
  | ⟨1, _⟩ => pointwise []
  | ⟨2, _⟩ => pointwise []

end Cert.ProjKRef

end
-- ==== Proof.Norm.lean ====
/- The normalization of the last hidden state's rows: what one grid point stores, and the whole array (`arr_eq`). -/
module

public import proofs.«01_k».proof.Proof.Gen.Kernel9Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Norm

open Idealize.ShloMosaic Idealize.ShloMosaic.TcCoe Cert.Kernel9Ideal Cert.Kernel9Ideal.Gen

/-- One entry over the root of its row's mean square, times its column's gain. -/
def scaled (x : Fin 4096 → EReal) (g : EReal) (n : Fin 4096) : EReal :=
  x n * Ideal.rsqrt (Ideal.div (∑ k : Fin 4096, x k * x k) (Ideal.ofBits .f32 0x45800000#32) + Ideal.ofBits .f32 0x358637BD#32) * g

/-- Every row of the array so. -/
def normed (x : FVec Ideal S8256x4096 .f32) (g : FVec Ideal S4096 .f32) : FVec Ideal S8256x4096 .f32 := fun y =>
  scaled (fun k => x (ix2 (y 0) k)) (g (ix1 (y 1))) (y 1)

/-- Where each window's block of grid point `t` stands, in blocks. -/
theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

/-- What is stored of a block of rows and the gains. -/
theorem stored_apply (x : Vec Ideal S192x4096 .f32) (g : Vec Ideal S1x4096 .f32) (r : Fin 192) (n : Fin 4096) :
    k0_pay1 x g (ix2 r n) = scaled (fun k => x (ix2 r k)) (g (ix2 0 n)) n := by
  unfold k0_pay1 scaled
  pointwise []

section
variable (m : (ℓ : Loc nD τ sig) → Buf (Elt Ideal) ℓ) (c : Dev nD)

/-- What a point stores. -/
theorem out_eq (t : Fin cfg0.N) (y : S192x4096.Idx) :
    (dats (F := Ideal) m 0 c).after 2 t y = k0_pay1 (iblk m c 0 t) (iblk m c 1 t) y := by
  rw [after0_2]; frame_out

/-- The arguments' blocks, read off the arrays; the host gives the gains a leading axis. -/
theorem rows_read (t : Fin cfg0.N) (r : Fin 192) (k : Fin 4096) (a : Fin 8256) (ha : a.val = 192 * t.val + r.val) :
    iblk (F := Ideal) m c 0 t (ix2 r k) = m ((c : Thread nD τ).loc main_arg0) (ix2 a k) := by
  blk_ext [iblk, V, index0 t]
theorem gains_read (t : Fin cfg0.N) (n : Fin 4096) :
    iblk (F := Ideal) m c 1 t (ix2 0 n) = m ((c : Thread nD τ).loc main_arg1) (ix1 n) := by
  blk_simp [iblk, index1 t]
  entry_read
  pointwise
  blk_ext! [index1 t]

/-- What a point stores, entry by entry, from the arrays. -/
theorem block_apply (t : Fin cfg0.N) (r : Fin 192) (n : Fin 4096) (a : Fin 8256) (ha : a.val = 192 * t.val + r.val) :
    (dats (F := Ideal) m 0 c).after 2 t (ix2 r n)
      = normed (m ((c : Thread nD τ).loc main_arg0)) (m ((c : Thread nD τ).loc main_arg1)) (ix2 a n) := by
  rw [out_eq, stored_apply, gains_read]
  simp only [rows_read m c t r _ a ha]
  rfl

/-- The result array after the run. -/
theorem arr_eq : (dats (F := Ideal) m 0 c).arrAt 2 cfg0.N
    = normed (m ((c : Thread nD τ).loc main_arg0)) (m ((c : Thread nD τ).loc main_arg1)) := by
  refine (dats m 0 c).arrAt_eq_of_covers 2 _ (by decide +kernel) fun t hf y => ?_
  have e0 : (((win0_2.blk t).view.emb y) 0).val = 192 * t.val + (y 0).val := by blk_simp [index2 t]; omega
  have e1 : ((win0_2.blk t).view.emb y) 1 = y 1 := Fin.ext (by blk_simp [index2 t])
  blk_simp
  exact (congrArg _ (eq_ix2 (n0 := 192) (n1 := 4096) y)).trans
    ((block_apply m c t (y 0) (y 1) ((win0_2.blk t).view.emb y 0) e0).trans
      (congrArg (normed _ _) ((congrArg (ix2 _) e1.symm).trans (eq_ix2 ((win0_2.blk t).view.emb y)).symm)))

end

end Cert.Norm

end
-- ==== Proof.NormRef.lean ====
/- The reference of the normalization, entry by entry. -/
module

public import proofs.«01_k».proof.Proof.Gen.Reference9Ideal.Run
public import proofs.«01_k».proof.Proof.Norm

@[expose] public section

set_option maxRecDepth 16384

noncomputable section

namespace Cert.NormRef

open Idealize.ShloMosaic Idealize.ShloMosaic.TcCoe Cert.Reference9Ideal Cert.Reference9Ideal.Gen Cert.Reference9Ideal.Value Cert.Norm

/-- The reference's result. -/
def result (x : FVec Ideal S8256x4096 .f32) (g : FVec Ideal S4096 .f32) : FVec Ideal S8256x4096 .f32 :=
  mulf (mulf x (broadcastInDim S8256x4096 ![0, 1] bcast_S8256x1_S8256x4096_0_1 (Host.rsqrt (addf (Host.divf
      (broadcastInDim S8256x1 ![0] bcast_S8256_S8256x1_0
        (Host.reduceAdd (mulf x x) (constant S_ .f32 0x00000000#32) reducesTo_S8256x4096_S8256_d1 h_S_))
      (broadcastInDim S8256x1 ![] bcast_S_S8256x1 (constant S_ .f32 0x45800000#32)))
      (broadcastInDim S8256x1 ![] bcast_S_S8256x1 (constant S_ .f32 0x358637BD#32))))))
    (broadcastInDim S8256x4096 ![0, 1] bcast_S1x4096_S8256x4096_0_1 (broadcastInDim S1x4096 ![1] bcast_S4096_S1x4096_1 g))

theorem result_apply (x : FVec Ideal S8256x4096 .f32) (g : FVec Ideal S4096 .f32) (r : Fin 8256) (n : Fin 4096) :
    result x g (ix2 r n) = scaled (fun k => x (ix2 r k)) (g (ix1 n)) n := by
  unfold result scaled
  pointwise []

theorem result_eq (x : FVec Ideal S8256x4096 .f32) (g : FVec Ideal S4096 .f32) : result x g = normed x g := by
  funext y
  obtain ⟨r, n, rfl⟩ : ∃ r n, y = ix2 r n := ⟨y 0, y 1, eq_ix2 y⟩
  exact result_apply x g r n

end Cert.NormRef

end
-- ==== Proof.ProjQ.lean ====
/- The queries of the third mixer: what one grid point stores of a block of rows and a block of the prepared weights, and the whole
   array (`arr_eq`). -/
module

public import proofs.«01_k».proof.Proof.Gen.Kernel10Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjQ

open Idealize.ShloMosaic Idealize.ShloMosaic.TcCoe Cert.Kernel10Ideal Cert.Kernel10Ideal.Gen

/-- The column of the first layer's weights that result column `n` is taken from. -/
def source (n : Fin 2048) : Fin 25624 := ⟨7176 + n.val, by omega⟩

/-- The hidden rows against those columns. -/
def projected (h : FVec Ideal S8256x4096 .bf16) (w : FVec Ideal S4x4096x25624 .f32) : FVec Ideal S8256x2048 .bf16 := fun y =>
  ∑ k : Fin 4096, h (ix2 (y 0) k) * w (ix3 0 k (source (y 1)))

/-- Where each window's block of grid point `t` stands, in blocks. -/
theorem index0 : ∀ t : Fin grid0.N, win0_0.index t = ![t.val % 6, 0] := by decide +kernel
theorem index1 : ∀ t : Fin grid0.N, win0_1.index t = ![0, t.val / 6, 0] := by decide +kernel
theorem index2 : ∀ t : Fin grid0.N, win0_2.index t = ![t.val % 6, t.val / 6] := by decide +kernel

/-- What is stored of a block of weights and a block of rows. -/
theorem stored_apply (w : Vec Ideal S1x512x4096 .bf16) (x : Vec Ideal S1376x4096 .bf16) (r : Fin 1376) (j : Fin 512) :
    k0_pay1 w x (ix2 r j) = ∑ k : Fin 4096, x (ix2 r k) * w (ix3 0 j k) := by
  unfold k0_pay1
  pointwise []

section
variable (m : (ℓ : Loc nD τ sig) → Buf (Elt Ideal) ℓ) (c : Dev nD)

/-- What a point stores. -/
theorem out_eq (t : Fin cfg0.N) (y : S1376x512.Idx) :
    (dats (F := Ideal) m 0 c).after 2 t y = k0_pay1 (iblk m c 1 t) (iblk m c 0 t) y := by
  rw [after0_2]; frame_out

/-- The arguments' blocks, read off the arrays; the host transposes the weights and cuts the columns of the third mixer out. -/
theorem rows_read (t : Fin cfg0.N) (r : Fin 1376) (k : Fin 4096) (a : Fin 8256) (ha : a.val = 1376 * (t.val % 6) + r.val) :
    iblk (F := Ideal) m c 0 t (ix2 r k) = m ((c : Thread nD τ).loc main_arg0) (ix2 a k) := by
  blk_ext [iblk, V, index0 t]
theorem weights_read (t : Fin cfg0.N) (j : Fin 512) (k : Fin 4096) (b : Fin 2048) (hb : b.val = 512 * (t.val / 6) + j.val) :
    iblk (F := Ideal) m c 1 t (ix3 0 j k) = m ((c : Thread nD τ).loc main_arg1) (ix3 0 k (source b)) := by
  have hs : (source b).val = 7176 + (512 * (t.val / 6) + j.val) := by rw [← hb]; rfl
  blk_simp [iblk, index1 t]
  entry_read
  pointwise
  blk_ext! [index1 t]

/-- What a point stores, entry by entry, from the arrays. -/
theorem block_apply (t : Fin cfg0.N) (r : Fin 1376) (j : Fin 512) (a : Fin 8256) (b : Fin 2048)
    (ha : a.val = 1376 * (t.val % 6) + r.val) (hb : b.val = 512 * (t.val / 6) + j.val) :
    (dats (F := Ideal) m 0 c).after 2 t (ix2 r j)
      = projected (m ((c : Thread nD τ).loc main_arg0)) (m ((c : Thread nD τ).loc main_arg1)) (ix2 a b) := by
  rw [out_eq, stored_apply]
  simp only [rows_read m c t r _ a ha, weights_read m c t j _ b hb]
  rfl

/-- The result array after the run. -/
theorem arr_eq : (dats (F := Ideal) m 0 c).arrAt 2 cfg0.N
    = projected (m ((c : Thread nD τ).loc main_arg0)) (m ((c : Thread nD τ).loc main_arg1)) := by
  refine (dats m 0 c).arrAt_eq_of_covers 2 _ (by decide +kernel) fun t hf y => ?_
  have e0 : (((win0_2.blk t).view.emb y) 0).val = 1376 * (t.val % 6) + (y 0).val := by blk_simp [index2 t]; omega
  have e1 : (((win0_2.blk t).view.emb y) 1).val = 512 * (t.val / 6) + (y 1).val := by blk_simp [index2 t]; omega
  blk_simp
  exact (congrArg _ (eq_ix2 (n0 := 1376) (n1 := 512) y)).trans
    ((block_apply m c t (y 0) (y 1) ((win0_2.blk t).view.emb y 0) ((win0_2.blk t).view.emb y 1) e0 e1).trans
      (congrArg (projected _ _) (eq_ix2 ((win0_2.blk t).view.emb y)).symm))

end

end Cert.ProjQ

end
-- ==== Proof.ProjQRef.lean ====
/- The reference of the queries of the third mixer, entry by entry. -/
module

public import proofs.«01_k».proof.Proof.Gen.Reference10Ideal.Run
public import proofs.«01_k».proof.Proof.ProjQ

@[expose] public section

set_option maxRecDepth 16384

noncomputable section

namespace Cert.ProjQRef

open Idealize.ShloMosaic Idealize.ShloMosaic.TcCoe Cert.Reference10Ideal Cert.Reference10Ideal.Gen Cert.Reference10Ideal.Value Cert.ProjQ

/-- The reference's result: the columns cut out of the whole product. -/
def result (h : FVec Ideal S8256x4096 .bf16) (w : FVec Ideal S4x4096x25624 .f32) : FVec Ideal S8256x2048 .bf16 :=
  truncf .bf16 (extractStridedSlice S8256x2048 ![0, 7176] (Host.dotGeneral dot_S8256x4096_S4096x25624_S8256x25624_1_0_0_1_n_n none
    (extf .f32 h bitsLt_bf16_f32) (shapeCast _ (extractStridedSlice S1x4096x25624 ![0, 0, 0] w
      slices_S4x4096x25624_S1x4096x25624_0_0_0) shapeCasts_S1x4096x25624_S4096x25624)) slices_S8256x25624_S8256x2048_0_7176) bitsLt_bf16_f32

theorem result_apply (h : FVec Ideal S8256x4096 .bf16) (w : FVec Ideal S4x4096x25624 .f32) (r : Fin 8256) (n : Fin 2048) :
    result h w (ix2 r n) = ∑ k : Fin 4096, h (ix2 r k) * w (ix3 0 k (source n)) := by
  unfold result source
  pointwise []

theorem result_eq (h : FVec Ideal S8256x4096 .bf16) (w : FVec Ideal S4x4096x25624 .f32) : result h w = projected h w := by
  funext y
  obtain ⟨r, n, rfl⟩ : ∃ r n, y = ix2 r n := ⟨y 0, y 1, eq_ix2 y⟩
  rw [result_apply]
  rfl

end Cert.ProjQRef

end
-- ==== Proof.ProjV.lean ====
/- The values of the third mixer, last layer: one grid point stores its product twice, once into the last layer of the stack that the
   layers share and once by itself. The stack after the run (`stack_eq`) and the array by itself (`arr_eq`). -/
module

public import proofs.«01_k».proof.Proof.Gen.Kernel11Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.ProjV

open Idealize.ShloMosaic Idealize.ShloMosaic.TcCoe Cert.Kernel11Ideal Cert.Kernel11Ideal.Gen

/-- The column of the last layer's weights that result column `n` is taken from. -/
def source (n : Fin 2048) : Fin 25624 := ⟨11272 + n.val, by omega⟩

/-- The hidden rows against those columns. -/
def projected (h : FVec Ideal S8256x4096 .bf16) (w : FVec Ideal S4x4096x25624 .f32) : FVec Ideal S8256x2048 .bf16 := fun y =>
  ∑ k : Fin 4096, h (ix2 (y 0) k) * w (ix3 3 k (source (y 1)))

/-- The stack with its last layer replaced by that product. -/
def stacked (h : FVec Ideal S8256x4096 .bf16) (s : FVec Ideal S4x8256x2048 .f32) (w : FVec Ideal S4x4096x25624 .f32) :
    FVec Ideal S4x8256x2048 .f32 := fun y =>
  if (y 0).val = 3 then ∑ k : Fin 4096, h (ix2 (y 1) k) * w (ix3 3 k (source (y 2))) else s y

/-- Where each window's block of grid point `t` stands, in blocks. -/
theorem index0 : ∀ t : Fin grid0.N, win0_0.index t = ![t.val % 6, 0] := by decide +kernel
theorem index1 : ∀ t : Fin grid0.N, win0_1.index t = ![3, 8 + t.val / 6, 0] := by decide +kernel
theorem index2 : ∀ t : Fin grid0.N, win0_2.index t = ![3, t.val % 6, t.val / 6] := by decide +kernel
theorem index3 : ∀ t : Fin grid0.N, win0_3.index t = ![t.val % 6, t.val / 6] := by decide +kernel

/-- What is stored of a block of rows and a block of weights. -/
theorem stored2_apply (x : Vec Ideal S1376x4096 .bf16) (w : Vec Ideal S1x512x4096 .bf16) (r : Fin 1376) (j : Fin 512) :
    k0_pay2 x w (ix3 0 r j) = ∑ k : Fin 4096, x (ix2 r k) * w (ix3 0 j k) := by
  unfold k0_pay2 k0_pay1
  pointwise []
theorem stored3_apply (x : Vec Ideal S1376x4096 .bf16) (w : Vec Ideal S1x512x4096 .bf16) (r : Fin 1376) (j : Fin 512) :
    k0_pay3 x w (ix2 r j) = ∑ k : Fin 4096, x (ix2 r k) * w (ix3 0 j k) := by
  unfold k0_pay3 k0_pay1
  pointwise []

section
variable (m : (ℓ : Loc nD τ sig) → Buf (Elt Ideal) ℓ) (c : Dev nD)

/-- What a point stores. -/
theorem out2_eq (t : Fin cfg0.N) (y : S1x1376x512.Idx) :
    (dats (F := Ideal) m 0 c).after 2 t y = k0_pay2 (iblk m c 0 t) (iblk m c 1 t) y := by
  rw [after0_2]; unfold outsAt0; frame_out
theorem out3_eq (t : Fin cfg0.N) (y : S1376x512.Idx) :
    (dats (F := Ideal) m 0 c).after 3 t y = k0_pay3 (iblk m c 0 t) (iblk m c 1 t) y := by
  rw [after0_3]; unfold outsAt0; frame_out

/-- The arguments' blocks, read off the arrays; the host transposes the weights and cuts the columns of the third mixer out. -/
theorem rows_read (t : Fin cfg0.N) (r : Fin 1376) (k : Fin 4096) (a : Fin 8256) (ha : a.val = 1376 * (t.val % 6) + r.val) :
    iblk (F := Ideal) m c 0 t (ix2 r k) = m ((c : Thread nD τ).loc main_arg0) (ix2 a k) := by
  blk_ext [iblk, V, index0 t]
theorem weights_read (t : Fin cfg0.N) (j : Fin 512) (k : Fin 4096) (b : Fin 2048) (hb : b.val = 512 * (t.val / 6) + j.val) :
    iblk (F := Ideal) m c 1 t (ix3 0 j k) = m ((c : Thread nD τ).loc main_arg2) (ix3 3 k (source b)) := by
  have hs : (source b).val = 11272 + (512 * (t.val / 6) + j.val) := by rw [← hb]; rfl
  blk_simp [iblk, index1 t]
  entry_read
  pointwise
  blk_ext! [index1 t]

/-- What a point stores, entry by entry, from the arrays. -/
theorem block2_apply (t : Fin cfg0.N) (r : Fin 1376) (j : Fin 512) (a : Fin 8256) (b : Fin 2048)
    (ha : a.val = 1376 * (t.val % 6) + r.val) (hb : b.val = 512 * (t.val / 6) + j.val) :
    (dats (F := Ideal) m 0 c).after 2 t (ix3 0 r j)
      = projected (m ((c : Thread nD τ).loc main_arg0)) (m ((c : Thread nD τ).loc main_arg2)) (ix2 a b) := by
  rw [out2_eq, stored2_apply]
  simp only [rows_read m c t r _ a ha, weights_read m c t j _ b hb]
  rfl
theorem block3_apply (t : Fin cfg0.N) (r : Fin 1376) (j : Fin 512) (a : Fin 8256) (b : Fin 2048)
    (ha : a.val = 1376 * (t.val % 6) + r.val) (hb : b.val = 512 * (t.val / 6) + j.val) :
    (dats (F := Ideal) m 0 c).after 3 t (ix2 r j)
      = projected (m ((c : Thread nD τ).loc main_arg0)) (m ((c : Thread nD τ).loc main_arg2)) (ix2 a b) := by
  rw [out3_eq, stored3_apply]
  simp only [rows_read m c t r _ a ha, weights_read m c t j _ b hb]
  rfl

/-- The array by itself after the run. -/
theorem arr_eq : (dats (F := Ideal) m 0 c).arrAt 3 cfg0.N
    = projected (m ((c : Thread nD τ).loc main_arg0)) (m ((c : Thread nD τ).loc main_arg2)) := by
  refine (dats m 0 c).arrAt_eq_of_covers 3 _ (by decide +kernel) fun t hf y => ?_
  have e0 : (((win0_3.blk t).view.emb y) 0).val = 1376 * (t.val % 6) + (y 0).val := by blk_simp [index3 t]; omega
  have e1 : (((win0_3.blk t).view.emb y) 1).val = 512 * (t.val / 6) + (y 1).val := by blk_simp [index3 t]; omega
  blk_simp
  exact (congrArg _ (eq_ix2 (n0 := 1376) (n1 := 512) y)).trans
    ((block3_apply m c t (y 0) (y 1) ((win0_3.blk t).view.emb y 0) ((win0_3.blk t).view.emb y 1) e0 e1).trans
      (congrArg (projected _ _) (eq_ix2 ((win0_3.blk t).view.emb y)).symm))

/-- Before the run the stack's buffer holds the stack given. -/
theorem entry_stack : (dats (F := Ideal) m 0 c).A 2 = m ((c : Thread nD τ).loc main_arg1) := by
  rw [A_eq]
  entry_read
  rfl

/-- The stack after the run: its last layer replaced, the others as given. -/
theorem stack_eq : (dats (F := Ideal) m 0 c).arrAt 2 cfg0.N
    = stacked (m ((c : Thread nD τ).loc main_arg0)) (m ((c : Thread nD τ).loc main_arg1)) (m ((c : Thread nD τ).loc main_arg2)) := by
  refine (dats m 0 c).arrAt_eq_of_coversWhere_of_agree 2 _ (fun β => β (0 : Fin 3) = 3) (by decide +kernel) (fun t hf y => ?_)
    (fun j hj => ?_)
  · have e : (((win0_2.blk t).view.emb y) 0).val = 3 := by
      blk_simp [index2 t]
    have e0 : (((win0_2.blk t).view.emb y) 1).val = 1376 * (t.val % 6) + (y 1).val := by blk_simp [index2 t]; omega
    have e1 : (((win0_2.blk t).view.emb y) 2).val = 512 * (t.val / 6) + (y 2).val := by blk_simp [index2 t]; omega
    have hy : y = ix3 0 (y 1) (y 2) := (eq_ix3 (n0 := 1) (n1 := 1376) (n2 := 512) y).trans
      (congrArg (fun u : Fin 1 => ix3 u (y 1) (y 2)) (Subsingleton.elim _ _))
    blk_simp
    refine (congrArg _ hy).trans
      ((block2_apply m c t (y 1) (y 2) ((win0_2.blk t).view.emb y 1) ((win0_2.blk t).view.emb y 2) e0 e1).trans ?_)
    unfold stacked
    rw [if_pos e]
    rfl
  · have hn : ¬ (j 0).val = 3 := fun h => hj (by blk_simp [Pipeline.Window.cell_apply]; omega)
    rw [entry_stack]
    unfold stacked
    exact (if_neg hn).symm

end

end Cert.ProjV

end
-- ==== Proof.ProjVRef.lean ====
/- The reference of the values of the third mixer, last layer, entry by entry. -/
module

public import proofs.«01_k».proof.Proof.Gen.Reference11Ideal.Run
public import proofs.«01_k».proof.Proof.ProjV

@[expose] public section

set_option maxRecDepth 16384

noncomputable section

namespace Cert.ProjVRef

open Idealize.ShloMosaic Idealize.ShloMosaic.TcCoe Cert.Reference11Ideal Cert.Reference11Ideal.Gen Cert.Reference11Ideal.Value Cert.ProjV

/-- The columns cut out of the whole product. -/
def columns (h : FVec Ideal S8256x4096 .bf16) (w : FVec Ideal S4x4096x25624 .f32) : FVec Ideal S8256x2048 .f32 :=
  extractStridedSlice S8256x2048 ![0, 11272] (Host.dotGeneral dot_S8256x4096_S4096x25624_S8256x25624_1_0_0_1_n_n none
    (extf .f32 h bitsLt_bf16_f32) (shapeCast _ (extractStridedSlice S1x4096x25624 ![3, 0, 0] w
      slices_S4x4096x25624_S1x4096x25624_3_0_0) shapeCasts_S1x4096x25624_S4096x25624)) slices_S8256x25624_S8256x2048_0_11272

/-- The reference's results. -/
def result (h : FVec Ideal S8256x4096 .bf16) (w : FVec Ideal S4x4096x25624 .f32) : FVec Ideal S8256x2048 .bf16 :=
  truncf .bf16 (columns h w) bitsLt_bf16_f32
def stack (h : FVec Ideal S8256x4096 .bf16) (s : FVec Ideal S4x8256x2048 .f32) (w : FVec Ideal S4x4096x25624 .f32) :
    FVec Ideal S4x8256x2048 .f32 :=
  concatenate S4x8256x2048 0 [⟨S3x8256x2048, (extractStridedSlice S3x8256x2048 ![0, 0, 0] s slices_S4x8256x2048_S3x8256x2048_0_0_0)⟩,
    ⟨S1x8256x2048, (broadcastInDim S1x8256x2048 ![1, 2] bcast_S8256x2048_S1x8256x2048_1_2 (columns h w))⟩]
    concatenates_S3x8256x2048_S1x8256x2048_S4x8256x2048_d0

theorem columns_apply (h : FVec Ideal S8256x4096 .bf16) (w : FVec Ideal S4x4096x25624 .f32) (r : Fin 8256) (n : Fin 2048) :
    columns h w (ix2 r n) = ∑ k : Fin 4096, h (ix2 r k) * w (ix3 3 k (source n)) := by
  unfold columns source
  pointwise []

theorem result_eq (h : FVec Ideal S8256x4096 .bf16) (w : FVec Ideal S4x4096x25624 .f32) : result h w = projected h w := by
  funext y
  obtain ⟨r, n, rfl⟩ : ∃ r n, y = ix2 r n := ⟨y 0, y 1, eq_ix2 y⟩
  exact columns_apply h w r n

theorem stack_eq (h : FVec Ideal S8256x4096 .bf16) (s : FVec Ideal S4x8256x2048 .f32) (w : FVec Ideal S4x4096x25624 .f32) :
    stack h s w = stacked h s w := by
  funext y
  obtain ⟨l, r, n, rfl⟩ : ∃ l r n, y = ix3 l r n := ⟨y 0, y 1, y 2, eq_ix3 y⟩
  unfold stack stacked
  match l with
  | ⟨3, _⟩ =>
    refine Eq.trans ?_ (columns_apply h w r n)
    pointwise []
  | ⟨0, _⟩ => pointwise []
  | ⟨1, _⟩ => pointwise []
  | ⟨2, _⟩ => pointwise []

end Cert.ProjVRef

end
-- ==== Proof.Gate.lean ====
/- The gates on the extended reals: the logarithm of the logistic function in the kernel's arrangement and in the host's, the capped
   values, none of which is +∞, and the sum of a column from its three bfloat16 parts. -/
module

public import proofs.«01_k».proof.Proof.Consts
public import Idealize.ShloMosaic.Lib.ValueIdx
public import Idealize.ShloMosaic.Lib.Pointwise

@[expose] public section

set_option maxRecDepth 16384

noncomputable section

namespace Cert.Gate

open Idealize.ShloMosaic

/-- The soft cap's bound, as printed. -/
def bound : EReal := Ideal.ofBits .f32 0x41700000#32

theorem bound_eq : bound = ((15 : ℝ) : EReal) := by
  unfold bound
  simp [Ideal.ofBits, Ideal.ieee, -EReal.coe_mul]; norm_num

/-- The soft cap: `15 · tanh (u / 15)`. -/
def capped (u : EReal) : EReal := bound * Ideal.tanh (Ideal.div u bound)

/-- The logarithm of the logistic function as the kernel arranges it. -/
def logSig (x : EReal) : EReal := min x 0 - Ideal.log (1 + Ideal.exp (0 - max x (-x)))

/-- The gate in lane `l`. -/
def gate (l : ℕ) (z : EReal) : EReal :=
  if l < 16 then logSig z else if l < 20 then capped z else if l < 24 then logSig (capped z) else 0

/-- The hyperbolic tangent is a real number. -/
theorem tanh_real (x : EReal) : ∃ r : ℝ, Ideal.tanh x = r := by
  induction x with
  | bot => exact ⟨-1, by simp⟩
  | top => exact ⟨1, by simp⟩
  | coe r => exact ⟨Real.tanh r, rfl⟩

theorem capped_ne_top (u : EReal) : capped u ≠ ⊤ := by
  obtain ⟨r, hr⟩ := tanh_real (Ideal.div u bound)
  rw [capped, hr, bound_eq, ← EReal.coe_mul]
  exact EReal.coe_ne_top _

/-- What the logarithm adds is a real number. -/
theorem tail_real (x : EReal) : ∃ r : ℝ, Ideal.log (1 + Ideal.exp (0 - max x (-x))) = r := by
  have one : (1 : EReal) = ((1 : ℝ) : EReal) := rfl
  have of_real : ∀ q : ℝ, 0 ≤ q → ∃ r : ℝ, Ideal.log (1 + (q : EReal)) = r := fun q hq => by
    refine ⟨Real.log (1 + q), ?_⟩
    rw [one, ← EReal.coe_add]
    exact if_neg (by linarith)
  induction x with
  | bot =>
    have e : (0 : EReal) - max ⊥ (-⊥) = ⊥ := by simp
    rw [e]; exact of_real 0 le_rfl
  | top =>
    have e : (0 : EReal) - max ⊤ (-⊤) = ⊥ := by simp
    rw [e]; exact of_real 0 le_rfl
  | coe r =>
    have e : (0 : EReal) - max (r : EReal) (-(r : EReal)) = ((0 - max r (-r) : ℝ) : EReal) := by
      rw [EReal.coe_sub, EReal.coe_strictMono.monotone.map_max, EReal.coe_neg, EReal.coe_zero]
    rw [e]
    exact of_real _ (Real.exp_pos _).le

theorem logSig_ne_top (x : EReal) : logSig x ≠ ⊤ := by
  obtain ⟨r, hr⟩ := tail_real x
  rw [logSig, hr]
  have h : min x 0 ≤ 0 := min_le_right _ _
  refine ne_top_of_le_ne_top (b := (0 : EReal) - r) ?_ (EReal.sub_le_sub h le_rfl)
  rw [zero_sub, ← EReal.coe_neg]
  exact EReal.coe_ne_top _

theorem gate_ne_top (l : ℕ) (z : EReal) : gate l z ≠ ⊤ := by
  unfold gate
  split_ifs
  · exact logSig_ne_top _
  · exact capped_ne_top _
  · exact logSig_ne_top _
  · exact EReal.zero_ne_top

/-- The gate of row `a` of the projected rows, at lane `l` (zero past the last row). -/
def value (z : (⟨2, ![8256, 128]⟩ : Shape).Idx → EReal) (b : (⟨2, ![1, 128]⟩ : Shape).Idx → EReal) (l : Fin 128) (a : ℕ) : EReal :=
  if h : a < 8256 then gate l.val (z (ix2 ⟨a, h⟩ l) + b (ix2 0 l)) else 0

theorem value_eq (z : (⟨2, ![8256, 128]⟩ : Shape).Idx → EReal) (b : (⟨2, ![1, 128]⟩ : Shape).Idx → EReal) (l : Fin 128) (a : Fin 8256) :
    value z b l a.val = gate l.val (z (ix2 a l) + b (ix2 0 l)) := dif_pos a.isLt

/-- The host's arrangement of the same logarithm: minus the logarithm of a sum of two exponentials. -/
theorem host_logSig (x : EReal) :
    -(max (-x) 0 + Ideal.log (1 + Ideal.exp (-(max (-x - 0) (-(-x - 0)))))) = logSig x := by
  have e : -(max (-x - 0) (-(-x - 0))) = 0 - max x (-x) := by
    rw [sub_zero, neg_neg, max_comm, zero_sub]
  obtain ⟨r, hr⟩ := tail_real x
  rw [e, logSig, hr, EReal.neg_add (Or.inr (EReal.coe_ne_top r)) (Or.inr (EReal.coe_ne_bot r))]
  congr 1
  induction x with
  | bot => simp
  | top => simp
  | coe q =>
    rw [← EReal.coe_neg, ← EReal.coe_zero, ← EReal.coe_strictMono.monotone.map_max, ← EReal.coe_strictMono.monotone.map_min, ← EReal.coe_neg]
    congr 1
    rcases le_total q 0 with h | h
    · rw [max_eq_left (by linarith), min_eq_left h, neg_neg]
    · rw [max_eq_right (by linarith), min_eq_right h, neg_zero]

/-- A value that is not +∞ from its leading part (itself, in exact arithmetic) and the two differences. -/
theorem parts (x : EReal) (hx : x ≠ ⊤) : x + (x - x) + ((x - x) - (x - x)) = x := by
  induction x with
  | bot => simp
  | top => exact absurd rfl hx
  | coe r => norm_cast; simp

/-- The three products by the lower triangle add up to the sum of the rows it keeps. -/
theorem triangle {n : ℕ} (p : Fin n → EReal) (hp : ∀ i, p i = 0 ∨ p i = 1) (x : Fin n → EReal) (hx : ∀ i, x i ≠ ⊤) :
    ∑ i, p i * x i + ∑ i, p i * (x i - x i) + ∑ i, p i * ((x i - x i) - (x i - x i)) = ∑ i, if p i = 1 then x i else 0 := by
  rw [← Finset.sum_add_distrib, ← Finset.sum_add_distrib]
  refine Finset.sum_congr rfl fun i _ => ?_
  rcases hp i with h | h
  · simp [h]
  · simp only [h, one_mul, if_true]
    exact parts _ (hx i)

/-- The sum of the first `q + 1` of `n` entries, over the naturals. -/
theorem prefix_sum {n : ℕ} (g : ℕ → EReal) (q : ℕ) (hq : q < n) :
    ∑ i : Fin n, (if i.val ≤ q then g i.val else 0) = ∑ i ∈ Finset.range (q + 1), g i := by
  rw [Fin.sum_univ_eq_sum_range (fun i => if i ≤ q then g i else 0) n, ← Finset.sum_filter]
  refine Finset.sum_congr (Finset.ext fun i => ?_) fun _ _ => rfl
  rw [Finset.mem_filter, Finset.mem_range, Finset.mem_range]
  omega

/-- The lane tests, on the lane's word. -/
theorem slt16 : ∀ l : Fin 128, IntOp.cmpi .slt (BitVec.ofNat 32 l.val) 16#32 = if l.val < 16 then 1#1 else 0#1 := by decide +kernel
theorem slt20 : ∀ l : Fin 128, IntOp.cmpi .slt (BitVec.ofNat 32 l.val) 20#32 = if l.val < 20 then 1#1 else 0#1 := by decide +kernel
theorem slt24 : ∀ l : Fin 128, IntOp.cmpi .slt (BitVec.ofNat 32 l.val) 24#32 = if l.val < 24 then 1#1 else 0#1 := by decide +kernel
theorem sge16 : ∀ l : Fin 128, IntOp.cmpi .sge (BitVec.ofNat 32 l.val) 16#32 = if l.val < 16 then 0#1 else 1#1 := by decide +kernel

/-- The kernel's selections, lane by lane. -/
theorem selected (l : Fin 128) (z : EReal) :
    Scalar.select (IntOp.cmpi .slt (BitVec.ofNat 32 l.val) 24#32)
      (Scalar.select (IntOp.andi (IntOp.cmpi .sge (BitVec.ofNat 32 l.val) 16#32) (IntOp.cmpi .slt (BitVec.ofNat 32 l.val) 20#32))
        (capped z) (logSig (Scalar.select (IntOp.cmpi .slt (BitVec.ofNat 32 l.val) 16#32) z (capped z)))) 0 = gate l.val z := by
  rw [slt16, slt20, slt24, sge16]
  unfold gate
  by_cases h1 : l.val < 16
  · rw [if_pos (by omega), if_pos h1, if_pos h1, if_pos h1, if_pos (by omega)]; rfl
  · by_cases h2 : l.val < 20
    · rw [if_pos (by omega), if_neg h1, if_neg h1, if_pos h2, if_neg h1, if_pos h2]; rfl
    · by_cases h3 : l.val < 24
      · rw [if_pos h3, if_neg h1, if_neg h1, if_neg h2, if_neg h1, if_neg h2, if_pos h3]; rfl
      · rw [if_neg h3, if_neg h1, if_neg h1, if_neg h2, if_neg h1, if_neg h2, if_neg h3]; rfl

/-- The lower triangle's entry: one on and below the diagonal, zero above it. -/
def tri (r x : ℕ) : EReal :=
  FloatOps.sitofp (F := Ideal) .f32 (BitVec.setWidth 32 (IntOp.cmpi .sge (BitVec.ofNat 32 r) (BitVec.ofNat 32 x)))

theorem tri_word : ∀ r x : Fin 128, IntOp.cmpi .sge (BitVec.ofNat 32 r.val) (BitVec.ofNat 32 x.val) = if x.val ≤ r.val then 1#1 else 0#1 := by
  decide +kernel

theorem tri_eq (r x : ℕ) (hr : r < 128) (hx : x < 128) : tri r x = if x ≤ r then 1 else 0 := by
  have h := tri_word ⟨r, hr⟩ ⟨x, hx⟩
  dsimp only at h
  unfold tri
  rw [h]
  split_ifs
  · show (((1 : ℤ) : ℝ) : EReal) = 1
    norm_num
  · show (((0 : ℤ) : ℝ) : EReal) = 0
    norm_num

/-- The kernel's three products by the lower triangle give the sum of a column's first `q + 1` entries. -/
theorem column {n : ℕ} (hn : n ≤ 128) (q : Fin n) (x : Fin n → EReal) (g : ℕ → EReal) (hg : ∀ i : Fin n, x i = g i.val)
    (hx : ∀ i, x i ≠ ⊤) :
    ∑ i : Fin n, tri q.val i.val * x i + ∑ i : Fin n, tri q.val i.val * (x i - x i)
      + ∑ i : Fin n, tri q.val i.val * ((x i - x i) - (x i - x i)) = ∑ i ∈ Finset.range (q.val + 1), g i := by
  have ht : ∀ i : Fin n, tri q.val i.val = if i.val ≤ q.val then 1 else 0 := fun i => tri_eq _ _ (by omega) (by omega)
  rw [triangle (fun i => tri q.val i.val) (fun i => by rw [ht]; split_ifs <;> simp) x hx, ← prefix_sum g q.val q.isLt]
  refine Finset.sum_congr rfl fun i _ => ?_
  rw [ht, hg]
  by_cases h : i.val ≤ q.val
  · simp [h]
  · simp [h]

/-- A running sum of columns, as it prints: a window of the whole middle axis, padded low by one less. -/
theorem running {A B B1 C : ℕ} (hB : B1 + 1 = B) (x : (⟨3, ![A, B, C]⟩ : Shape).Idx → EReal)
    (h : (⟨3, ![A, B, C]⟩ : Shape).ReduceWindows (![1, B, 1] : Fin 3 → ℕ) ![1, 1, 1] ![0, B1, 0] ![0, 0, 0] ⟨3, ![A, B, C]⟩)
    (a : Fin A) (b : Fin B) (c : Fin C) (g : ℕ → EReal) (hg : ∀ i : Fin B, x (ix3 a i c) = g i.val) :
    Ideal.hostReduceWindowAdd ![1, B, 1] ![1, 1, 1] ![0, B1, 0] ![0, 0, 0] h x 0 (ix3 a b c)
      = ∑ i ∈ Finset.range (b.val + 1), g i := by
  subst hB
  have fold : ∀ (l : List (Fin (⟨3, ![1, B1 + 1, 1]⟩ : Shape).numel)) (f : Fin (⟨3, ![1, B1 + 1, 1]⟩ : Shape).numel → EReal) (v : EReal),
      l.foldl (fun r n => r + f n) v = v + (l.map f).sum := fun l f => by
    induction l with
    | nil => intro v; simp
    | cons n l ih => intro v; rw [List.foldl_cons, ih, List.map_cons, List.sum_cons, add_assoc]
  let W : Shape := ⟨3, ![1, B1 + 1, 1]⟩
  let F : W.Idx → EReal := fun i => if B1 ≤ b.val + (i 1).val then g (b.val + (i 1).val - B1) else 0
  let e : Fin (B1 + 1) ≃ W.Idx := ⟨fun k => ix3 (n0 := 1) (n1 := B1 + 1) (n2 := 1) 0 k 0, fun i => i 1, fun _ => rfl, fun i => by
    funext a
    match a with
    | ⟨0, _⟩ => exact (Subsingleton.elim (α := Fin 1) _ _)
    | ⟨1, _⟩ => rfl
    | ⟨2, _⟩ => exact (Subsingleton.elim (α := Fin 1) _ _)⟩
  have hb := b.isLt
  unfold Ideal.hostReduceWindowAdd Host.reduceWindow
  refine (fold _ _ _).trans ?_
  rw [zero_add]
  refine Eq.trans (b := ∑ n : Fin W.numel, F (W.rowMajor.symm n)) ?_ ?_
  · rw [← List.sum_ofFn, List.ofFn_eq_map]
    refine congrArg List.sum (List.map_congr_left fun n _ => ?_)
    have hk := (W.rowMajor.symm n 1).isLt
    have h0 : (W.rowMajor.symm n 0).val = 0 := by have := (W.rowMajor.symm n 0).isLt; change _ < 1 at this; omega
    have h2 : (W.rowMajor.symm n 2).val = 0 := by have := (W.rowMajor.symm n 2).isLt; change _ < 1 at this; omega
    change _ < B1 + 1 at hk
    show _ = if B1 ≤ b.val + (W.rowMajor.symm n 1).val then g (b.val + (W.rowMajor.symm n 1).val - B1) else 0
    dsimp only
    split
    · next hin =>
      have h1 := hin 1
      change B1 ≤ b.val * 1 + (W.rowMajor.symm n 1).val ∧ b.val * 1 + (W.rowMajor.symm n 1).val - B1 < B1 + 1 at h1
      rw [if_pos (by omega)]
      refine (congrArg x (funext fun q => Fin.ext ?_)).trans (hg ⟨b.val + (W.rowMajor.symm n 1).val - B1, by omega⟩)
      match q with
      | ⟨0, _⟩ =>
        show a.val * 1 + (W.rowMajor.symm n 0).val - 0 = a.val
        omega
      | ⟨1, _⟩ =>
        show b.val * 1 + (W.rowMajor.symm n 1).val - B1 = b.val + (W.rowMajor.symm n 1).val - B1
        omega
      | ⟨2, _⟩ =>
        show c.val * 1 + (W.rowMajor.symm n 2).val - 0 = c.val
        omega
    · next hin =>
      rw [if_neg fun hle => hin fun q => by
        have ha := a.isLt
        have hc := c.isLt
        match q with
        | ⟨0, _⟩ =>
          show 0 ≤ a.val * 1 + (W.rowMajor.symm n 0).val ∧ a.val * 1 + (W.rowMajor.symm n 0).val - 0 < A
          omega
        | ⟨1, _⟩ =>
          show B1 ≤ b.val * 1 + (W.rowMajor.symm n 1).val ∧ b.val * 1 + (W.rowMajor.symm n 1).val - B1 < B1 + 1
          omega
        | ⟨2, _⟩ =>
          show 0 ≤ c.val * 1 + (W.rowMajor.symm n 2).val ∧ c.val * 1 + (W.rowMajor.symm n 2).val - 0 < C
          omega]
  · rw [Equiv.sum_comp W.rowMajor.symm F, ← Equiv.sum_comp e F]
    refine (Fin.sum_univ_eq_sum_range (fun k => if B1 ≤ b.val + k then g (b.val + k - B1) else 0) (B1 + 1)).trans ?_
    have hs : B1 + 1 = (B1 - b.val) + (b.val + 1) := by omega
    rw [congrArg Finset.range hs, Finset.sum_range_add, Finset.sum_eq_zero (fun k hk => if_neg (by have := Finset.mem_range.mp hk; omega)), zero_add]
    refine Finset.sum_congr rfl fun k hk => ?_
    rw [if_pos (by omega)]
    congr 1
    omega

end Cert.Gate

end
-- ==== Proof.GatesPrompt.lean ====
/- The gates of the prompt rows, four runs of 2048 in sixteen blocks each: what one grid point stores of its block of projected rows, the
   bias and the sums carried from the blocks before — the gates, their running sums, and the running sums turned — and the three arrays
   (`acts_eq`, `sums_eq`, `turned_eq`). -/
module

public import proofs.«01_k».proof.Proof.Gen.Kernel12Ideal.Value
public import proofs.«01_k».proof.Proof.Gate
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GatesPrompt

open Idealize.ShloMosaic Idealize.ShloMosaic.TcCoe Cert.Kernel12Ideal Cert.Kernel12Ideal.Gen Cert.Gate

/-- The gates of the first 8192 rows. -/
def acts (z : FVec Ideal S8256x128 .f32) (b : FVec Ideal S1x128 .f32) : FVec Ideal S8192x128 .f32 := fun y =>
  value z b (y 1) (y 0).val

/-- Their running sums within each run of 2048 rows. -/
def sums (z : FVec Ideal S8256x128 .f32) (b : FVec Ideal S1x128 .f32) : FVec Ideal S8192x128 .f32 := fun y =>
  ∑ i ∈ Finset.range ((y 0).val % 2048 + 1), value z b (y 1) (2048 * ((y 0).val / 2048) + i)

/-- The same, lanes before rows. -/
def turned (z : FVec Ideal S8256x128 .f32) (b : FVec Ideal S1x128 .f32) : FVec Ideal S4x128x2048 .f32 := fun y =>
  ∑ i ∈ Finset.range ((y 2).val + 1), value z b (y 1) (2048 * (y 0).val + i)

/-- The gates stored of a block. -/
theorem act_apply (z : Vec Ideal S128x128 .f32) (b : Vec Ideal S1x128 .f32) (r : Fin 128) (l : Fin 128) :
    k0_pay5 z b (ix2 r l) = gate l.val (z (ix2 r l) + b (ix2 0 l)) := by
  refine Eq.trans ?_ (selected l _)
  unfold k0_pay5
  pointwise []
  rfl

/-- The row numbers a block's triangle is made of. -/
abbrev rowNumbers : IVec S128x128 32 := iota .tc S128x128 32 [0] iota_S128x128_d0_w32

/-- The running sums stored of a block of gates, over what the rows before add up to. -/
theorem sum_apply (v : FVec Ideal S128x128 .f32) (b : Vec Ideal S1x128 .f32) (r : Fin 128) (l : Fin 128)
    (g : ℕ → EReal) (hg : ∀ i : Fin 128, v (ix2 i l) = g i.val) (hv : ∀ i : Fin 128, v (ix2 i l) ≠ ⊤) :
    k0_pay1 v rowNumbers b (ix2 r l) = ∑ i ∈ Finset.range (r.val + 1), g i + b (ix2 0 l) := by
  rw [← column (n := 128) (by decide) r (fun i => v (ix2 i l)) g hg hv]
  unfold k0_pay1
  pointwise []
  rfl

/-- The carried row is the last running sum, the third block the running sums turned, and each run starts from zero. -/
theorem carry_apply (v : FVec Ideal S128x128 .f32) (w : IVec S128x128 32) (b : Vec Ideal S1x128 .f32) (l : Fin 128) :
    k0_pay2 v w b (ix2 0 l) = k0_pay1 v w b (ix2 127 l) := by
  unfold k0_pay2
  generalize k0_pay1 v w b = u
  pointwise []
theorem turned_apply (v : FVec Ideal S128x128 .f32) (w : IVec S128x128 32) (b : Vec Ideal S1x128 .f32) (r l : Fin 128) :
    k0_pay3 v w b (ix3 0 l r) = k0_pay1 v w b (ix2 r l) := by
  unfold k0_pay3
  generalize k0_pay1 v w b = u
  pointwise []
theorem start_apply (l : Fin 128) : k0_pay4 (F := Ideal) (ix2 0 l) = 0 := by
  unfold k0_pay4
  pointwise []

/-- Where each window's block of grid point `t` stands, in blocks. -/
theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val / 16, 0, t.val % 16] := by decide +kernel

section
variable (m : (ℓ : Loc nD τ sig) → Buf (Elt Ideal) ℓ) (c : Dev nD)

/-- What the point before left of the run's sums: zero at a run's first point. -/
def carried (t : Fin cfg0.N) : Vec Ideal S1x128 .f32 :=
  if t.val % 16 = 0 then k0_pay4 (F := Ideal) else (outsAt0 (F := Ideal) m c (t.val - 1) (Nat.lt_of_le_of_lt (Nat.sub_le _ _) t.isLt)).2.2.2

/-- A point's gates. -/
abbrev gates (t : Fin cfg0.N) : FVec Ideal S128x128 .f32 := k0_pay5 (F := Ideal) (X0_0 m c t) (iblk m c 1 t)

/-- What a point stores and what it leaves for the next one. -/
theorem out2_eq (t : Fin cfg0.N) (y : S128x128.Idx) : (dats (F := Ideal) m 0 c).after 2 t y = gates m c t y := by
  rw [after0_2]
  by_cases h : t.val % 16 = 0
  · rw [outsAt0_A m c t h]; frame_out
  · rw [outsAt0_B m c t h]; frame_out
theorem out3_eq (t : Fin cfg0.N) (y : S128x128.Idx) :
    (dats (F := Ideal) m 0 c).after 3 t y = k0_pay1 (gates m c t) rowNumbers (carried m c t) y := by
  rw [after0_3]
  unfold carried
  by_cases h : t.val % 16 = 0
  · rw [outsAt0_A m c t h, if_pos h]; frame_out
  · rw [outsAt0_B m c t h, if_neg h]; frame_out; simp only [read_unread_whole]
theorem out4_eq (t : Fin cfg0.N) (y : S1x128x128.Idx) :
    (dats (F := Ideal) m 0 c).after 4 t y = k0_pay3 (gates m c t) rowNumbers (carried m c t) y := by
  rw [after0_4]
  unfold carried
  by_cases h : t.val % 16 = 0
  · rw [outsAt0_A m c t h, if_pos h]; frame_out
  · rw [outsAt0_B m c t h, if_neg h]; frame_out; simp only [read_unread_whole]
theorem left_eq (t : Fin cfg0.N) (y : S1x128.Idx) :
    (outsAt0 (F := Ideal) m c t.val t.isLt).2.2.2 y = k0_pay2 (gates m c t) rowNumbers (carried m c t) y := by
  unfold carried
  by_cases h : t.val % 16 = 0
  · rw [outsAt0_A m c t h, if_pos h]; frame_out
  · rw [outsAt0_B m c t h, if_neg h]; frame_out; simp only [read_unread_whole]

/-- The arguments' blocks, read off the arrays. -/
theorem rows_read (t : Fin cfg0.N) (r : Fin 128) (l : Fin 128) (a : Fin 8256) (ha : a.val = 128 * t.val + r.val) :
    X0_0 (F := Ideal) m c t (ix2 r l) = m ((c : Thread nD τ).loc main_arg0) (ix2 a l) := by
  unfold X0_0 Pipeline.Window.fill
  rw [dif_pos (moved0_0 t _)]
  blk_ext [iblk, V, index0 t]
theorem bias_read (t : Fin cfg0.N) (l : Fin 128) :
    iblk (F := Ideal) m c 1 t (ix2 0 l) = m ((c : Thread nD τ).loc main_arg1) (ix2 0 l) := by
  blk_ext [iblk, V, index1 t]

/-- Row `a` of the arguments' gates. -/
abbrev val (l : Fin 128) (a : ℕ) : EReal := value (m ((c : Thread nD τ).loc main_arg0)) (m ((c : Thread nD τ).loc main_arg1)) l a

/-- A point's gates, from the arrays. -/
theorem act_read (t : Fin cfg0.N) (r : Fin 128) (l : Fin 128) : gates m c t (ix2 r l) = val m c l (128 * t.val + r.val) := by
  have ht : t.val < 64 := t.isLt
  unfold gates
  rw [act_apply]
  simp only [rows_read m c t r l ⟨128 * t.val + r.val, by omega⟩ rfl, bias_read m c t l]
  exact (value_eq _ _ l ⟨128 * t.val + r.val, by omega⟩).symm

/-- A point's running sums, over what is carried to it. -/
theorem sum_read (t : Fin cfg0.N) (r : Fin 128) (l : Fin 128) :
    k0_pay1 (gates m c t) rowNumbers (carried m c t) (ix2 r l)
      = ∑ i ∈ Finset.range (r.val + 1), val m c l (128 * t.val + i) + carried m c t (ix2 0 l) :=
  sum_apply _ _ r l (fun i => val m c l (128 * t.val + i)) (fun i => act_read m c t i l)
    (fun i => by unfold gates; rw [act_apply]; exact gate_ne_top _ _)

/-- Sums of the rows of a run, the rows of earlier blocks first. -/
theorem run_sum (g : ℕ → EReal) (n q : ℕ) :
    ∑ i ∈ Finset.range q, g (128 * n + i) + ∑ i ∈ Finset.range (128 * (n % 16)), g (2048 * (n / 16) + i)
      = ∑ i ∈ Finset.range (128 * (n % 16) + q), g (2048 * (n / 16) + i) := by
  rw [Finset.sum_range_add, add_comm]
  congr 1
  refine Finset.sum_congr rfl fun i _ => congrArg g ?_
  omega

/-- What is carried to a point: the sums of the gates of its run's earlier rows. -/
theorem carried_eq (l : Fin 128) : ∀ (n : ℕ) (h : n < cfg0.N), carried m c ⟨n, h⟩ (ix2 0 l)
    = ∑ i ∈ Finset.range (128 * (n % 16)), val m c l (2048 * (n / 16) + i)
  | 0, h => by
    unfold carried
    exact start_apply l
  | n + 1, h => by
    by_cases h0 : (n + 1) % 16 = 0
    · unfold carried
      rw [if_pos h0, start_apply, h0]
      rfl
    · have hn : n < cfg0.N := Nat.lt_of_succ_lt h
      have e : carried m c ⟨n + 1, h⟩ (ix2 0 l) = (outsAt0 (F := Ideal) m c n hn).2.2.2 (ix2 0 l) := by
        unfold carried
        rw [if_neg h0]
        rfl
      rw [e, left_eq m c ⟨n, hn⟩, carry_apply, sum_read, carried_eq l n hn]
      refine (run_sum (val m c l) n 128).trans ?_
      have e1 : (n + 1) % 16 = n % 16 + 1 := by omega
      have e2 : (n + 1) / 16 = n / 16 := by omega
      rw [e1, e2, Nat.mul_add]

/-- A point's running sums, from the arrays. -/
theorem sum_eq (t : Fin cfg0.N) (r : Fin 128) (l : Fin 128) :
    k0_pay1 (gates m c t) rowNumbers (carried m c t) (ix2 r l)
      = ∑ i ∈ Finset.range (128 * (t.val % 16) + r.val + 1), val m c l (2048 * (t.val / 16) + i) := by
  rw [sum_read, carried_eq m c l t.val t.isLt, run_sum (val m c l) t.val (r.val + 1), Nat.add_assoc]

/-- What a point stores, entry by entry, from the arrays. -/
theorem block2_apply (t : Fin cfg0.N) (r : Fin 128) (l : Fin 128) (a : Fin 8192) (ha : a.val = 128 * t.val + r.val) :
    (dats (F := Ideal) m 0 c).after 2 t (ix2 r l)
      = acts (m ((c : Thread nD τ).loc main_arg0)) (m ((c : Thread nD τ).loc main_arg1)) (ix2 a l) := by
  rw [out2_eq, act_read]
  show value _ _ l _ = value _ _ l a.val
  rw [ha]
theorem block3_apply (t : Fin cfg0.N) (r : Fin 128) (l : Fin 128) (a : Fin 8192) (ha : a.val = 128 * t.val + r.val) :
    (dats (F := Ideal) m 0 c).after 3 t (ix2 r l)
      = sums (m ((c : Thread nD τ).loc main_arg0)) (m ((c : Thread nD τ).loc main_arg1)) (ix2 a l) := by
  have e1 : a.val % 2048 = 128 * (t.val % 16) + r.val := by omega
  have e2 : a.val / 2048 = t.val / 16 := by omega
  rw [out3_eq, sum_eq]
  show _ = ∑ i ∈ Finset.range (a.val % 2048 + 1), value _ _ l (2048 * (a.val / 2048) + i)
  rw [e1, e2]
theorem block4_apply (t : Fin cfg0.N) (r : Fin 128) (l : Fin 128) (p : Fin 4) (a : Fin 2048) (hp : p.val = t.val / 16)
    (ha : a.val = 128 * (t.val % 16) + r.val) :
    (dats (F := Ideal) m 0 c).after 4 t (ix3 0 l r)
      = turned (m ((c : Thread nD τ).loc main_arg0)) (m ((c : Thread nD τ).loc main_arg1)) (ix3 p l a) := by
  rw [out4_eq, turned_apply, sum_eq]
  show _ = ∑ i ∈ Finset.range (a.val + 1), value _ _ l (2048 * p.val + i)
  rw [ha, hp]

/-- The arrays after the run. -/
theorem acts_eq : (dats (F := Ideal) m 0 c).arrAt 2 cfg0.N
    = acts (m ((c : Thread nD τ).loc main_arg0)) (m ((c : Thread nD τ).loc main_arg1)) := by
  refine (dats m 0 c).arrAt_eq_of_covers 2 _ (by decide +kernel) fun t hf y => ?_
  have e0 : (((win0_2.blk t).view.emb y) 0).val = 128 * t.val + (y 0).val := by blk_simp [index2 t]; omega
  have e1 : ((win0_2.blk t).view.emb y) 1 = y 1 := Fin.ext (by blk_simp [index2 t])
  blk_simp
  exact (congrArg _ (eq_ix2 (n0 := 128) (n1 := 128) y)).trans
    ((block2_apply m c t (y 0) (y 1) ((win0_2.blk t).view.emb y 0) e0).trans
      (congrArg (acts _ _) ((eq_ix2 ((win0_2.blk t).view.emb y)).trans (congrArg _ e1)).symm))
theorem sums_eq : (dats (F := Ideal) m 0 c).arrAt 3 cfg0.N
    = sums (m ((c : Thread nD τ).loc main_arg0)) (m ((c : Thread nD τ).loc main_arg1)) := by
  refine (dats m 0 c).arrAt_eq_of_covers 3 _ (by decide +kernel) fun t hf y => ?_
  have e0 : (((win0_3.blk t).view.emb y) 0).val = 128 * t.val + (y 0).val := by blk_simp [index3 t]; omega
  have e1 : ((win0_3.blk t).view.emb y) 1 = y 1 := Fin.ext (by blk_simp [index3 t])
  blk_simp
  exact (congrArg _ (eq_ix2 (n0 := 128) (n1 := 128) y)).trans
    ((block3_apply m c t (y 0) (y 1) ((win0_3.blk t).view.emb y 0) e0).trans
      (congrArg (sums _ _) ((eq_ix2 ((win0_3.blk t).view.emb y)).trans (congrArg _ e1)).symm))
theorem turned_eq : (dats (F := Ideal) m 0 c).arrAt 4 cfg0.N
    = turned (m ((c : Thread nD τ).loc main_arg0)) (m ((c : Thread nD τ).loc main_arg1)) := by
  refine (dats m 0 c).arrAt_eq_of_covers 4 _ (by decide +kernel) fun t hf y => ?_
  have h0 : y 0 = (0 : Fin 1) := Subsingleton.elim (α := Fin 1) _ _
  have e0 : (((win0_4.blk t).view.emb y) 0).val = t.val / 16 := by
    blk_simp [index4 t]
  have e1 : ((win0_4.blk t).view.emb y) 1 = y 1 := Fin.ext (by blk_simp [index4 t])
  have e2 : (((win0_4.blk t).view.emb y) 2).val = 128 * (t.val % 16) + (y 2).val := by blk_simp [index4 t]; omega
  have ey : y = ix3 0 (y 1) (y 2) := (eq_ix3 (n0 := 1) (n1 := 128) (n2 := 128) y).trans (congrArg (fun q => ix3 q (y 1) (y 2)) h0)
  have ee : (win0_4.blk t).view.emb y = ix3 ((win0_4.blk t).view.emb y 0) (y 1) ((win0_4.blk t).view.emb y 2) :=
    (eq_ix3 ((win0_4.blk t).view.emb y)).trans (congrArg (fun q => ix3 _ q _) e1)
  blk_simp
  exact (congrArg _ ey).trans
    ((block4_apply m c t (y 2) (y 1) ((win0_4.blk t).view.emb y 0) ((win0_4.blk t).view.emb y 2) e0 e2).trans
      (congrArg (turned _ _) ee.symm))

end

end Cert.GatesPrompt

end
-- ==== Proof.GatesPromptRef.lean ====
/- The reference of the gates of the prompt rows, entry by entry. -/
module

public import proofs.«01_k».proof.Proof.Gen.Reference12Ideal.Run
public import proofs.«01_k».proof.Proof.GatesPrompt

@[expose] public section

set_option maxRecDepth 16384

noncomputable section

namespace Cert.GatesPromptRef

open Idealize.ShloMosaic Idealize.ShloMosaic.TcCoe Cert.Reference12Ideal Cert.Reference12Ideal.Gen Cert.Reference12Ideal.Value Cert.Gate Cert.GatesPrompt

/-- The rows with the bias added, cut into runs. -/
def biased (z : FVec Ideal S8256x128 .f32) (b : FVec Ideal S1x128 .f32) : FVec Ideal S4x2048x128 .f32 :=
  addf (shapeCast _ (extractStridedSlice S8192x128 ![0, 0] z slices_S8256x128_S8192x128_0_0) shapeCasts_S8192x128_S4x2048x128)
    (broadcastInDim S4x2048x128 ![0, 1, 2] bcast_S1x1x128_S4x2048x128_0_1_2 (broadcastInDim S1x1x128 ![1, 2] bcast_S1x128_S1x1x128_1_2 b))

/-- The soft cap of four lanes. -/
def cap (x : FVec Ideal S4x2048x4 .f32) : FVec Ideal S4x2048x4 .f32 :=
  mulf (broadcastInDim S4x2048x4 ![] bcast_S_S4x2048x4 (constant S_ .f32 0x41700000#32)) (Host.tanh (Host.divf x (broadcastInDim S4x2048x4 ![] bcast_S_S4x2048x4 (constant S_ .f32 0x41700000#32))))

/-- The host's logarithm of the logistic function, over 16 lanes. -/
def logSig16 (x : FVec Ideal S4x2048x16 .f32) : FVec Ideal S4x2048x16 .f32 :=
  Host.negf (select (cmpf .une (subf (Host.negf x) (broadcastInDim S4x2048x16 ![] bcast_S_S4x2048x16 (constant S_ .f32 0x00000000#32))) (subf (Host.negf x) (broadcastInDim S4x2048x16 ![] bcast_S_S4x2048x16 (constant S_ .f32 0x00000000#32)))) (addf (Host.negf x) (broadcastInDim S4x2048x16 ![] bcast_S_S4x2048x16 (constant S_ .f32 0x00000000#32)))
    (addf (maximumf (Host.negf x) (broadcastInDim S4x2048x16 ![] bcast_S_S4x2048x16 (constant S_ .f32 0x00000000#32))) (Host.log1p (Host.exp (Host.negf (Host.absf (subf (Host.negf x) (broadcastInDim S4x2048x16 ![] bcast_S_S4x2048x16 (constant S_ .f32 0x00000000#32)))))))))

/-- The host's logarithm of the logistic function, over 4 lanes. -/
def logSig4 (x : FVec Ideal S4x2048x4 .f32) : FVec Ideal S4x2048x4 .f32 :=
  Host.negf (select (cmpf .une (subf (Host.negf x) (broadcastInDim S4x2048x4 ![] bcast_S_S4x2048x4 (constant S_ .f32 0x00000000#32))) (subf (Host.negf x) (broadcastInDim S4x2048x4 ![] bcast_S_S4x2048x4 (constant S_ .f32 0x00000000#32)))) (addf (Host.negf x) (broadcastInDim S4x2048x4 ![] bcast_S_S4x2048x4 (constant S_ .f32 0x00000000#32)))
    (addf (maximumf (Host.negf x) (broadcastInDim S4x2048x4 ![] bcast_S_S4x2048x4 (constant S_ .f32 0x00000000#32))) (Host.log1p (Host.exp (Host.negf (Host.absf (subf (Host.negf x) (broadcastInDim S4x2048x4 ![] bcast_S_S4x2048x4 (constant S_ .f32 0x00000000#32)))))))))

/-- The gates, run by run. -/
def gates (z : FVec Ideal S8256x128 .f32) (b : FVec Ideal S1x128 .f32) : FVec Ideal S4x2048x128 .f32 :=
  concatenate S4x2048x128 2 [⟨S4x2048x16, (logSig16 (extractStridedSlice S4x2048x16 ![0, 0, 0] (biased z b) slices_S4x2048x128_S4x2048x16_0_0_0) : (⟨S4x2048x16, .f32⟩ : BufTy).Contents (Elt Ideal))⟩,
    ⟨S4x2048x4, (cap (extractStridedSlice S4x2048x4 ![0, 0, 16] (biased z b) slices_S4x2048x128_S4x2048x4_0_0_16) : (⟨S4x2048x4, .f32⟩ : BufTy).Contents (Elt Ideal))⟩,
    ⟨S4x2048x4, (logSig4 (cap (extractStridedSlice S4x2048x4 ![0, 0, 20] (biased z b) slices_S4x2048x128_S4x2048x4_0_0_20)) : (⟨S4x2048x4, .f32⟩ : BufTy).Contents (Elt Ideal))⟩,
    ⟨S4x2048x104, (broadcastInDim S4x2048x104 ![] bcast_S_S4x2048x104 (constant (F := Ideal) S_ .f32 0x00000000#32) : (⟨S4x2048x104, .f32⟩ : BufTy).Contents (Elt Ideal))⟩]
    concatenates_S4x2048x16_S4x2048x4_S4x2048x4_S4x2048x104_S4x2048x128_d2

/-- Their running sums along each run. -/
def running (z : FVec Ideal S8256x128 .f32) (b : FVec Ideal S1x128 .f32) : FVec Ideal S4x2048x128 .f32 :=
  Host.reduceWindowAdd ![1, 2048, 1] ![1, 1, 1] ![0, 2047, 0] ![0, 0, 0] (gates z b : (⟨S4x2048x128, .f32⟩ : BufTy).Contents (Elt Ideal))
    (broadcastInDim S_ ![] bcast_S_S_ (constant S_ .f32 0x00000000#32))
    reduceWindows_S4x2048x128_S4x2048x128_w1s1p0_0_w2048s1p2047_0_w1s1p0_0 h_S_

theorem biased_apply (z : FVec Ideal S8256x128 .f32) (b : FVec Ideal S1x128 .f32) (p : Fin 4) (r : Fin 2048) (l : Fin 128) (a : Fin 8256)
    (ha : a.val = 2048 * p.val + r.val) : biased z b (ix3 p r l) = z (ix2 a l) + b (ix2 0 l) := by
  unfold biased
  pointwise []
  refine congrArg (fun a => z (ix2 a l) + b (ix2 0 l)) (Fin.ext ?_)
  rw [ha]
  show (p.val * 2048 + r.val) = _
  omega

theorem cap_apply (x : FVec Ideal S4x2048x4 .f32) (i : S4x2048x4.Idx) : cap x i = capped (x i) := by
  unfold cap capped bound
  pointwise []

theorem logSig16_apply (x : FVec Ideal S4x2048x16 .f32) (i : S4x2048x16.Idx) : logSig16 x i = logSig (x i) := by
  rw [← host_logSig]
  unfold logSig16
  pointwise []
  rw [if_neg (not_not_intro rfl)]
  rfl

theorem logSig4_apply (x : FVec Ideal S4x2048x4 .f32) (i : S4x2048x4.Idx) : logSig4 x i = logSig (x i) := by
  rw [← host_logSig]
  unfold logSig4
  pointwise []
  rw [if_neg (not_not_intro rfl)]
  rfl

/-- The gates, entry by entry. -/
theorem gates_apply (z : FVec Ideal S8256x128 .f32) (b : FVec Ideal S1x128 .f32) (p : Fin 4) (r : Fin 2048) (l : Fin 128) :
    gates z b (ix3 p r l) = value z b l (2048 * p.val + r.val) := by
  have hb : ∀ k : Fin 128, biased z b (ix3 p r k) = z (ix2 ⟨2048 * p.val + r.val, by omega⟩ k) + b (ix2 0 k) := fun k =>
    biased_apply z b p r k ⟨2048 * p.val + r.val, by omega⟩ rfl
  rw [show 2048 * p.val + r.val = (⟨2048 * p.val + r.val, by omega⟩ : Fin 8256).val from rfl, value_eq, ← hb l]
  unfold gates gate
  generalize biased z b = x
  pointwise []
  simp only [cap_apply, logSig16_apply, logSig4_apply]
  pointwise []
  by_cases h1 : l.val < 16
  · rw [dif_pos h1, if_pos h1]
  · rw [dif_neg h1, if_neg h1]
    by_cases h2 : l.val < 20
    · rw [dif_pos (by omega), if_pos h2]
      exact congrArg (fun k => capped (x (ix3 p r k))) (Fin.ext (by show 16 + (l.val - 16) = l.val; omega))
    · rw [dif_neg (by omega), if_neg h2]
      by_cases h3 : l.val < 24
      · rw [dif_pos (by omega), if_pos h3]
        exact congrArg (fun k => logSig (capped (x (ix3 p r k)))) (Fin.ext (by show 20 + (l.val - 16 - 4) = l.val; omega))
      · rw [dif_neg (by omega), if_neg h3]

theorem running_apply (z : FVec Ideal S8256x128 .f32) (b : FVec Ideal S1x128 .f32) (p : Fin 4) (r : Fin 2048) (l : Fin 128) :
    running z b (ix3 p r l) = ∑ i ∈ Finset.range (r.val + 1), value z b l (2048 * p.val + i) := by
  refine Eq.trans ?_ (Cert.Gate.running (B1 := 2047) (by decide) (gates z b) reduceWindows_S4x2048x128_S4x2048x128_w1s1p0_0_w2048s1p2047_0_w1s1p0_0
    p r l (fun i => value z b l (2048 * p.val + i)) (fun i => gates_apply z b p i l))
  have e0 : ∀ i, broadcastInDim S_ ![] bcast_S_S_ (constant (F := Ideal) S_ .f32 0x00000000#32) i = 0 := fun i => by pointwise []
  unfold running Host.reduceWindowAdd
  rw [e0]
  rfl

section
variable (m : (ℓ : Loc nD τ sig) → Buf (Elt Ideal) ℓ) (c : Dev nD)

/-- The reference's gates and running sums are the kernel's. -/
theorem acts_eq : res_out0 m c = acts (m ((c.tc : Thread nD τ).loc main_arg0)) (m ((c.tc : Thread nD τ).loc main_arg1)) := by
  have e : res_out0 m c = shapeCast S8192x128 (gates (m ((c.tc : Thread nD τ).loc main_arg0)) (m ((c.tc : Thread nD τ).loc main_arg1)))
      shapeCasts_S4x2048x128_S8192x128 := rfl
  rw [e]
  funext y
  obtain ⟨a, l, rfl⟩ : ∃ a l, y = ix2 a l := ⟨y 0, y 1, eq_ix2 y⟩
  have hg := gates_apply (m ((c.tc : Thread nD τ).loc main_arg0)) (m ((c.tc : Thread nD τ).loc main_arg1)) ⟨a.val / 2048, by omega⟩ ⟨a.val % 2048, by omega⟩ l
  generalize gates _ _ = u at hg ⊢
  pointwise []
  rw [hg]
  show value _ _ l _ = value _ _ l a.val
  congr 1
  simp only
  omega

theorem sums_eq : res_out1 m c = sums (m ((c.tc : Thread nD τ).loc main_arg0)) (m ((c.tc : Thread nD τ).loc main_arg1)) := by
  have e : res_out1 m c = shapeCast S8192x128 (running (m ((c.tc : Thread nD τ).loc main_arg0)) (m ((c.tc : Thread nD τ).loc main_arg1)))
      shapeCasts_S4x2048x128_S8192x128 := rfl
  rw [e]
  funext y
  obtain ⟨a, l, rfl⟩ : ∃ a l, y = ix2 a l := ⟨y 0, y 1, eq_ix2 y⟩
  have hg := running_apply (m ((c.tc : Thread nD τ).loc main_arg0)) (m ((c.tc : Thread nD τ).loc main_arg1)) ⟨a.val / 2048, by omega⟩ ⟨a.val % 2048, by omega⟩ l
  generalize running _ _ = u at hg ⊢
  pointwise []
  rw [hg]
  show _ = ∑ i ∈ Finset.range (a.val % 2048 + 1), value _ _ l (2048 * (a.val / 2048) + i)
  rfl

theorem turned_eq : res_out2 m c = turned (m ((c.tc : Thread nD τ).loc main_arg0)) (m ((c.tc : Thread nD τ).loc main_arg1)) := by
  have e : res_out2 m c = transpose S4x128x2048 [0, 2, 1] (running (m ((c.tc : Thread nD τ).loc main_arg0)) (m ((c.tc : Thread nD τ).loc main_arg1)))
      transposes_S4x2048x128_S4x128x2048_0_2_1 := rfl
  rw [e]
  funext y
  obtain ⟨p, l, a, rfl⟩ : ∃ p l a, y = ix3 p l a := ⟨y 0, y 1, y 2, eq_ix3 y⟩
  have hg := running_apply (m ((c.tc : Thread nD τ).loc main_arg0)) (m ((c.tc : Thread nD τ).loc main_arg1)) p a l
  generalize running _ _ = u at hg ⊢
  pointwise []
  rw [hg]
  rfl

end

end Cert.GatesPromptRef

end
-- ==== Proof.GatesLast.lean ====
/- The gates of the last rows, eight streams of eight: what one grid point stores of its block of projected rows and the bias — the gates
   and their running sums — and the two arrays (`acts_eq`, `sums_eq`). -/
module

public import proofs.«01_k».proof.Proof.Gen.Kernel13Ideal.Value
public import proofs.«01_k».proof.Proof.Gate
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GatesLast

open Idealize.ShloMosaic Idealize.ShloMosaic.TcCoe Cert.Kernel13Ideal Cert.Kernel13Ideal.Gen Cert.Gate

/-- The gates of the last 64 rows. -/
def acts (z : FVec Ideal S8256x128 .f32) (b : FVec Ideal S1x128 .f32) : FVec Ideal S64x128 .f32 := fun y =>
  value z b (y 1) (8192 + (y 0).val)

/-- Their running sums within each stream of eight rows. -/
def sums (z : FVec Ideal S8256x128 .f32) (b : FVec Ideal S1x128 .f32) : FVec Ideal S64x128 .f32 := fun y =>
  ∑ i ∈ Finset.range ((y 0).val % 8 + 1), value z b (y 1) (8192 + 8 * ((y 0).val / 8) + i)

/-- The gates stored of a block. -/
theorem act_apply (z : Vec Ideal S8x128 .f32) (b : Vec Ideal S1x128 .f32) (r : Fin 8) (l : Fin 128) :
    k0_pay4 z b (ix2 r l) = gate l.val (z (ix2 r l) + b (ix2 0 l)) := by
  refine Eq.trans ?_ (selected l _)
  unfold k0_pay4
  pointwise []
  rfl

/-- The running sums stored of a block of gates, over what the rows before add up to. -/
theorem sum_apply (v : FVec Ideal S8x128 .f32) (b : Vec Ideal S1x128 .f32) (r : Fin 8) (l : Fin 128)
    (g : ℕ → EReal) (hg : ∀ i : Fin 8, v (ix2 i l) = g i.val) (hv : ∀ i : Fin 8, v (ix2 i l) ≠ ⊤) :
    k0_pay1 v (iota .tc S8x8 32 [0] iota_S8x8_d0_w32) b (ix2 r l) = ∑ i ∈ Finset.range (r.val + 1), g i + b (ix2 0 l) := by
  rw [← column (n := 8) (by decide) r (fun i => v (ix2 i l)) g hg hv]
  unfold k0_pay1
  pointwise []
  rfl

/-- Each stream starts from zero. -/
theorem start_apply (l : Fin 128) : k0_pay3 (F := Ideal) (ix2 0 l) = 0 := by
  unfold k0_pay3
  pointwise []

/-- Where each window's block of grid point `t` stands, in blocks. -/
theorem index0 : ∀ t : Fin grid0.N, win0_0.index t = ![1024 + t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![t.val, 0] := by decide +kernel

section
variable (m : (ℓ : Loc nD τ sig) → Buf (Elt Ideal) ℓ) (c : Dev nD)

/-- What a point stores. -/
theorem out2_eq (t : Fin cfg0.N) (y : S8x128.Idx) :
    (dats (F := Ideal) m 0 c).after 2 t y = k0_pay4 (iblk m c 0 t) (iblk m c 1 t) y := by
  rw [after0_2]; unfold outsAt0; frame_out
theorem out3_eq (t : Fin cfg0.N) (y : S8x128.Idx) :
    (dats (F := Ideal) m 0 c).after 3 t y
      = k0_pay1 (k0_pay4 (iblk m c 0 t) (iblk m c 1 t)) (iota .tc S8x8 32 [0] iota_S8x8_d0_w32) (k0_pay3 (F := Ideal)) y := by
  rw [after0_3]; unfold outsAt0; frame_out

/-- The arguments' blocks, read off the arrays. -/
theorem rows_read (t : Fin cfg0.N) (r : Fin 8) (l : Fin 128) (a : Fin 8256) (ha : a.val = 8192 + 8 * t.val + r.val) :
    iblk (F := Ideal) m c 0 t (ix2 r l) = m ((c : Thread nD τ).loc main_arg0) (ix2 a l) := by
  blk_ext [iblk, V, index0 t]
theorem bias_read (t : Fin cfg0.N) (l : Fin 128) :
    iblk (F := Ideal) m c 1 t (ix2 0 l) = m ((c : Thread nD τ).loc main_arg1) (ix2 0 l) := by
  blk_ext [iblk, V, index1 t]

/-- A point's gates, from the arrays. -/
theorem act_read (t : Fin cfg0.N) (r : Fin 8) (l : Fin 128) :
    k0_pay4 (F := Ideal) (iblk m c 0 t) (iblk m c 1 t) (ix2 r l)
      = value (m ((c : Thread nD τ).loc main_arg0)) (m ((c : Thread nD τ).loc main_arg1)) l (8192 + 8 * t.val + r.val) := by
  have ht : t.val < 8 := t.isLt
  rw [act_apply]
  simp only [rows_read m c t r l ⟨8192 + 8 * t.val + r.val, by omega⟩ rfl, bias_read m c t l]
  exact (value_eq _ _ l ⟨8192 + 8 * t.val + r.val, by omega⟩).symm

/-- What a point stores, entry by entry, from the arrays. -/
theorem block2_apply (t : Fin cfg0.N) (r : Fin 8) (l : Fin 128) (a : Fin 64) (ha : a.val = 8 * t.val + r.val) :
    (dats (F := Ideal) m 0 c).after 2 t (ix2 r l)
      = acts (m ((c : Thread nD τ).loc main_arg0)) (m ((c : Thread nD τ).loc main_arg1)) (ix2 a l) := by
  rw [out2_eq, act_read]
  show value _ _ l _ = value _ _ l (8192 + a.val)
  rw [ha, Nat.add_assoc]
theorem block3_apply (t : Fin cfg0.N) (r : Fin 8) (l : Fin 128) (a : Fin 64) (ha : a.val = 8 * t.val + r.val) :
    (dats (F := Ideal) m 0 c).after 3 t (ix2 r l)
      = sums (m ((c : Thread nD τ).loc main_arg0)) (m ((c : Thread nD τ).loc main_arg1)) (ix2 a l) := by
  have e1 : a.val % 8 = r.val := by omega
  have e2 : a.val / 8 = t.val := by omega
  rw [out3_eq, sum_apply _ _ r l (fun i => value (m ((c : Thread nD τ).loc main_arg0)) (m ((c : Thread nD τ).loc main_arg1)) l (8192 + 8 * t.val + i))
    (fun i => act_read m c t i l) (fun i => by rw [act_apply]; exact gate_ne_top _ _), start_apply, add_zero]
  show _ = ∑ i ∈ Finset.range (a.val % 8 + 1), value _ _ l (8192 + 8 * (a.val / 8) + i)
  rw [e1, e2]

/-- The arrays after the run. -/
theorem acts_eq : (dats (F := Ideal) m 0 c).arrAt 2 cfg0.N
    = acts (m ((c : Thread nD τ).loc main_arg0)) (m ((c : Thread nD τ).loc main_arg1)) := by
  refine (dats m 0 c).arrAt_eq_of_covers 2 _ (by decide +kernel) fun t hf y => ?_
  have e0 : (((win0_2.blk t).view.emb y) 0).val = 8 * t.val + (y 0).val := by blk_simp [index2 t]; omega
  have e1 : ((win0_2.blk t).view.emb y) 1 = y 1 := Fin.ext (by blk_simp [index2 t])
  blk_simp
  exact (congrArg _ (eq_ix2 (n0 := 8) (n1 := 128) y)).trans
    ((block2_apply m c t (y 0) (y 1) ((win0_2.blk t).view.emb y 0) e0).trans
      (congrArg (acts _ _) ((eq_ix2 ((win0_2.blk t).view.emb y)).trans (congrArg _ e1)).symm))
theorem sums_eq : (dats (F := Ideal) m 0 c).arrAt 3 cfg0.N
    = sums (m ((c : Thread nD τ).loc main_arg0)) (m ((c : Thread nD τ).loc main_arg1)) := by
  refine (dats m 0 c).arrAt_eq_of_covers 3 _ (by decide +kernel) fun t hf y => ?_
  have e0 : (((win0_3.blk t).view.emb y) 0).val = 8 * t.val + (y 0).val := by blk_simp [index3 t]; omega
  have e1 : ((win0_3.blk t).view.emb y) 1 = y 1 := Fin.ext (by blk_simp [index3 t])
  blk_simp
  exact (congrArg _ (eq_ix2 (n0 := 8) (n1 := 128) y)).trans
    ((block3_apply m c t (y 0) (y 1) ((win0_3.blk t).view.emb y 0) e0).trans
      (congrArg (sums _ _) ((eq_ix2 ((win0_3.blk t).view.emb y)).trans (congrArg _ e1)).symm))

end

end Cert.GatesLast

end
-- ==== Proof.GatesLastRef.lean ====
/- The reference of the gates of the last rows, entry by entry. -/
module

public import proofs.«01_k».proof.Proof.Gen.Reference13Ideal.Run
public import proofs.«01_k».proof.Proof.GatesLast

@[expose] public section

set_option maxRecDepth 16384

noncomputable section

namespace Cert.GatesLastRef

open Idealize.ShloMosaic Idealize.ShloMosaic.TcCoe Cert.Reference13Ideal Cert.Reference13Ideal.Gen Cert.Reference13Ideal.Value Cert.Gate Cert.GatesLast

/-- The rows with the bias added, cut into runs. -/
def biased (z : FVec Ideal S8256x128 .f32) (b : FVec Ideal S1x128 .f32) : FVec Ideal S8x8x128 .f32 :=
  addf (shapeCast _ (extractStridedSlice S64x128 ![8192, 0] z slices_S8256x128_S64x128_8192_0) shapeCasts_S64x128_S8x8x128)
    (broadcastInDim S8x8x128 ![0, 1, 2] bcast_S1x1x128_S8x8x128_0_1_2 (broadcastInDim S1x1x128 ![1, 2] bcast_S1x128_S1x1x128_1_2 b))

/-- The soft cap of four lanes. -/
def cap (x : FVec Ideal S8x8x4 .f32) : FVec Ideal S8x8x4 .f32 :=
  mulf (broadcastInDim S8x8x4 ![] bcast_S_S8x8x4 (constant S_ .f32 0x41700000#32)) (Host.tanh (Host.divf x (broadcastInDim S8x8x4 ![] bcast_S_S8x8x4 (constant S_ .f32 0x41700000#32))))

/-- The host's logarithm of the logistic function, over 16 lanes. -/
def logSig16 (x : FVec Ideal S8x8x16 .f32) : FVec Ideal S8x8x16 .f32 :=
  Host.negf (select (cmpf .une (subf (Host.negf x) (broadcastInDim S8x8x16 ![] bcast_S_S8x8x16 (constant S_ .f32 0x00000000#32))) (subf (Host.negf x) (broadcastInDim S8x8x16 ![] bcast_S_S8x8x16 (constant S_ .f32 0x00000000#32)))) (addf (Host.negf x) (broadcastInDim S8x8x16 ![] bcast_S_S8x8x16 (constant S_ .f32 0x00000000#32)))
    (addf (maximumf (Host.negf x) (broadcastInDim S8x8x16 ![] bcast_S_S8x8x16 (constant S_ .f32 0x00000000#32))) (Host.log1p (Host.exp (Host.negf (Host.absf (subf (Host.negf x) (broadcastInDim S8x8x16 ![] bcast_S_S8x8x16 (constant S_ .f32 0x00000000#32)))))))))

/-- The host's logarithm of the logistic function, over 4 lanes. -/
def logSig4 (x : FVec Ideal S8x8x4 .f32) : FVec Ideal S8x8x4 .f32 :=
  Host.negf (select (cmpf .une (subf (Host.negf x) (broadcastInDim S8x8x4 ![] bcast_S_S8x8x4 (constant S_ .f32 0x00000000#32))) (subf (Host.negf x) (broadcastInDim S8x8x4 ![] bcast_S_S8x8x4 (constant S_ .f32 0x00000000#32)))) (addf (Host.negf x) (broadcastInDim S8x8x4 ![] bcast_S_S8x8x4 (constant S_ .f32 0x00000000#32)))
    (addf (maximumf (Host.negf x) (broadcastInDim S8x8x4 ![] bcast_S_S8x8x4 (constant S_ .f32 0x00000000#32))) (Host.log1p (Host.exp (Host.negf (Host.absf (subf (Host.negf x) (broadcastInDim S8x8x4 ![] bcast_S_S8x8x4 (constant S_ .f32 0x00000000#32)))))))))

/-- The gates, run by run. -/
def gates (z : FVec Ideal S8256x128 .f32) (b : FVec Ideal S1x128 .f32) : FVec Ideal S8x8x128 .f32 :=
  concatenate S8x8x128 2 [⟨S8x8x16, (logSig16 (extractStridedSlice S8x8x16 ![0, 0, 0] (biased z b) slices_S8x8x128_S8x8x16_0_0_0) : (⟨S8x8x16, .f32⟩ : BufTy).Contents (Elt Ideal))⟩,
    ⟨S8x8x4, (cap (extractStridedSlice S8x8x4 ![0, 0, 16] (biased z b) slices_S8x8x128_S8x8x4_0_0_16) : (⟨S8x8x4, .f32⟩ : BufTy).Contents (Elt Ideal))⟩,
    ⟨S8x8x4, (logSig4 (cap (extractStridedSlice S8x8x4 ![0, 0, 20] (biased z b) slices_S8x8x128_S8x8x4_0_0_20)) : (⟨S8x8x4, .f32⟩ : BufTy).Contents (Elt Ideal))⟩,
    ⟨S8x8x104, (broadcastInDim S8x8x104 ![] bcast_S_S8x8x104 (constant (F := Ideal) S_ .f32 0x00000000#32) : (⟨S8x8x104, .f32⟩ : BufTy).Contents (Elt Ideal))⟩]
    concatenates_S8x8x16_S8x8x4_S8x8x4_S8x8x104_S8x8x128_d2

/-- Their running sums along each run. -/
def running (z : FVec Ideal S8256x128 .f32) (b : FVec Ideal S1x128 .f32) : FVec Ideal S8x8x128 .f32 :=
  Host.reduceWindowAdd ![1, 8, 1] ![1, 1, 1] ![0, 7, 0] ![0, 0, 0] (gates z b : (⟨S8x8x128, .f32⟩ : BufTy).Contents (Elt Ideal))
    (broadcastInDim S_ ![] bcast_S_S_ (constant S_ .f32 0x00000000#32))
    reduceWindows_S8x8x128_S8x8x128_w1s1p0_0_w8s1p7_0_w1s1p0_0 h_S_

theorem biased_apply (z : FVec Ideal S8256x128 .f32) (b : FVec Ideal S1x128 .f32) (p : Fin 8) (r : Fin 8) (l : Fin 128) (a : Fin 8256)
    (ha : a.val = 8192 + 8 * p.val + r.val) : biased z b (ix3 p r l) = z (ix2 a l) + b (ix2 0 l) := by
  unfold biased
  pointwise []
  refine congrArg (fun a => z (ix2 a l) + b (ix2 0 l)) (Fin.ext ?_)
  rw [ha]
  show 8192 + (p.val * 8 + r.val) = _
  omega

theorem cap_apply (x : FVec Ideal S8x8x4 .f32) (i : S8x8x4.Idx) : cap x i = capped (x i) := by
  unfold cap capped bound
  pointwise []

theorem logSig16_apply (x : FVec Ideal S8x8x16 .f32) (i : S8x8x16.Idx) : logSig16 x i = logSig (x i) := by
  rw [← host_logSig]
  unfold logSig16
  pointwise []
  rw [if_neg (not_not_intro rfl)]
  rfl

theorem logSig4_apply (x : FVec Ideal S8x8x4 .f32) (i : S8x8x4.Idx) : logSig4 x i = logSig (x i) := by
  rw [← host_logSig]
  unfold logSig4
  pointwise []
  rw [if_neg (not_not_intro rfl)]
  rfl

/-- The gates, entry by entry. -/
theorem gates_apply (z : FVec Ideal S8256x128 .f32) (b : FVec Ideal S1x128 .f32) (p : Fin 8) (r : Fin 8) (l : Fin 128) :
    gates z b (ix3 p r l) = value z b l (8192 + 8 * p.val + r.val) := by
  have hb : ∀ k : Fin 128, biased z b (ix3 p r k) = z (ix2 ⟨8192 + 8 * p.val + r.val, by omega⟩ k) + b (ix2 0 k) := fun k =>
    biased_apply z b p r k ⟨8192 + 8 * p.val + r.val, by omega⟩ rfl
  rw [show 8192 + 8 * p.val + r.val = (⟨8192 + 8 * p.val + r.val, by omega⟩ : Fin 8256).val from rfl, value_eq, ← hb l]
  unfold gates gate
  generalize biased z b = x
  pointwise []
  simp only [cap_apply, logSig16_apply, logSig4_apply]
  pointwise []
  by_cases h1 : l.val < 16
  · rw [dif_pos h1, if_pos h1]
  · rw [dif_neg h1, if_neg h1]
    by_cases h2 : l.val < 20
    · rw [dif_pos (by omega), if_pos h2]
      exact congrArg (fun k => capped (x (ix3 p r k))) (Fin.ext (by show 16 + (l.val - 16) = l.val; omega))
    · rw [dif_neg (by omega), if_neg h2]
      by_cases h3 : l.val < 24
      · rw [dif_pos (by omega), if_pos h3]
        exact congrArg (fun k => logSig (capped (x (ix3 p r k)))) (Fin.ext (by show 20 + (l.val - 16 - 4) = l.val; omega))
      · rw [dif_neg (by omega), if_neg h3]

theorem running_apply (z : FVec Ideal S8256x128 .f32) (b : FVec Ideal S1x128 .f32) (p : Fin 8) (r : Fin 8) (l : Fin 128) :
    running z b (ix3 p r l) = ∑ i ∈ Finset.range (r.val + 1), value z b l (8192 + 8 * p.val + i) := by
  refine Eq.trans ?_ (Cert.Gate.running (B1 := 7) (by decide) (gates z b) reduceWindows_S8x8x128_S8x8x128_w1s1p0_0_w8s1p7_0_w1s1p0_0
    p r l (fun i => value z b l (8192 + 8 * p.val + i)) (fun i => gates_apply z b p i l))
  have e0 : ∀ i, broadcastInDim S_ ![] bcast_S_S_ (constant (F := Ideal) S_ .f32 0x00000000#32) i = 0 := fun i => by pointwise []
  unfold running Host.reduceWindowAdd
  rw [e0]
  rfl

section
variable (m : (ℓ : Loc nD τ sig) → Buf (Elt Ideal) ℓ) (c : Dev nD)

/-- The reference's gates and running sums are the kernel's. -/
theorem acts_eq : res_out0 m c = acts (m ((c.tc : Thread nD τ).loc main_arg0)) (m ((c.tc : Thread nD τ).loc main_arg1)) := by
  have e : res_out0 m c = shapeCast S64x128 (gates (m ((c.tc : Thread nD τ).loc main_arg0)) (m ((c.tc : Thread nD τ).loc main_arg1)))
      shapeCasts_S8x8x128_S64x128 := rfl
  rw [e]
  funext y
  obtain ⟨a, l, rfl⟩ : ∃ a l, y = ix2 a l := ⟨y 0, y 1, eq_ix2 y⟩
  have hg := gates_apply (m ((c.tc : Thread nD τ).loc main_arg0)) (m ((c.tc : Thread nD τ).loc main_arg1)) ⟨a.val / 8, by omega⟩ ⟨a.val % 8, by omega⟩ l
  generalize gates _ _ = u at hg ⊢
  pointwise []
  rw [hg]
  show value _ _ l _ = value _ _ l (8192 + a.val)
  congr 1
  simp only
  omega

theorem sums_eq : res_out1 m c = sums (m ((c.tc : Thread nD τ).loc main_arg0)) (m ((c.tc : Thread nD τ).loc main_arg1)) := by
  have e : res_out1 m c = shapeCast S64x128 (running (m ((c.tc : Thread nD τ).loc main_arg0)) (m ((c.tc : Thread nD τ).loc main_arg1)))
      shapeCasts_S8x8x128_S64x128 := rfl
  rw [e]
  funext y
  obtain ⟨a, l, rfl⟩ : ∃ a l, y = ix2 a l := ⟨y 0, y 1, eq_ix2 y⟩
  have hg := running_apply (m ((c.tc : Thread nD τ).loc main_arg0)) (m ((c.tc : Thread nD τ).loc main_arg1)) ⟨a.val / 8, by omega⟩ ⟨a.val % 8, by omega⟩ l
  generalize running _ _ = u at hg ⊢
  pointwise []
  rw [hg]
  show _ = ∑ i ∈ Finset.range (a.val % 8 + 1), value _ _ l (8192 + 8 * (a.val / 8) + i)
  rfl

end

end Cert.GatesLastRef

end
-- ==== Proof.MlstmHead.lean ====
/- One head of one stream of eight rows: the recurrence's values written plainly, and the kernel's arithmetic for a head, entry by
   entry, as those values. -/
module

public import proofs.«01_k».proof.Proof.Gen.Kernel14Ideal.Value
public import proofs.«01_k».proof.Proof.Gate
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Mlstm

open Idealize.ShloMosaic Idealize.ShloMosaic.TcCoe Cert.Kernel14Ideal Cert.Kernel14Ideal.Gen

/-! ## The values: input gates `li` and log forget gates `lf` over time, and what the stream carries in -/

section
variable (li lf : ℕ → EReal) (m0 : EReal)

/-- The accumulated log forget gates. -/
def fcum (t : ℕ) : EReal := ∑ i ∈ Finset.range (t + 1), lf i

/-- What a row weighs at a later row, as a logarithm; `-1e30` before it. -/
def dmat (t s : Fin 8) : EReal := if s.val ≤ t.val then fcum lf t.val - fcum lf s.val + li s.val else Ideal.ofBits .f32 0xF149F2CA#32

/-- What the carried state weighs, as a logarithm. -/
def inter (t : Fin 8) : EReal := fcum lf t.val + m0

/-- The largest of these. -/
def peak (t : Fin 8) : EReal :=
  max (inter lf m0 t) (Finset.univ.fold max (Ideal.ofBits .f32 0xFF800000#32) (dmat li lf t))

/-- The carried state's weight after the last row, and each row's. -/
def decay : EReal := Ideal.exp (fcum lf 7 + m0 - peak li lf m0 7)
def weight (s : Fin 8) : EReal := Ideal.exp (fcum lf 7 - fcum lf s.val + li s.val - peak li lf m0 7)

variable (q k : Fin 8 → Fin 128 → EReal) (v o : Fin 8 → Fin 256 → EReal) (c0 : Fin 128 → Fin 256 → EReal) (n0 : Fin 128 → EReal)

/-- The new state: the matrix, and the normalizer. -/
def cNew (x : Fin 128) (j : Fin 256) : EReal := decay li lf m0 * c0 x j + ∑ s, k s x * weight li lf m0 s * v s j
def nNew (x : Fin 128) : EReal := decay li lf m0 * n0 x + ∑ s, k s x * weight li lf m0 s

/-- A row's weighted score against another. -/
def score (t s : Fin 8) : EReal := (∑ x, q t x * k s x) * Ideal.exp (dmat li lf t s - peak li lf m0 t)

/-- What a row reads out: the weighted values over the normalizer. -/
def num (t : Fin 8) (j : Fin 256) : EReal :=
  Ideal.exp (inter lf m0 t - peak li lf m0 t) * (∑ x, q t x * c0 x j) + ∑ s, score li lf m0 q k t s * v s j
def den (t : Fin 8) : EReal :=
  Ideal.exp (inter lf m0 t - peak li lf m0 t) * (∑ x, q t x * n0 x) + ∑ s, score li lf m0 q k t s
def read (t : Fin 8) (j : Fin 256) : EReal :=
  Ideal.div (num li lf m0 q k v c0 t j) (max (FloatOps.absf (F := Ideal) (φ := .f32) (den li lf m0 q k n0 t)) (Ideal.exp (-peak li lf m0 t)))

/-- The row normalized, scaled and gated. -/
def out (mn : Fin 256 → EReal) (t : Fin 8) (j : Fin 256) : EReal :=
  read li lf m0 q k v c0 n0 t j
    * Ideal.rsqrt (Ideal.div (∑ i, read li lf m0 q k v c0 n0 t i * read li lf m0 q k v c0 n0 t i) (Ideal.ofBits .f32 0x43800000#32)
      + Ideal.ofBits .f32 0x358637BD#32) * mn j * Ideal.logistic (o t j)

end

/-! ## The kernel's arithmetic for one head, over its blocks -/

section
variable (g : Vec Ideal S8x128 .f32) (s : BitVec 32) (q k : Vec Ideal S8x128 .f32) (v o : Vec Ideal S8x256 .f32)
  (mn : Vec Ideal S1x256 .f32) (c : Vec Ideal S1x128x256 .f32) (n m : Vec Ideal S1x1x128 .f32)

/-- The gates with all lanes but the head's input gate cleared. -/
def picked : Vec Ideal S8x128 .f32 :=
  select (cmpi .eq (iota .tc S8x128 32 [1] iota_S8x128_d1_w32) (broadcast S8x128 (Scalar.addi 16#32 s))) g
    (broadcast S8x128 (Scalar.ofBits .f32 0x00000000#32 : Ideal .f32))

/-- The carried maximum, the largest exponents, and their last rows. -/
def kM : FVec Ideal S1x1 .f32 := k0_pay17 (k0_pay13 m)
def kPeak : FVec Ideal S8x1 .f32 := k0_pay23 (k0_pay16 g s) (kM m) k0_pay18 (k0_pay19 g s) (k0_pay20 (picked g s))
def kF : FVec Ideal S1x1 .f32 := k0_pay26 (k0_pay16 g s)
def kLast : FVec Ideal S1x1 .f32 := k0_pay27 (k0_pay16 g s) (kM m) k0_pay18 (k0_pay19 g s) (k0_pay20 (picked g s))
def kDecay : FVec Ideal S1x1 .f32 := k0_pay28 (k0_pay16 g s) (kM m) k0_pay18 (k0_pay19 g s) (k0_pay20 (picked g s))

/-- The new state of the head and what it stores. -/
def kC : FVec Ideal S1x128x256 .f32 :=
  k0_pay31 v (k0_pay11 c) (k0_pay15 (picked g s)) (k0_pay16 g s) (k0_pay24 k) (kF g s) (kLast g s m) (kDecay g s m)
def kN : FVec Ideal S1x1x128 .f32 :=
  k0_pay32 (k0_pay12 n) (k0_pay15 (picked g s)) (k0_pay16 g s) (k0_pay24 k) (kF g s) (kLast g s m) (kDecay g s m)
def kNewM : FVec Ideal S1x1x128 .f32 := k0_pay33 (kLast g s m)
def kOut : FVec Ideal S8x256 .f32 :=
  k0_pay30 (k0_pay10 mn) o (k0_pay25 q k v (k0_pay11 c) (k0_pay12 n) (k0_pay16 g s) (kM m) k0_pay18 (k0_pay19 g s) (k0_pay20 (picked g s)))

/-! ## Entry by entry -/

theorem lane16 : ∀ (h : Fin 4) (l : Fin 128), IntOp.cmpi .eq (BitVec.ofNat 32 l.val) (Scalar.addi 16#32 (BitVec.ofNat 32 h.val))
    = if l = ⟨16 + h.val, by omega⟩ then 1#1 else 0#1 := by decide +kernel
theorem lane20 : ∀ (h : Fin 4) (l : Fin 128), IntOp.cmpi .eq (BitVec.ofNat 32 l.val) (Scalar.addi 20#32 (BitVec.ofNat 32 h.val))
    = if l = ⟨20 + h.val, by omega⟩ then 1#1 else 0#1 := by decide +kernel
theorem same : ∀ r x : Fin 8, IntOp.cmpi .eq (BitVec.ofNat 32 x.val) (BitVec.ofNat 32 r.val) = if x = r then 1#1 else 0#1 := by
  decide +kernel
theorem after : ∀ r x : Fin 8, IntOp.cmpi .sge (BitVec.ofNat 32 r.val) (BitVec.ofNat 32 x.val)
    = if x.val ≤ r.val then 1#1 else 0#1 := by decide +kernel

theorem select_if (p : Prop) [Decidable p] (a b : EReal) : Scalar.select (if p then 1#1 else 0#1) a b = if p then a else b := by
  split_ifs <;> rfl

/-- A sum that one entry alone survives. -/
theorem sum_one {n : ℕ} (f : Fin n → EReal) (j : Fin n) : ∑ x, (if x = j then f x else 0) = f j := by
  rw [Finset.sum_ite_eq' Finset.univ j f, if_pos (Finset.mem_univ j)]

variable (h : Fin 4) (hs : s = BitVec.ofNat 32 h.val) (li lf : ℕ → EReal)
  (hli : ∀ r : Fin 8, g (ix2 r ⟨16 + h.val, by omega⟩) = li r.val) (hlf : ∀ r : Fin 8, g (ix2 r ⟨20 + h.val, by omega⟩) = lf r.val)
  (hg : ∀ r : Fin 8, g (ix2 r ⟨20 + h.val, by omega⟩) ≠ ⊤)

include hs hli in
theorem input_apply (r : Fin 8) : k0_pay15 (picked g s) (ix2 r 0) = li r.val := by
  subst hs
  rw [← hli]
  unfold k0_pay15 picked
  pointwise []
  simp only [lane16, select_if]
  exact sum_one (fun l => g (ix2 r l)) _

include hs hlf hg in
theorem forget_apply (r : Fin 8) : k0_pay16 g s (ix2 r 0) = fcum lf r.val := by
  subst hs
  unfold fcum
  rw [← Gate.column (n := 8) (by decide) r (fun i => g (ix2 i ⟨20 + h.val, by omega⟩)) lf hlf hg]
  unfold k0_pay16
  pointwise []
  simp only [lane20, select_if]
  exact sum_one (fun l => _) _

include hs hli in
theorem diag_apply (x j : Fin 8) : k0_pay20 (picked g s) (ix2 x j) = if x = j then li x.val else 0 := by
  have e := input_apply g s h hs li hli
  unfold k0_pay20
  generalize k0_pay15 (picked g s) = u at e ⊢
  pointwise []
  rw [same, select_if, e]

include hs hlf hg in
theorem rel_apply (r j : Fin 8) : k0_pay19 g s (ix2 r j) = fcum lf r.val - fcum lf j.val := by
  have e := forget_apply g s h hs lf hlf hg
  unfold k0_pay19
  generalize k0_pay16 g s = u at e ⊢
  pointwise []
  simp only [same, select_if, e]
  exact congrArg _ (sum_one (fun x => fcum lf x.val) j)

include hs hli hlf hg in
theorem dmat_apply (r j : Fin 8) :
    k0_pay21 k0_pay18 (k0_pay19 g s) (k0_pay20 (picked g s)) (ix2 r j) = dmat li lf r j := by
  have e1 := rel_apply g s h hs lf hlf hg
  have e2 := diag_apply g s h hs li hli
  generalize k0_pay19 g s = u at e1 ⊢
  generalize k0_pay20 (picked g s) = w at e2 ⊢
  unfold k0_pay21 k0_pay18 dmat
  pointwise []
  simp only [after, select_if, e1, e2, sum_one (fun x : Fin 8 => li x.val)]

theorem kM_apply : kM m (ix2 0 0) = m (ix3 0 0 0) := by
  unfold kM k0_pay17 k0_pay13
  pointwise []

theorem inter_apply (f : FVec Ideal S8x1 .f32) (hf : ∀ r : Fin 8, f (ix2 r 0) = fcum lf r.val) (r : Fin 8) :
    k0_pay22 f (kM m) (ix2 r 0) = inter lf (m (ix3 0 0 0)) r := by
  unfold k0_pay22 inter
  pointwise []
  rw [hf, kM_apply]

include hs hli hlf hg in
theorem peak_apply (r : Fin 8) : kPeak g s m (ix2 r 0) = peak li lf (m (ix3 0 0 0)) r := by
  have e1 := dmat_apply g s h hs li lf hli hlf hg r
  have e2 := inter_apply m lf _ (forget_apply g s h hs lf hlf hg) r
  unfold kPeak k0_pay23 peak
  generalize k0_pay21 k0_pay18 (k0_pay19 g s) (k0_pay20 (picked g s)) = u at e1 ⊢
  generalize k0_pay22 (k0_pay16 g s) (kM m) = w at e2 ⊢
  pointwise []
  rw [e2, funext e1]

include hs hli hlf hg in
theorem last_apply : kLast g s m (ix2 0 0) = peak li lf (m (ix3 0 0 0)) 7 := by
  rw [← peak_apply g s m h hs li lf hli hlf hg 7]
  unfold kLast k0_pay27 kPeak
  pointwise []

include hs hlf hg in
theorem kF_apply : kF g s (ix2 0 0) = fcum lf 7 := by
  refine Eq.trans ?_ (forget_apply g s h hs lf hlf hg 7)
  unfold kF k0_pay26
  pointwise []

include hs hli hlf hg in
theorem decay_apply : kDecay g s m (ix2 0 0) = decay li lf (m (ix3 0 0 0)) := by
  have e1 := kF_apply g s h hs lf hlf hg
  have e2 := last_apply g s m h hs li lf hli hlf hg
  unfold kF at e1
  unfold kLast at e2
  unfold kDecay k0_pay28 decay
  pointwise []
  rw [e1, e2, kM_apply]

include hs hli hlf hg in
theorem weighted_apply (r : Fin 8) (x : Fin 128) :
    k0_pay29 (k0_pay15 (picked g s)) (k0_pay16 g s) (k0_pay24 k) (kF g s) (kLast g s m) (ix2 r x)
      = k0_pay24 k (ix2 r x) * weight li lf (m (ix3 0 0 0)) r := by
  have e0 := forget_apply g s h hs lf hlf hg
  have e1 := kF_apply g s h hs lf hlf hg
  have e2 := last_apply g s m h hs li lf hli hlf hg
  have e3 := input_apply g s h hs li hli
  generalize k0_pay16 g s = u at e0 ⊢
  generalize kF g s = w at e1 ⊢
  generalize kLast g s m = z at e2 ⊢
  generalize k0_pay15 (picked g s) = y at e3 ⊢
  unfold k0_pay29 weight
  pointwise []
  rw [e0, e1, e2, e3]

include hs hli hlf hg in
theorem kC_apply (x : Fin 128) (j : Fin 256) : kC g s k v c m (ix3 0 x j)
    = cNew li lf (m (ix3 0 0 0)) (fun r y => k0_pay24 k (ix2 r y)) (fun r j => v (ix2 r j)) (fun y j => c (ix3 0 y j)) x j := by
  have e1 := weighted_apply g s k m h hs li lf hli hlf hg
  have e2 := decay_apply g s m h hs li lf hli hlf hg
  unfold kC k0_pay31 k0_pay11 cNew
  generalize k0_pay29 (k0_pay15 (picked g s)) (k0_pay16 g s) (k0_pay24 k) (kF g s) (kLast g s m) = u at e1 ⊢
  generalize kDecay g s m = w at e2 ⊢
  pointwise []
  simp only [e1, e2]

include hs hli hlf hg in
theorem kN_apply (x : Fin 128) : kN g s k n m (ix3 0 0 x)
    = nNew li lf (m (ix3 0 0 0)) (fun r y => k0_pay24 k (ix2 r y)) (fun y => n (ix3 0 0 y)) x := by
  have e1 := weighted_apply g s k m h hs li lf hli hlf hg
  have e2 := decay_apply g s m h hs li lf hli hlf hg
  unfold kN k0_pay32 k0_pay12 nNew
  generalize k0_pay29 (k0_pay15 (picked g s)) (k0_pay16 g s) (k0_pay24 k) (kF g s) (kLast g s m) = u at e1 ⊢
  generalize kDecay g s m = w at e2 ⊢
  pointwise []
  simp only [e1, e2]

include hs hli hlf hg in
theorem kNewM_apply (x : Fin 128) : kNewM g s m (ix3 0 0 x) = peak li lf (m (ix3 0 0 0)) 7 := by
  rw [← last_apply g s m h hs li lf hli hlf hg]
  unfold kNewM k0_pay33
  pointwise []

include hs hli hlf hg in
theorem kOut_apply (r : Fin 8) (j : Fin 256) : kOut g s q k v o mn c n m (ix2 r j)
    = out li lf (m (ix3 0 0 0)) (fun r y => q (ix2 r y)) (fun r y => k0_pay24 k (ix2 r y)) (fun r j => v (ix2 r j))
      (fun r j => o (ix2 r j)) (fun y j => c (ix3 0 y j)) (fun y => n (ix3 0 0 y)) (fun j => mn (ix2 0 j)) r j := by
  have e1 := dmat_apply g s h hs li lf hli hlf hg
  have e2 := inter_apply m lf _ (forget_apply g s h hs lf hlf hg)
  have e3 := peak_apply g s m h hs li lf hli hlf hg
  have e : ∀ r j, k0_pay25 q k v (k0_pay11 c) (k0_pay12 n) (k0_pay16 g s) (kM m) k0_pay18 (k0_pay19 g s) (k0_pay20 (picked g s)) (ix2 r j)
      = read li lf (m (ix3 0 0 0)) (fun r y => q (ix2 r y)) (fun r y => k0_pay24 k (ix2 r y)) (fun r j => v (ix2 r j))
        (fun y j => c (ix3 0 y j)) (fun y => n (ix3 0 0 y)) r j := fun r j => by
    unfold kPeak at e3
    unfold k0_pay25 read num den score k0_pay11 k0_pay12
    generalize k0_pay21 k0_pay18 (k0_pay19 g s) (k0_pay20 (picked g s)) = u at e1 ⊢
    generalize k0_pay22 (k0_pay16 g s) (kM m) = w at e2 ⊢
    generalize k0_pay23 (k0_pay16 g s) (kM m) k0_pay18 (k0_pay19 g s) (k0_pay20 (picked g s)) = z at e3 ⊢
    pointwise []
    simp only [e1, e2, e3, zero_sub]
  unfold kOut k0_pay30 k0_pay10 out
  generalize k0_pay25 q k v (k0_pay11 c) (k0_pay12 n) (k0_pay16 g s) (kM m) k0_pay18 (k0_pay19 g s) (k0_pay20 (picked g s)) = u at e ⊢
  pointwise []
  simp only [e]

end

end Cert.Mlstm

end
-- ==== Proof.MlstmState.lean ====
/- What the kernel's state arrays hold when a head is read: each head's slice is still what the stream carried in, for the heads before
   it store only their own. -/
module

public import proofs.«01_k».proof.Proof.MlstmHead
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Mlstm

open Idealize.ShloMosaic Idealize.ShloMosaic.TcCoe Cert.Kernel14Ideal Cert.Kernel14Ideal.Gen

/-- One head's slice of a state array. -/
def slice {B C : ℕ} (w : (⟨3, ![4, B, C]⟩ : Shape).Idx → EReal) (h : Fin 4) : (⟨3, ![1, B, C]⟩ : Shape).Idx → EReal :=
  fun y => w (ix3 h (y 1) (y 2))

section
variable {B C : ℕ}

/-- The place of an entry of head `h`'s slice. -/
theorem slice_idx (h : Fin 4) (inb : ∀ a, (![h.val, 0, 0] : Fin 3 → ℕ) a + (![1, B, C] : Fin 3 → ℕ) a ≤ (⟨3, ![4, B, C]⟩ : Shape).size a)
    (j : (⟨3, ![1, B, C]⟩ : Shape).Idx) :
    (Rect.unit (s := ⟨3, ![4, B, C]⟩) ![h.val, 0, 0] ![1, B, C] inb).toLoadRect.idx j = ix3 h (j 1) (j 2) := by
  funext a
  refine Fin.ext ((Rect.idx_unit_val _ _ inb j a).trans ?_)
  match a with
  | 0 =>
    have : (j 0).val < 1 := (j 0).isLt
    show h.val + (j 0).val = h.val
    omega
  | 1 => exact Nat.zero_add _
  | 2 => exact Nat.zero_add _

/-- Another head's store leaves the slice alone. -/
theorem load_after {sig : RefSig} {κ : Kind} {sp : Space} (v : View sig κ sp (⟨3, ![4, B, C]⟩ : Shape) .f32) (h k : ℕ) (hk : k < h)
    (inb : ∀ a, (![h, 0, 0] : Fin 3 → ℕ) a + (![1, B, C] : Fin 3 → ℕ) a ≤ (⟨3, ![4, B, C]⟩ : Shape).size a)
    (inb' : ∀ a, (![k, 0, 0] : Fin 3 → ℕ) a + (![1, B, C] : Fin 3 → ℕ) a ≤ (⟨3, ![4, B, C]⟩ : Shape).size a)
    (p : (⟨3, ![1, B, C]⟩ : Shape).Idx → EReal) (L : List (View.Piece (Elt Ideal) (⟨3, ![4, B, C]⟩ : Shape) .f32)) :
    View.readCov (Val := Elt Ideal) v (⟨Rect.unit ![k, 0, 0] ![1, B, C] inb', p⟩ :: L) (Rect.unit ![h, 0, 0] ![1, B, C] inb).toLoadRect
      = View.readCov (Val := Elt Ideal) v L (Rect.unit ![h, 0, 0] ![1, B, C] inb).toLoadRect :=
  View.readCov_cons_of_disjoint v _ L _ (Rect.unit_disjoint (inb := inb') (inb' := inb) 0 (Or.inl (by show k + 1 ≤ h; omega)))

/-- The slice read of what the stream carried in. -/
theorem load_first {sig : RefSig} {κ : Kind} {sp : Space} (v : View sig κ sp (⟨3, ![4, B, C]⟩ : Shape) .f32) (h : Fin 4)
    (inb : ∀ a, (![h.val, 0, 0] : Fin 3 → ℕ) a + (![1, B, C] : Fin 3 → ℕ) a ≤ (⟨3, ![4, B, C]⟩ : Shape).size a)
    (inb' : ∀ a, (![0, 0, 0] : Fin 3 → ℕ) a + (![4, B, C] : Fin 3 → ℕ) a ≤ (⟨3, ![4, B, C]⟩ : Shape).size a)
    (w : (⟨3, ![4, B, C]⟩ : Shape).Idx → EReal) :
    View.readCov (Val := Elt Ideal) v [⟨Rect.unit ![0, 0, 0] ![4, B, C] inb', (w : (⟨3, ![4, B, C]⟩ : Shape).Idx → Elt Ideal .f32)⟩] (Rect.unit ![h.val, 0, 0] ![1, B, C] inb).toLoadRect
      = slice w h := by
  rw [View.readCov_eq_canon']
  funext j
  rw [slice_idx]
  exact congrFun (View.canon_cons_unit_lit (Val := Elt Ideal) (e := .f32) (S := ⟨3, ![4, B, C]⟩) inb' w [] (fun a => by
    match a with
    | 0 => rfl
    | 1 => rfl
    | 2 => rfl)) _

/-- The whole array read after the four heads' stores: each head's own. -/
theorem load_all {sig : RefSig} {κ : Kind} {sp : Space} (v : View sig κ sp (⟨3, ![4, B, C]⟩ : Shape) .f32)
    (i0 : ∀ a, (![0, 0, 0] : Fin 3 → ℕ) a + (![1, B, C] : Fin 3 → ℕ) a ≤ (⟨3, ![4, B, C]⟩ : Shape).size a)
    (i1 : ∀ a, (![1, 0, 0] : Fin 3 → ℕ) a + (![1, B, C] : Fin 3 → ℕ) a ≤ (⟨3, ![4, B, C]⟩ : Shape).size a)
    (i2 : ∀ a, (![2, 0, 0] : Fin 3 → ℕ) a + (![1, B, C] : Fin 3 → ℕ) a ≤ (⟨3, ![4, B, C]⟩ : Shape).size a)
    (i3 : ∀ a, (![3, 0, 0] : Fin 3 → ℕ) a + (![1, B, C] : Fin 3 → ℕ) a ≤ (⟨3, ![4, B, C]⟩ : Shape).size a)
    (inb : ∀ a, (![0, 0, 0] : Fin 3 → ℕ) a + (![4, B, C] : Fin 3 → ℕ) a ≤ (⟨3, ![4, B, C]⟩ : Shape).size a)
    (p : Fin 4 → (⟨3, ![1, B, C]⟩ : Shape).Idx → EReal) (L : List (View.Piece (Elt Ideal) (⟨3, ![4, B, C]⟩ : Shape) .f32))
    (h : Fin 4) (x : Fin B) (j : Fin C) :
    View.readCov (Val := Elt Ideal) v (⟨Rect.unit ![3, 0, 0] ![1, B, C] i3, (p 3 : _ → Elt Ideal .f32)⟩ :: ⟨Rect.unit ![2, 0, 0] ![1, B, C] i2, p 2⟩
        :: ⟨Rect.unit ![1, 0, 0] ![1, B, C] i1, p 1⟩ :: ⟨Rect.unit ![0, 0, 0] ![1, B, C] i0, p 0⟩ :: L)
      (Rect.unit (s := ⟨3, ![4, B, C]⟩) ![0, 0, 0] ![4, B, C] inb).toLoadRect (ix3 h x j) = p h (ix3 0 x j) := by
  have e : (Rect.unit (s := ⟨3, ![4, B, C]⟩) ![0, 0, 0] ![4, B, C] inb).toLoadRect.idx (ix3 h x j) = ix3 h x j := by
    funext a
    refine Fin.ext ((Rect.idx_unit_val _ _ inb (ix3 h x j) a).trans ?_)
    match a with
    | 0 => exact Nat.zero_add _
    | 1 => exact Nat.zero_add _
    | 2 => exact Nat.zero_add _
  rw [View.readCov_eq_canon']
  show View.canon _ ((Rect.unit (s := ⟨3, ![4, B, C]⟩) ![0, 0, 0] ![4, B, C] inb).toLoadRect.idx (ix3 h x j)) = _
  rw [e]
  have skip : ∀ (k : ℕ) (i) (q : (⟨3, ![1, B, C]⟩ : Shape).Idx → Elt Ideal .f32) (L : List (View.Piece (Elt Ideal) (⟨3, ![4, B, C]⟩ : Shape) .f32)),
      h.val ≠ k → View.canon (⟨Rect.unit ![k, 0, 0] ![1, B, C] i, q⟩ :: L) (ix3 h x j) = View.canon L (ix3 h x j) := fun k i q L hk =>
    View.canon_cons_of_not_mem _ L fun hm => by
      have := (Rect.mem_set_unit (inb := i)).mp hm 0
      have h1 : k ≤ h.val := this.1
      have h2 : h.val < k + 1 := this.2
      omega
  have hit : ∀ (k : Fin 4) (i) (q : (⟨3, ![1, B, C]⟩ : Shape).Idx → Elt Ideal .f32) (L : List (View.Piece (Elt Ideal) (⟨3, ![4, B, C]⟩ : Shape) .f32)),
      View.canon (⟨Rect.unit ![k.val, 0, 0] ![1, B, C] i, q⟩ :: L) (ix3 k x j) = q (ix3 0 x j) := fun k i q L => by
    have e : (Rect.unit (s := ⟨3, ![4, B, C]⟩) ![k.val, 0, 0] ![1, B, C] i).emb (ix3 (n0 := 1) (n1 := B) (n2 := C) 0 x j) = ix3 k x j := slice_idx k i (ix3 0 x j)
    rw [← e]
    exact View.canon_cons_emb (Val := Elt Ideal) (Rect.unit (s := ⟨3, ![4, B, C]⟩) ![k.val, 0, 0] ![1, B, C] i) q L (ix3 (n0 := 1) (n1 := B) (n2 := C) 0 x j)
  match h, skip with
  | 3, skip => exact hit 3 i3 _ _
  | 2, skip => rw [skip 3 i3 _ _ (by decide)]; exact hit 2 i2 _ _
  | 1, skip => rw [skip 3 i3 _ _ (by decide), skip 2 i2 _ _ (by decide)]; exact hit 1 i1 _ _
  | 0, skip => rw [skip 3 i3 _ _ (by decide), skip 2 i2 _ _ (by decide), skip 1 i1 _ _ (by decide)]; exact hit 0 i0 _ _

end

end Cert.Mlstm

end
-- ==== Proof.Mlstm.lean ====
/- The recurrence's kernel over its eight streams: what one grid point stores of its blocks, head by head. -/
module

public import proofs.«01_k».proof.Proof.MlstmState
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Mlstm

open Idealize.ShloMosaic Idealize.ShloMosaic.TcCoe Cert.Kernel14Ideal Cert.Kernel14Ideal.Gen

section
variable {B C : ℕ} {sig : RefSig} {κ : Kind} {sp : Space} (v : View sig κ sp (⟨3, ![4, B, C]⟩ : Shape) .f32)

/-- Head by head, with the offsets as numerals. -/
theorem first0 (inb inb') (w : (⟨3, ![4, B, C]⟩ : Shape).Idx → Elt Ideal .f32) :
    View.readCov (Val := Elt Ideal) v [⟨Rect.unit ![0, 0, 0] ![4, B, C] inb', w⟩] (Rect.unit ![0, 0, 0] ![1, B, C] inb).toLoadRect = slice w 0 :=
  load_first v 0 inb inb' w
theorem first1 (inb inb') (w : (⟨3, ![4, B, C]⟩ : Shape).Idx → Elt Ideal .f32) :
    View.readCov (Val := Elt Ideal) v [⟨Rect.unit ![0, 0, 0] ![4, B, C] inb', w⟩] (Rect.unit ![1, 0, 0] ![1, B, C] inb).toLoadRect = slice w 1 :=
  load_first v 1 inb inb' w
theorem first2 (inb inb') (w : (⟨3, ![4, B, C]⟩ : Shape).Idx → Elt Ideal .f32) :
    View.readCov (Val := Elt Ideal) v [⟨Rect.unit ![0, 0, 0] ![4, B, C] inb', w⟩] (Rect.unit ![2, 0, 0] ![1, B, C] inb).toLoadRect = slice w 2 :=
  load_first v 2 inb inb' w
theorem first3 (inb inb') (w : (⟨3, ![4, B, C]⟩ : Shape).Idx → Elt Ideal .f32) :
    View.readCov (Val := Elt Ideal) v [⟨Rect.unit ![0, 0, 0] ![4, B, C] inb', w⟩] (Rect.unit ![3, 0, 0] ![1, B, C] inb).toLoadRect = slice w 3 :=
  load_first v 3 inb inb' w
theorem after1_0 (inb inb') (p : (⟨3, ![1, B, C]⟩ : Shape).Idx → Elt Ideal .f32) (L : List (View.Piece (Elt Ideal) (⟨3, ![4, B, C]⟩ : Shape) .f32)) :
    View.readCov (Val := Elt Ideal) v (⟨Rect.unit ![0, 0, 0] ![1, B, C] inb', p⟩ :: L) (Rect.unit ![1, 0, 0] ![1, B, C] inb).toLoadRect
      = View.readCov (Val := Elt Ideal) v L (Rect.unit ![1, 0, 0] ![1, B, C] inb).toLoadRect := load_after v 1 0 (by decide) inb inb' p L
theorem after2_1 (inb inb') (p : (⟨3, ![1, B, C]⟩ : Shape).Idx → Elt Ideal .f32) (L : List (View.Piece (Elt Ideal) (⟨3, ![4, B, C]⟩ : Shape) .f32)) :
    View.readCov (Val := Elt Ideal) v (⟨Rect.unit ![1, 0, 0] ![1, B, C] inb', p⟩ :: L) (Rect.unit ![2, 0, 0] ![1, B, C] inb).toLoadRect
      = View.readCov (Val := Elt Ideal) v L (Rect.unit ![2, 0, 0] ![1, B, C] inb).toLoadRect := load_after v 2 1 (by decide) inb inb' p L
theorem after2_0 (inb inb') (p : (⟨3, ![1, B, C]⟩ : Shape).Idx → Elt Ideal .f32) (L : List (View.Piece (Elt Ideal) (⟨3, ![4, B, C]⟩ : Shape) .f32)) :
    View.readCov (Val := Elt Ideal) v (⟨Rect.unit ![0, 0, 0] ![1, B, C] inb', p⟩ :: L) (Rect.unit ![2, 0, 0] ![1, B, C] inb).toLoadRect
      = View.readCov (Val := Elt Ideal) v L (Rect.unit ![2, 0, 0] ![1, B, C] inb).toLoadRect := load_after v 2 0 (by decide) inb inb' p L
theorem after3_2 (inb inb') (p : (⟨3, ![1, B, C]⟩ : Shape).Idx → Elt Ideal .f32) (L : List (View.Piece (Elt Ideal) (⟨3, ![4, B, C]⟩ : Shape) .f32)) :
    View.readCov (Val := Elt Ideal) v (⟨Rect.unit ![2, 0, 0] ![1, B, C] inb', p⟩ :: L) (Rect.unit ![3, 0, 0] ![1, B, C] inb).toLoadRect
      = View.readCov (Val := Elt Ideal) v L (Rect.unit ![3, 0, 0] ![1, B, C] inb).toLoadRect := load_after v 3 2 (by decide) inb inb' p L
theorem after3_1 (inb inb') (p : (⟨3, ![1, B, C]⟩ : Shape).Idx → Elt Ideal .f32) (L : List (View.Piece (Elt Ideal) (⟨3, ![4, B, C]⟩ : Shape) .f32)) :
    View.readCov (Val := Elt Ideal) v (⟨Rect.unit ![1, 0, 0] ![1, B, C] inb', p⟩ :: L) (Rect.unit ![3, 0, 0] ![1, B, C] inb).toLoadRect
      = View.readCov (Val := Elt Ideal) v L (Rect.unit ![3, 0, 0] ![1, B, C] inb).toLoadRect := load_after v 3 1 (by decide) inb inb' p L
theorem after3_0 (inb inb') (p : (⟨3, ![1, B, C]⟩ : Shape).Idx → Elt Ideal .f32) (L : List (View.Piece (Elt Ideal) (⟨3, ![4, B, C]⟩ : Shape) .f32)) :
    View.readCov (Val := Elt Ideal) v (⟨Rect.unit ![0, 0, 0] ![1, B, C] inb', p⟩ :: L) (Rect.unit ![3, 0, 0] ![1, B, C] inb).toLoadRect
      = View.readCov (Val := Elt Ideal) v L (Rect.unit ![3, 0, 0] ![1, B, C] inb).toLoadRect := load_after v 3 0 (by decide) inb inb' p L

end

section
variable (m : (ℓ : Loc nD τ sig) → Buf (Elt Ideal) ℓ) (c : Dev nD)

/-- A head's number, as the kernel computes it. -/
def word (t : Fin cfg0.N) (h : BitVec 32) : BitVec 32 := Scalar.addi (Scalar.muli (BitVec.ofNat 32 (grid0.coords t 1).val) 4#32) h

/-- The heads' columns of the blocks of queries, keys, values and output gates. -/
def queries0 (t : Fin cfg0.N) : Vec Ideal S8x128 .f32 := View.ld (iblk (F := Ideal) m c 0 t) (Rect.unit (s := S8x512) k0_off2 S8x128.size k0_off2_inb)
def queries1 (t : Fin cfg0.N) : Vec Ideal S8x128 .f32 := View.ld (iblk (F := Ideal) m c 0 t) (Rect.unit (s := S8x512) k0_off4 S8x128.size k0_off4_inb)
def queries2 (t : Fin cfg0.N) : Vec Ideal S8x128 .f32 := View.ld (iblk (F := Ideal) m c 0 t) (Rect.unit (s := S8x512) k0_off6 S8x128.size k0_off6_inb)
def queries3 (t : Fin cfg0.N) : Vec Ideal S8x128 .f32 := View.ld (iblk (F := Ideal) m c 0 t) (Rect.unit (s := S8x512) k0_off8 S8x128.size k0_off8_inb)
def keys0 (t : Fin cfg0.N) : Vec Ideal S8x128 .f32 := View.ld (iblk (F := Ideal) m c 1 t) (Rect.unit (s := S8x512) k0_off2 S8x128.size k0_off2_inb)
def keys1 (t : Fin cfg0.N) : Vec Ideal S8x128 .f32 := View.ld (iblk (F := Ideal) m c 1 t) (Rect.unit (s := S8x512) k0_off4 S8x128.size k0_off4_inb)
def keys2 (t : Fin cfg0.N) : Vec Ideal S8x128 .f32 := View.ld (iblk (F := Ideal) m c 1 t) (Rect.unit (s := S8x512) k0_off6 S8x128.size k0_off6_inb)
def keys3 (t : Fin cfg0.N) : Vec Ideal S8x128 .f32 := View.ld (iblk (F := Ideal) m c 1 t) (Rect.unit (s := S8x512) k0_off8 S8x128.size k0_off8_inb)
def values0 (t : Fin cfg0.N) : Vec Ideal S8x256 .f32 := View.ld (iblk (F := Ideal) m c 2 t) (Rect.unit (s := S8x1024) k0_off3 S8x256.size k0_off3_inb)
def values1 (t : Fin cfg0.N) : Vec Ideal S8x256 .f32 := View.ld (iblk (F := Ideal) m c 2 t) (Rect.unit (s := S8x1024) k0_off5 S8x256.size k0_off5_inb)
def values2 (t : Fin cfg0.N) : Vec Ideal S8x256 .f32 := View.ld (iblk (F := Ideal) m c 2 t) (Rect.unit (s := S8x1024) k0_off7 S8x256.size k0_off7_inb)
def values3 (t : Fin cfg0.N) : Vec Ideal S8x256 .f32 := View.ld (iblk (F := Ideal) m c 2 t) (Rect.unit (s := S8x1024) k0_off9 S8x256.size k0_off9_inb)
def opens0 (t : Fin cfg0.N) : Vec Ideal S8x256 .f32 := View.ld (iblk (F := Ideal) m c 3 t) (Rect.unit (s := S8x1024) k0_off3 S8x256.size k0_off3_inb)
def opens1 (t : Fin cfg0.N) : Vec Ideal S8x256 .f32 := View.ld (iblk (F := Ideal) m c 3 t) (Rect.unit (s := S8x1024) k0_off5 S8x256.size k0_off5_inb)
def opens2 (t : Fin cfg0.N) : Vec Ideal S8x256 .f32 := View.ld (iblk (F := Ideal) m c 3 t) (Rect.unit (s := S8x1024) k0_off7 S8x256.size k0_off7_inb)
def opens3 (t : Fin cfg0.N) : Vec Ideal S8x256 .f32 := View.ld (iblk (F := Ideal) m c 3 t) (Rect.unit (s := S8x1024) k0_off9 S8x256.size k0_off9_inb)

/-- What the stream carries in, per head. -/
def carryC (t : Fin cfg0.N) : Fin 4 → Vec Ideal S1x128x256 .f32 := slice (k0_pay7 (F := Ideal) (iblk m c 6 t))
def carryN (t : Fin cfg0.N) : Fin 4 → Vec Ideal S1x1x128 .f32 := slice (k0_pay8 (F := Ideal) (iblk m c 7 t))
def carryM (t : Fin cfg0.N) : Fin 4 → Vec Ideal S1x1x128 .f32 := slice (k0_pay9 (F := Ideal) (iblk m c 8 t))

theorem out12_eq (t : Fin cfg0.N) (y : S1x4x1x128.Idx) : (dats (F := Ideal) m 0 c).after 12 t y
    = k0_pay6 (View.readCov (Val := Elt Ideal) (View.whole cc0_scratch2) [
      ⟨Rect.unit (s := S4x1x128) ![3, 0, 0] S1x1x128.size inb_S4x1x128_S1x1x128_3_0_0, kNewM (iblk (F := Ideal) m c 4 t) (word t 3#32) (carryM m c t 3)⟩,
      ⟨Rect.unit (s := S4x1x128) ![2, 0, 0] S1x1x128.size inb_S4x1x128_S1x1x128_2_0_0, kNewM (iblk (F := Ideal) m c 4 t) (word t 2#32) (carryM m c t 2)⟩,
      ⟨Rect.unit (s := S4x1x128) ![1, 0, 0] S1x1x128.size inb_S4x1x128_S1x1x128_1_0_0, kNewM (iblk (F := Ideal) m c 4 t) (word t 1#32) (carryM m c t 1)⟩,
      ⟨Rect.unit (s := S4x1x128) ![0, 0, 0] S1x1x128.size inb_S4x1x128_S1x1x128_0_0_0, kNewM (iblk (F := Ideal) m c 4 t) (word t 0#32) (carryM m c t 0)⟩,
      ⟨Rect.unit (s := S4x1x128) ![0, 0, 0] S4x1x128.size inb_S4x1x128_S4x1x128_0_0_0, k0_pay9 (F := Ideal) (iblk m c 8 t)⟩]
      (Rect.unit (s := S4x1x128) ![0, 0, 0] S4x1x128.size inb_S4x1x128_S4x1x128_0_0_0).toLoadRect) y := by
  rw [after0_12]; unfold outsAt0; frame_out
  simp only [first0, first1, first2, first3, after1_0, after2_1, after2_0, after3_2, after3_1, after3_0]
  rfl
theorem out11_eq (t : Fin cfg0.N) (y : S1x4x1x128.Idx) : (dats (F := Ideal) m 0 c).after 11 t y
    = k0_pay5 (View.readCov (Val := Elt Ideal) (View.whole cc0_scratch1) [
      ⟨Rect.unit (s := S4x1x128) ![3, 0, 0] S1x1x128.size inb_S4x1x128_S1x1x128_3_0_0, kN (iblk (F := Ideal) m c 4 t) (word t 3#32) (keys3 m c t) (carryN m c t 3) (carryM m c t 3)⟩,
      ⟨Rect.unit (s := S4x1x128) ![2, 0, 0] S1x1x128.size inb_S4x1x128_S1x1x128_2_0_0, kN (iblk (F := Ideal) m c 4 t) (word t 2#32) (keys2 m c t) (carryN m c t 2) (carryM m c t 2)⟩,
      ⟨Rect.unit (s := S4x1x128) ![1, 0, 0] S1x1x128.size inb_S4x1x128_S1x1x128_1_0_0, kN (iblk (F := Ideal) m c 4 t) (word t 1#32) (keys1 m c t) (carryN m c t 1) (carryM m c t 1)⟩,
      ⟨Rect.unit (s := S4x1x128) ![0, 0, 0] S1x1x128.size inb_S4x1x128_S1x1x128_0_0_0, kN (iblk (F := Ideal) m c 4 t) (word t 0#32) (keys0 m c t) (carryN m c t 0) (carryM m c t 0)⟩,
      ⟨Rect.unit (s := S4x1x128) ![0, 0, 0] S4x1x128.size inb_S4x1x128_S4x1x128_0_0_0, k0_pay8 (F := Ideal) (iblk m c 7 t)⟩]
      (Rect.unit (s := S4x1x128) ![0, 0, 0] S4x1x128.size inb_S4x1x128_S4x1x128_0_0_0).toLoadRect) y := by
  rw [after0_11]; unfold outsAt0; frame_out
  simp only [first0, first1, first2, first3, after1_0, after2_1, after2_0, after3_2, after3_1, after3_0]
  rfl
theorem out10_eq (t : Fin cfg0.N) (y : S1x4x128x256.Idx) : (dats (F := Ideal) m 0 c).after 10 t y
    = k0_pay4 (View.readCov (Val := Elt Ideal) (View.whole cc0_scratch0) [
      ⟨Rect.unit (s := S4x128x256) ![3, 0, 0] S1x128x256.size inb_S4x128x256_S1x128x256_3_0_0, kC (iblk (F := Ideal) m c 4 t) (word t 3#32) (keys3 m c t) (values3 m c t) (carryC m c t 3) (carryM m c t 3)⟩,
      ⟨Rect.unit (s := S4x128x256) ![2, 0, 0] S1x128x256.size inb_S4x128x256_S1x128x256_2_0_0, kC (iblk (F := Ideal) m c 4 t) (word t 2#32) (keys2 m c t) (values2 m c t) (carryC m c t 2) (carryM m c t 2)⟩,
      ⟨Rect.unit (s := S4x128x256) ![1, 0, 0] S1x128x256.size inb_S4x128x256_S1x128x256_1_0_0, kC (iblk (F := Ideal) m c 4 t) (word t 1#32) (keys1 m c t) (values1 m c t) (carryC m c t 1) (carryM m c t 1)⟩,
      ⟨Rect.unit (s := S4x128x256) ![0, 0, 0] S1x128x256.size inb_S4x128x256_S1x128x256_0_0_0, kC (iblk (F := Ideal) m c 4 t) (word t 0#32) (keys0 m c t) (values0 m c t) (carryC m c t 0) (carryM m c t 0)⟩,
      ⟨Rect.unit (s := S4x128x256) ![0, 0, 0] S4x128x256.size inb_S4x128x256_S4x128x256_0_0_0, k0_pay7 (F := Ideal) (iblk m c 6 t)⟩]
      (Rect.unit (s := S4x128x256) ![0, 0, 0] S4x128x256.size inb_S4x128x256_S4x128x256_0_0_0).toLoadRect) y := by
  rw [after0_10]; unfold outsAt0; frame_out
  simp only [first0, first1, first2, first3, after1_0, after2_1, after2_0, after3_2, after3_1, after3_0]
  rfl
theorem out9_eq (t : Fin cfg0.N) (y : S8x1024.Idx) : (dats (F := Ideal) m 0 c).after 9 t y
    = View.canon (Val := Elt Ideal) (e := .f32) [
      ⟨Rect.unit (s := S8x1024) k0_off9 S8x256.size k0_off9_inb, kOut (iblk (F := Ideal) m c 4 t) (word t 3#32) (queries3 m c t) (keys3 m c t) (values3 m c t) (opens3 m c t) (iblk (F := Ideal) m c 5 t) (carryC m c t 3) (carryN m c t 3) (carryM m c t 3)⟩,
      ⟨Rect.unit (s := S8x1024) k0_off7 S8x256.size k0_off7_inb, kOut (iblk (F := Ideal) m c 4 t) (word t 2#32) (queries2 m c t) (keys2 m c t) (values2 m c t) (opens2 m c t) (iblk (F := Ideal) m c 5 t) (carryC m c t 2) (carryN m c t 2) (carryM m c t 2)⟩,
      ⟨Rect.unit (s := S8x1024) k0_off5 S8x256.size k0_off5_inb, kOut (iblk (F := Ideal) m c 4 t) (word t 1#32) (queries1 m c t) (keys1 m c t) (values1 m c t) (opens1 m c t) (iblk (F := Ideal) m c 5 t) (carryC m c t 1) (carryN m c t 1) (carryM m c t 1)⟩,
      ⟨Rect.unit (s := S8x1024) k0_off3 S8x256.size k0_off3_inb, kOut (iblk (F := Ideal) m c 4 t) (word t 0#32) (queries0 m c t) (keys0 m c t) (values0 m c t) (opens0 m c t) (iblk (F := Ideal) m c 5 t) (carryC m c t 0) (carryN m c t 0) (carryM m c t 0)⟩] y := by
  rw [after0_9]; unfold outsAt0; frame_out
  simp only [first0, first1, first2, first3, after1_0, after2_1, after2_0, after3_2, after3_1, after3_0]
  rfl

end

end Cert.Mlstm

end
-- ==== Proof.MlstmSpec.lean ====
/- The four results of the recurrence over the whole arrays: each stream's and head's numbers read off the arrays, and the arrays they make. -/
module

public import proofs.«01_k».proof.Proof.MlstmHead

@[expose] public section

set_option maxRecDepth 16384

noncomputable section

namespace Cert.Mlstm

open Idealize.ShloMosaic Idealize.ShloMosaic.TcCoe Cert.Kernel14Ideal Cert.Kernel14Ideal.Gen

section
variable (z : FVec Ideal S8256x3072 .f32) (g : FVec Ideal S64x128 .f32) (mn : FVec Ideal S256 .f32)
  (c0 : FVec Ideal S8x4x128x256 .f32) (n0 : FVec Ideal S8x4x128 .f32) (m0 : FVec Ideal S8x4 .f32)

/-- A stream's gates of one lane over time. -/
def gateAt (b : Fin 8) (l : Fin 128) (i : ℕ) : EReal := g (ix2 ⟨(8 * b.val + i) % 64, Nat.mod_lt _ (by decide)⟩ l)
theorem gateAt_eq (b : Fin 8) (l : Fin 128) (i : Fin 8) (a : Fin 64) (ha : a.val = 8 * b.val + i.val) : gateAt g b l i.val = g (ix2 a l) := by
  unfold gateAt
  refine congrArg (fun a => g (ix2 a l)) (Fin.ext ?_)
  show (8 * b.val + i.val) % 64 = a.val
  omega
def inputs (b : Fin 8) (h : Fin 4) : ℕ → EReal := gateAt g b ⟨16 + h.val, by omega⟩
def forgets (b : Fin 8) (h : Fin 4) : ℕ → EReal := gateAt g b ⟨20 + h.val, by omega⟩

/-- A head's queries, scaled keys, values and output gates. -/
def queryAt (b : Fin 8) (h : Fin 4) (r : Fin 8) (x : Fin 128) : EReal :=
  z (ix2 ⟨8192 + 8 * b.val + r.val, by omega⟩ ⟨128 * h.val + x.val, by omega⟩)
def keyAt (b : Fin 8) (h : Fin 4) (r : Fin 8) (x : Fin 128) : EReal :=
  z (ix2 ⟨8192 + 8 * b.val + r.val, by omega⟩ ⟨512 + 128 * h.val + x.val, by omega⟩) * Ideal.ofBits .f32 0x3DB504F3#32
def valueAt (b : Fin 8) (h : Fin 4) (r : Fin 8) (j : Fin 256) : EReal :=
  z (ix2 ⟨8192 + 8 * b.val + r.val, by omega⟩ ⟨1024 + 256 * h.val + j.val, by omega⟩)
def openAt (b : Fin 8) (h : Fin 4) (r : Fin 8) (j : Fin 256) : EReal :=
  z (ix2 ⟨8192 + 8 * b.val + r.val, by omega⟩ ⟨2048 + 256 * h.val + j.val, by omega⟩)

/-- The results of a stream and head. -/
def cOf (b : Fin 8) (h : Fin 4) (x : Fin 128) (j : Fin 256) : EReal :=
  cNew (inputs g b h) (forgets g b h) (m0 (ix2 b h)) (keyAt z b h) (valueAt z b h) (fun x j => c0 (ix4 b h x j)) x j
def nOf (b : Fin 8) (h : Fin 4) (x : Fin 128) : EReal :=
  nNew (inputs g b h) (forgets g b h) (m0 (ix2 b h)) (keyAt z b h) (fun x => n0 (ix3 b h x)) x
def mOf (b : Fin 8) (h : Fin 4) : EReal := peak (inputs g b h) (forgets g b h) (m0 (ix2 b h)) 7
def oOf (b : Fin 8) (h : Fin 4) (r : Fin 8) (j : Fin 256) : EReal :=
  out (inputs g b h) (forgets g b h) (m0 (ix2 b h)) (queryAt z b h) (keyAt z b h) (valueAt z b h) (openAt z b h)
    (fun x j => c0 (ix4 b h x j)) (fun x => n0 (ix3 b h x)) (fun j => mn (ix1 j)) r j

/-- The arrays: the rows read out, the state matrices, the normalizers, the running maxima. -/
def oArr : FVec Ideal S64x1024 .f32 := fun y =>
  have h0 : (y 0).val < 64 := (y 0).isLt
  have h1 : (y 1).val < 1024 := (y 1).isLt
  oOf z g mn c0 n0 m0 ⟨(y 0).val / 8, by omega⟩ ⟨(y 1).val / 256, by omega⟩ ⟨(y 0).val % 8, by omega⟩ ⟨(y 1).val % 256, by omega⟩
def cArr : FVec Ideal S8x4x128x256 .f32 := fun y => cOf z g c0 m0 (y 0) (y 1) (y 2) (y 3)
def nArr : FVec Ideal S8x4x1x128 .f32 := fun y => nOf z g n0 m0 (y 0) (y 1) (y 3)
def mArr : FVec Ideal S8x4x1x128 .f32 := fun y => mOf g m0 (y 0) (y 1)

theorem oArr_eq (b : Fin 8) (h : Fin 4) (r : Fin 8) (j : Fin 256) (a : Fin 64) (l : Fin 1024) (ha : a.val = 8 * b.val + r.val)
    (hl : l.val = 256 * h.val + j.val) : oArr z g mn c0 n0 m0 (ix2 a l) = oOf z g mn c0 n0 m0 b h r j := by
  have e0 : (⟨a.val / 8, by omega⟩ : Fin 8) = b := Fin.ext (by show a.val / 8 = b.val; omega)
  have e1 : (⟨l.val / 256, by omega⟩ : Fin 4) = h := Fin.ext (by show l.val / 256 = h.val; omega)
  have e2 : (⟨a.val % 8, by omega⟩ : Fin 8) = r := Fin.ext (by show a.val % 8 = r.val; omega)
  have e3 : (⟨l.val % 256, by omega⟩ : Fin 256) = j := Fin.ext (by show l.val % 256 = j.val; omega)
  show oOf z g mn c0 n0 m0 ⟨a.val / 8, _⟩ ⟨l.val / 256, _⟩ ⟨a.val % 8, _⟩ ⟨l.val % 256, _⟩ = _
  rw [e0, e1, e2, e3]

end

end Cert.Mlstm

end
-- ==== Proof.MlstmRead.lean ====
/- The blocks of the recurrence's arguments, read off the arrays. -/
module

public import proofs.«01_k».proof.Proof.Mlstm
public import proofs.«01_k».proof.Proof.MlstmSpec

@[expose] public section

set_option maxRecDepth 16384

noncomputable section

namespace Cert.Mlstm

open Idealize.ShloMosaic Idealize.ShloMosaic.TcCoe Cert.Kernel14Ideal Cert.Kernel14Ideal.Gen

/-- Where each window's block of grid point `t` stands, in blocks. -/
theorem index0 : ∀ t : Fin grid0.N, win0_0.index t = ![1024 + t.val, 0] := by decide +kernel
theorem index1 : ∀ t : Fin grid0.N, win0_1.index t = ![1024 + t.val, 1] := by decide +kernel
theorem index2 : ∀ t : Fin grid0.N, win0_2.index t = ![1024 + t.val, 1] := by decide +kernel
theorem index3 : ∀ t : Fin grid0.N, win0_3.index t = ![1024 + t.val, 2] := by decide +kernel
theorem index4 : ∀ t : Fin grid0.N, win0_4.index t = ![t.val, 0] := by decide +kernel
theorem index5 : ∀ t : Fin grid0.N, win0_5.index t = ![0, 0] := by decide +kernel
theorem index6 : ∀ t : Fin grid0.N, win0_6.index t = ![t.val, 0, 0, 0] := by decide +kernel
theorem index7 : ∀ t : Fin grid0.N, win0_7.index t = ![t.val, 0, 0, 0] := by decide +kernel
theorem index8 : ∀ t : Fin grid0.N, win0_8.index t = ![t.val, 0, 0, 0] := by decide +kernel
theorem index9 : ∀ t : Fin grid0.N, win0_9.index t = ![t.val, 0] := by decide +kernel
theorem index10 : ∀ t : Fin grid0.N, win0_10.index t = ![t.val, 0, 0, 0] := by decide +kernel
theorem index11 : ∀ t : Fin grid0.N, win0_11.index t = ![t.val, 0, 0, 0] := by decide +kernel
theorem index12 : ∀ t : Fin grid0.N, win0_12.index t = ![t.val, 0, 0, 0] := by decide +kernel

/-- A head's number is its number in its group: there is one group. -/
theorem word0 : ∀ t : Fin grid0.N, word t 0#32 = BitVec.ofNat 32 (0 : Fin 4).val := by decide +kernel
theorem word1 : ∀ t : Fin grid0.N, word t 1#32 = BitVec.ofNat 32 (1 : Fin 4).val := by decide +kernel
theorem word2 : ∀ t : Fin grid0.N, word t 2#32 = BitVec.ofNat 32 (2 : Fin 4).val := by decide +kernel
theorem word3 : ∀ t : Fin grid0.N, word t 3#32 = BitVec.ofNat 32 (3 : Fin 4).val := by decide +kernel

/-- What is stored and loaded of the state, in other shapes. -/
theorem carriedC_apply (w : Vec Ideal S1x4x128x256 .f32) (h : Fin 4) (x : Fin 128) (j : Fin 256) : k0_pay7 w (ix3 h x j) = w (ix4 0 h x j) := by
  unfold k0_pay7
  pointwise []
theorem carriedN_apply (w : Vec Ideal S1x4x1x128 .f32) (h : Fin 4) (x : Fin 128) : k0_pay8 w (ix3 h 0 x) = w (ix4 0 h 0 x) := by
  unfold k0_pay8
  pointwise []
theorem carriedM_apply (w : Vec Ideal S1x4x1x128 .f32) (h : Fin 4) (x : Fin 128) : k0_pay9 w (ix3 h 0 x) = w (ix4 0 h 0 x) := by
  unfold k0_pay9
  pointwise []
theorem stateC_apply (w : Vec Ideal S4x128x256 .f32) (h : Fin 4) (x : Fin 128) (j : Fin 256) : k0_pay4 w (ix4 0 h x j) = w (ix3 h x j) := by
  unfold k0_pay4
  pointwise []
theorem stateN_apply (w : Vec Ideal S4x1x128 .f32) (h : Fin 4) (x : Fin 128) : k0_pay5 w (ix4 0 h 0 x) = w (ix3 h 0 x) := by
  unfold k0_pay5
  pointwise []
theorem stateM_apply (w : Vec Ideal S4x1x128 .f32) (h : Fin 4) (x : Fin 128) : k0_pay6 w (ix4 0 h 0 x) = w (ix3 h 0 x) := by
  unfold k0_pay6
  pointwise []
theorem scaled_apply (k : Vec Ideal S8x128 .f32) (r : Fin 8) (x : Fin 128) : k0_pay24 k (ix2 r x) = k (ix2 r x) * Ideal.ofBits .f32 0x3DB504F3#32 := by
  unfold k0_pay24
  pointwise []

section
variable (m : (ℓ : Loc nD τ sig) → Buf (Elt Ideal) ℓ) (c : Dev nD)

theorem query_read (t : Fin cfg0.N) (r : Fin 8) (x : Fin 512) (a : Fin 8256) (b : Fin 3072) (ha : a.val = 8192 + 8 * t.val + r.val) (hb : b.val = x.val) :
    iblk (F := Ideal) m c 0 t (ix2 r x) = m ((c : Thread nD τ).loc main_arg0) (ix2 a b) := by
  blk_ext [iblk, V, index0 t]
theorem key_read (t : Fin cfg0.N) (r : Fin 8) (x : Fin 512) (a : Fin 8256) (b : Fin 3072) (ha : a.val = 8192 + 8 * t.val + r.val) (hb : b.val = 512 + x.val) :
    iblk (F := Ideal) m c 1 t (ix2 r x) = m ((c : Thread nD τ).loc main_arg0) (ix2 a b) := by
  blk_ext [iblk, V, index1 t]
theorem value_read (t : Fin cfg0.N) (r : Fin 8) (x : Fin 1024) (a : Fin 8256) (b : Fin 3072) (ha : a.val = 8192 + 8 * t.val + r.val) (hb : b.val = 1024 + x.val) :
    iblk (F := Ideal) m c 2 t (ix2 r x) = m ((c : Thread nD τ).loc main_arg0) (ix2 a b) := by
  blk_ext [iblk, V, index2 t]
theorem open_read (t : Fin cfg0.N) (r : Fin 8) (x : Fin 1024) (a : Fin 8256) (b : Fin 3072) (ha : a.val = 8192 + 8 * t.val + r.val) (hb : b.val = 2048 + x.val) :
    iblk (F := Ideal) m c 3 t (ix2 r x) = m ((c : Thread nD τ).loc main_arg0) (ix2 a b) := by
  blk_ext [iblk, V, index3 t]
theorem gate_read (t : Fin cfg0.N) (r : Fin 8) (l : Fin 128) (a : Fin 64) (ha : a.val = 8 * t.val + r.val) :
    iblk (F := Ideal) m c 4 t (ix2 r l) = m ((c : Thread nD τ).loc main_arg1) (ix2 a l) := by
  blk_ext [iblk, V, index4 t]
theorem gain_read (t : Fin cfg0.N) (j : Fin 256) :
    iblk (F := Ideal) m c 5 t (ix2 0 j) = m ((c : Thread nD τ).loc main_arg2) (ix1 j) := by
  blk_simp [iblk, index5 t]
  entry_read
  pointwise
  blk_ext! [index5 t]
theorem matrix_read (t : Fin cfg0.N) (h : Fin 4) (x : Fin 128) (j : Fin 256) (b : Fin 8) (hb : b.val = t.val) :
    iblk (F := Ideal) m c 6 t (ix4 0 h x j) = m ((c : Thread nD τ).loc main_arg3) (ix4 b h x j) := by
  blk_ext [iblk, V, index6 t]
theorem norm_read (t : Fin cfg0.N) (h : Fin 4) (x : Fin 128) (b : Fin 8) (hb : b.val = t.val) :
    iblk (F := Ideal) m c 7 t (ix4 0 h 0 x) = m ((c : Thread nD τ).loc main_arg4) (ix3 b h x) := by
  blk_simp [iblk, index7 t]
  entry_read
  pointwise
  blk_ext! [index7 t]
theorem max_read (t : Fin cfg0.N) (h : Fin 4) (x : Fin 128) (b : Fin 8) (hb : b.val = t.val) :
    iblk (F := Ideal) m c 8 t (ix4 0 h 0 x) = m ((c : Thread nD τ).loc main_arg5) (ix2 b h) := by
  blk_simp [iblk, index8 t]
  entry_read
  pointwise
  blk_ext! [index8 t]

theorem carryC_apply (t : Fin cfg0.N) (h : Fin 4) (x : Fin 128) (j : Fin 256) (b : Fin 8) (hb : b.val = t.val) :
    carryC m c t h (ix3 0 x j) = m ((c : Thread nD τ).loc main_arg3) (ix4 b h x j) := by
  show k0_pay7 (F := Ideal) (iblk m c 6 t) _ = _
  exact (carriedC_apply (iblk (F := Ideal) m c 6 t) h x j).trans (matrix_read m c t h x j b hb)
theorem carryN_apply (t : Fin cfg0.N) (h : Fin 4) (x : Fin 128) (b : Fin 8) (hb : b.val = t.val) :
    carryN m c t h (ix3 0 0 x) = m ((c : Thread nD τ).loc main_arg4) (ix3 b h x) := by
  show k0_pay8 (F := Ideal) (iblk m c 7 t) _ = _
  exact (carriedN_apply (iblk (F := Ideal) m c 7 t) h x).trans (norm_read m c t h x b hb)
theorem carryM_apply (t : Fin cfg0.N) (h : Fin 4) (x : Fin 128) (b : Fin 8) (hb : b.val = t.val) :
    carryM m c t h (ix3 0 0 x) = m ((c : Thread nD τ).loc main_arg5) (ix2 b h) := by
  show k0_pay9 (F := Ideal) (iblk m c 8 t) _ = _
  exact (carriedM_apply (iblk (F := Ideal) m c 8 t) h x).trans (max_read m c t h x b hb)

/-- The heads' columns of the blocks. -/
theorem queries0_apply (t : Fin cfg0.N) (r : Fin 8) (x : Fin 128) (a : Fin 8256) (b : Fin 3072) (ha : a.val = 8192 + 8 * t.val + r.val)
    (hb : b.val = 0 + x.val) : queries0 m c t (ix2 r x) = m ((c : Thread nD τ).loc main_arg0) (ix2 a b) := by
  unfold queries0
  refine (View.ld_unit_apply_of _ _ _ _ (ix2 r x) (ix2 r ⟨0 + x.val, by omega⟩) fun d => ?_).trans
    (query_read m c t r ⟨0 + x.val, by omega⟩ a b ha (by show b.val = 0 + x.val; omega))
  match d with
  | 0 => exact ((congrArg (· + r.val) (congrFun k0_off2_eq 0)).trans (Nat.zero_add _)).symm
  | 1 => exact (congrArg (· + x.val) (congrFun k0_off2_eq 1)).symm
theorem queries1_apply (t : Fin cfg0.N) (r : Fin 8) (x : Fin 128) (a : Fin 8256) (b : Fin 3072) (ha : a.val = 8192 + 8 * t.val + r.val)
    (hb : b.val = 128 + x.val) : queries1 m c t (ix2 r x) = m ((c : Thread nD τ).loc main_arg0) (ix2 a b) := by
  unfold queries1
  refine (View.ld_unit_apply_of _ _ _ _ (ix2 r x) (ix2 r ⟨128 + x.val, by omega⟩) fun d => ?_).trans
    (query_read m c t r ⟨128 + x.val, by omega⟩ a b ha (by show b.val = 128 + x.val; omega))
  match d with
  | 0 => exact ((congrArg (· + r.val) (congrFun k0_off4_eq 0)).trans (Nat.zero_add _)).symm
  | 1 => exact (congrArg (· + x.val) (congrFun k0_off4_eq 1)).symm
theorem queries2_apply (t : Fin cfg0.N) (r : Fin 8) (x : Fin 128) (a : Fin 8256) (b : Fin 3072) (ha : a.val = 8192 + 8 * t.val + r.val)
    (hb : b.val = 256 + x.val) : queries2 m c t (ix2 r x) = m ((c : Thread nD τ).loc main_arg0) (ix2 a b) := by
  unfold queries2
  refine (View.ld_unit_apply_of _ _ _ _ (ix2 r x) (ix2 r ⟨256 + x.val, by omega⟩) fun d => ?_).trans
    (query_read m c t r ⟨256 + x.val, by omega⟩ a b ha (by show b.val = 256 + x.val; omega))
  match d with
  | 0 => exact ((congrArg (· + r.val) (congrFun k0_off6_eq 0)).trans (Nat.zero_add _)).symm
  | 1 => exact (congrArg (· + x.val) (congrFun k0_off6_eq 1)).symm
theorem queries3_apply (t : Fin cfg0.N) (r : Fin 8) (x : Fin 128) (a : Fin 8256) (b : Fin 3072) (ha : a.val = 8192 + 8 * t.val + r.val)
    (hb : b.val = 384 + x.val) : queries3 m c t (ix2 r x) = m ((c : Thread nD τ).loc main_arg0) (ix2 a b) := by
  unfold queries3
  refine (View.ld_unit_apply_of _ _ _ _ (ix2 r x) (ix2 r ⟨384 + x.val, by omega⟩) fun d => ?_).trans
    (query_read m c t r ⟨384 + x.val, by omega⟩ a b ha (by show b.val = 384 + x.val; omega))
  match d with
  | 0 => exact ((congrArg (· + r.val) (congrFun k0_off8_eq 0)).trans (Nat.zero_add _)).symm
  | 1 => exact (congrArg (· + x.val) (congrFun k0_off8_eq 1)).symm
theorem keys0_apply (t : Fin cfg0.N) (r : Fin 8) (x : Fin 128) (a : Fin 8256) (b : Fin 3072) (ha : a.val = 8192 + 8 * t.val + r.val)
    (hb : b.val = 512 + x.val) : keys0 m c t (ix2 r x) = m ((c : Thread nD τ).loc main_arg0) (ix2 a b) := by
  unfold keys0
  refine (View.ld_unit_apply_of _ _ _ _ (ix2 r x) (ix2 r ⟨0 + x.val, by omega⟩) fun d => ?_).trans
    (key_read m c t r ⟨0 + x.val, by omega⟩ a b ha (by show b.val = 512 + (0 + x.val); omega))
  match d with
  | 0 => exact ((congrArg (· + r.val) (congrFun k0_off2_eq 0)).trans (Nat.zero_add _)).symm
  | 1 => exact (congrArg (· + x.val) (congrFun k0_off2_eq 1)).symm
theorem keys1_apply (t : Fin cfg0.N) (r : Fin 8) (x : Fin 128) (a : Fin 8256) (b : Fin 3072) (ha : a.val = 8192 + 8 * t.val + r.val)
    (hb : b.val = 640 + x.val) : keys1 m c t (ix2 r x) = m ((c : Thread nD τ).loc main_arg0) (ix2 a b) := by
  unfold keys1
  refine (View.ld_unit_apply_of _ _ _ _ (ix2 r x) (ix2 r ⟨128 + x.val, by omega⟩) fun d => ?_).trans
    (key_read m c t r ⟨128 + x.val, by omega⟩ a b ha (by show b.val = 512 + (128 + x.val); omega))
  match d with
  | 0 => exact ((congrArg (· + r.val) (congrFun k0_off4_eq 0)).trans (Nat.zero_add _)).symm
  | 1 => exact (congrArg (· + x.val) (congrFun k0_off4_eq 1)).symm
theorem keys2_apply (t : Fin cfg0.N) (r : Fin 8) (x : Fin 128) (a : Fin 8256) (b : Fin 3072) (ha : a.val = 8192 + 8 * t.val + r.val)
    (hb : b.val = 768 + x.val) : keys2 m c t (ix2 r x) = m ((c : Thread nD τ).loc main_arg0) (ix2 a b) := by
  unfold keys2
  refine (View.ld_unit_apply_of _ _ _ _ (ix2 r x) (ix2 r ⟨256 + x.val, by omega⟩) fun d => ?_).trans
    (key_read m c t r ⟨256 + x.val, by omega⟩ a b ha (by show b.val = 512 + (256 + x.val); omega))
  match d with
  | 0 => exact ((congrArg (· + r.val) (congrFun k0_off6_eq 0)).trans (Nat.zero_add _)).symm
  | 1 => exact (congrArg (· + x.val) (congrFun k0_off6_eq 1)).symm
theorem keys3_apply (t : Fin cfg0.N) (r : Fin 8) (x : Fin 128) (a : Fin 8256) (b : Fin 3072) (ha : a.val = 8192 + 8 * t.val + r.val)
    (hb : b.val = 896 + x.val) : keys3 m c t (ix2 r x) = m ((c : Thread nD τ).loc main_arg0) (ix2 a b) := by
  unfold keys3
  refine (View.ld_unit_apply_of _ _ _ _ (ix2 r x) (ix2 r ⟨384 + x.val, by omega⟩) fun d => ?_).trans
    (key_read m c t r ⟨384 + x.val, by omega⟩ a b ha (by show b.val = 512 + (384 + x.val); omega))
  match d with
  | 0 => exact ((congrArg (· + r.val) (congrFun k0_off8_eq 0)).trans (Nat.zero_add _)).symm
  | 1 => exact (congrArg (· + x.val) (congrFun k0_off8_eq 1)).symm
theorem values0_apply (t : Fin cfg0.N) (r : Fin 8) (x : Fin 256) (a : Fin 8256) (b : Fin 3072) (ha : a.val = 8192 + 8 * t.val + r.val)
    (hb : b.val = 1024 + x.val) : values0 m c t (ix2 r x) = m ((c : Thread nD τ).loc main_arg0) (ix2 a b) := by
  unfold values0
  refine (View.ld_unit_apply_of _ _ _ _ (ix2 r x) (ix2 r ⟨0 + x.val, by omega⟩) fun d => ?_).trans
    (value_read m c t r ⟨0 + x.val, by omega⟩ a b ha (by show b.val = 1024 + (0 + x.val); omega))
  match d with
  | 0 => exact ((congrArg (· + r.val) (congrFun k0_off3_eq 0)).trans (Nat.zero_add _)).symm
  | 1 => exact (congrArg (· + x.val) (congrFun k0_off3_eq 1)).symm
theorem values1_apply (t : Fin cfg0.N) (r : Fin 8) (x : Fin 256) (a : Fin 8256) (b : Fin 3072) (ha : a.val = 8192 + 8 * t.val + r.val)
    (hb : b.val = 1280 + x.val) : values1 m c t (ix2 r x) = m ((c : Thread nD τ).loc main_arg0) (ix2 a b) := by
  unfold values1
  refine (View.ld_unit_apply_of _ _ _ _ (ix2 r x) (ix2 r ⟨256 + x.val, by omega⟩) fun d => ?_).trans
    (value_read m c t r ⟨256 + x.val, by omega⟩ a b ha (by show b.val = 1024 + (256 + x.val); omega))
  match d with
  | 0 => exact ((congrArg (· + r.val) (congrFun k0_off5_eq 0)).trans (Nat.zero_add _)).symm
  | 1 => exact (congrArg (· + x.val) (congrFun k0_off5_eq 1)).symm
theorem values2_apply (t : Fin cfg0.N) (r : Fin 8) (x : Fin 256) (a : Fin 8256) (b : Fin 3072) (ha : a.val = 8192 + 8 * t.val + r.val)
    (hb : b.val = 1536 + x.val) : values2 m c t (ix2 r x) = m ((c : Thread nD τ).loc main_arg0) (ix2 a b) := by
  unfold values2
  refine (View.ld_unit_apply_of _ _ _ _ (ix2 r x) (ix2 r ⟨512 + x.val, by omega⟩) fun d => ?_).trans
    (value_read m c t r ⟨512 + x.val, by omega⟩ a b ha (by show b.val = 1024 + (512 + x.val); omega))
  match d with
  | 0 => exact ((congrArg (· + r.val) (congrFun k0_off7_eq 0)).trans (Nat.zero_add _)).symm
  | 1 => exact (congrArg (· + x.val) (congrFun k0_off7_eq 1)).symm
theorem values3_apply (t : Fin cfg0.N) (r : Fin 8) (x : Fin 256) (a : Fin 8256) (b : Fin 3072) (ha : a.val = 8192 + 8 * t.val + r.val)
    (hb : b.val = 1792 + x.val) : values3 m c t (ix2 r x) = m ((c : Thread nD τ).loc main_arg0) (ix2 a b) := by
  unfold values3
  refine (View.ld_unit_apply_of _ _ _ _ (ix2 r x) (ix2 r ⟨768 + x.val, by omega⟩) fun d => ?_).trans
    (value_read m c t r ⟨768 + x.val, by omega⟩ a b ha (by show b.val = 1024 + (768 + x.val); omega))
  match d with
  | 0 => exact ((congrArg (· + r.val) (congrFun k0_off9_eq 0)).trans (Nat.zero_add _)).symm
  | 1 => exact (congrArg (· + x.val) (congrFun k0_off9_eq 1)).symm
theorem opens0_apply (t : Fin cfg0.N) (r : Fin 8) (x : Fin 256) (a : Fin 8256) (b : Fin 3072) (ha : a.val = 8192 + 8 * t.val + r.val)
    (hb : b.val = 2048 + x.val) : opens0 m c t (ix2 r x) = m ((c : Thread nD τ).loc main_arg0) (ix2 a b) := by
  unfold opens0
  refine (View.ld_unit_apply_of _ _ _ _ (ix2 r x) (ix2 r ⟨0 + x.val, by omega⟩) fun d => ?_).trans
    (open_read m c t r ⟨0 + x.val, by omega⟩ a b ha (by show b.val = 2048 + (0 + x.val); omega))
  match d with
  | 0 => exact ((congrArg (· + r.val) (congrFun k0_off3_eq 0)).trans (Nat.zero_add _)).symm
  | 1 => exact (congrArg (· + x.val) (congrFun k0_off3_eq 1)).symm
theorem opens1_apply (t : Fin cfg0.N) (r : Fin 8) (x : Fin 256) (a : Fin 8256) (b : Fin 3072) (ha : a.val = 8192 + 8 * t.val + r.val)
    (hb : b.val = 2304 + x.val) : opens1 m c t (ix2 r x) = m ((c : Thread nD τ).loc main_arg0) (ix2 a b) := by
  unfold opens1
  refine (View.ld_unit_apply_of _ _ _ _ (ix2 r x) (ix2 r ⟨256 + x.val, by omega⟩) fun d => ?_).trans
    (open_read m c t r ⟨256 + x.val, by omega⟩ a b ha (by show b.val = 2048 + (256 + x.val); omega))
  match d with
  | 0 => exact ((congrArg (· + r.val) (congrFun k0_off5_eq 0)).trans (Nat.zero_add _)).symm
  | 1 => exact (congrArg (· + x.val) (congrFun k0_off5_eq 1)).symm
theorem opens2_apply (t : Fin cfg0.N) (r : Fin 8) (x : Fin 256) (a : Fin 8256) (b : Fin 3072) (ha : a.val = 8192 + 8 * t.val + r.val)
    (hb : b.val = 2560 + x.val) : opens2 m c t (ix2 r x) = m ((c : Thread nD τ).loc main_arg0) (ix2 a b) := by
  unfold opens2
  refine (View.ld_unit_apply_of _ _ _ _ (ix2 r x) (ix2 r ⟨512 + x.val, by omega⟩) fun d => ?_).trans
    (open_read m c t r ⟨512 + x.val, by omega⟩ a b ha (by show b.val = 2048 + (512 + x.val); omega))
  match d with
  | 0 => exact ((congrArg (· + r.val) (congrFun k0_off7_eq 0)).trans (Nat.zero_add _)).symm
  | 1 => exact (congrArg (· + x.val) (congrFun k0_off7_eq 1)).symm
theorem opens3_apply (t : Fin cfg0.N) (r : Fin 8) (x : Fin 256) (a : Fin 8256) (b : Fin 3072) (ha : a.val = 8192 + 8 * t.val + r.val)
    (hb : b.val = 2816 + x.val) : opens3 m c t (ix2 r x) = m ((c : Thread nD τ).loc main_arg0) (ix2 a b) := by
  unfold opens3
  refine (View.ld_unit_apply_of _ _ _ _ (ix2 r x) (ix2 r ⟨768 + x.val, by omega⟩) fun d => ?_).trans
    (open_read m c t r ⟨768 + x.val, by omega⟩ a b ha (by show b.val = 2048 + (768 + x.val); omega))
  match d with
  | 0 => exact ((congrArg (· + r.val) (congrFun k0_off9_eq 0)).trans (Nat.zero_add _)).symm
  | 1 => exact (congrArg (· + x.val) (congrFun k0_off9_eq 1)).symm

end

end Cert.Mlstm

end
-- ==== Proof.MlstmArr.lean ====
/- The recurrence of the sample streams: the arrays after the run are the four results (`arr9_eq` the rows read out, `arr10_eq` to `arr12_eq` the states), provided
   no log forget gate is +∞. -/
module

public import proofs.«01_k».proof.Proof.MlstmRead

@[expose] public section

set_option maxRecDepth 16384

noncomputable section

namespace Cert.Mlstm

open Idealize.ShloMosaic Idealize.ShloMosaic.TcCoe Cert.Kernel14Ideal Cert.Kernel14Ideal.Gen

/-- A head's lane of the log forget gates, and that none of them is +∞. -/
def forgetLane (h : Fin 4) : Fin 128 := ⟨20 + h.val, by omega⟩
def Below (g : FVec Ideal S64x128 .f32) : Prop := ∀ (a : Fin 64) (h : Fin 4), g (ix2 a (forgetLane h)) ≠ (⊤ : EReal)

section
variable (m : (ℓ : Loc nD τ sig) → Buf (Elt Ideal) ℓ) (c : Dev nD) (hg : Below (m ((c : Thread nD τ).loc main_arg1)))

include hg

/-- One head's arithmetic on a stream's blocks, from the arrays. -/
theorem headM (t : Fin cfg0.N) (b : Fin 8) (hb : b.val = t.val) (h : Fin 4) (s : BitVec 32) (hs : s = BitVec.ofNat 32 h.val) (x : Fin 128) :
    kNewM (iblk (F := Ideal) m c 4 t) s (carryM m c t h) (ix3 0 0 x) = mOf (m ((c : Thread nD τ).loc main_arg1)) (m ((c : Thread nD τ).loc main_arg5)) b h := by
  rw [kNewM_apply (iblk (F := Ideal) m c 4 t) s (carryM m c t h) h hs (inputs (m ((c : Thread nD τ).loc main_arg1)) b h) (forgets (m ((c : Thread nD τ).loc main_arg1)) b h)
    (fun r => (gate_read m c t r _ ⟨8 * b.val + r.val, by omega⟩ (by rw [← hb])).trans (gateAt_eq _ b _ r _ rfl).symm)
    (fun r => (gate_read m c t r _ ⟨8 * b.val + r.val, by omega⟩ (by rw [← hb])).trans (gateAt_eq _ b _ r _ rfl).symm)
    (fun r => ne_of_eq_of_ne (gate_read m c t r _ ⟨8 * b.val + r.val, by omega⟩ (by rw [← hb])) (hg _ h)) x, carryM_apply m c t h 0 b hb]
  rfl
theorem headN (t : Fin cfg0.N) (b : Fin 8) (hb : b.val = t.val) (h : Fin 4) (s : BitVec 32) (hs : s = BitVec.ofNat 32 h.val) (k : Vec Ideal S8x128 .f32)
    (hk : ∀ r x, k (ix2 r x) = (m ((c : Thread nD τ).loc main_arg0)) (ix2 ⟨8192 + 8 * b.val + r.val, by omega⟩ ⟨512 + 128 * h.val + x.val, by omega⟩)) (x : Fin 128) :
    kN (iblk (F := Ideal) m c 4 t) s k (carryN m c t h) (carryM m c t h) (ix3 0 0 x) = nOf (m ((c : Thread nD τ).loc main_arg0)) (m ((c : Thread nD τ).loc main_arg1)) (m ((c : Thread nD τ).loc main_arg4)) (m ((c : Thread nD τ).loc main_arg5)) b h x := by
  rw [kN_apply (iblk (F := Ideal) m c 4 t) s k (carryN m c t h) (carryM m c t h) h hs (inputs (m ((c : Thread nD τ).loc main_arg1)) b h) (forgets (m ((c : Thread nD τ).loc main_arg1)) b h)
    (fun r => (gate_read m c t r _ ⟨8 * b.val + r.val, by omega⟩ (by rw [← hb])).trans (gateAt_eq _ b _ r _ rfl).symm)
    (fun r => (gate_read m c t r _ ⟨8 * b.val + r.val, by omega⟩ (by rw [← hb])).trans (gateAt_eq _ b _ r _ rfl).symm)
    (fun r => ne_of_eq_of_ne (gate_read m c t r _ ⟨8 * b.val + r.val, by omega⟩ (by rw [← hb])) (hg _ h)) x, carryM_apply m c t h 0 b hb]
  simp only [scaled_apply, hk, fun x => carryN_apply m c t h x b hb]
  rfl
theorem headC (t : Fin cfg0.N) (b : Fin 8) (hb : b.val = t.val) (h : Fin 4) (s : BitVec 32) (hs : s = BitVec.ofNat 32 h.val) (k : Vec Ideal S8x128 .f32) (v : Vec Ideal S8x256 .f32)
    (hk : ∀ r x, k (ix2 r x) = (m ((c : Thread nD τ).loc main_arg0)) (ix2 ⟨8192 + 8 * b.val + r.val, by omega⟩ ⟨512 + 128 * h.val + x.val, by omega⟩))
    (hv : ∀ r j, v (ix2 r j) = valueAt (m ((c : Thread nD τ).loc main_arg0)) b h r j) (x : Fin 128) (j : Fin 256) :
    kC (iblk (F := Ideal) m c 4 t) s k v (carryC m c t h) (carryM m c t h) (ix3 0 x j) = cOf (m ((c : Thread nD τ).loc main_arg0)) (m ((c : Thread nD τ).loc main_arg1)) (m ((c : Thread nD τ).loc main_arg3)) (m ((c : Thread nD τ).loc main_arg5)) b h x j := by
  rw [kC_apply (iblk (F := Ideal) m c 4 t) s k v (carryC m c t h) (carryM m c t h) h hs (inputs (m ((c : Thread nD τ).loc main_arg1)) b h) (forgets (m ((c : Thread nD τ).loc main_arg1)) b h)
    (fun r => (gate_read m c t r _ ⟨8 * b.val + r.val, by omega⟩ (by rw [← hb])).trans (gateAt_eq _ b _ r _ rfl).symm)
    (fun r => (gate_read m c t r _ ⟨8 * b.val + r.val, by omega⟩ (by rw [← hb])).trans (gateAt_eq _ b _ r _ rfl).symm)
    (fun r => ne_of_eq_of_ne (gate_read m c t r _ ⟨8 * b.val + r.val, by omega⟩ (by rw [← hb])) (hg _ h)) x j, carryM_apply m c t h 0 b hb]
  simp only [scaled_apply, hk, hv, fun x j => carryC_apply m c t h x j b hb]
  rfl
theorem headO (t : Fin cfg0.N) (b : Fin 8) (hb : b.val = t.val) (h : Fin 4) (s : BitVec 32) (hs : s = BitVec.ofNat 32 h.val) (q k : Vec Ideal S8x128 .f32) (v o : Vec Ideal S8x256 .f32)
    (hq : ∀ r x, q (ix2 r x) = queryAt (m ((c : Thread nD τ).loc main_arg0)) b h r x)
    (hk : ∀ r x, k (ix2 r x) = (m ((c : Thread nD τ).loc main_arg0)) (ix2 ⟨8192 + 8 * b.val + r.val, by omega⟩ ⟨512 + 128 * h.val + x.val, by omega⟩))
    (hv : ∀ r j, v (ix2 r j) = valueAt (m ((c : Thread nD τ).loc main_arg0)) b h r j)
    (ho : ∀ r j, o (ix2 r j) = openAt (m ((c : Thread nD τ).loc main_arg0)) b h r j) (r : Fin 8) (j : Fin 256) :
    kOut (iblk (F := Ideal) m c 4 t) s q k v o (iblk (F := Ideal) m c 5 t) (carryC m c t h) (carryN m c t h) (carryM m c t h) (ix2 r j)
      = oOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b h r j := by
  rw [kOut_apply (iblk (F := Ideal) m c 4 t) s q k v o (iblk (F := Ideal) m c 5 t) (carryC m c t h) (carryN m c t h) (carryM m c t h) h hs (inputs (m ((c : Thread nD τ).loc main_arg1)) b h) (forgets (m ((c : Thread nD τ).loc main_arg1)) b h)
    (fun r => (gate_read m c t r _ ⟨8 * b.val + r.val, by omega⟩ (by rw [← hb])).trans (gateAt_eq _ b _ r _ rfl).symm)
    (fun r => (gate_read m c t r _ ⟨8 * b.val + r.val, by omega⟩ (by rw [← hb])).trans (gateAt_eq _ b _ r _ rfl).symm)
    (fun r => ne_of_eq_of_ne (gate_read m c t r _ ⟨8 * b.val + r.val, by omega⟩ (by rw [← hb])) (hg _ h)) r j, carryM_apply m c t h 0 b hb]
  simp only [scaled_apply, hq, hk, hv, ho, fun x j => carryC_apply m c t h x j b hb, fun x => carryN_apply m c t h x b hb, fun j => gain_read m c t j]
  rfl

/-- What a point stores, entry by entry, from the arrays. -/
theorem block12_apply (t : Fin cfg0.N) (b : Fin 8) (hb : b.val = t.val) (h : Fin 4) (x : Fin 128) :
    (dats (F := Ideal) m 0 c).after 12 t (ix4 0 h 0 x) = mOf (m ((c : Thread nD τ).loc main_arg1)) (m ((c : Thread nD τ).loc main_arg5)) b h := by
  rw [out12_eq, stateM_apply]
  refine (load_all (B := 1) (C := 128) _ _ _ _ _ _ ![kNewM (iblk (F := Ideal) m c 4 t) (word t 0#32) (carryM m c t 0), kNewM (iblk (F := Ideal) m c 4 t) (word t 1#32) (carryM m c t 1), kNewM (iblk (F := Ideal) m c 4 t) (word t 2#32) (carryM m c t 2), kNewM (iblk (F := Ideal) m c 4 t) (word t 3#32) (carryM m c t 3)] _ h 0 x).trans ?_
  match h with
  | 0 => exact headM m c hg t b hb 0 _ (word0 t) x
  | 1 => exact headM m c hg t b hb 1 _ (word1 t) x
  | 2 => exact headM m c hg t b hb 2 _ (word2 t) x
  | 3 => exact headM m c hg t b hb 3 _ (word3 t) x

theorem block11_apply (t : Fin cfg0.N) (b : Fin 8) (hb : b.val = t.val) (h : Fin 4) (x : Fin 128) :
    (dats (F := Ideal) m 0 c).after 11 t (ix4 0 h 0 x) = nOf (m ((c : Thread nD τ).loc main_arg0)) (m ((c : Thread nD τ).loc main_arg1)) (m ((c : Thread nD τ).loc main_arg4)) (m ((c : Thread nD τ).loc main_arg5)) b h x := by
  rw [out11_eq, stateN_apply]
  refine (load_all (B := 1) (C := 128) _ _ _ _ _ _ ![kN (iblk (F := Ideal) m c 4 t) (word t 0#32) (keys0 m c t) (carryN m c t 0) (carryM m c t 0), kN (iblk (F := Ideal) m c 4 t) (word t 1#32) (keys1 m c t) (carryN m c t 1) (carryM m c t 1), kN (iblk (F := Ideal) m c 4 t) (word t 2#32) (keys2 m c t) (carryN m c t 2) (carryM m c t 2), kN (iblk (F := Ideal) m c 4 t) (word t 3#32) (keys3 m c t) (carryN m c t 3) (carryM m c t 3)] _ h 0 x).trans ?_
  match h with
  | 0 => exact headN m c hg t b hb 0 _ (word0 t) _ (fun r x => keys0_apply m c t r x _ _ (by rw [← hb]) (by show _ = _; simp)) x
  | 1 => exact headN m c hg t b hb 1 _ (word1 t) _ (fun r x => keys1_apply m c t r x _ _ (by rw [← hb]) (by show _ = _; simp)) x
  | 2 => exact headN m c hg t b hb 2 _ (word2 t) _ (fun r x => keys2_apply m c t r x _ _ (by rw [← hb]) (by show _ = _; simp)) x
  | 3 => exact headN m c hg t b hb 3 _ (word3 t) _ (fun r x => keys3_apply m c t r x _ _ (by rw [← hb]) (by show _ = _; simp)) x

theorem block10_apply (t : Fin cfg0.N) (b : Fin 8) (hb : b.val = t.val) (h : Fin 4) (x : Fin 128) (j : Fin 256) :
    (dats (F := Ideal) m 0 c).after 10 t (ix4 0 h x j) = cOf (m ((c : Thread nD τ).loc main_arg0)) (m ((c : Thread nD τ).loc main_arg1)) (m ((c : Thread nD τ).loc main_arg3)) (m ((c : Thread nD τ).loc main_arg5)) b h x j := by
  rw [out10_eq, stateC_apply]
  refine (load_all (B := 128) (C := 256) _ _ _ _ _ _ ![kC (iblk (F := Ideal) m c 4 t) (word t 0#32) (keys0 m c t) (values0 m c t) (carryC m c t 0) (carryM m c t 0), kC (iblk (F := Ideal) m c 4 t) (word t 1#32) (keys1 m c t) (values1 m c t) (carryC m c t 1) (carryM m c t 1), kC (iblk (F := Ideal) m c 4 t) (word t 2#32) (keys2 m c t) (values2 m c t) (carryC m c t 2) (carryM m c t 2), kC (iblk (F := Ideal) m c 4 t) (word t 3#32) (keys3 m c t) (values3 m c t) (carryC m c t 3) (carryM m c t 3)] _ h x j).trans ?_
  match h with
  | 0 => exact headC m c hg t b hb 0 _ (word0 t) _ _ (fun r x => keys0_apply m c t r x _ _ (by rw [← hb]) (by show _ = _; simp)) (fun r x => values0_apply m c t r x _ _ (by rw [← hb]) (by show _ = _; simp)) x j
  | 1 => exact headC m c hg t b hb 1 _ (word1 t) _ _ (fun r x => keys1_apply m c t r x _ _ (by rw [← hb]) (by show _ = _; simp)) (fun r x => values1_apply m c t r x _ _ (by rw [← hb]) (by show _ = _; simp)) x j
  | 2 => exact headC m c hg t b hb 2 _ (word2 t) _ _ (fun r x => keys2_apply m c t r x _ _ (by rw [← hb]) (by show _ = _; simp)) (fun r x => values2_apply m c t r x _ _ (by rw [← hb]) (by show _ = _; simp)) x j
  | 3 => exact headC m c hg t b hb 3 _ (word3 t) _ _ (fun r x => keys3_apply m c t r x _ _ (by rw [← hb]) (by show _ = _; simp)) (fun r x => values3_apply m c t r x _ _ (by rw [← hb]) (by show _ = _; simp)) x j

/-- The state arrays after the run. -/
theorem arr12_eq : (dats (F := Ideal) m 0 c).arrAt 12 cfg0.N = mArr (m ((c : Thread nD τ).loc main_arg1)) (m ((c : Thread nD τ).loc main_arg5)) := by
  refine (dats m 0 c).arrAt_eq_of_covers 12 _ (by decide +kernel) fun t hf y => ?_
  have e0 : (((win0_12.blk t).view.emb y) 0).val = t.val := by
    have : (y 0).val < 1 := (y 0).isLt
    blk_simp [index12 t]
  have e1 : ((win0_12.blk t).view.emb y) 1 = y 1 := Fin.ext (by blk_simp [index12 t])
  have ey : y = ix4 (n0 := 1) (n1 := 4) (n2 := 1) (n3 := 128) 0 (y 1) 0 (y 3) := by
    refine (eq_ix4 (n0 := 1) (n1 := 4) (n2 := 1) (n3 := 128) y).trans ?_
    rw [show y 0 = (0 : Fin 1) from Subsingleton.elim (α := Fin 1) _ _, show y 2 = (0 : Fin 1) from Subsingleton.elim (α := Fin 1) _ _]
  blk_simp
  refine (congrArg _ ey).trans ((block12_apply m c hg t ((win0_12.blk t).view.emb y 0) e0 (y 1) (y 3)).trans ?_)
  show mOf _ _ _ (y 1) = mOf _ _ _ (((win0_12.blk t).view.emb y) 1)
  rw [e1]
theorem arr11_eq : (dats (F := Ideal) m 0 c).arrAt 11 cfg0.N = nArr (m ((c : Thread nD τ).loc main_arg0)) (m ((c : Thread nD τ).loc main_arg1)) (m ((c : Thread nD τ).loc main_arg4)) (m ((c : Thread nD τ).loc main_arg5)) := by
  refine (dats m 0 c).arrAt_eq_of_covers 11 _ (by decide +kernel) fun t hf y => ?_
  have e0 : (((win0_11.blk t).view.emb y) 0).val = t.val := by
    have : (y 0).val < 1 := (y 0).isLt
    blk_simp [index11 t]
  have e1 : ((win0_11.blk t).view.emb y) 1 = y 1 := Fin.ext (by blk_simp [index11 t])
  have e3 : ((win0_11.blk t).view.emb y) 3 = y 3 := Fin.ext (by blk_simp [index11 t])
  have ey : y = ix4 (n0 := 1) (n1 := 4) (n2 := 1) (n3 := 128) 0 (y 1) 0 (y 3) := by
    refine (eq_ix4 (n0 := 1) (n1 := 4) (n2 := 1) (n3 := 128) y).trans ?_
    rw [show y 0 = (0 : Fin 1) from Subsingleton.elim (α := Fin 1) _ _, show y 2 = (0 : Fin 1) from Subsingleton.elim (α := Fin 1) _ _]
  blk_simp
  refine (congrArg _ ey).trans ((block11_apply m c hg t ((win0_11.blk t).view.emb y 0) e0 (y 1) (y 3)).trans ?_)
  show nOf _ _ _ _ _ (y 1) (y 3) = nOf _ _ _ _ _ (((win0_11.blk t).view.emb y) 1) (((win0_11.blk t).view.emb y) 3)
  rw [e1, e3]
theorem arr10_eq : (dats (F := Ideal) m 0 c).arrAt 10 cfg0.N = cArr (m ((c : Thread nD τ).loc main_arg0)) (m ((c : Thread nD τ).loc main_arg1)) (m ((c : Thread nD τ).loc main_arg3)) (m ((c : Thread nD τ).loc main_arg5)) := by
  refine (dats m 0 c).arrAt_eq_of_covers 10 _ (by decide +kernel) fun t hf y => ?_
  have e0 : (((win0_10.blk t).view.emb y) 0).val = t.val := by
    have : (y 0).val < 1 := (y 0).isLt
    blk_simp [index10 t]
  have e1 : ((win0_10.blk t).view.emb y) 1 = y 1 := Fin.ext (by blk_simp [index10 t])
  have e2 : ((win0_10.blk t).view.emb y) 2 = y 2 := Fin.ext (by blk_simp [index10 t])
  have e3 : ((win0_10.blk t).view.emb y) 3 = y 3 := Fin.ext (by blk_simp [index10 t])
  have ey : y = ix4 (n0 := 1) (n1 := 4) (n2 := 128) (n3 := 256) 0 (y 1) (y 2) (y 3) := by
    refine (eq_ix4 (n0 := 1) (n1 := 4) (n2 := 128) (n3 := 256) y).trans ?_
    rw [show y 0 = (0 : Fin 1) from Subsingleton.elim (α := Fin 1) _ _]
  blk_simp
  refine (congrArg _ ey).trans ((block10_apply m c hg t ((win0_10.blk t).view.emb y 0) e0 (y 1) (y 2) (y 3)).trans ?_)
  show cOf _ _ _ _ _ (y 1) (y 2) (y 3) = cOf _ _ _ _ _ (((win0_10.blk t).view.emb y) 1) (((win0_10.blk t).view.emb y) 2) (((win0_10.blk t).view.emb y) 3)
  rw [e1, e2, e3]

/-- The rows read out: each head's columns are its store's. -/
theorem block9_apply (t : Fin cfg0.N) (b : Fin 8) (hb : b.val = t.val) (h : Fin 4) (r : Fin 8) (j : Fin 256) (l : Fin 1024)
    (hl : l.val = 256 * h.val + j.val) :
    (dats (F := Ideal) m 0 c).after 9 t (ix2 r l) = oOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b h r j := by
  rw [out9_eq]
  canon_tiles x hx
  · change l.val = 768 + (x 1).val at hx1
    change r.val = (x 0).val at hx0
    have eh : h = 3 := Fin.ext (by show h.val = 3; omega)
    subst eh
    have ej : (x 1).val = j.val := by
      change l.val = 256 * 3 + j.val at hl
      omega
    have ex : x = ix2 (n0 := 8) (n1 := 256) r j := by
      refine (eq_ix2 (n0 := 8) (n1 := 256) x).trans ?_
      rw [show x 0 = r from Fin.ext hx0.symm, show x 1 = j from Fin.ext ej]
    rw [ex]
    exact headO m c hg t b hb 3 _ (word3 t) _ _ _ _ (fun r x => queries3_apply m c t r x _ _ (by rw [← hb]) (by show _ = _; simp)) (fun r x => keys3_apply m c t r x _ _ (by rw [← hb]) (by show _ = _; simp)) (fun r x => values3_apply m c t r x _ _ (by rw [← hb]) (by show _ = _; simp)) (fun r x => opens3_apply m c t r x _ _ (by rw [← hb]) (by show _ = _; simp)) r j
  · change l.val = 512 + (x 1).val at hx1
    change r.val = (x 0).val at hx0
    have eh : h = 2 := Fin.ext (by show h.val = 2; omega)
    subst eh
    have ej : (x 1).val = j.val := by
      change l.val = 256 * 2 + j.val at hl
      omega
    have ex : x = ix2 (n0 := 8) (n1 := 256) r j := by
      refine (eq_ix2 (n0 := 8) (n1 := 256) x).trans ?_
      rw [show x 0 = r from Fin.ext hx0.symm, show x 1 = j from Fin.ext ej]
    rw [ex]
    exact headO m c hg t b hb 2 _ (word2 t) _ _ _ _ (fun r x => queries2_apply m c t r x _ _ (by rw [← hb]) (by show _ = _; simp)) (fun r x => keys2_apply m c t r x _ _ (by rw [← hb]) (by show _ = _; simp)) (fun r x => values2_apply m c t r x _ _ (by rw [← hb]) (by show _ = _; simp)) (fun r x => opens2_apply m c t r x _ _ (by rw [← hb]) (by show _ = _; simp)) r j
  · change l.val = 256 + (x 1).val at hx1
    change r.val = (x 0).val at hx0
    have eh : h = 1 := Fin.ext (by show h.val = 1; omega)
    subst eh
    have ej : (x 1).val = j.val := by
      change l.val = 256 * 1 + j.val at hl
      omega
    have ex : x = ix2 (n0 := 8) (n1 := 256) r j := by
      refine (eq_ix2 (n0 := 8) (n1 := 256) x).trans ?_
      rw [show x 0 = r from Fin.ext hx0.symm, show x 1 = j from Fin.ext ej]
    rw [ex]
    exact headO m c hg t b hb 1 _ (word1 t) _ _ _ _ (fun r x => queries1_apply m c t r x _ _ (by rw [← hb]) (by show _ = _; simp)) (fun r x => keys1_apply m c t r x _ _ (by rw [← hb]) (by show _ = _; simp)) (fun r x => values1_apply m c t r x _ _ (by rw [← hb]) (by show _ = _; simp)) (fun r x => opens1_apply m c t r x _ _ (by rw [← hb]) (by show _ = _; simp)) r j
  · change l.val = (x 1).val at hx1
    change r.val = (x 0).val at hx0
    have eh : h = 0 := Fin.ext (by show h.val = 0; omega)
    subst eh
    have ej : (x 1).val = j.val := by
      change l.val = 256 * 0 + j.val at hl
      omega
    have ex : x = ix2 (n0 := 8) (n1 := 256) r j := by
      refine (eq_ix2 (n0 := 8) (n1 := 256) x).trans ?_
      rw [show x 0 = r from Fin.ext hx0.symm, show x 1 = j from Fin.ext ej]
    rw [ex]
    exact headO m c hg t b hb 0 _ (word0 t) _ _ _ _ (fun r x => queries0_apply m c t r x _ _ (by rw [← hb]) (by show _ = _; simp)) (fun r x => keys0_apply m c t r x _ _ (by rw [← hb]) (by show _ = _; simp)) (fun r x => values0_apply m c t r x _ _ (by rw [← hb]) (by show _ = _; simp)) (fun r x => opens0_apply m c t r x _ _ (by rw [← hb]) (by show _ = _; simp)) r j

theorem arr9_eq : (dats (F := Ideal) m 0 c).arrAt 9 cfg0.N = oArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  have e0 : (((win0_9.blk t).view.emb y) 0).val = 8 * t.val + (y 0).val := by blk_simp [index9 t]; omega
  have e1 : ((win0_9.blk t).view.emb y) 1 = y 1 := Fin.ext (by blk_simp [index9 t])
  have ht : t.val < 8 := t.isLt
  have h1 : (y 1).val < 1024 := (y 1).isLt
  blk_simp
  refine (congrArg _ (eq_ix2 (n0 := 8) (n1 := 1024) y)).trans ((block9_apply m c hg t ⟨t.val, ht⟩ rfl ⟨(y 1).val / 256, by omega⟩ (y 0)
    ⟨(y 1).val % 256, by omega⟩ (y 1) (by show (y 1).val = 256 * ((y 1).val / 256) + (y 1).val % 256; omega)).trans ?_)
  refine (oArr_eq _ _ _ _ _ _ _ _ _ _ (((win0_9.blk t).view.emb y) 0) (y 1) e0
    (by show (y 1).val = 256 * ((y 1).val / 256) + (y 1).val % 256; omega)).symm.trans ?_
  exact congrArg (oArr _ _ _ _ _ _) ((eq_ix2 ((win0_9.blk t).view.emb y)).trans (congrArg _ e1)).symm

end

end Cert.Mlstm

end
-- ==== Proof.RefValue.lean ====
/- What the reference computes, stage by stage, at an index: the masked scores, their row maximum, the exponentials, and the
   weighted values. -/
module

public import proofs.«01_k».proof.Proof.Gen.ReferenceIdeal.Run
public import proofs.«01_k».proof.Proof.Attention
public import proofs.«01_k».proof.Proof.Step
public import proofs.«01_k».proof.Proof.Consts
public import Idealize.ShloMosaic.Lib.Pointwise
public import Idealize.ShloMosaic.Lib.WordCmp

@[expose] public section

set_option maxRecDepth 16384

noncomputable section

namespace Cert.FoxRef

open Idealize.ShloMosaic Idealize.ShloMosaic.TcCoe Cert.ReferenceIdeal Cert.ReferenceIdeal.Gen Cert.ReferenceIdeal.Value
open Cert.Online Cert.Fox

/-- The maximum along the last of four axes. -/
theorem reduce_max_last {n0 n1 n2 n3 : ℕ} (x : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel) (a : Fin n0) (b : Fin n1) (c : Fin n2) :
    Host.reduce FloatOps.maximumf x init h hu (ix3 a b c)
      = (Finset.univ : Finset (Fin n3)).fold max (init (Shape.Idx.first hu)) (fun k => x (ix4 a b c k)) := by
  rw [Host.reduce_eq_fold, h.fold_fiber_r4_a3]
  rfl

section
variable (q k v : FVec Ideal S8256x2048 .bf16) (frow : FVec Ideal S4x128x2048 .f32) (fcum : FVec Ideal S8192x128 .f32)

/-- The first 8192 rows, split into batch entry, position, head and column. -/
def heads (x : FVec Ideal S8256x2048 .bf16) : FVec Ideal S4x2048x16x128 .f32 :=
  shapeCast _ (extf .f32 (extractStridedSlice S8192x2048 ![0, 0] x slices_S8256x2048_S8192x2048_0_0) bitsLt_bf16_f32)
    shapeCasts_S8192x2048_S4x2048x16x128

/-- A row's number of an array of one number per head and query, along the keys. -/
def alongKeys (x : FVec Ideal S4x16x2048 .f32) : FVec Ideal S4x16x2048x2048 .f32 :=
  broadcastInDim S4x16x2048x2048 ![0, 1, 2, 3] bcast_S4x16x2048x1_S4x16x2048x2048_0_1_2_3
    (broadcastInDim S4x16x2048x1 ![0, 1, 2] bcast_S4x16x2048_S4x16x2048x1_0_1_2 x)

/-- The scores, keys after the query at −∞. -/
def scores : FVec Ideal S4x16x2048x2048 .f32 :=
  select (broadcastInDim S4x16x2048x2048 ![2, 3] bcast_S2048x2048_S4x16x2048x2048_2_3
      (cmpi .sle (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (subf (addf (Host.divf (Host.dotGeneral dot_S4x2048x16x128_S4x2048x16x128_S4x16x2048x2048_3_3_1_1_02_02 none (heads q) (heads k))
          (broadcastInDim S4x16x2048x2048 ![] bcast_S_S4x16x2048x2048 (Host.sqrt (constant S_ .f32 0x43000000#32))))
        (alongKeys (transpose S4x16x2048 [0, 2, 1]
          (shapeCast _ (extractStridedSlice S8192x16 ![0, 0] fcum slices_S8192x128_S8192x16_0_0) shapeCasts_S8192x16_S4x2048x16)
          transposes_S4x2048x16_S4x16x2048_0_2_1)))
      (broadcastInDim S4x16x2048x2048 ![0, 1, 2, 3] bcast_S4x16x1x2048_S4x16x2048x2048_0_1_2_3
        (broadcastInDim S4x16x1x2048 ![0, 1, 3] bcast_S4x16x2048_S4x16x1x2048_0_1_3
          (extractStridedSlice S4x16x2048 ![0, 0, 0] frow slices_S4x128x2048_S4x16x2048_0_0_0))))
    (broadcastInDim S4x16x2048x2048 ![] bcast_S_S4x16x2048x2048 (id (constant S_ .f32 0xFF800000#32)))

/-- Each query's largest score. -/
def rowMax (s : FVec Ideal S4x16x2048x2048 .f32) : FVec Ideal S4x16x2048 .f32 :=
  maximumf (broadcastInDim S4x16x2048 ![] bcast_S_S4x16x2048 (constant S_ .f32 0xFF800000#32))
    (Host.reduce FloatOps.maximumf s (constant S_ .f32 0xFF800000#32) reducesTo_S4x16x2048x2048_S4x16x2048_d3 h_S_)

/-- The exponentials of the scores less the largest. -/
def weights (s : FVec Ideal S4x16x2048x2048 .f32) : FVec Ideal S4x16x2048x2048 .f32 := Host.exp (subf s (alongKeys (rowMax s)))

/-- Each query's weights over their sum. -/
def softmax (p : FVec Ideal S4x16x2048x2048 .f32) : FVec Ideal S4x16x2048x2048 .f32 :=
  Host.divf p (alongKeys (Host.reduceAdd p (constant S_ .f32 0x00000000#32) reducesTo_S4x16x2048x2048_S4x16x2048_d3 h_S_))

/-- The values weighted, rows by token and columns by head. -/
def mixed (p : FVec Ideal S4x16x2048x2048 .f32) : FVec Ideal S8192x2048 .bf16 :=
  truncf .bf16 (shapeCast _ (transpose S4x2048x16x128 [0, 3, 1, 2]
    (Host.dotGeneral dot_S4x2048x16x128_S4x16x2048x2048_S4x16x128x2048_1_3_3_2_02_01 none (heads v) p)
    transposes_S4x16x128x2048_S4x2048x16x128_0_3_1_2) shapeCasts_S4x2048x16x128_S8192x2048) bitsLt_bf16_f32

/-- The reference's result is these stages in turn. -/
theorem res_eq (m : (ℓ : Loc nD τ sig) → Buf (Elt Ideal) ℓ) (c : Dev nD) :
    res_out0 (F := Ideal) m c = mixed (m ((c : Thread nD τ).loc main_arg2)) (softmax (weights (scores
      (m ((c : Thread nD τ).loc main_arg0)) (m ((c : Thread nD τ).loc main_arg1)) (m ((c : Thread nD τ).loc main_arg3))
      (m ((c : Thread nD τ).loc main_arg4))))) := by
  unfold res_out0 res_main_v44 mixed softmax weights rowMax scores alongKeys heads
  rfl

theorem heads_apply (x : FVec Ideal S8256x2048 .bf16) (b : Fin 4) (s : Fin 2048) (n : Fin 16) (d : Fin 128) :
    heads x (ix4 b s n d) = x (ix2 (tokenRow b s) (headCol n d)) := by
  unfold heads
  pointwise []
  exact congrArg x (congrArg₂ ix2 (Fin.ext (by simp only [tokenRow]; omega)) (Fin.ext (by simp only [headCol]; omega)))

theorem rowMax_apply (s : FVec Ideal S4x16x2048x2048 .f32) (b : Fin 4) (n : Fin 16) (r : Fin 2048) :
    rowMax s (ix3 b n r) = Finset.univ.sup fun j : Fin 2048 => s (ix4 b n r j) := by
  unfold rowMax
  have e : ∀ x y : FVec Ideal S4x16x2048 .f32, maximumf x y (ix3 b n r) = max (x (ix3 b n r)) (y (ix3 b n r)) := fun _ _ => rfl
  rw [e, reduce_max_last]
  show max (Ideal.ofBits .f32 0xFF800000#32) (Finset.univ.fold max (Ideal.ofBits .f32 0xFF800000#32) fun j => s (ix4 b n r j)) = _
  rw [Consts.ofBits_neg_inf, fold_max_eq, max_eq_right bot_le]

theorem scores_apply (b : Fin 4) (n : Fin 16) (s j : Fin 2048) :
    scores q k frow fcum (ix4 b n s j) = scoreRow q k frow fcum b n s j.val := by
  unfold scores alongKeys
  pointwise []
  have hs : (BitVec.ofNat 32 s.val).toInt = (s.val : ℤ) := WordCmp.toInt_ofNat_of_lt (by omega)
  have hj : (BitVec.ofNat 32 j.val).toInt = (j.val : ℤ) := WordCmp.toInt_ofNat_of_lt (by omega)
  unfold scoreRow
  rw [dif_pos j.isLt]
  refine (select_sle _ _ _ _).trans (ite_congr (by rw [hj, hs, Nat.cast_le]) (fun _ => ?_) (fun _ => ?_))
  · unfold pairScore
    simp only [heads_apply]
    rw [Consts.ofBits_128, Ideal.sqrt_coe, if_neg (by norm_num), Ideal.div_coe (by positivity), one_div, sub_eq_add_neg, add_assoc,
      ← sub_eq_add_neg]
    exact congrArg₂ (fun x y => _ + (fcum x - frow y))
      (congrArg₂ ix2 (Fin.ext (by simp only [promptRow]; omega)) (Fin.ext rfl)) rfl
  · exact Consts.ofBits_neg_inf

theorem weights_apply (s : FVec Ideal S4x16x2048x2048 .f32) (b : Fin 4) (n : Fin 16) (r j : Fin 2048) :
    weights s (ix4 b n r j) = Ideal.exp (s (ix4 b n r j) - rowMax s (ix3 b n r)) := by
  unfold weights alongKeys
  pointwise []

theorem softmax_apply (p : FVec Ideal S4x16x2048x2048 .f32) (b : Fin 4) (n : Fin 16) (r j : Fin 2048) :
    softmax p (ix4 b n r j) = Ideal.div (p (ix4 b n r j)) (∑ j : Fin 2048, p (ix4 b n r j)) := by
  unfold softmax alongKeys
  pointwise []

theorem mixed_apply (p : FVec Ideal S4x16x2048x2048 .f32) {y : S8192x2048.Idx} {b : Fin 4} {n : Fin 16} {s : Fin 2048} {d : Fin 128}
    (h0 : (y 0).val = 2048 * b.val + s.val) (h1 : (y 1).val = 128 * n.val + d.val) :
    mixed v p y = ∑ j : Fin 2048, v (ix2 (tokenRow b j) (headCol n d)) * p (ix4 b n s j) := by
  unfold mixed
  obtain ⟨a0, a1, rfl⟩ : ∃ a0 a1, y = ix2 a0 a1 := ⟨_, _, eq_ix2 y⟩
  pointwise []
  have g0 : a0.val = 2048 * b.val + s.val := h0
  have g1 : a1.val = 128 * n.val + d.val := h1
  refine Finset.sum_congr rfl fun j _ => ?_
  rw [heads_apply]
  have eb : (⟨a0.val / 2048, by omega⟩ : Fin 4) = b := Fin.ext (by dsimp only; omega)
  have es : (⟨a0.val % 2048, by omega⟩ : Fin 2048) = s := Fin.ext (by dsimp only; omega)
  have en : (⟨a1.val / 128, by omega⟩ : Fin 16) = n := Fin.ext (by dsimp only; omega)
  have ed : (⟨a1.val % 128, by omega⟩ : Fin 128) = d := Fin.ext (by dsimp only; omega)
  rw [eb, es, en, ed]

end

end Cert.FoxRef

end
-- ==== Proof.MlstmRefGates.lean ====
/- The reference of the recurrence, entry by entry: the split rows, the exponents and the weights. -/
module

public import proofs.«01_k».proof.Proof.Gen.Reference14Ideal.Run
public import proofs.«01_k».proof.Proof.MlstmSpec
public import proofs.«01_k».proof.Proof.RefValue

@[expose] public section

set_option maxRecDepth 16384

noncomputable section

namespace Cert.MlstmRef

open Idealize.ShloMosaic Idealize.ShloMosaic.TcCoe Cert.Reference14Ideal Cert.Reference14Ideal.Gen Cert.Reference14Ideal.Value Cert.Mlstm

section
variable (z : FVec Ideal S8256x3072 .f32) (g : FVec Ideal S64x128 .f32) (mn : FVec Ideal S256 .f32)
  (c0 : FVec Ideal S8x4x128x256 .f32) (n0 : FVec Ideal S8x4x128 .f32) (m0 : FVec Ideal S8x4 .f32)

/-- The sample streams' rows and gates, cut into streams. -/
def rows : FVec Ideal S8x8x3072 .f32 :=
  shapeCast _ (extractStridedSlice S64x3072 ![8192, 0] z slices_S8256x3072_S64x3072_8192_0) shapeCasts_S64x3072_S8x8x3072
def lanes : FVec Ideal S8x8x128 .f32 := shapeCast _ g shapeCasts_S64x128_S8x8x128

/-- Queries, scaled keys, values, output gates, and the two kinds of gates. -/
def qs : FVec Ideal S8x8x4x128 .f32 :=
  shapeCast _ (extractStridedSlice S8x8x512 ![0, 0, 0] (rows z) slices_S8x8x3072_S8x8x512_0_0_0) shapeCasts_S8x8x512_S8x8x4x128
def ks : FVec Ideal S8x8x4x128 .f32 :=
  mulf (shapeCast _ (extractStridedSlice S8x8x512 ![0, 0, 512] (rows z) slices_S8x8x3072_S8x8x512_0_0_512) shapeCasts_S8x8x512_S8x8x4x128)
    (broadcastInDim S8x8x4x128 ![] bcast_S_S8x8x4x128 (constant S_ .f32 0x3DB504F3#32))
def vs : FVec Ideal S8x8x4x256 .f32 :=
  shapeCast _ (extractStridedSlice S8x8x1024 ![0, 0, 1024] (rows z) slices_S8x8x3072_S8x8x1024_0_0_1024) shapeCasts_S8x8x1024_S8x8x4x256
def os : FVec Ideal S8x8x1024 .f32 := extractStridedSlice S8x8x1024 ![0, 0, 2048] (rows z) slices_S8x8x3072_S8x8x1024_0_0_2048
def lis : FVec Ideal S8x8x4 .f32 := extractStridedSlice S8x8x4 ![0, 0, 16] (lanes g) slices_S8x8x128_S8x8x4_0_0_16
def lfs : FVec Ideal S8x8x4 .f32 := extractStridedSlice S8x8x4 ![0, 0, 20] (lanes g) slices_S8x8x128_S8x8x4_0_0_20

/-- The accumulated forget gates. -/
def acc : FVec Ideal S8x8x4 .f32 :=
  Host.reduceWindowAdd ![1, 8, 1] ![1, 1, 1] ![0, 7, 0] ![0, 0, 0] (lfs g : (⟨S8x8x4, .f32⟩ : BufTy).Contents (Elt Ideal))
    (broadcastInDim S_ ![] bcast_S_S_ (constant S_ .f32 0x00000000#32)) reduceWindows_S8x8x4_S8x8x4_w1s1p0_0_w8s1p7_0_w1s1p0_0 h_S_

/-- Which rows see which. -/
def causal : IVec S8x8x8x4 1 :=
  broadcastInDim S8x8x8x4 ![0, 1, 2, 3] bcast_S1x8x8x1_S8x8x8x4_0_1_2_3 (broadcastInDim S1x8x8x1 ![1, 2] bcast_S8x8_S1x8x8x1_1_2
    (select (cmpi .sge (addi (iotaInDim S8x8 32 0) (broadcastInDim S8x8 ![] bcast_S_S8x8 (constantI S_ 32 0#32))) (iotaInDim S8x8 32 1))
      (broadcastInDim S8x8 ![] bcast_S_S8x8 (constantI S_ 1 1#1)) (broadcastInDim S8x8 ![] bcast_S_S8x8 (constantI S_ 1 0#1))))

/-- A number per stream, row and head, along the rows it is compared with; and along the rows it compares. -/
def across (x : FVec Ideal S8x8x4 .f32) : FVec Ideal S8x8x8x4 .f32 :=
  broadcastInDim S8x8x8x4 ![0, 1, 2, 3] bcast_S8x8x1x4_S8x8x8x4_0_1_2_3 (broadcastInDim S8x8x1x4 ![0, 1, 3] bcast_S8x8x4_S8x8x1x4_0_1_3 x)
def down (x : FVec Ideal S8x8x4 .f32) : FVec Ideal S8x8x8x4 .f32 :=
  broadcastInDim S8x8x8x4 ![0, 1, 2, 3] bcast_S8x1x8x4_S8x8x8x4_0_1_2_3 (broadcastInDim S8x1x8x4 ![0, 2, 3] bcast_S8x8x4_S8x1x8x4_0_2_3 x)

/-- The exponents. -/
def exps : FVec Ideal S8x8x8x4 .f32 :=
  select causal (addf (subf (across (acc g)) (down (acc g))) (down (lis g)))
    (broadcastInDim S8x8x8x4 ![] bcast_S_S8x8x8x4 (id (constant S_ .f32 0xF149F2CA#32)))
def inters : FVec Ideal S8x8x4 .f32 :=
  addf (acc g) (broadcastInDim S8x8x4 ![0, 1, 2] bcast_S8x1x4_S8x8x4_0_1_2 (broadcastInDim S8x1x4 ![0, 2] bcast_S8x4_S8x1x4_0_2 m0))
def peaks : FVec Ideal S8x8x4 .f32 :=
  maximumf (inters g m0) (Host.reduce FloatOps.maximumf (exps g : (⟨S8x8x8x4, .f32⟩ : BufTy).Contents (Elt Ideal)) (constant S_ .f32 0xFF800000#32) reducesTo_S8x8x8x4_S8x8x4_d2 h_S_)
def carried : FVec Ideal S8x8x4 .f32 := Host.exp (subf (inters g m0) (peaks g m0))

/-- The last row's, and the weights after it. -/
def lastPeak : FVec Ideal S8x4 .f32 :=
  shapeCast _ (extractStridedSlice S8x1x4 ![0, 7, 0] (peaks g m0) slices_S8x8x4_S8x1x4_0_7_0) shapeCasts_S8x1x4_S8x4
def decays : FVec Ideal S8x4 .f32 :=
  Host.exp (subf (addf (shapeCast _ (extractStridedSlice S8x1x4 ![0, 7, 0] (acc g) slices_S8x8x4_S8x1x4_0_7_0) shapeCasts_S8x1x4_S8x4) m0) (lastPeak g m0))
def weights : FVec Ideal S8x8x4 .f32 :=
  Host.exp (subf (addf (subf (broadcastInDim S8x8x4 ![0, 1, 2] bcast_S8x1x4_S8x8x4_0_1_2 (extractStridedSlice S8x1x4 ![0, 7, 0] (acc g) slices_S8x8x4_S8x1x4_0_7_0)) (acc g)) (lis g))
    (broadcastInDim S8x8x4 ![0, 1, 2] bcast_S8x1x4_S8x8x4_0_1_2 (broadcastInDim S8x1x4 ![0, 2] bcast_S8x4_S8x1x4_0_2 (lastPeak g m0))))
def weighted : FVec Ideal S8x8x4x128 .f32 :=
  mulf (broadcastInDim S8x8x4x128 ![0, 1, 2, 3] bcast_S8x8x4x1_S8x8x4x128_0_1_2_3 (broadcastInDim S8x8x4x1 ![0, 1, 2] bcast_S8x8x4_S8x8x4x1_0_1_2 (weights g m0))) (ks z)

/-! ## Entry by entry -/

theorem rows_apply (b r : Fin 8) (l : Fin 3072) : rows z (ix3 b r l) = z (ix2 ⟨8192 + 8 * b.val + r.val, by omega⟩ l) := by
  unfold rows
  pointwise []
  refine congrArg (fun a => z (ix2 a l)) (Fin.ext ?_)
  show 8192 + (b.val * 8 + r.val) = 8192 + 8 * b.val + r.val
  omega
theorem lanes_apply (b r : Fin 8) (l : Fin 128) : lanes g (ix3 b r l) = gateAt g b l r.val := by
  rw [gateAt_eq g b l r ⟨8 * b.val + r.val, by omega⟩ rfl]
  unfold lanes
  pointwise []
  refine congrArg (fun a => g (ix2 a l)) (Fin.ext ?_)
  show b.val * 8 + r.val = 8 * b.val + r.val
  omega

theorem qs_apply (b r : Fin 8) (h : Fin 4) (x : Fin 128) : qs z (ix4 b r h x) = queryAt z b h r x := by
  have e := fun l => rows_apply z b r l
  unfold qs queryAt
  generalize rows z = u at e ⊢
  pointwise []
  rw [e]
  refine congrArg (fun l => z (ix2 _ l)) (Fin.ext ?_)
  simp only
  omega
theorem ks_apply (b r : Fin 8) (h : Fin 4) (x : Fin 128) : ks z (ix4 b r h x) = keyAt z b h r x := by
  have e := fun l => rows_apply z b r l
  unfold ks keyAt
  generalize rows z = u at e ⊢
  pointwise []
  rw [e]
  refine congrArg (fun l => z (ix2 _ l) * _) (Fin.ext ?_)
  simp only
  omega
theorem vs_apply (b r : Fin 8) (h : Fin 4) (x : Fin 256) : vs z (ix4 b r h x) = valueAt z b h r x := by
  have e := fun l => rows_apply z b r l
  unfold vs valueAt
  generalize rows z = u at e ⊢
  pointwise []
  rw [e]
  refine congrArg (fun l => z (ix2 _ l)) (Fin.ext ?_)
  simp only
  omega
theorem os_apply (b r : Fin 8) (h : Fin 4) (j : Fin 256) (l : Fin 1024) (hl : l.val = 256 * h.val + j.val) :
    os z (ix3 b r l) = openAt z b h r j := by
  have e := fun l => rows_apply z b r l
  unfold os openAt
  generalize rows z = u at e ⊢
  pointwise []
  rw [e]
  refine congrArg (fun l => z (ix2 _ l)) (Fin.ext ?_)
  simp only
  omega
theorem lis_apply (b r : Fin 8) (h : Fin 4) : lis g (ix3 b r h) = inputs g b h r.val := by
  have e := fun l => lanes_apply g b r l
  unfold lis inputs
  generalize lanes g = u at e ⊢
  pointwise []
  exact e _
theorem lfs_apply (b r : Fin 8) (h : Fin 4) : lfs g (ix3 b r h) = forgets g b h r.val := by
  have e := fun l => lanes_apply g b r l
  unfold lfs forgets
  generalize lanes g = u at e ⊢
  pointwise []
  exact e _

theorem acc_apply (b r : Fin 8) (h : Fin 4) : acc g (ix3 b r h) = fcum (forgets g b h) r.val := by
  refine Eq.trans ?_ (Cert.Gate.running (B1 := 7) (by decide) (lfs g) reduceWindows_S8x8x4_S8x8x4_w1s1p0_0_w8s1p7_0_w1s1p0_0
    b r h (forgets g b h) (fun i => lfs_apply g b i h))
  have e0 : ∀ i, broadcastInDim S_ ![] bcast_S_S_ (constant (F := Ideal) S_ .f32 0x00000000#32) i = 0 := fun i => by pointwise []
  unfold acc Host.reduceWindowAdd
  rw [e0]
  rfl

theorem before : ∀ t s : Fin 8, Scalar.select (IntOp.cmpi .sge (IntOp.addi (BitVec.ofNat 32 t.val) 0#32) (BitVec.ofNat 32 s.val)) 1#1 0#1
    = if s.val ≤ t.val then 1#1 else 0#1 := by decide +kernel
theorem causal_apply (b t s : Fin 8) (h : Fin 4) : causal (ix4 b t s h) = if s.val ≤ t.val then 1#1 else 0#1 := by
  rw [← before]
  unfold causal
  pointwise []
theorem across_apply (x : FVec Ideal S8x8x4 .f32) (b t s : Fin 8) (h : Fin 4) : across x (ix4 b t s h) = x (ix3 b t h) := by
  unfold across
  pointwise []
theorem down_apply (x : FVec Ideal S8x8x4 .f32) (b t s : Fin 8) (h : Fin 4) : down x (ix4 b t s h) = x (ix3 b s h) := by
  unfold down
  pointwise []

theorem exps_apply (b t s : Fin 8) (h : Fin 4) : exps g (ix4 b t s h) = dmat (inputs g b h) (forgets g b h) t s := by
  have e1 := causal_apply b t s h
  have e2 := (across_apply (acc g) b t s h).trans (acc_apply g b t h)
  have e3 := (down_apply (acc g) b t s h).trans (acc_apply g b s h)
  have e4 := (down_apply (lis g) b t s h).trans (lis_apply g b s h)
  unfold exps dmat
  generalize causal = u1 at e1 ⊢
  generalize across (acc g) = u2 at e2 ⊢
  generalize down (acc g) = u3 at e3 ⊢
  generalize down (lis g) = u4 at e4 ⊢
  pointwise []
  rw [e1, e2, e3, e4, select_if]
  rfl
theorem inters_apply (b t : Fin 8) (h : Fin 4) : inters g m0 (ix3 b t h) = inter (forgets g b h) (m0 (ix2 b h)) t := by
  have e1 := acc_apply g b t h
  unfold inters inter
  generalize acc g = u at e1 ⊢
  pointwise []
  rw [e1]

/-- The maximum along the third of four axes. -/
theorem reduce_max_third {n0 n1 n2 n3 : ℕ} (x : FVec Ideal ⟨4, ![n0, n1, n2, n3]⟩ .f32) (init : FVec Ideal S_ .f32)
    (h : (⟨4, ![n0, n1, n2, n3]⟩ : Shape).ReducesTo [2] ⟨3, ![n0, n1, n3]⟩) (hu : 0 < S_.numel) (a : Fin n0) (b : Fin n1) (c : Fin n3) :
    Host.reduce FloatOps.maximumf x init h hu (ix3 a b c)
      = (Finset.univ : Finset (Fin n2)).fold max (init (Shape.Idx.first hu)) (fun k => x (ix4 a b k c)) := by
  rw [Host.reduce_eq_fold, h.fold_fiber_r4_a2]
  rfl

theorem peaks_apply (b t : Fin 8) (h : Fin 4) : peaks g m0 (ix3 b t h) = peak (inputs g b h) (forgets g b h) (m0 (ix2 b h)) t := by
  have e1 := inters_apply g m0 b t h
  have e2 := fun s => exps_apply g b t s h
  unfold peaks peak
  refine congrArg₂ max e1 ((reduce_max_third (n0 := 8) (n1 := 8) (n2 := 8) (n3 := 4) (exps g) _ _ _ b t h).trans ?_)
  simp only [e2]
  rfl
theorem carried_apply (b t : Fin 8) (h : Fin 4) : carried g m0 (ix3 b t h)
    = Ideal.exp (inter (forgets g b h) (m0 (ix2 b h)) t - peak (inputs g b h) (forgets g b h) (m0 (ix2 b h)) t) := by
  rw [← inters_apply, ← peaks_apply]
  rfl
theorem lastPeak_apply (b : Fin 8) (h : Fin 4) : lastPeak g m0 (ix2 b h) = mOf g m0 b h := by
  have e1 := peaks_apply g m0 b 7 h
  unfold lastPeak mOf
  generalize peaks g m0 = u at e1 ⊢
  pointwise []
  exact e1
theorem decays_apply (b : Fin 8) (h : Fin 4) : decays g m0 (ix2 b h) = decay (inputs g b h) (forgets g b h) (m0 (ix2 b h)) := by
  have e1 := acc_apply g b 7 h
  have e2 := lastPeak_apply g m0 b h
  unfold decays decay
  unfold mOf at e2
  generalize acc g = u at e1 ⊢
  generalize lastPeak g m0 = w at e2 ⊢
  pointwise []
  rw [← e2]
  exact congrArg (fun a => Ideal.exp (a + m0 (ix2 b h) - w (ix2 b h))) e1
theorem weights_apply (b s : Fin 8) (h : Fin 4) : weights g m0 (ix3 b s h) = weight (inputs g b h) (forgets g b h) (m0 (ix2 b h)) s := by
  have e0 := acc_apply g b s h
  have e1 := acc_apply g b 7 h
  have e2 := lastPeak_apply g m0 b h
  have e3 := lis_apply g b s h
  unfold weights weight
  unfold mOf at e2
  generalize acc g = u at e0 e1 ⊢
  generalize lastPeak g m0 = w at e2 ⊢
  generalize lis g = w' at e3 ⊢
  pointwise []
  rw [← e2, e0, e3]
  exact congrArg (fun a => Ideal.exp (a - fcum (forgets g b h) s.val + inputs g b h s.val - w (ix2 b h))) e1
theorem weighted_apply (b s : Fin 8) (h : Fin 4) (x : Fin 128) : weighted z g m0 (ix4 b s h x)
    = keyAt z b h s x * weight (inputs g b h) (forgets g b h) (m0 (ix2 b h)) s := by
  have e0 := weights_apply g m0 b s h
  have e1 := ks_apply z b s h x
  unfold weighted
  generalize weights g m0 = u at e0 ⊢
  generalize ks z = w at e1 ⊢
  pointwise []
  rw [e0, e1, mul_comm]

end

end Cert.MlstmRef

end
-- ==== Proof.MlstmRef.lean ====
/- The reference of the recurrence is the kernel's four arrays. -/
module

public import proofs.«01_k».proof.Proof.MlstmRefGates

@[expose] public section

set_option maxRecDepth 16384

noncomputable section

namespace Cert.MlstmRef

open Idealize.ShloMosaic Idealize.ShloMosaic.TcCoe Cert.Reference14Ideal Cert.Reference14Ideal.Gen Cert.Reference14Ideal.Value Cert.Mlstm

section
variable (z : FVec Ideal S8256x3072 .f32) (g : FVec Ideal S64x128 .f32) (mn : FVec Ideal S256 .f32)
  (c0 : FVec Ideal S8x4x128x256 .f32) (n0 : FVec Ideal S8x4x128 .f32) (m0 : FVec Ideal S8x4 .f32)

/-- The new states. -/
def newC : FVec Ideal S8x4x128x256 .f32 :=
  addf (mulf (broadcastInDim S8x4x128x256 ![0, 1, 2, 3] bcast_S8x4x1x1_S8x4x128x256_0_1_2_3 (broadcastInDim S8x4x1x1 ![0, 1] bcast_S8x4_S8x4x1x1_0_1 (decays g m0))) c0)
    (Host.dotGeneral dot_S8x8x4x128_S8x8x4x256_S8x4x128x256_1_1_3_3_02_02 none (weighted z g m0) (vs z))
def newN : FVec Ideal S8x4x128 .f32 :=
  addf (mulf (broadcastInDim S8x4x128 ![0, 1, 2] bcast_S8x4x1_S8x4x128_0_1_2 (broadcastInDim S8x4x1 ![0, 1] bcast_S8x4_S8x4x1_0_1 (decays g m0))) n0)
    (Host.reduceAdd (weighted z g m0 : (⟨S8x8x4x128, .f32⟩ : BufTy).Contents (Elt Ideal)) (constant S_ .f32 0x00000000#32) reducesTo_S8x8x4x128_S8x4x128_d1 h_S_)

/-- The weighted scores, what is read out and its normalizer. -/
def scores : FVec Ideal S8x8x8x4 .f32 :=
  mulf (transpose S8x8x8x4 [0, 3, 2, 1] (Host.dotGeneral dot_S8x8x4x128_S8x8x4x128_S8x4x8x8_3_3_1_1_02_02 none (ks z) (qs z)) transposes_S8x4x8x8_S8x8x8x4_0_3_2_1)
    (Host.exp (subf (exps g) (across (peaks g m0))))
def nums : FVec Ideal S8x8x4x256 .f32 :=
  addf (mulf (broadcastInDim S8x8x4x256 ![0, 1, 2, 3] bcast_S8x8x4x1_S8x8x4x256_0_1_2_3 (broadcastInDim S8x8x4x1 ![0, 1, 2] bcast_S8x8x4_S8x8x4x1_0_1_2 (carried g m0)))
      (transpose S8x8x4x256 [0, 3, 1, 2] (Host.dotGeneral dot_S8x4x128x256_S8x8x4x128_S8x4x256x8_2_3_3_1_01_02 none c0 (qs z)) transposes_S8x4x256x8_S8x8x4x256_0_3_1_2))
    (transpose S8x8x4x256 [0, 3, 1, 2] (Host.dotGeneral dot_S8x8x4x256_S8x8x8x4_S8x4x256x8_1_2_3_1_02_03 none (vs z) (scores z g m0)) transposes_S8x4x256x8_S8x8x4x256_0_3_1_2)
def dens : FVec Ideal S8x8x4 .f32 :=
  addf (mulf (carried g m0) (transpose S8x8x4 [0, 2, 1] (Host.dotGeneral dot_S8x4x128_S8x8x4x128_S8x4x8_2_3_n_1_01_02 none n0 (qs z)) transposes_S8x4x8_S8x8x4_0_2_1))
    (Host.reduceAdd (scores z g m0 : (⟨S8x8x8x4, .f32⟩ : BufTy).Contents (Elt Ideal)) (constant S_ .f32 0x00000000#32) reducesTo_S8x8x8x4_S8x8x4_d2 h_S_)
def reads : FVec Ideal S8x8x4x256 .f32 :=
  Host.divf (nums z g c0 m0) (broadcastInDim S8x8x4x256 ![0, 1, 2, 3] bcast_S8x8x4x1_S8x8x4x256_0_1_2_3 (broadcastInDim S8x8x4x1 ![0, 1, 2] bcast_S8x8x4_S8x8x4x1_0_1_2
    (maximumf (Host.absf (dens z g n0 m0)) (Host.exp (Host.negf (peaks g m0))))))

/-- Normalized and scaled; and gated. -/
def normed (x : FVec Ideal S8x8x4x256 .f32) : FVec Ideal S8x8x4x256 .f32 :=
  mulf (mulf x (broadcastInDim S8x8x4x256 ![0, 1, 2, 3] bcast_S8x8x4x1_S8x8x4x256_0_1_2_3 (Host.rsqrt (addf (Host.divf (broadcastInDim S8x8x4x1 ![0, 1, 2] bcast_S8x8x4_S8x8x4x1_0_1_2
      (Host.reduceAdd (mulf x x : (⟨S8x8x4x256, .f32⟩ : BufTy).Contents (Elt Ideal)) (constant S_ .f32 0x00000000#32) reducesTo_S8x8x4x256_S8x8x4_d3 h_S_))
      (broadcastInDim S8x8x4x1 ![] bcast_S_S8x8x4x1 (constant S_ .f32 0x43800000#32))) (broadcastInDim S8x8x4x1 ![] bcast_S_S8x8x4x1 (constant S_ .f32 0x358637BD#32))))))
    (broadcastInDim S8x8x4x256 ![0, 1, 2, 3] bcast_S1x1x1x256_S8x8x4x256_0_1_2_3 (broadcastInDim S1x1x1x256 ![3] bcast_S256_S1x1x1x256_3 mn))
def gated (x : FVec Ideal S8x8x4x256 .f32) : FVec Ideal S64x1024 .f32 :=
  shapeCast _ (mulf (shapeCast _ x shapeCasts_S8x8x4x256_S8x8x1024) (Host.divf (broadcastInDim S8x8x1024 ![] bcast_S_S8x8x1024 (constant S_ .f32 0x3F800000#32))
    (addf (broadcastInDim S8x8x1024 ![] bcast_S_S8x8x1024 (constant S_ .f32 0x3F800000#32)) (Host.exp (Host.negf (os z)))))) shapeCasts_S8x8x1024_S64x1024

/-! ## Entry by entry -/

theorem newC_apply (b : Fin 8) (h : Fin 4) (x : Fin 128) (j : Fin 256) : newC z g c0 m0 (ix4 b h x j) = cOf z g c0 m0 b h x j := by
  have e1 := decays_apply g m0 b h
  have e2 := fun s => weighted_apply z g m0 b s h x
  have e3 := fun s => vs_apply z b s h j
  unfold newC cOf cNew
  generalize decays g m0 = u1 at e1 ⊢
  generalize weighted z g m0 = u2 at e2 ⊢
  generalize vs z = u3 at e3 ⊢
  pointwise []
  simp only [e1, e2, e3]
theorem newN_apply (b : Fin 8) (h : Fin 4) (x : Fin 128) : newN z g n0 m0 (ix3 b h x) = nOf z g n0 m0 b h x := by
  have e1 := decays_apply g m0 b h
  have e2 := fun s => weighted_apply z g m0 b s h x
  unfold newN nOf nNew
  generalize decays g m0 = u1 at e1 ⊢
  generalize weighted z g m0 = u2 at e2 ⊢
  pointwise []
  simp only [e1, e2]
theorem scores_apply (b t s : Fin 8) (h : Fin 4) : scores z g m0 (ix4 b t s h)
    = score (inputs g b h) (forgets g b h) (m0 (ix2 b h)) (queryAt z b h) (keyAt z b h) t s := by
  have e1 := fun x => ks_apply z b s h x
  have e2 := fun x => qs_apply z b t h x
  have e3 := exps_apply g b t s h
  have e4 := (across_apply (peaks g m0) b t s h).trans (peaks_apply g m0 b t h)
  unfold scores score
  generalize ks z = u1 at e1 ⊢
  generalize qs z = u2 at e2 ⊢
  generalize exps g = u3 at e3 ⊢
  generalize across (peaks g m0) = u4 at e4 ⊢
  pointwise []
  simp only [e1, e2, e3, e4]
  exact congrArg (· * _) (Finset.sum_congr rfl fun x _ => mul_comm _ _)
theorem nums_apply (b t : Fin 8) (h : Fin 4) (j : Fin 256) : nums z g c0 m0 (ix4 b t h j)
    = num (inputs g b h) (forgets g b h) (m0 (ix2 b h)) (queryAt z b h) (keyAt z b h) (valueAt z b h) (fun x j => c0 (ix4 b h x j)) t j := by
  have e1 := carried_apply g m0 b t h
  have e2 := fun x => qs_apply z b t h x
  have e3 := fun s => vs_apply z b s h j
  have e4 := fun s => scores_apply z g m0 b t s h
  unfold nums num
  generalize carried g m0 = u1 at e1 ⊢
  generalize qs z = u2 at e2 ⊢
  generalize vs z = u3 at e3 ⊢
  generalize scores z g m0 = u4 at e4 ⊢
  pointwise []
  simp only [e1, e2, e3, e4]
  exact congrArg₂ (· + ·) (congrArg (_ * ·) (Finset.sum_congr rfl fun x _ => mul_comm _ _)) (Finset.sum_congr rfl fun x _ => mul_comm _ _)
theorem dens_apply (b t : Fin 8) (h : Fin 4) : dens z g n0 m0 (ix3 b t h)
    = den (inputs g b h) (forgets g b h) (m0 (ix2 b h)) (queryAt z b h) (keyAt z b h) (fun x => n0 (ix3 b h x)) t := by
  have e1 := carried_apply g m0 b t h
  have e2 := fun x => qs_apply z b t h x
  have e4 := fun s => scores_apply z g m0 b t s h
  unfold dens den
  generalize carried g m0 = u1 at e1 ⊢
  generalize qs z = u2 at e2 ⊢
  generalize scores z g m0 = u4 at e4 ⊢
  pointwise []
  simp only [e1, e2, e4]
  exact congrArg (· + _) (congrArg (_ * ·) (Finset.sum_congr rfl fun x _ => mul_comm _ _))
theorem reads_apply (b t : Fin 8) (h : Fin 4) (j : Fin 256) : reads z g c0 n0 m0 (ix4 b t h j)
    = Mlstm.read (inputs g b h) (forgets g b h) (m0 (ix2 b h)) (queryAt z b h) (keyAt z b h) (valueAt z b h) (fun x j => c0 (ix4 b h x j))
        (fun x => n0 (ix3 b h x)) t j := by
  have e1 := nums_apply z g c0 m0 b t h j
  have e2 := dens_apply z g n0 m0 b t h
  have e3 := peaks_apply g m0 b t h
  unfold reads Mlstm.read
  rw [← e1, ← e2, ← e3]
  generalize nums z g c0 m0 = u1
  generalize dens z g n0 m0 = u2
  generalize peaks g m0 = u3
  pointwise []
theorem normed_apply (x : FVec Ideal S8x8x4x256 .f32) (b t : Fin 8) (h : Fin 4) (j : Fin 256) : normed mn x (ix4 b t h j)
    = x (ix4 b t h j) * Ideal.rsqrt (Ideal.div (∑ i, x (ix4 b t h i) * x (ix4 b t h i)) (Ideal.ofBits .f32 0x43800000#32)
        + Ideal.ofBits .f32 0x358637BD#32) * mn (ix1 j) := by
  unfold normed
  pointwise []
theorem gated_apply (x : FVec Ideal S8x8x4x256 .f32) (b t : Fin 8) (h : Fin 4) (j : Fin 256) (a : Fin 64) (l : Fin 1024)
    (ha : a.val = 8 * b.val + t.val) (hl : l.val = 256 * h.val + j.val) :
    gated z x (ix2 a l) = x (ix4 b t h j) * Ideal.logistic (openAt z b h t j) := by
  have e1 := os_apply z b t h j l hl
  unfold gated
  rw [← e1]
  generalize os z = u
  unfold Ideal.logistic
  pointwise []
  rw [show (⟨a.val / 8, by omega⟩ : Fin 8) = b from Fin.ext (by show a.val / 8 = b.val; omega),
    show (⟨a.val % 8, by omega⟩ : Fin 8) = t from Fin.ext (by show a.val % 8 = t.val; omega),
    show (⟨l.val / 256, by omega⟩ : Fin 4) = h from Fin.ext (by show l.val / 256 = h.val; omega),
    show (⟨l.val % 256, by omega⟩ : Fin 256) = j from Fin.ext (by show l.val % 256 = j.val; omega)]

theorem gated_eq : gated z (normed mn (reads z g c0 n0 m0)) = oArr z g mn c0 n0 m0 := by
  funext y
  obtain ⟨a, l, rfl⟩ : ∃ a l, y = ix2 a l := ⟨y 0, y 1, eq_ix2 y⟩
  rw [gated_apply z _ ⟨a.val / 8, by omega⟩ ⟨a.val % 8, by omega⟩ ⟨l.val / 256, by omega⟩ ⟨l.val % 256, by omega⟩ a l
    (by show a.val = 8 * (a.val / 8) + a.val % 8; omega) (by show l.val = 256 * (l.val / 256) + l.val % 256; omega), normed_apply]
  simp only [reads_apply]
  rfl

section
variable (m : (ℓ : Loc nD τ sig) → Buf (Elt Ideal) ℓ) (c : Dev nD)

/-- The reference's four results. -/
theorem out0_eq : res_out0 m c = oArr (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) :=
  Eq.trans rfl (gated_eq _ _ _ _ _ _)
theorem out1_eq : res_out1 m c = cArr (m ((c.tc : Thread nD τ).loc main_arg0)) (m ((c.tc : Thread nD τ).loc main_arg1))
    (m ((c.tc : Thread nD τ).loc main_arg3)) (m ((c.tc : Thread nD τ).loc main_arg5)) := by
  have e : res_out1 m c = newC (m ((c.tc : Thread nD τ).loc main_arg0)) (m ((c.tc : Thread nD τ).loc main_arg1))
    (m ((c.tc : Thread nD τ).loc main_arg3)) (m ((c.tc : Thread nD τ).loc main_arg5)) := rfl
  rw [e]
  funext y
  exact (congrArg _ (eq_ix4 (n0 := 8) (n1 := 4) (n2 := 128) (n3 := 256) y)).trans (newC_apply _ _ _ _ (y 0) (y 1) (y 2) (y 3))
theorem out2_eq : res_out2 m c = nArr (m ((c.tc : Thread nD τ).loc main_arg0)) (m ((c.tc : Thread nD τ).loc main_arg1))
    (m ((c.tc : Thread nD τ).loc main_arg4)) (m ((c.tc : Thread nD τ).loc main_arg5)) := by
  have e : res_out2 m c = broadcastInDim S8x4x1x128 ![0, 1, 3] bcast_S8x4x128_S8x4x1x128_0_1_3 (newN (m ((c.tc : Thread nD τ).loc main_arg0)) (m ((c.tc : Thread nD τ).loc main_arg1))
    (m ((c.tc : Thread nD τ).loc main_arg4)) (m ((c.tc : Thread nD τ).loc main_arg5))) := rfl
  rw [e]
  funext y
  obtain ⟨b, h, u, x, rfl⟩ : ∃ b h u x, y = ix4 b h u x := ⟨y 0, y 1, y 2, y 3, eq_ix4 y⟩
  refine Eq.trans ?_ (newN_apply _ _ _ _ b h x)
  generalize newN _ _ _ _ = w
  pointwise []

end

/-- The running maxima, along their lanes. -/
theorem maxima_eq : broadcastInDim S8x4x1x128 ![0, 1, 2, 3] bcast_S8x4x1x1_S8x4x1x128_0_1_2_3 (broadcastInDim S8x4x1x1 ![0, 1] bcast_S8x4_S8x4x1x1_0_1 (lastPeak g m0))
    = mArr g m0 := by
  funext y
  obtain ⟨b, h, u, x, rfl⟩ : ∃ b h u x, y = ix4 b h u x := ⟨y 0, y 1, y 2, y 3, eq_ix4 y⟩
  refine Eq.trans ?_ (lastPeak_apply g m0 b h)
  generalize lastPeak g m0 = w
  pointwise []

end

end Cert.MlstmRef

end
-- ==== Proof.MlstmPre.lean ====
/- What the second precondition says: no log forget gate is +∞. -/
module

public import proofs.«01_k».proof.Proof.Gen.Pre_below
public import proofs.«01_k».proof.Proof.Consts
public import proofs.«01_k».proof.Proof.MlstmSpec
public import Idealize.ShloMosaic.Lib.ReduceAll

@[expose] public section

set_option maxRecDepth 16384

noncomputable section

namespace Cert.Mlstm

open Idealize.ShloMosaic Idealize.ShloMosaic.TcCoe Cert.Pre_below Cert.Pre_below.Gen

theorem ne_top_of_lt {x : EReal} (h : FloatOps.cmpf (F := Ideal) (φ := .f32) .olt x (Ideal.ofBits .f32 0x7F800000#32) = 1#1) : x ≠ ⊤ := by
  rw [Cert.Consts.ofBits_inf] at h
  intro e
  subst e
  have e : Ideal.cmp .olt (⊤ : EReal) ⊤ = 0#1 := by
    simp only [Ideal.cmp]
    rw [decide_eq_false (lt_irrefl _)]; rfl
  exact absurd (e.symm.trans h) (by decide)

/-- The lanes of the log forget gates. -/
def forgetLanes (g : FVec Ideal S64x128 .f32) : FVec Ideal S64x4 .f32 := extractStridedSlice S64x4 ![0, 20] g slices_S64x128_S64x4_0_20
theorem forgetLanes_apply (g : FVec Ideal S64x128 .f32) (a : Fin 64) (h : Fin 4) : forgetLanes g (ix2 a h) = g (ix2 a ⟨20 + h.val, by omega⟩) := by
  unfold forgetLanes
  pointwise []

theorem below_spec {z : FVec Ideal S8256x3072 .f32} {g : FVec Ideal S64x128 .f32} {mn : FVec Ideal S256 .f32}
    {c0 : FVec Ideal S8x4x128x256 .f32} {n0 : FVec Ideal S8x4x128 .f32} {m0 : FVec Ideal S8x4 .f32}
    (i : S_.Idx) (h : fn (F := Ideal) z g mn c0 n0 m0 i = 1#1) (a : Fin 64) (l : Fin 4) : g (ix2 a ⟨20 + l.val, by omega⟩) ≠ ⊤ := by
  dsimp only [fn] at h
  have : Subsingleton S_.Idx := ⟨fun a b => funext fun x => x.elim0⟩
  rw [← forgetLanes_apply g a l]
  exact ne_top_of_lt (Host.reduce_andi_all _ _ _ _ _ h (ix2 a l))

end Cert.Mlstm

end
-- ==== Proof.Equation.lean ====
/- The reference's result is the weighted mean `attended`, where every score of a query against a key at or before it is a real
   number: the two divide by the sum of the weights at different places, which is the same where the sum is not zero. -/
module

public import proofs.«01_k».proof.Proof.RefValue

@[expose] public section

set_option maxRecDepth 16384

noncomputable section

namespace Cert.FoxRef

open Idealize.ShloMosaic Cert.ReferenceIdeal Cert.Online Cert.Fox

variable (q k v : FVec Ideal S8256x2048 .bf16) (frow : FVec Ideal S4x128x2048 .f32) (fcum : FVec Ideal S8192x128 .f32)

/-- The largest of the first `K` numbers, over the indices below `K`. -/
theorem sup_fin (sc : ℕ → EReal) (K : ℕ) : (Finset.univ.sup fun j : Fin K => sc j.val) = runMax sc K :=
  le_antisymm (Finset.sup_le fun j _ => le_runMax sc j.isLt)
    (Finset.sup_le fun n hn => Finset.le_sup (f := fun j : Fin K => sc j.val) (Finset.mem_univ ⟨n, Finset.mem_range.mp hn⟩))

/-- What is asked of the numbers: a score is neither −∞ nor ∞. -/
def RealScores : Prop := ∀ b n s j, pairScore q k frow fcum b n s j ≠ ⊥ ∧ pairScore q k frow fcum b n s j ≠ ⊤

theorem scoreRow_ne_top {q k frow fcum} (h : RealScores q k frow fcum) (b : Fin 4) (n : Fin 16) (s : Fin 2048) (j : ℕ) :
    scoreRow q k frow fcum b n s j ≠ ⊤ := by
  unfold scoreRow
  split
  · split
    · exact (h _ _ _ _).2
    · exact bot_ne_top
  · exact bot_ne_top

theorem scoreRow_zero_ne_bot {q k frow fcum} (h : RealScores q k frow fcum) (b : Fin 4) (n : Fin 16) (s : Fin 2048) :
    scoreRow q k frow fcum b n s 0 ≠ ⊥ := by
  unfold scoreRow
  rw [dif_pos (by decide), if_pos (Nat.zero_le _)]
  exact (h _ _ _ _).1

/-- The weights of a query's keys, by key. -/
theorem weights_row (b : Fin 4) (n : Fin 16) (s j : Fin 2048) :
    weights (scores q k frow fcum) (ix4 b n s j)
      = Ideal.exp (scoreRow q k frow fcum b n s j.val - runMax (scoreRow q k frow fcum b n s) 2048) := by
  rw [weights_apply, rowMax_apply, scores_apply]
  simp only [scores_apply]
  rw [sup_fin]

theorem result_eq (h : RealScores q k frow fcum) :
    mixed v (softmax (weights (scores q k frow fcum))) = attended q k v frow fcum := by
  funext y
  have y0 : (y 0).val < 8192 := (y 0).isLt
  have y1 : (y 1).val < 2048 := (y 1).isLt
  obtain ⟨b, hb⟩ : ∃ b : Fin 4, b.val = (y 0).val / 2048 := ⟨⟨(y 0).val / 2048, by omega⟩, rfl⟩
  obtain ⟨s, hs⟩ : ∃ s : Fin 2048, s.val = (y 0).val % 2048 := ⟨⟨(y 0).val % 2048, by omega⟩, rfl⟩
  obtain ⟨n, hn⟩ : ∃ n : Fin 16, n.val = (y 1).val / 128 := ⟨⟨(y 1).val / 128, by omega⟩, rfl⟩
  obtain ⟨d, hd⟩ : ∃ d : Fin 128, d.val = (y 1).val % 128 := ⟨⟨(y 1).val % 128, by omega⟩, rfl⟩
  have h0 : (y 0).val = 2048 * b.val + s.val := by omega
  have h1 : (y 1).val = 128 * n.val + d.val := by omega
  rw [mixed_apply v _ h0 h1, attended_apply q k v frow fcum h0 h1]
  unfold attendedAt runAcc runSum
  rw [Finset.sum_range, Finset.sum_range]
  simp only [softmax_apply, weights_row]
  have hv : ∀ j : Fin 2048, valueCol v b n d j.val = v (ix2 (tokenRow b j) (headCol n d)) := fun j => by
    unfold valueCol; rw [dif_pos j.isLt]
  simp only [hv]
  refine (quotient_eq Finset.univ _ _ _ (Finset.sum_nonneg fun _ _ => exp_nonneg _) ?_).symm
  have := runSum_ne_zero (scoreRow q k frow fcum b n s) (K := 2048) (n₀ := 0) (by decide) (scoreRow_zero_ne_bot h b n s)
    fun j _ => scoreRow_ne_top h b n s j
  unfold runSum at this
  rwa [Finset.sum_range] at this

end Cert.FoxRef

end
-- ==== Proof.Pre.lean ====
/- What the precondition says: every entry of the queries, the keys and the accumulated log gates is a real number; and so is then
   every score of a query against a key. -/
module

public import proofs.«01_k».proof.Proof.Gen.Pre_finite
public import proofs.«01_k».proof.Proof.Equation
public import Idealize.ShloMosaic.Lib.ReduceAll

@[expose] public section

set_option maxRecDepth 16384

noncomputable section

namespace Cert.FoxRef

open Idealize.ShloMosaic Cert.Pre_finite Cert.Fox

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.sum {ι : Type*} (s : Finset ι) {f : ι → EReal} (h : ∀ i ∈ s, IsReal (f i)) : IsReal (∑ i ∈ s, f i) :=
  Finset.sum_induction f IsReal (fun _ _ => IsReal.add) ⟨0, EReal.coe_zero.symm⟩ h

/-- A number whose absolute value is below ∞ is real. -/
theorem isReal_of_lt {x : EReal} (h : FloatOps.cmpf (F := Ideal) (φ := .f32) .olt (FloatOps.hostAbsf x) (Ideal.ofBits .f32 0x7F800000#32) = 1#1) :
    IsReal x := by
  rw [Consts.ofBits_inf] at h
  have hx : max x (-x) < (⊤ : EReal) := by
    by_contra hn
    have e : Ideal.cmp .olt (max x (-x)) ⊤ = 0#1 := by
      simp only [Ideal.cmp]
      rw [decide_eq_false hn]; rfl
    exact absurd (e.symm.trans h) (by decide)
  obtain ⟨h1, h2⟩ := max_lt_iff.mp hx
  refine ⟨x.toReal, (EReal.coe_toReal h1.ne fun hb => ?_).symm⟩
  subst hb
  exact absurd h2 (by simp)

theorem finite_spec {q k v : FVec Ideal S8256x2048 .bf16} {frow : FVec Ideal S4x128x2048 .f32} {fcum : FVec Ideal S8192x128 .f32}
    (i : S_.Idx) (h : fn (F := Ideal) q k v frow fcum i = 1#1) :
    (∀ i, IsReal (q i)) ∧ (∀ i, IsReal (k i)) ∧ (∀ i, IsReal (frow i)) ∧ ∀ i, IsReal (fcum i) := by
  dsimp only [fn, fn_part1] at h
  obtain ⟨h, h4⟩ := IntOp.andi_eq_one.1 h
  obtain ⟨h, h3⟩ := IntOp.andi_eq_one.1 h
  obtain ⟨h1, h2⟩ := IntOp.andi_eq_one.1 h
  have : Subsingleton S_.Idx := ⟨fun a b => funext fun x => x.elim0⟩
  exact ⟨fun i => isReal_of_lt (Host.reduce_andi_all _ _ _ _ _ h1 i), fun i => isReal_of_lt (Host.reduce_andi_all _ _ _ _ _ h2 i),
    fun i => isReal_of_lt (Host.reduce_andi_all _ _ _ _ _ h3 i), fun i => isReal_of_lt (Host.reduce_andi_all _ _ _ _ _ h4 i)⟩

theorem realScores {q k v : FVec Ideal S8256x2048 .bf16} {frow : FVec Ideal S4x128x2048 .f32} {fcum : FVec Ideal S8192x128 .f32}
    (i : S_.Idx) (h : fn (F := Ideal) q k v frow fcum i = 1#1) : RealScores q k frow fcum := by
  obtain ⟨hq, hk, hr, hc⟩ := finite_spec i h
  intro b n s j
  have hp : IsReal (pairScore q k frow fcum b n s j) :=
    ((IsReal.sum _ fun d _ => (hq _).mul (hk _)).mul ⟨_, rfl⟩).add ((hc _).sub (hr _))
  obtain ⟨r, e⟩ := hp
  rw [e]
  exact ⟨EReal.coe_ne_bot r, EReal.coe_ne_top r⟩

end Cert.FoxRef

end
-- ==== Proof.lean ====
/- The claims, assembled: the frames of the programs, the ideal pass's two named constants, and the equation of the kernel's result
   with the reference's. The kernel's run names its result array (`arr_eq` says what it holds), the reference's run its composed
   term (`res_eq`, `result_eq`), and the precondition gives that the scores are real (`realScores`). The programs after the first — the
   attention — follow one pattern: the run names the array, `arr_eq` says what it holds, `result_eq` that the reference's term is it. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Pre_below
public import proofs.«01_k».proof.Proof.Array
public import proofs.«01_k».proof.Proof.Up
public import proofs.«01_k».proof.Proof.UpRef
public import proofs.«01_k».proof.Proof.DownFrame
public import proofs.«01_k».proof.Proof.DownIdeal
public import proofs.«01_k».proof.Proof.Down
public import proofs.«01_k».proof.Proof.DownRef
public import proofs.«01_k».proof.Proof.Merge
public import proofs.«01_k».proof.Proof.MergeRef
public import proofs.«01_k».proof.Proof.Out
public import proofs.«01_k».proof.Proof.OutRef
public import proofs.«01_k».proof.Proof.ProjA
public import proofs.«01_k».proof.Proof.ProjARef
public import proofs.«01_k».proof.Proof.ProjB
public import proofs.«01_k».proof.Proof.ProjBRef
public import proofs.«01_k».proof.Proof.ProjK
public import proofs.«01_k».proof.Proof.ProjKRef
public import proofs.«01_k».proof.Proof.Norm
public import proofs.«01_k».proof.Proof.NormRef
public import proofs.«01_k».proof.Proof.ProjQ
public import proofs.«01_k».proof.Proof.ProjQRef
public import proofs.«01_k».proof.Proof.ProjV
public import proofs.«01_k».proof.Proof.ProjVRef
public import proofs.«01_k».proof.Proof.GatesPrompt
public import proofs.«01_k».proof.Proof.GatesPromptRef
public import proofs.«01_k».proof.Proof.GatesLast
public import proofs.«01_k».proof.Proof.GatesLastRef
public import proofs.«01_k».proof.Proof.MlstmArr
public import proofs.«01_k».proof.Proof.MlstmRef
public import proofs.«01_k».proof.Proof.MlstmPre
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and leaves its arguments and the semaphores alone. -/
theorem quiescent_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The two constants that the ideal pass names, at their values. -/
theorem preserves : Cert.preserves_Kernel_KernelIdeal :=
  ⟨IdealRules.named_const.statement _ _ _ _ _ rfl, IdealRules.named_const.statement _ _ _ _ _ rfl⟩

/-- The kernel's result is the reference's. -/
theorem algebraic : Cert.algebraic_KernelIdeal_ReferenceIdeal_pre_finite := fun m ρ m' ρ' hpre hag =>
  ⟨fun c => Cert.Fox.attended (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)),
    (θ_run _ _ _).mono (fun _ h c => ⟨(h c).1.trans (Cert.Fox.arr_eq m c), (h c).2⟩) (Cert.KernelIdeal.Value.run_blocks (F := Ideal) m ρ),
    (θ_run _ _ _).mono (fun _ h c => ⟨(h c).1.trans (by
        obtain ⟨e0, e1, e2, e3, e4⟩ := hag c
        refine (Cert.FoxRef.res_eq m' c).trans ?_
        rw [e0, e1, e2, e3, e4]
        exact Cert.FoxRef.result_eq _ _ _ _ _ (Cert.FoxRef.realScores ix0 (congrFun (hpre c) _))), (h c).2⟩)
      (Cert.ReferenceIdeal.Value.run (F := Ideal) m' ρ')⟩

/-- The up-projection: the reference's run, the ideal pass (which rewrites nothing), the equation. -/
theorem quiescent_reference2 : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)
theorem preserves2 : Cert.preserves_Kernel2_Kernel2Ideal := trivial
theorem algebraic2 : Cert.algebraic_Kernel2Ideal_Reference2Ideal := fun m ρ m' ρ' _ hag =>
  ⟨fun c => Cert.Up.gated (m ((c.tc : Thread _ _).loc Cert.Kernel2Ideal.main_arg0))
      (m ((c.tc : Thread _ _).loc Cert.Kernel2Ideal.main_arg1)) (m ((c.tc : Thread _ _).loc Cert.Kernel2Ideal.main_arg2)),
    (θ_run _ _ _).mono (fun _ h c => ⟨(h c).1.trans (Cert.Up.arr_eq m c), (h c).2⟩) (Cert.Kernel2Ideal.Value.run_blocks (F := Ideal) m ρ),
    (θ_run _ _ _).mono (fun _ h c => ⟨(h c).1.trans (by
        obtain ⟨e0, e1, e2⟩ := hag c
        rw [e0, e1, e2]
        exact Cert.UpRef.result_eq _ _ _), (h c).2⟩)
      (Cert.Reference2Ideal.Value.run (F := Ideal) m' ρ')⟩

/-- The down-projection: the reference's run, the ideal pass (which rewrites nothing), the equation. -/
theorem quiescent_reference3 : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Value.run (F := Ideal) m g)
theorem preserves3 : Cert.preserves_Kernel3_Kernel3Ideal := trivial
theorem algebraic3 : Cert.algebraic_Kernel3Ideal_Reference3Ideal := fun m ρ m' ρ' _ hag =>
  ⟨fun c => Cert.Down.projected (m ((c.tc : Thread _ _).loc Cert.Kernel3Ideal.main_arg0))
      (m ((c.tc : Thread _ _).loc Cert.Kernel3Ideal.main_arg1)) (m ((c.tc : Thread _ _).loc Cert.Kernel3Ideal.main_arg2)),
    (θ_run _ _ _).mono (fun _ h c => ⟨(h c).1.trans (Cert.Down.arr_eq m c), (h c).2⟩) (Cert.Down.run m ρ),
    (θ_run _ _ _).mono (fun _ h c => ⟨(h c).1.trans (by
        obtain ⟨e0, e1, e2⟩ := hag c
        rw [e0, e1, e2]
        exact Cert.DownRef.result_eq _ _ _), (h c).2⟩)
      (Cert.Reference3Ideal.Value.run (F := Ideal) m' ρ')⟩

/-- The gated merge: the reference's run, the ideal pass (which rewrites nothing), the equation. -/
theorem quiescent_reference4 : Cert.quiescent_Reference4Ideal := fun m g _ =>
  (θ_run Cert.Reference4Ideal.defs _ _).mono
    (fun r h => ⟨fun c => (h c).2, Idealize.ShloMosaic.sem_eq_zero_of_no_sems (by decide) r.2⟩)
    (Cert.Reference4Ideal.Value.run (F := Ideal) m g)
theorem preserves4 : Cert.preserves_Kernel4_Kernel4Ideal := trivial
theorem algebraic4 : Cert.algebraic_Kernel4Ideal_Reference4Ideal := fun m ρ m' ρ' _ hag =>
  ⟨fun c => Cert.Merge.merged (m ((c.tc : Thread _ _).loc Cert.Kernel4Ideal.main_arg0))
      (m ((c.tc : Thread _ _).loc Cert.Kernel4Ideal.main_arg1)) (m ((c.tc : Thread _ _).loc Cert.Kernel4Ideal.main_arg2))
      (m ((c.tc : Thread _ _).loc Cert.Kernel4Ideal.main_arg3)) (m ((c.tc : Thread _ _).loc Cert.Kernel4Ideal.main_arg4))
      (m ((c.tc : Thread _ _).loc Cert.Kernel4Ideal.main_arg5)) (m ((c.tc : Thread _ _).loc Cert.Kernel4Ideal.main_arg6))
      (m ((c.tc : Thread _ _).loc Cert.Kernel4Ideal.main_arg7)),
    (θ_run _ _ _).mono (fun _ h c => ⟨(h c).1.trans (Cert.Merge.arr_eq m c), (h c).2⟩) (Cert.Kernel4Ideal.Value.run_blocks (F := Ideal) m ρ),
    (θ_run _ _ _).mono (fun _ h c => ⟨(h c).1.trans (by
        obtain ⟨e0, e1, e2, e3, e4, e5, e6, e7⟩ := hag c
        rw [e0, e1, e2, e3, e4, e5, e6, e7]
        exact Cert.MergeRef.result_eq _ _ _ _ _ _ _ _), (h c).2⟩)
      (Cert.Reference4Ideal.Value.run (F := Ideal) m' ρ')⟩

/-- The output projection: the reference's run, the ideal pass (which rewrites nothing), the equation. -/
theorem quiescent_reference5 : Cert.quiescent_Reference5Ideal := fun m g _ =>
  (θ_run Cert.Reference5Ideal.defs _ _).mono
    (fun r h => ⟨fun c => (h c).2, Idealize.ShloMosaic.sem_eq_zero_of_no_sems (by decide) r.2⟩)
    (Cert.Reference5Ideal.Value.run (F := Ideal) m g)
theorem preserves5 : Cert.preserves_Kernel5_Kernel5Ideal := trivial
theorem algebraic5 : Cert.algebraic_Kernel5Ideal_Reference5Ideal := fun m ρ m' ρ' _ hag =>
  ⟨fun c => Cert.Out.projected (m ((c.tc : Thread _ _).loc Cert.Kernel5Ideal.main_arg0))
      (m ((c.tc : Thread _ _).loc Cert.Kernel5Ideal.main_arg1)) (m ((c.tc : Thread _ _).loc Cert.Kernel5Ideal.main_arg2)),
    (θ_run _ _ _).mono (fun _ h c => ⟨(h c).1.trans (Cert.Out.arr_eq m c), (h c).2⟩) (Cert.Kernel5Ideal.Value.run_blocks (F := Ideal) m ρ),
    (θ_run _ _ _).mono (fun _ h c => ⟨(h c).1.trans (by
        obtain ⟨e0, e1, e2⟩ := hag c
        rw [e0, e1, e2]
        exact Cert.OutRef.result_eq _ _ _), (h c).2⟩)
      (Cert.Reference5Ideal.Value.run (F := Ideal) m' ρ')⟩

/-- The first mixer's input projection: the reference's run, the ideal pass (which rewrites nothing), the equation. -/
theorem quiescent_reference6 : Cert.quiescent_Reference6Ideal := fun m g _ =>
  (θ_run Cert.Reference6Ideal.defs _ _).mono
    (fun r h => ⟨fun c => (h c).2, Idealize.ShloMosaic.sem_eq_zero_of_no_sems (by decide) r.2⟩)
    (Cert.Reference6Ideal.Value.run (F := Ideal) m g)
theorem preserves6 : Cert.preserves_Kernel6_Kernel6Ideal := trivial
theorem algebraic6 : Cert.algebraic_Kernel6Ideal_Reference6Ideal := fun m ρ m' ρ' _ hag =>
  ⟨fun c => Cert.ProjA.projected (m ((c.tc : Thread _ _).loc Cert.Kernel6Ideal.main_arg0))
      (m ((c.tc : Thread _ _).loc Cert.Kernel6Ideal.main_arg1)),
    (θ_run _ _ _).mono (fun _ h c => ⟨(h c).1.trans (Cert.ProjA.arr_eq m c), (h c).2⟩) (Cert.Kernel6Ideal.Value.run_blocks (F := Ideal) m ρ),
    (θ_run _ _ _).mono (fun _ h c => ⟨(h c).1.trans (by
        obtain ⟨e0, e1⟩ := hag c
        rw [e0, e1]
        exact Cert.ProjARef.result_eq _ _), (h c).2⟩)
      (Cert.Reference6Ideal.Value.run (F := Ideal) m' ρ')⟩

/-- The second mixer's input projection: the reference's run, the ideal pass (which rewrites nothing), the equation. -/
theorem quiescent_reference7 : Cert.quiescent_Reference7Ideal := fun m g _ =>
  (θ_run Cert.Reference7Ideal.defs _ _).mono
    (fun r h => ⟨fun c => (h c).2, Idealize.ShloMosaic.sem_eq_zero_of_no_sems (by decide) r.2⟩)
    (Cert.Reference7Ideal.Value.run (F := Ideal) m g)
theorem preserves7 : Cert.preserves_Kernel7_Kernel7Ideal := trivial
theorem algebraic7 : Cert.algebraic_Kernel7Ideal_Reference7Ideal := fun m ρ m' ρ' _ hag =>
  ⟨fun c => Cert.ProjB.projected (m ((c.tc : Thread _ _).loc Cert.Kernel7Ideal.main_arg0))
      (m ((c.tc : Thread _ _).loc Cert.Kernel7Ideal.main_arg1)),
    (θ_run _ _ _).mono (fun _ h c => ⟨(h c).1.trans (Cert.ProjB.arr_eq m c), (h c).2⟩) (Cert.Kernel7Ideal.Value.run_blocks (F := Ideal) m ρ),
    (θ_run _ _ _).mono (fun _ h c => ⟨(h c).1.trans (by
        obtain ⟨e0, e1⟩ := hag c
        rw [e0, e1]
        exact Cert.ProjBRef.result_eq _ _), (h c).2⟩)
      (Cert.Reference7Ideal.Value.run (F := Ideal) m' ρ')⟩

/-- The third mixer's keys of the last layer: the reference's run, the ideal pass (which rewrites nothing), the equation. -/
theorem quiescent_reference8 : Cert.quiescent_Reference8Ideal := fun m g _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m g)
theorem preserves8 : Cert.preserves_Kernel8_Kernel8Ideal := trivial
theorem algebraic8 : Cert.algebraic_Kernel8Ideal_Reference8Ideal := fun m ρ m' ρ' _ hag =>
  ⟨fun c => Cert.ProjK.stacked (m ((c.tc : Thread _ _).loc Cert.Kernel8Ideal.main_arg0))
      (m ((c.tc : Thread _ _).loc Cert.Kernel8Ideal.main_arg1)) (m ((c.tc : Thread _ _).loc Cert.Kernel8Ideal.main_arg2)),
    fun c => Cert.ProjK.projected (m ((c.tc : Thread _ _).loc Cert.Kernel8Ideal.main_arg0))
      (m ((c.tc : Thread _ _).loc Cert.Kernel8Ideal.main_arg2)),
    (θ_run _ _ _).mono (fun _ h c => ⟨(h c).1.trans (Cert.ProjK.stack_eq m c), (h c).2.1.trans (Cert.ProjK.arr_eq m c), (h c).2.2⟩)
      (Cert.Kernel8Ideal.Value.run_blocks (F := Ideal) m ρ),
    (θ_run _ _ _).mono (fun _ h c => ⟨(h c).1.trans (by
        obtain ⟨e0, e1, e2⟩ := hag c
        rw [e0, e1, e2]
        exact Cert.ProjKRef.stack_eq _ _ _), (h c).2.1.trans (by
        obtain ⟨e0, e1, e2⟩ := hag c
        rw [e0, e2]
        exact Cert.ProjKRef.result_eq _ _), (h c).2.2⟩)
      (Cert.Reference8Ideal.Value.run (F := Ideal) m' ρ')⟩

/-- The normalization of the last rows: the reference's run, the ideal pass (which rewrites nothing), the equation. -/
theorem quiescent_reference9 : Cert.quiescent_Reference9Ideal := fun m g _ =>
  (θ_run Cert.Reference9Ideal.defs _ _).mono
    (fun r h => ⟨fun c => (h c).2, Idealize.ShloMosaic.sem_eq_zero_of_no_sems (by decide) r.2⟩)
    (Cert.Reference9Ideal.Value.run (F := Ideal) m g)
theorem preserves9 : Cert.preserves_Kernel9_Kernel9Ideal := trivial
theorem algebraic9 : Cert.algebraic_Kernel9Ideal_Reference9Ideal := fun m ρ m' ρ' _ hag =>
  ⟨fun c => Cert.Norm.normed (m ((c.tc : Thread _ _).loc Cert.Kernel9Ideal.main_arg0))
      (m ((c.tc : Thread _ _).loc Cert.Kernel9Ideal.main_arg1)),
    (θ_run _ _ _).mono (fun _ h c => ⟨(h c).1.trans (Cert.Norm.arr_eq m c), (h c).2⟩) (Cert.Kernel9Ideal.Value.run_blocks (F := Ideal) m ρ),
    (θ_run _ _ _).mono (fun _ h c => ⟨(h c).1.trans (by
        obtain ⟨e0, e1⟩ := hag c
        rw [e0, e1]
        exact Cert.NormRef.result_eq _ _), (h c).2⟩)
      (Cert.Reference9Ideal.Value.run (F := Ideal) m' ρ')⟩

/-- The third mixer's queries: the reference's run, the ideal pass (which rewrites nothing), the equation. -/
theorem quiescent_reference10 : Cert.quiescent_Reference10Ideal := fun m g _ =>
  (θ_run Cert.Reference10Ideal.defs _ _).mono
    (fun r h => ⟨fun c => (h c).2, Idealize.ShloMosaic.sem_eq_zero_of_no_sems (by decide) r.2⟩)
    (Cert.Reference10Ideal.Value.run (F := Ideal) m g)
theorem preserves10 : Cert.preserves_Kernel10_Kernel10Ideal := trivial
theorem algebraic10 : Cert.algebraic_Kernel10Ideal_Reference10Ideal := fun m ρ m' ρ' _ hag =>
  ⟨fun c => Cert.ProjQ.projected (m ((c.tc : Thread _ _).loc Cert.Kernel10Ideal.main_arg0))
      (m ((c.tc : Thread _ _).loc Cert.Kernel10Ideal.main_arg1)),
    (θ_run _ _ _).mono (fun _ h c => ⟨(h c).1.trans (Cert.ProjQ.arr_eq m c), (h c).2⟩) (Cert.Kernel10Ideal.Value.run_blocks (F := Ideal) m ρ),
    (θ_run _ _ _).mono (fun _ h c => ⟨(h c).1.trans (by
        obtain ⟨e0, e1⟩ := hag c
        rw [e0, e1]
        exact Cert.ProjQRef.result_eq _ _), (h c).2⟩)
      (Cert.Reference10Ideal.Value.run (F := Ideal) m' ρ')⟩

/-- The third mixer's values of the last layer: the reference's run, the ideal pass (which rewrites nothing), the equation. -/
theorem quiescent_reference11 : Cert.quiescent_Reference11Ideal := fun m g _ =>
  (θ_run Cert.Reference11Ideal.defs _ _).mono
    (fun r h => ⟨fun c => (h c).2.2, Idealize.ShloMosaic.sem_eq_zero_of_no_sems (by decide) r.2⟩)
    (Cert.Reference11Ideal.Value.run (F := Ideal) m g)
theorem preserves11 : Cert.preserves_Kernel11_Kernel11Ideal := trivial
theorem algebraic11 : Cert.algebraic_Kernel11Ideal_Reference11Ideal := fun m ρ m' ρ' _ hag =>
  ⟨fun c => Cert.ProjV.stacked (m ((c.tc : Thread _ _).loc Cert.Kernel11Ideal.main_arg0))
      (m ((c.tc : Thread _ _).loc Cert.Kernel11Ideal.main_arg1)) (m ((c.tc : Thread _ _).loc Cert.Kernel11Ideal.main_arg2)),
    fun c => Cert.ProjV.projected (m ((c.tc : Thread _ _).loc Cert.Kernel11Ideal.main_arg0))
      (m ((c.tc : Thread _ _).loc Cert.Kernel11Ideal.main_arg2)),
    (θ_run _ _ _).mono (fun _ h c => ⟨(h c).1.trans (Cert.ProjV.stack_eq m c), (h c).2.1.trans (Cert.ProjV.arr_eq m c), (h c).2.2⟩)
      (Cert.Kernel11Ideal.Value.run_blocks (F := Ideal) m ρ),
    (θ_run _ _ _).mono (fun _ h c => ⟨(h c).1.trans (by
        obtain ⟨e0, e1, e2⟩ := hag c
        rw [e0, e1, e2]
        exact Cert.ProjVRef.stack_eq _ _ _), (h c).2.1.trans (by
        obtain ⟨e0, e1, e2⟩ := hag c
        rw [e0, e2]
        exact Cert.ProjVRef.result_eq _ _), (h c).2.2⟩)
      (Cert.Reference11Ideal.Value.run (F := Ideal) m' ρ')⟩

/-- The prompt's gates and their running sums: the reference's run, the ideal pass (which rewrites nothing), the equation. -/
theorem quiescent_reference12 : Cert.quiescent_Reference12Ideal := fun m g _ =>
  (θ_run Cert.Reference12Ideal.defs _ _).mono
    (fun r h => ⟨fun c => (h c).2.2.2, Idealize.ShloMosaic.sem_eq_zero_of_no_sems (by decide) r.2⟩)
    (Cert.Reference12Ideal.Value.run (F := Ideal) m g)
theorem preserves12 : Cert.preserves_Kernel12_Kernel12Ideal := trivial
theorem algebraic12 : Cert.algebraic_Kernel12Ideal_Reference12Ideal := fun m ρ m' ρ' _ hag =>
  ⟨fun c => Cert.GatesPrompt.acts (m ((c.tc : Thread _ _).loc Cert.Kernel12Ideal.main_arg0))
      (m ((c.tc : Thread _ _).loc Cert.Kernel12Ideal.main_arg1)),
    fun c => Cert.GatesPrompt.sums (m ((c.tc : Thread _ _).loc Cert.Kernel12Ideal.main_arg0))
      (m ((c.tc : Thread _ _).loc Cert.Kernel12Ideal.main_arg1)),
    fun c => Cert.GatesPrompt.turned (m ((c.tc : Thread _ _).loc Cert.Kernel12Ideal.main_arg0))
      (m ((c.tc : Thread _ _).loc Cert.Kernel12Ideal.main_arg1)),
    (θ_run _ _ _).mono (fun _ h c => ⟨(h c).1.trans (Cert.GatesPrompt.acts_eq m c), (h c).2.1.trans (Cert.GatesPrompt.sums_eq m c), (h c).2.2.1.trans (Cert.GatesPrompt.turned_eq m c), (h c).2.2.2⟩)
      (Cert.Kernel12Ideal.Value.run_blocks (F := Ideal) m ρ),
    (θ_run _ _ _).mono (fun _ h c => ⟨(h c).1.trans ((Cert.GatesPromptRef.acts_eq m' c).trans (by obtain ⟨e0, e1⟩ := hag c; rw [e0, e1])),
      (h c).2.1.trans ((Cert.GatesPromptRef.sums_eq m' c).trans (by obtain ⟨e0, e1⟩ := hag c; rw [e0, e1])),
      (h c).2.2.1.trans ((Cert.GatesPromptRef.turned_eq m' c).trans (by obtain ⟨e0, e1⟩ := hag c; rw [e0, e1])), (h c).2.2.2⟩)
      (Cert.Reference12Ideal.Value.run (F := Ideal) m' ρ')⟩

/-- The last rows' gates and their running sums: the reference's run, the ideal pass (which rewrites nothing), the equation. -/
theorem quiescent_reference13 : Cert.quiescent_Reference13Ideal := fun m g _ =>
  (θ_run Cert.Reference13Ideal.defs _ _).mono
    (fun r h => ⟨fun c => (h c).2.2, Idealize.ShloMosaic.sem_eq_zero_of_no_sems (by decide) r.2⟩)
    (Cert.Reference13Ideal.Value.run (F := Ideal) m g)
theorem preserves13 : Cert.preserves_Kernel13_Kernel13Ideal := trivial
theorem algebraic13 : Cert.algebraic_Kernel13Ideal_Reference13Ideal := fun m ρ m' ρ' _ hag =>
  ⟨fun c => Cert.GatesLast.acts (m ((c.tc : Thread _ _).loc Cert.Kernel13Ideal.main_arg0))
      (m ((c.tc : Thread _ _).loc Cert.Kernel13Ideal.main_arg1)),
    fun c => Cert.GatesLast.sums (m ((c.tc : Thread _ _).loc Cert.Kernel13Ideal.main_arg0))
      (m ((c.tc : Thread _ _).loc Cert.Kernel13Ideal.main_arg1)),
    (θ_run _ _ _).mono (fun _ h c => ⟨(h c).1.trans (Cert.GatesLast.acts_eq m c), (h c).2.1.trans (Cert.GatesLast.sums_eq m c), (h c).2.2⟩)
      (Cert.Kernel13Ideal.Value.run_blocks (F := Ideal) m ρ),
    (θ_run _ _ _).mono (fun _ h c => ⟨(h c).1.trans ((Cert.GatesLastRef.acts_eq m' c).trans (by obtain ⟨e0, e1⟩ := hag c; rw [e0, e1])),
      (h c).2.1.trans ((Cert.GatesLastRef.sums_eq m' c).trans (by obtain ⟨e0, e1⟩ := hag c; rw [e0, e1])), (h c).2.2⟩)
      (Cert.Reference13Ideal.Value.run (F := Ideal) m' ρ')⟩

/-- The sample streams' recurrence with a matrix state: the reference's run, the ideal pass (which rewrites nothing), the equations. -/
theorem quiescent_reference14 : Cert.quiescent_Reference14Ideal := fun m g _ =>
  (θ_run Cert.Reference14Ideal.defs _ _).mono
    (fun r h => ⟨fun c => (h c).2.2.2.2, Idealize.ShloMosaic.sem_eq_zero_of_no_sems (by decide) r.2⟩)
    (Cert.Reference14Ideal.Value.run (F := Ideal) m g)
theorem preserves14 : Cert.preserves_Kernel14_Kernel14Ideal := trivial
theorem algebraic14 : Cert.algebraic_Kernel14Ideal_Reference14Ideal_pre_below := fun m ρ m' ρ' hpre hag =>
  have hg : ∀ c : Dev _, Cert.Mlstm.Below (m ((c.tc : Thread _ _).loc Cert.Kernel14Ideal.main_arg1)) := fun c =>
    Cert.Mlstm.below_spec ix0 (congrFun (hpre c) _)
  ⟨fun c => Cert.Mlstm.oArr (m ((c.tc : Thread _ _).loc Cert.Kernel14Ideal.main_arg0))
      (m ((c.tc : Thread _ _).loc Cert.Kernel14Ideal.main_arg1))
      (m ((c.tc : Thread _ _).loc Cert.Kernel14Ideal.main_arg2))
      (m ((c.tc : Thread _ _).loc Cert.Kernel14Ideal.main_arg3))
      (m ((c.tc : Thread _ _).loc Cert.Kernel14Ideal.main_arg4))
      (m ((c.tc : Thread _ _).loc Cert.Kernel14Ideal.main_arg5)),
    fun c => Cert.Mlstm.cArr (m ((c.tc : Thread _ _).loc Cert.Kernel14Ideal.main_arg0))
      (m ((c.tc : Thread _ _).loc Cert.Kernel14Ideal.main_arg1))
      (m ((c.tc : Thread _ _).loc Cert.Kernel14Ideal.main_arg3))
      (m ((c.tc : Thread _ _).loc Cert.Kernel14Ideal.main_arg5)),
    fun c => Cert.Mlstm.nArr (m ((c.tc : Thread _ _).loc Cert.Kernel14Ideal.main_arg0))
      (m ((c.tc : Thread _ _).loc Cert.Kernel14Ideal.main_arg1))
      (m ((c.tc : Thread _ _).loc Cert.Kernel14Ideal.main_arg4))
      (m ((c.tc : Thread _ _).loc Cert.Kernel14Ideal.main_arg5)),
    fun c => Cert.Mlstm.mArr (m ((c.tc : Thread _ _).loc Cert.Kernel14Ideal.main_arg1))
      (m ((c.tc : Thread _ _).loc Cert.Kernel14Ideal.main_arg5)),
    (θ_run _ _ _).mono (fun _ h c => ⟨(h c).1.trans (Cert.Mlstm.arr9_eq m c (hg c)),
      (h c).2.1.trans (Cert.Mlstm.arr10_eq m c (hg c)),
      (h c).2.2.1.trans (Cert.Mlstm.arr11_eq m c (hg c)),
      (h c).2.2.2.1.trans (Cert.Mlstm.arr12_eq m c (hg c)), (h c).2.2.2.2⟩)
      (Cert.Kernel14Ideal.Value.run_blocks (F := Ideal) m ρ),
    (θ_run _ _ _).mono (fun _ h c => ⟨(h c).1.trans ((Cert.MlstmRef.out0_eq m' c).trans (by obtain ⟨e0, e1, e2, e3, e4, e5⟩ := hag c; rw [e0, e1, e2, e3, e4, e5])),
      (h c).2.1.trans ((Cert.MlstmRef.out1_eq m' c).trans (by obtain ⟨e0, e1, e2, e3, e4, e5⟩ := hag c; rw [e0, e1, e3, e5])),
      (h c).2.2.1.trans ((Cert.MlstmRef.out2_eq m' c).trans (by obtain ⟨e0, e1, e2, e3, e4, e5⟩ := hag c; rw [e0, e1, e4, e5])),
      (h c).2.2.2.1.trans ((Cert.MlstmRef.maxima_eq _ _).trans (by obtain ⟨e0, e1, e2, e3, e4, e5⟩ := hag c; rw [e1, e5])), (h c).2.2.2.2⟩)
      (Cert.Reference14Ideal.Value.run (F := Ideal) m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_finite.Gen.facts, Cert.Pre_below.Gen.facts,
    fun m ρ _ => Cert.Kernel.Gen.frame m ρ, fun m ρ _ => Cert.KernelIdeal.Gen.frame m ρ, fun m ρ _ => Cert.KernelIdeal.Gen.frame m ρ,
    quiescent_reference, fun m ρ _ => quiescent_reference m ρ trivial,
    fun m ρ _ => Cert.Kernel2.Gen.frame m ρ, fun m ρ _ => Cert.Kernel2Ideal.Gen.frame m ρ, quiescent_reference2,
    fun m ρ _ => Cert.DownFrame.frame m ρ, fun m ρ _ => Cert.DownIdeal.frame m ρ, quiescent_reference3,
    fun m ρ _ => Cert.Kernel4.Gen.frame m ρ, fun m ρ _ => Cert.Kernel4Ideal.Gen.frame m ρ, quiescent_reference4,
    fun m ρ _ => Cert.Kernel5.Gen.frame m ρ, fun m ρ _ => Cert.Kernel5Ideal.Gen.frame m ρ, quiescent_reference5,
    fun m ρ _ => Cert.Kernel6.Gen.frame m ρ, fun m ρ _ => Cert.Kernel6Ideal.Gen.frame m ρ, quiescent_reference6,
    fun m ρ _ => Cert.Kernel7.Gen.frame m ρ, fun m ρ _ => Cert.Kernel7Ideal.Gen.frame m ρ, quiescent_reference7,
    fun m ρ _ => Cert.Kernel8.Gen.frame m ρ, fun m ρ _ => Cert.Kernel8Ideal.Gen.frame m ρ, quiescent_reference8,
    fun m ρ _ => Cert.Kernel9.Gen.frame m ρ, fun m ρ _ => Cert.Kernel9Ideal.Gen.frame m ρ, quiescent_reference9,
    fun m ρ _ => Cert.Kernel10.Gen.frame m ρ, fun m ρ _ => Cert.Kernel10Ideal.Gen.frame m ρ, quiescent_reference10,
    fun m ρ _ => Cert.Kernel11.Gen.frame m ρ, fun m ρ _ => Cert.Kernel11Ideal.Gen.frame m ρ, quiescent_reference11,
    fun m ρ _ => Cert.Kernel12.Gen.frame m ρ, fun m ρ _ => Cert.Kernel12Ideal.Gen.frame m ρ, quiescent_reference12,
    fun m ρ _ => Cert.Kernel13.Gen.frame m ρ, fun m ρ _ => Cert.Kernel13Ideal.Gen.frame m ρ, quiescent_reference13,
    fun m ρ _ => Cert.Kernel14.Gen.frame m ρ, fun m ρ _ => Cert.Kernel14Ideal.Gen.frame m ρ, fun m ρ _ => Cert.Kernel14Ideal.Gen.frame m ρ,
    quiescent_reference14, fun m ρ _ => quiescent_reference14 m ρ trivial,
    preserves, algebraic, preserves2, algebraic2, preserves3, algebraic3, preserves4, algebraic4, preserves5, algebraic5, preserves6, algebraic6, preserves7, algebraic7,
    preserves8, algebraic8,
    preserves9, algebraic9,
    preserves10, algebraic10,
    preserves11, algebraic11,
    preserves12, algebraic12,
    preserves13, algebraic13,
    preserves14, algebraic14⟩

end Cert.Proof

end
